-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gradient_and_gate [hPre_finite_gradient_and_gate : Cert.Pre_finite_gradient_and_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gradient_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_gradient_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_gradient_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gradient_and_gate [hPre_finite_gradient_and_gate : Cert.Pre_finite_gradient_and_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gradient_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_gradient_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_gradient_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownReferenceIdeal (m : (ℓ : Loc Cert.GdownReferenceIdeal.nD Cert.GdownReferenceIdeal.τ Cert.GdownReferenceIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuReferenceIdeal (m : (ℓ : Loc Cert.DuReferenceIdeal.nD Cert.DuReferenceIdeal.τ Cert.DuReferenceIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupReferenceIdeal (m : (ℓ : Loc Cert.GupReferenceIdeal.nD Cert.GupReferenceIdeal.τ Cert.GupReferenceIdeal.sig) → Buf (Elt Ideal) ℓ) : Prop :=
  True

def Pre_DuRet (m : (ℓ : Loc Cert.DuRet.nD Cert.DuRet.τ Cert.DuRet.sig) → Buf (Elt Bits) ℓ) : Prop :=
  True

def Pre_DuRetIdeal (m : (ℓ : Loc Cert.DuRetIdeal.nD Cert.DuRetIdeal.τ Cert.DuRetIdeal.sig) → Buf (Elt Ideal) ℓ) : Prop :=
  True

def Pre_DuRetReferenceIdeal (m : (ℓ : Loc Cert.DuRetReferenceIdeal.nD Cert.DuRetReferenceIdeal.τ Cert.DuRetReferenceIdeal.sig) → Buf (Elt Ideal) ℓ) : Prop :=
  True

def Pre_GRetIn0 (m : (ℓ : Loc Cert.GRetIn0.nD Cert.GRetIn0.τ Cert.GRetIn0.sig) → Buf (Elt Bits) ℓ) : Prop :=
  True

def Pre_GRetIn0Ideal (m : (ℓ : Loc Cert.GRetIn0Ideal.nD Cert.GRetIn0Ideal.τ Cert.GRetIn0Ideal.sig) → Buf (Elt Ideal) ℓ) : Prop :=
  True

def Pre_GRetIn0ReferenceIdeal (m : (ℓ : Loc Cert.GRetIn0ReferenceIdeal.nD Cert.GRetIn0ReferenceIdeal.τ Cert.GRetIn0ReferenceIdeal.sig) → Buf (Elt Ideal) ℓ) : Prop :=
  True

def Pre_GRetIn1 (m : (ℓ : Loc Cert.GRetIn1.nD Cert.GRetIn1.τ Cert.GRetIn1.sig) → Buf (Elt Bits) ℓ) : Prop :=
  True

def Pre_GRetIn1Ideal (m : (ℓ : Loc Cert.GRetIn1Ideal.nD Cert.GRetIn1Ideal.τ Cert.GRetIn1Ideal.sig) → Buf (Elt Ideal) ℓ) : Prop :=
  True

def Pre_GRetIn1ReferenceIdeal (m : (ℓ : Loc Cert.GRetIn1ReferenceIdeal.nD Cert.GRetIn1ReferenceIdeal.τ Cert.GRetIn1ReferenceIdeal.sig) → Buf (Elt Ideal) ℓ) : Prop :=
  True

def Pre_DuSsd (m : (ℓ : Loc Cert.DuSsd.nD Cert.DuSsd.τ Cert.DuSsd.sig) → Buf (Elt Bits) ℓ) : Prop :=
  True

def Pre_DuSsdIdeal (m : (ℓ : Loc Cert.DuSsdIdeal.nD Cert.DuSsdIdeal.τ Cert.DuSsdIdeal.sig) → Buf (Elt Ideal) ℓ) : Prop :=
  True

def Pre_DuSsdReferenceIdeal (m : (ℓ : Loc Cert.DuSsdReferenceIdeal.nD Cert.DuSsdReferenceIdeal.τ Cert.DuSsdReferenceIdeal.sig) → Buf (Elt Ideal) ℓ) : Prop :=
  True

def Pre_GSsdIn (m : (ℓ : Loc Cert.GSsdIn.nD Cert.GSsdIn.τ Cert.GSsdIn.sig) → Buf (Elt Bits) ℓ) : Prop :=
  True

def Pre_GSsdInIdeal (m : (ℓ : Loc Cert.GSsdInIdeal.nD Cert.GSsdInIdeal.τ Cert.GSsdInIdeal.sig) → Buf (Elt Ideal) ℓ) : Prop :=
  True

def Pre_GSsdInReferenceIdeal (m : (ℓ : Loc Cert.GSsdInReferenceIdeal.nD Cert.GSsdInReferenceIdeal.τ Cert.GSsdInReferenceIdeal.sig) → Buf (Elt Ideal) ℓ) : Prop :=
  True

def Pre_DyRet (m : (ℓ : Loc Cert.DyRet.nD Cert.DyRet.τ Cert.DyRet.sig) → Buf (Elt Bits) ℓ) : Prop :=
  True

def Pre_DyRetIdeal (m : (ℓ : Loc Cert.DyRetIdeal.nD Cert.DyRetIdeal.τ Cert.DyRetIdeal.sig) → Buf (Elt Ideal) ℓ) : Prop :=
  True

def Pre_DyRetReferenceIdeal (m : (ℓ : Loc Cert.DyRetReferenceIdeal.nD Cert.DyRetReferenceIdeal.τ Cert.DyRetReferenceIdeal.sig) → Buf (Elt Ideal) ℓ) : Prop :=
  True

def Pre_GRetOut (m : (ℓ : Loc Cert.GRetOut.nD Cert.GRetOut.τ Cert.GRetOut.sig) → Buf (Elt Bits) ℓ) : Prop :=
  True

def Pre_GRetOutIdeal (m : (ℓ : Loc Cert.GRetOutIdeal.nD Cert.GRetOutIdeal.τ Cert.GRetOutIdeal.sig) → Buf (Elt Ideal) ℓ) : Prop :=
  True

def Pre_GRetOutReferenceIdeal (m : (ℓ : Loc Cert.GRetOutReferenceIdeal.nD Cert.GRetOutReferenceIdeal.τ Cert.GRetOutReferenceIdeal.sig) → Buf (Elt Ideal) ℓ) : Prop :=
  True

def Pre_DySsd (m : (ℓ : Loc Cert.DySsd.nD Cert.DySsd.τ Cert.DySsd.sig) → Buf (Elt Bits) ℓ) : Prop :=
  True

def Pre_DySsdIdeal (m : (ℓ : Loc Cert.DySsdIdeal.nD Cert.DySsdIdeal.τ Cert.DySsdIdeal.sig) → Buf (Elt Ideal) ℓ) : Prop :=
  True

def Pre_DySsdReferenceIdeal (m : (ℓ : Loc Cert.DySsdReferenceIdeal.nD Cert.DySsdReferenceIdeal.τ Cert.DySsdReferenceIdeal.sig) → Buf (Elt Ideal) ℓ) : Prop :=
  True

def Pre_GSsdOut (m : (ℓ : Loc Cert.GSsdOut.nD Cert.GSsdOut.τ Cert.GSsdOut.sig) → Buf (Elt Bits) ℓ) : Prop :=
  True

def Pre_GSsdOutIdeal (m : (ℓ : Loc Cert.GSsdOutIdeal.nD Cert.GSsdOutIdeal.τ Cert.GSsdOutIdeal.sig) → Buf (Elt Ideal) ℓ) : Prop :=
  True

def Pre_GSsdOutReferenceIdeal (m : (ℓ : Loc Cert.GSsdOutReferenceIdeal.nD Cert.GSsdOutReferenceIdeal.τ Cert.GSsdOutReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gradient_and_gate [hKernelIdeal : Cert.KernelIdeal.Facts] [hPre_finite_gradient_and_gate : Cert.Pre_finite_gradient_and_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gradient_and_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gradient_and_gate [hReferenceIdeal : Cert.ReferenceIdeal.Facts] [hPre_finite_gradient_and_gate : Cert.Pre_finite_gradient_and_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gradient_and_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownReferenceIdeal [hGdownReferenceIdeal : Cert.GdownReferenceIdeal.Facts] : Prop :=
  ∀ (m : (ℓ : Loc Cert.GdownReferenceIdeal.nD Cert.GdownReferenceIdeal.τ Cert.GdownReferenceIdeal.sig) → Buf (Elt Ideal) ℓ) (g : Dev Cert.GdownReferenceIdeal.nD → PrngReg), Pre_GdownReferenceIdeal m →
    θ_run (Cert.GdownReferenceIdeal.defs (F := Ideal)) (onTc (τ := Cert.GdownReferenceIdeal.τ) (Cert.GdownReferenceIdeal.main (F := Ideal))) ⟨m, fun _ => 0, g⟩ (fun r => (∀ c : Dev Cert.GdownReferenceIdeal.nD,
      r.2.mem ((c.tc : Thread Cert.GdownReferenceIdeal.nD Cert.GdownReferenceIdeal.τ).loc Cert.GdownReferenceIdeal.main_arg0) = m ((c.tc : Thread Cert.GdownReferenceIdeal.nD Cert.GdownReferenceIdeal.τ).loc Cert.GdownReferenceIdeal.main_arg0)
      ∧ r.2.mem ((c.tc : Thread Cert.GdownReferenceIdeal.nD Cert.GdownReferenceIdeal.τ).loc Cert.GdownReferenceIdeal.main_arg1) = m ((c.tc : Thread Cert.GdownReferenceIdeal.nD Cert.GdownReferenceIdeal.τ).loc Cert.GdownReferenceIdeal.main_arg1))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ r.2.sem = fun _ => 0)

def quiescent_DuReferenceIdeal [hDuReferenceIdeal : Cert.DuReferenceIdeal.Facts] : Prop :=
  ∀ (m : (ℓ : Loc Cert.DuReferenceIdeal.nD Cert.DuReferenceIdeal.τ Cert.DuReferenceIdeal.sig) → Buf (Elt Ideal) ℓ) (g : Dev Cert.DuReferenceIdeal.nD → PrngReg), Pre_DuReferenceIdeal m →
    θ_run (Cert.DuReferenceIdeal.defs (F := Ideal)) (onTc (τ := Cert.DuReferenceIdeal.τ) (Cert.DuReferenceIdeal.main (F := Ideal))) ⟨m, fun _ => 0, g⟩ (fun r => (∀ c : Dev Cert.DuReferenceIdeal.nD,
      r.2.mem ((c.tc : Thread Cert.DuReferenceIdeal.nD Cert.DuReferenceIdeal.τ).loc Cert.DuReferenceIdeal.main_arg0) = m ((c.tc : Thread Cert.DuReferenceIdeal.nD Cert.DuReferenceIdeal.τ).loc Cert.DuReferenceIdeal.main_arg0)
      ∧ r.2.mem ((c.tc : Thread Cert.DuReferenceIdeal.nD Cert.DuReferenceIdeal.τ).loc Cert.DuReferenceIdeal.main_arg1) = m ((c.tc : Thread Cert.DuReferenceIdeal.nD Cert.DuReferenceIdeal.τ).loc Cert.DuReferenceIdeal.main_arg1))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ r.2.sem = fun _ => 0)

def quiescent_GupReferenceIdeal [hGupReferenceIdeal : Cert.GupReferenceIdeal.Facts] : Prop :=
  ∀ (m : (ℓ : Loc Cert.GupReferenceIdeal.nD Cert.GupReferenceIdeal.τ Cert.GupReferenceIdeal.sig) → Buf (Elt Ideal) ℓ) (g : Dev Cert.GupReferenceIdeal.nD → PrngReg), Pre_GupReferenceIdeal m →
    θ_run (Cert.GupReferenceIdeal.defs (F := Ideal)) (onTc (τ := Cert.GupReferenceIdeal.τ) (Cert.GupReferenceIdeal.main (F := Ideal))) ⟨m, fun _ => 0, g⟩ (fun r => (∀ c : Dev Cert.GupReferenceIdeal.nD,
      r.2.mem ((c.tc : Thread Cert.GupReferenceIdeal.nD Cert.GupReferenceIdeal.τ).loc Cert.GupReferenceIdeal.main_arg0) = m ((c.tc : Thread Cert.GupReferenceIdeal.nD Cert.GupReferenceIdeal.τ).loc Cert.GupReferenceIdeal.main_arg0)
      ∧ r.2.mem ((c.tc : Thread Cert.GupReferenceIdeal.nD Cert.GupReferenceIdeal.τ).loc Cert.GupReferenceIdeal.main_arg1) = m ((c.tc : Thread Cert.GupReferenceIdeal.nD Cert.GupReferenceIdeal.τ).loc Cert.GupReferenceIdeal.main_arg1))
      ∧ r.2.sem = fun _ => 0)

def quiescent_DuRet [hDuRet : Cert.DuRet.Facts] : Prop :=
  ∀ (m : (ℓ : Loc Cert.DuRet.nD Cert.DuRet.τ Cert.DuRet.sig) → Buf (Elt Bits) ℓ) (g : Dev Cert.DuRet.nD → PrngReg), Pre_DuRet m →
    θ_run (Cert.DuRet.defs (F := Bits)) (onTc (τ := Cert.DuRet.τ) (Cert.DuRet.main (F := Bits))) ⟨m, fun _ => 0, g⟩ (fun r => (∀ c : Dev Cert.DuRet.nD,
      r.2.mem ((c.tc : Thread Cert.DuRet.nD Cert.DuRet.τ).loc Cert.DuRet.main_arg0) = m ((c.tc : Thread Cert.DuRet.nD Cert.DuRet.τ).loc Cert.DuRet.main_arg0)
      ∧ r.2.mem ((c.tc : Thread Cert.DuRet.nD Cert.DuRet.τ).loc Cert.DuRet.main_arg1) = m ((c.tc : Thread Cert.DuRet.nD Cert.DuRet.τ).loc Cert.DuRet.main_arg1))
      ∧ r.2.sem = fun _ => 0)

def quiescent_DuRetIdeal [hDuRetIdeal : Cert.DuRetIdeal.Facts] : Prop :=
  ∀ (m : (ℓ : Loc Cert.DuRetIdeal.nD Cert.DuRetIdeal.τ Cert.DuRetIdeal.sig) → Buf (Elt Ideal) ℓ) (g : Dev Cert.DuRetIdeal.nD → PrngReg), Pre_DuRetIdeal m →
    θ_run (Cert.DuRetIdeal.defs (F := Ideal)) (onTc (τ := Cert.DuRetIdeal.τ) (Cert.DuRetIdeal.main (F := Ideal))) ⟨m, fun _ => 0, g⟩ (fun r => (∀ c : Dev Cert.DuRetIdeal.nD,
      r.2.mem ((c.tc : Thread Cert.DuRetIdeal.nD Cert.DuRetIdeal.τ).loc Cert.DuRetIdeal.main_arg0) = m ((c.tc : Thread Cert.DuRetIdeal.nD Cert.DuRetIdeal.τ).loc Cert.DuRetIdeal.main_arg0)
      ∧ r.2.mem ((c.tc : Thread Cert.DuRetIdeal.nD Cert.DuRetIdeal.τ).loc Cert.DuRetIdeal.main_arg1) = m ((c.tc : Thread Cert.DuRetIdeal.nD Cert.DuRetIdeal.τ).loc Cert.DuRetIdeal.main_arg1))
      ∧ r.2.sem = fun _ => 0)

def quiescent_DuRetReferenceIdeal [hDuRetReferenceIdeal : Cert.DuRetReferenceIdeal.Facts] : Prop :=
  ∀ (m : (ℓ : Loc Cert.DuRetReferenceIdeal.nD Cert.DuRetReferenceIdeal.τ Cert.DuRetReferenceIdeal.sig) → Buf (Elt Ideal) ℓ) (g : Dev Cert.DuRetReferenceIdeal.nD → PrngReg), Pre_DuRetReferenceIdeal m →
    θ_run (Cert.DuRetReferenceIdeal.defs (F := Ideal)) (onTc (τ := Cert.DuRetReferenceIdeal.τ) (Cert.DuRetReferenceIdeal.main (F := Ideal))) ⟨m, fun _ => 0, g⟩ (fun r => (∀ c : Dev Cert.DuRetReferenceIdeal.nD,
      r.2.mem ((c.tc : Thread Cert.DuRetReferenceIdeal.nD Cert.DuRetReferenceIdeal.τ).loc Cert.DuRetReferenceIdeal.main_arg0) = m ((c.tc : Thread Cert.DuRetReferenceIdeal.nD Cert.DuRetReferenceIdeal.τ).loc Cert.DuRetReferenceIdeal.main_arg0)
      ∧ r.2.mem ((c.tc : Thread Cert.DuRetReferenceIdeal.nD Cert.DuRetReferenceIdeal.τ).loc Cert.DuRetReferenceIdeal.main_arg1) = m ((c.tc : Thread Cert.DuRetReferenceIdeal.nD Cert.DuRetReferenceIdeal.τ).loc Cert.DuRetReferenceIdeal.main_arg1))
      ∧ r.2.sem = fun _ => 0)

def quiescent_GRetIn0 [hGRetIn0 : Cert.GRetIn0.Facts] : Prop :=
  ∀ (m : (ℓ : Loc Cert.GRetIn0.nD Cert.GRetIn0.τ Cert.GRetIn0.sig) → Buf (Elt Bits) ℓ) (g : Dev Cert.GRetIn0.nD → PrngReg), Pre_GRetIn0 m →
    θ_run (Cert.GRetIn0.defs (F := Bits)) (onTc (τ := Cert.GRetIn0.τ) (Cert.GRetIn0.main (F := Bits))) ⟨m, fun _ => 0, g⟩ (fun r => (∀ c : Dev Cert.GRetIn0.nD,
      r.2.mem ((c.tc : Thread Cert.GRetIn0.nD Cert.GRetIn0.τ).loc Cert.GRetIn0.main_arg0) = m ((c.tc : Thread Cert.GRetIn0.nD Cert.GRetIn0.τ).loc Cert.GRetIn0.main_arg0)
      ∧ r.2.mem ((c.tc : Thread Cert.GRetIn0.nD Cert.GRetIn0.τ).loc Cert.GRetIn0.main_arg1) = m ((c.tc : Thread Cert.GRetIn0.nD Cert.GRetIn0.τ).loc Cert.GRetIn0.main_arg1))
      ∧ r.2.sem = fun _ => 0)

def quiescent_GRetIn0Ideal [hGRetIn0Ideal : Cert.GRetIn0Ideal.Facts] : Prop :=
  ∀ (m : (ℓ : Loc Cert.GRetIn0Ideal.nD Cert.GRetIn0Ideal.τ Cert.GRetIn0Ideal.sig) → Buf (Elt Ideal) ℓ) (g : Dev Cert.GRetIn0Ideal.nD → PrngReg), Pre_GRetIn0Ideal m →
    θ_run (Cert.GRetIn0Ideal.defs (F := Ideal)) (onTc (τ := Cert.GRetIn0Ideal.τ) (Cert.GRetIn0Ideal.main (F := Ideal))) ⟨m, fun _ => 0, g⟩ (fun r => (∀ c : Dev Cert.GRetIn0Ideal.nD,
      r.2.mem ((c.tc : Thread Cert.GRetIn0Ideal.nD Cert.GRetIn0Ideal.τ).loc Cert.GRetIn0Ideal.main_arg0) = m ((c.tc : Thread Cert.GRetIn0Ideal.nD Cert.GRetIn0Ideal.τ).loc Cert.GRetIn0Ideal.main_arg0)
      ∧ r.2.mem ((c.tc : Thread Cert.GRetIn0Ideal.nD Cert.GRetIn0Ideal.τ).loc Cert.GRetIn0Ideal.main_arg1) = m ((c.tc : Thread Cert.GRetIn0Ideal.nD Cert.GRetIn0Ideal.τ).loc Cert.GRetIn0Ideal.main_arg1))
      ∧ r.2.sem = fun _ => 0)

def quiescent_GRetIn0ReferenceIdeal [hGRetIn0ReferenceIdeal : Cert.GRetIn0ReferenceIdeal.Facts] : Prop :=
  ∀ (m : (ℓ : Loc Cert.GRetIn0ReferenceIdeal.nD Cert.GRetIn0ReferenceIdeal.τ Cert.GRetIn0ReferenceIdeal.sig) → Buf (Elt Ideal) ℓ) (g : Dev Cert.GRetIn0ReferenceIdeal.nD → PrngReg), Pre_GRetIn0ReferenceIdeal m →
    θ_run (Cert.GRetIn0ReferenceIdeal.defs (F := Ideal)) (onTc (τ := Cert.GRetIn0ReferenceIdeal.τ) (Cert.GRetIn0ReferenceIdeal.main (F := Ideal))) ⟨m, fun _ => 0, g⟩ (fun r => (∀ c : Dev Cert.GRetIn0ReferenceIdeal.nD,
      r.2.mem ((c.tc : Thread Cert.GRetIn0ReferenceIdeal.nD Cert.GRetIn0ReferenceIdeal.τ).loc Cert.GRetIn0ReferenceIdeal.main_arg0) = m ((c.tc : Thread Cert.GRetIn0ReferenceIdeal.nD Cert.GRetIn0ReferenceIdeal.τ).loc Cert.GRetIn0ReferenceIdeal.main_arg0)
      ∧ r.2.mem ((c.tc : Thread Cert.GRetIn0ReferenceIdeal.nD Cert.GRetIn0ReferenceIdeal.τ).loc Cert.GRetIn0ReferenceIdeal.main_arg1) = m ((c.tc : Thread Cert.GRetIn0ReferenceIdeal.nD Cert.GRetIn0ReferenceIdeal.τ).loc Cert.GRetIn0ReferenceIdeal.main_arg1))
      ∧ r.2.sem = fun _ => 0)

def quiescent_GRetIn1 [hGRetIn1 : Cert.GRetIn1.Facts] : Prop :=
  ∀ (m : (ℓ : Loc Cert.GRetIn1.nD Cert.GRetIn1.τ Cert.GRetIn1.sig) → Buf (Elt Bits) ℓ) (g : Dev Cert.GRetIn1.nD → PrngReg), Pre_GRetIn1 m →
    θ_run (Cert.GRetIn1.defs (F := Bits)) (onTc (τ := Cert.GRetIn1.τ) (Cert.GRetIn1.main (F := Bits))) ⟨m, fun _ => 0, g⟩ (fun r => (∀ c : Dev Cert.GRetIn1.nD,
      r.2.mem ((c.tc : Thread Cert.GRetIn1.nD Cert.GRetIn1.τ).loc Cert.GRetIn1.main_arg0) = m ((c.tc : Thread Cert.GRetIn1.nD Cert.GRetIn1.τ).loc Cert.GRetIn1.main_arg0)
      ∧ r.2.mem ((c.tc : Thread Cert.GRetIn1.nD Cert.GRetIn1.τ).loc Cert.GRetIn1.main_arg1) = m ((c.tc : Thread Cert.GRetIn1.nD Cert.GRetIn1.τ).loc Cert.GRetIn1.main_arg1))
      ∧ r.2.sem = fun _ => 0)

def quiescent_GRetIn1Ideal [hGRetIn1Ideal : Cert.GRetIn1Ideal.Facts] : Prop :=
  ∀ (m : (ℓ : Loc Cert.GRetIn1Ideal.nD Cert.GRetIn1Ideal.τ Cert.GRetIn1Ideal.sig) → Buf (Elt Ideal) ℓ) (g : Dev Cert.GRetIn1Ideal.nD → PrngReg), Pre_GRetIn1Ideal m →
    θ_run (Cert.GRetIn1Ideal.defs (F := Ideal)) (onTc (τ := Cert.GRetIn1Ideal.τ) (Cert.GRetIn1Ideal.main (F := Ideal))) ⟨m, fun _ => 0, g⟩ (fun r => (∀ c : Dev Cert.GRetIn1Ideal.nD,
      r.2.mem ((c.tc : Thread Cert.GRetIn1Ideal.nD Cert.GRetIn1Ideal.τ).loc Cert.GRetIn1Ideal.main_arg0) = m ((c.tc : Thread Cert.GRetIn1Ideal.nD Cert.GRetIn1Ideal.τ).loc Cert.GRetIn1Ideal.main_arg0)
      ∧ r.2.mem ((c.tc : Thread Cert.GRetIn1Ideal.nD Cert.GRetIn1Ideal.τ).loc Cert.GRetIn1Ideal.main_arg1) = m ((c.tc : Thread Cert.GRetIn1Ideal.nD Cert.GRetIn1Ideal.τ).loc Cert.GRetIn1Ideal.main_arg1))
      ∧ r.2.sem = fun _ => 0)

def quiescent_GRetIn1ReferenceIdeal [hGRetIn1ReferenceIdeal : Cert.GRetIn1ReferenceIdeal.Facts] : Prop :=
  ∀ (m : (ℓ : Loc Cert.GRetIn1ReferenceIdeal.nD Cert.GRetIn1ReferenceIdeal.τ Cert.GRetIn1ReferenceIdeal.sig) → Buf (Elt Ideal) ℓ) (g : Dev Cert.GRetIn1ReferenceIdeal.nD → PrngReg), Pre_GRetIn1ReferenceIdeal m →
    θ_run (Cert.GRetIn1ReferenceIdeal.defs (F := Ideal)) (onTc (τ := Cert.GRetIn1ReferenceIdeal.τ) (Cert.GRetIn1ReferenceIdeal.main (F := Ideal))) ⟨m, fun _ => 0, g⟩ (fun r => (∀ c : Dev Cert.GRetIn1ReferenceIdeal.nD,
      r.2.mem ((c.tc : Thread Cert.GRetIn1ReferenceIdeal.nD Cert.GRetIn1ReferenceIdeal.τ).loc Cert.GRetIn1ReferenceIdeal.main_arg0) = m ((c.tc : Thread Cert.GRetIn1ReferenceIdeal.nD Cert.GRetIn1ReferenceIdeal.τ).loc Cert.GRetIn1ReferenceIdeal.main_arg0)
      ∧ r.2.mem ((c.tc : Thread Cert.GRetIn1ReferenceIdeal.nD Cert.GRetIn1ReferenceIdeal.τ).loc Cert.GRetIn1ReferenceIdeal.main_arg1) = m ((c.tc : Thread Cert.GRetIn1ReferenceIdeal.nD Cert.GRetIn1ReferenceIdeal.τ).loc Cert.GRetIn1ReferenceIdeal.main_arg1))
      ∧ r.2.sem = fun _ => 0)

def quiescent_DuSsd [hDuSsd : Cert.DuSsd.Facts] : Prop :=
  ∀ (m : (ℓ : Loc Cert.DuSsd.nD Cert.DuSsd.τ Cert.DuSsd.sig) → Buf (Elt Bits) ℓ) (g : Dev Cert.DuSsd.nD → PrngReg), Pre_DuSsd m →
    θ_run (Cert.DuSsd.defs (F := Bits)) (onTc (τ := Cert.DuSsd.τ) (Cert.DuSsd.main (F := Bits))) ⟨m, fun _ => 0, g⟩ (fun r => (∀ c : Dev Cert.DuSsd.nD,
      r.2.mem ((c.tc : Thread Cert.DuSsd.nD Cert.DuSsd.τ).loc Cert.DuSsd.main_arg0) = m ((c.tc : Thread Cert.DuSsd.nD Cert.DuSsd.τ).loc Cert.DuSsd.main_arg0)
      ∧ r.2.mem ((c.tc : Thread Cert.DuSsd.nD Cert.DuSsd.τ).loc Cert.DuSsd.main_arg1) = m ((c.tc : Thread Cert.DuSsd.nD Cert.DuSsd.τ).loc Cert.DuSsd.main_arg1))
      ∧ r.2.sem = fun _ => 0)

def quiescent_DuSsdIdeal [hDuSsdIdeal : Cert.DuSsdIdeal.Facts] : Prop :=
  ∀ (m : (ℓ : Loc Cert.DuSsdIdeal.nD Cert.DuSsdIdeal.τ Cert.DuSsdIdeal.sig) → Buf (Elt Ideal) ℓ) (g : Dev Cert.DuSsdIdeal.nD → PrngReg), Pre_DuSsdIdeal m →
    θ_run (Cert.DuSsdIdeal.defs (F := Ideal)) (onTc (τ := Cert.DuSsdIdeal.τ) (Cert.DuSsdIdeal.main (F := Ideal))) ⟨m, fun _ => 0, g⟩ (fun r => (∀ c : Dev Cert.DuSsdIdeal.nD,
      r.2.mem ((c.tc : Thread Cert.DuSsdIdeal.nD Cert.DuSsdIdeal.τ).loc Cert.DuSsdIdeal.main_arg0) = m ((c.tc : Thread Cert.DuSsdIdeal.nD Cert.DuSsdIdeal.τ).loc Cert.DuSsdIdeal.main_arg0)
      ∧ r.2.mem ((c.tc : Thread Cert.DuSsdIdeal.nD Cert.DuSsdIdeal.τ).loc Cert.DuSsdIdeal.main_arg1) = m ((c.tc : Thread Cert.DuSsdIdeal.nD Cert.DuSsdIdeal.τ).loc Cert.DuSsdIdeal.main_arg1))
      ∧ r.2.sem = fun _ => 0)

def quiescent_DuSsdReferenceIdeal [hDuSsdReferenceIdeal : Cert.DuSsdReferenceIdeal.Facts] : Prop :=
  ∀ (m : (ℓ : Loc Cert.DuSsdReferenceIdeal.nD Cert.DuSsdReferenceIdeal.τ Cert.DuSsdReferenceIdeal.sig) → Buf (Elt Ideal) ℓ) (g : Dev Cert.DuSsdReferenceIdeal.nD → PrngReg), Pre_DuSsdReferenceIdeal m →
    θ_run (Cert.DuSsdReferenceIdeal.defs (F := Ideal)) (onTc (τ := Cert.DuSsdReferenceIdeal.τ) (Cert.DuSsdReferenceIdeal.main (F := Ideal))) ⟨m, fun _ => 0, g⟩ (fun r => (∀ c : Dev Cert.DuSsdReferenceIdeal.nD,
      r.2.mem ((c.tc : Thread Cert.DuSsdReferenceIdeal.nD Cert.DuSsdReferenceIdeal.τ).loc Cert.DuSsdReferenceIdeal.main_arg0) = m ((c.tc : Thread Cert.DuSsdReferenceIdeal.nD Cert.DuSsdReferenceIdeal.τ).loc Cert.DuSsdReferenceIdeal.main_arg0)
      ∧ r.2.mem ((c.tc : Thread Cert.DuSsdReferenceIdeal.nD Cert.DuSsdReferenceIdeal.τ).loc Cert.DuSsdReferenceIdeal.main_arg1) = m ((c.tc : Thread Cert.DuSsdReferenceIdeal.nD Cert.DuSsdReferenceIdeal.τ).loc Cert.DuSsdReferenceIdeal.main_arg1))
      ∧ r.2.sem = fun _ => 0)

def quiescent_GSsdIn [hGSsdIn : Cert.GSsdIn.Facts] : Prop :=
  ∀ (m : (ℓ : Loc Cert.GSsdIn.nD Cert.GSsdIn.τ Cert.GSsdIn.sig) → Buf (Elt Bits) ℓ) (g : Dev Cert.GSsdIn.nD → PrngReg), Pre_GSsdIn m →
    θ_run (Cert.GSsdIn.defs (F := Bits)) (onTc (τ := Cert.GSsdIn.τ) (Cert.GSsdIn.main (F := Bits))) ⟨m, fun _ => 0, g⟩ (fun r => (∀ c : Dev Cert.GSsdIn.nD,
      r.2.mem ((c.tc : Thread Cert.GSsdIn.nD Cert.GSsdIn.τ).loc Cert.GSsdIn.main_arg0) = m ((c.tc : Thread Cert.GSsdIn.nD Cert.GSsdIn.τ).loc Cert.GSsdIn.main_arg0)
      ∧ r.2.mem ((c.tc : Thread Cert.GSsdIn.nD Cert.GSsdIn.τ).loc Cert.GSsdIn.main_arg1) = m ((c.tc : Thread Cert.GSsdIn.nD Cert.GSsdIn.τ).loc Cert.GSsdIn.main_arg1))
      ∧ r.2.sem = fun _ => 0)

def quiescent_GSsdInIdeal [hGSsdInIdeal : Cert.GSsdInIdeal.Facts] : Prop :=
  ∀ (m : (ℓ : Loc Cert.GSsdInIdeal.nD Cert.GSsdInIdeal.τ Cert.GSsdInIdeal.sig) → Buf (Elt Ideal) ℓ) (g : Dev Cert.GSsdInIdeal.nD → PrngReg), Pre_GSsdInIdeal m →
    θ_run (Cert.GSsdInIdeal.defs (F := Ideal)) (onTc (τ := Cert.GSsdInIdeal.τ) (Cert.GSsdInIdeal.main (F := Ideal))) ⟨m, fun _ => 0, g⟩ (fun r => (∀ c : Dev Cert.GSsdInIdeal.nD,
      r.2.mem ((c.tc : Thread Cert.GSsdInIdeal.nD Cert.GSsdInIdeal.τ).loc Cert.GSsdInIdeal.main_arg0) = m ((c.tc : Thread Cert.GSsdInIdeal.nD Cert.GSsdInIdeal.τ).loc Cert.GSsdInIdeal.main_arg0)
      ∧ r.2.mem ((c.tc : Thread Cert.GSsdInIdeal.nD Cert.GSsdInIdeal.τ).loc Cert.GSsdInIdeal.main_arg1) = m ((c.tc : Thread Cert.GSsdInIdeal.nD Cert.GSsdInIdeal.τ).loc Cert.GSsdInIdeal.main_arg1))
      ∧ r.2.sem = fun _ => 0)

def quiescent_GSsdInReferenceIdeal [hGSsdInReferenceIdeal : Cert.GSsdInReferenceIdeal.Facts] : Prop :=
  ∀ (m : (ℓ : Loc Cert.GSsdInReferenceIdeal.nD Cert.GSsdInReferenceIdeal.τ Cert.GSsdInReferenceIdeal.sig) → Buf (Elt Ideal) ℓ) (g : Dev Cert.GSsdInReferenceIdeal.nD → PrngReg), Pre_GSsdInReferenceIdeal m →
    θ_run (Cert.GSsdInReferenceIdeal.defs (F := Ideal)) (onTc (τ := Cert.GSsdInReferenceIdeal.τ) (Cert.GSsdInReferenceIdeal.main (F := Ideal))) ⟨m, fun _ => 0, g⟩ (fun r => (∀ c : Dev Cert.GSsdInReferenceIdeal.nD,
      r.2.mem ((c.tc : Thread Cert.GSsdInReferenceIdeal.nD Cert.GSsdInReferenceIdeal.τ).loc Cert.GSsdInReferenceIdeal.main_arg0) = m ((c.tc : Thread Cert.GSsdInReferenceIdeal.nD Cert.GSsdInReferenceIdeal.τ).loc Cert.GSsdInReferenceIdeal.main_arg0)
      ∧ r.2.mem ((c.tc : Thread Cert.GSsdInReferenceIdeal.nD Cert.GSsdInReferenceIdeal.τ).loc Cert.GSsdInReferenceIdeal.main_arg1) = m ((c.tc : Thread Cert.GSsdInReferenceIdeal.nD Cert.GSsdInReferenceIdeal.τ).loc Cert.GSsdInReferenceIdeal.main_arg1))
      ∧ r.2.sem = fun _ => 0)

def quiescent_DyRet [hDyRet : Cert.DyRet.Facts] : Prop :=
  ∀ (m : (ℓ : Loc Cert.DyRet.nD Cert.DyRet.τ Cert.DyRet.sig) → Buf (Elt Bits) ℓ) (g : Dev Cert.DyRet.nD → PrngReg), Pre_DyRet m →
    θ_run (Cert.DyRet.defs (F := Bits)) (onTc (τ := Cert.DyRet.τ) (Cert.DyRet.main (F := Bits))) ⟨m, fun _ => 0, g⟩ (fun r => (∀ c : Dev Cert.DyRet.nD,
      r.2.mem ((c.tc : Thread Cert.DyRet.nD Cert.DyRet.τ).loc Cert.DyRet.main_arg0) = m ((c.tc : Thread Cert.DyRet.nD Cert.DyRet.τ).loc Cert.DyRet.main_arg0)
      ∧ r.2.mem ((c.tc : Thread Cert.DyRet.nD Cert.DyRet.τ).loc Cert.DyRet.main_arg1) = m ((c.tc : Thread Cert.DyRet.nD Cert.DyRet.τ).loc Cert.DyRet.main_arg1))
      ∧ r.2.sem = fun _ => 0)

def quiescent_DyRetIdeal [hDyRetIdeal : Cert.DyRetIdeal.Facts] : Prop :=
  ∀ (m : (ℓ : Loc Cert.DyRetIdeal.nD Cert.DyRetIdeal.τ Cert.DyRetIdeal.sig) → Buf (Elt Ideal) ℓ) (g : Dev Cert.DyRetIdeal.nD → PrngReg), Pre_DyRetIdeal m →
    θ_run (Cert.DyRetIdeal.defs (F := Ideal)) (onTc (τ := Cert.DyRetIdeal.τ) (Cert.DyRetIdeal.main (F := Ideal))) ⟨m, fun _ => 0, g⟩ (fun r => (∀ c : Dev Cert.DyRetIdeal.nD,
      r.2.mem ((c.tc : Thread Cert.DyRetIdeal.nD Cert.DyRetIdeal.τ).loc Cert.DyRetIdeal.main_arg0) = m ((c.tc : Thread Cert.DyRetIdeal.nD Cert.DyRetIdeal.τ).loc Cert.DyRetIdeal.main_arg0)
      ∧ r.2.mem ((c.tc : Thread Cert.DyRetIdeal.nD Cert.DyRetIdeal.τ).loc Cert.DyRetIdeal.main_arg1) = m ((c.tc : Thread Cert.DyRetIdeal.nD Cert.DyRetIdeal.τ).loc Cert.DyRetIdeal.main_arg1))
      ∧ r.2.sem = fun _ => 0)

def quiescent_DyRetReferenceIdeal [hDyRetReferenceIdeal : Cert.DyRetReferenceIdeal.Facts] : Prop :=
  ∀ (m : (ℓ : Loc Cert.DyRetReferenceIdeal.nD Cert.DyRetReferenceIdeal.τ Cert.DyRetReferenceIdeal.sig) → Buf (Elt Ideal) ℓ) (g : Dev Cert.DyRetReferenceIdeal.nD → PrngReg), Pre_DyRetReferenceIdeal m →
    θ_run (Cert.DyRetReferenceIdeal.defs (F := Ideal)) (onTc (τ := Cert.DyRetReferenceIdeal.τ) (Cert.DyRetReferenceIdeal.main (F := Ideal))) ⟨m, fun _ => 0, g⟩ (fun r => (∀ c : Dev Cert.DyRetReferenceIdeal.nD,
      r.2.mem ((c.tc : Thread Cert.DyRetReferenceIdeal.nD Cert.DyRetReferenceIdeal.τ).loc Cert.DyRetReferenceIdeal.main_arg0) = m ((c.tc : Thread Cert.DyRetReferenceIdeal.nD Cert.DyRetReferenceIdeal.τ).loc Cert.DyRetReferenceIdeal.main_arg0)
      ∧ r.2.mem ((c.tc : Thread Cert.DyRetReferenceIdeal.nD Cert.DyRetReferenceIdeal.τ).loc Cert.DyRetReferenceIdeal.main_arg1) = m ((c.tc : Thread Cert.DyRetReferenceIdeal.nD Cert.DyRetReferenceIdeal.τ).loc Cert.DyRetReferenceIdeal.main_arg1))
      ∧ r.2.sem = fun _ => 0)

def quiescent_GRetOut [hGRetOut : Cert.GRetOut.Facts] : Prop :=
  ∀ (m : (ℓ : Loc Cert.GRetOut.nD Cert.GRetOut.τ Cert.GRetOut.sig) → Buf (Elt Bits) ℓ) (g : Dev Cert.GRetOut.nD → PrngReg), Pre_GRetOut m →
    θ_run (Cert.GRetOut.defs (F := Bits)) (onTc (τ := Cert.GRetOut.τ) (Cert.GRetOut.main (F := Bits))) ⟨m, fun _ => 0, g⟩ (fun r => (∀ c : Dev Cert.GRetOut.nD,
      r.2.mem ((c.tc : Thread Cert.GRetOut.nD Cert.GRetOut.τ).loc Cert.GRetOut.main_arg0) = m ((c.tc : Thread Cert.GRetOut.nD Cert.GRetOut.τ).loc Cert.GRetOut.main_arg0)
      ∧ r.2.mem ((c.tc : Thread Cert.GRetOut.nD Cert.GRetOut.τ).loc Cert.GRetOut.main_arg1) = m ((c.tc : Thread Cert.GRetOut.nD Cert.GRetOut.τ).loc Cert.GRetOut.main_arg1))
      ∧ r.2.sem = fun _ => 0)

def quiescent_GRetOutIdeal [hGRetOutIdeal : Cert.GRetOutIdeal.Facts] : Prop :=
  ∀ (m : (ℓ : Loc Cert.GRetOutIdeal.nD Cert.GRetOutIdeal.τ Cert.GRetOutIdeal.sig) → Buf (Elt Ideal) ℓ) (g : Dev Cert.GRetOutIdeal.nD → PrngReg), Pre_GRetOutIdeal m →
    θ_run (Cert.GRetOutIdeal.defs (F := Ideal)) (onTc (τ := Cert.GRetOutIdeal.τ) (Cert.GRetOutIdeal.main (F := Ideal))) ⟨m, fun _ => 0, g⟩ (fun r => (∀ c : Dev Cert.GRetOutIdeal.nD,
      r.2.mem ((c.tc : Thread Cert.GRetOutIdeal.nD Cert.GRetOutIdeal.τ).loc Cert.GRetOutIdeal.main_arg0) = m ((c.tc : Thread Cert.GRetOutIdeal.nD Cert.GRetOutIdeal.τ).loc Cert.GRetOutIdeal.main_arg0)
      ∧ r.2.mem ((c.tc : Thread Cert.GRetOutIdeal.nD Cert.GRetOutIdeal.τ).loc Cert.GRetOutIdeal.main_arg1) = m ((c.tc : Thread Cert.GRetOutIdeal.nD Cert.GRetOutIdeal.τ).loc Cert.GRetOutIdeal.main_arg1))
      ∧ r.2.sem = fun _ => 0)

def quiescent_GRetOutReferenceIdeal [hGRetOutReferenceIdeal : Cert.GRetOutReferenceIdeal.Facts] : Prop :=
  ∀ (m : (ℓ : Loc Cert.GRetOutReferenceIdeal.nD Cert.GRetOutReferenceIdeal.τ Cert.GRetOutReferenceIdeal.sig) → Buf (Elt Ideal) ℓ) (g : Dev Cert.GRetOutReferenceIdeal.nD → PrngReg), Pre_GRetOutReferenceIdeal m →
    θ_run (Cert.GRetOutReferenceIdeal.defs (F := Ideal)) (onTc (τ := Cert.GRetOutReferenceIdeal.τ) (Cert.GRetOutReferenceIdeal.main (F := Ideal))) ⟨m, fun _ => 0, g⟩ (fun r => (∀ c : Dev Cert.GRetOutReferenceIdeal.nD,
      r.2.mem ((c.tc : Thread Cert.GRetOutReferenceIdeal.nD Cert.GRetOutReferenceIdeal.τ).loc Cert.GRetOutReferenceIdeal.main_arg0) = m ((c.tc : Thread Cert.GRetOutReferenceIdeal.nD Cert.GRetOutReferenceIdeal.τ).loc Cert.GRetOutReferenceIdeal.main_arg0)
      ∧ r.2.mem ((c.tc : Thread Cert.GRetOutReferenceIdeal.nD Cert.GRetOutReferenceIdeal.τ).loc Cert.GRetOutReferenceIdeal.main_arg1) = m ((c.tc : Thread Cert.GRetOutReferenceIdeal.nD Cert.GRetOutReferenceIdeal.τ).loc Cert.GRetOutReferenceIdeal.main_arg1))
      ∧ r.2.sem = fun _ => 0)

def quiescent_DySsd [hDySsd : Cert.DySsd.Facts] : Prop :=
  ∀ (m : (ℓ : Loc Cert.DySsd.nD Cert.DySsd.τ Cert.DySsd.sig) → Buf (Elt Bits) ℓ) (g : Dev Cert.DySsd.nD → PrngReg), Pre_DySsd m →
    θ_run (Cert.DySsd.defs (F := Bits)) (onTc (τ := Cert.DySsd.τ) (Cert.DySsd.main (F := Bits))) ⟨m, fun _ => 0, g⟩ (fun r => (∀ c : Dev Cert.DySsd.nD,
      r.2.mem ((c.tc : Thread Cert.DySsd.nD Cert.DySsd.τ).loc Cert.DySsd.main_arg0) = m ((c.tc : Thread Cert.DySsd.nD Cert.DySsd.τ).loc Cert.DySsd.main_arg0)
      ∧ r.2.mem ((c.tc : Thread Cert.DySsd.nD Cert.DySsd.τ).loc Cert.DySsd.main_arg1) = m ((c.tc : Thread Cert.DySsd.nD Cert.DySsd.τ).loc Cert.DySsd.main_arg1))
      ∧ r.2.sem = fun _ => 0)

def quiescent_DySsdIdeal [hDySsdIdeal : Cert.DySsdIdeal.Facts] : Prop :=
  ∀ (m : (ℓ : Loc Cert.DySsdIdeal.nD Cert.DySsdIdeal.τ Cert.DySsdIdeal.sig) → Buf (Elt Ideal) ℓ) (g : Dev Cert.DySsdIdeal.nD → PrngReg), Pre_DySsdIdeal m →
    θ_run (Cert.DySsdIdeal.defs (F := Ideal)) (onTc (τ := Cert.DySsdIdeal.τ) (Cert.DySsdIdeal.main (F := Ideal))) ⟨m, fun _ => 0, g⟩ (fun r => (∀ c : Dev Cert.DySsdIdeal.nD,
      r.2.mem ((c.tc : Thread Cert.DySsdIdeal.nD Cert.DySsdIdeal.τ).loc Cert.DySsdIdeal.main_arg0) = m ((c.tc : Thread Cert.DySsdIdeal.nD Cert.DySsdIdeal.τ).loc Cert.DySsdIdeal.main_arg0)
      ∧ r.2.mem ((c.tc : Thread Cert.DySsdIdeal.nD Cert.DySsdIdeal.τ).loc Cert.DySsdIdeal.main_arg1) = m ((c.tc : Thread Cert.DySsdIdeal.nD Cert.DySsdIdeal.τ).loc Cert.DySsdIdeal.main_arg1))
      ∧ r.2.sem = fun _ => 0)

def quiescent_DySsdReferenceIdeal [hDySsdReferenceIdeal : Cert.DySsdReferenceIdeal.Facts] : Prop :=
  ∀ (m : (ℓ : Loc Cert.DySsdReferenceIdeal.nD Cert.DySsdReferenceIdeal.τ Cert.DySsdReferenceIdeal.sig) → Buf (Elt Ideal) ℓ) (g : Dev Cert.DySsdReferenceIdeal.nD → PrngReg), Pre_DySsdReferenceIdeal m →
    θ_run (Cert.DySsdReferenceIdeal.defs (F := Ideal)) (onTc (τ := Cert.DySsdReferenceIdeal.τ) (Cert.DySsdReferenceIdeal.main (F := Ideal))) ⟨m, fun _ => 0, g⟩ (fun r => (∀ c : Dev Cert.DySsdReferenceIdeal.nD,
      r.2.mem ((c.tc : Thread Cert.DySsdReferenceIdeal.nD Cert.DySsdReferenceIdeal.τ).loc Cert.DySsdReferenceIdeal.main_arg0) = m ((c.tc : Thread Cert.DySsdReferenceIdeal.nD Cert.DySsdReferenceIdeal.τ).loc Cert.DySsdReferenceIdeal.main_arg0)
      ∧ r.2.mem ((c.tc : Thread Cert.DySsdReferenceIdeal.nD Cert.DySsdReferenceIdeal.τ).loc Cert.DySsdReferenceIdeal.main_arg1) = m ((c.tc : Thread Cert.DySsdReferenceIdeal.nD Cert.DySsdReferenceIdeal.τ).loc Cert.DySsdReferenceIdeal.main_arg1))
      ∧ r.2.sem = fun _ => 0)

def quiescent_GSsdOut [hGSsdOut : Cert.GSsdOut.Facts] : Prop :=
  ∀ (m : (ℓ : Loc Cert.GSsdOut.nD Cert.GSsdOut.τ Cert.GSsdOut.sig) → Buf (Elt Bits) ℓ) (g : Dev Cert.GSsdOut.nD → PrngReg), Pre_GSsdOut m →
    θ_run (Cert.GSsdOut.defs (F := Bits)) (onTc (τ := Cert.GSsdOut.τ) (Cert.GSsdOut.main (F := Bits))) ⟨m, fun _ => 0, g⟩ (fun r => (∀ c : Dev Cert.GSsdOut.nD,
      r.2.mem ((c.tc : Thread Cert.GSsdOut.nD Cert.GSsdOut.τ).loc Cert.GSsdOut.main_arg0) = m ((c.tc : Thread Cert.GSsdOut.nD Cert.GSsdOut.τ).loc Cert.GSsdOut.main_arg0)
      ∧ r.2.mem ((c.tc : Thread Cert.GSsdOut.nD Cert.GSsdOut.τ).loc Cert.GSsdOut.main_arg1) = m ((c.tc : Thread Cert.GSsdOut.nD Cert.GSsdOut.τ).loc Cert.GSsdOut.main_arg1))
      ∧ r.2.sem = fun _ => 0)

def quiescent_GSsdOutIdeal [hGSsdOutIdeal : Cert.GSsdOutIdeal.Facts] : Prop :=
  ∀ (m : (ℓ : Loc Cert.GSsdOutIdeal.nD Cert.GSsdOutIdeal.τ Cert.GSsdOutIdeal.sig) → Buf (Elt Ideal) ℓ) (g : Dev Cert.GSsdOutIdeal.nD → PrngReg), Pre_GSsdOutIdeal m →
    θ_run (Cert.GSsdOutIdeal.defs (F := Ideal)) (onTc (τ := Cert.GSsdOutIdeal.τ) (Cert.GSsdOutIdeal.main (F := Ideal))) ⟨m, fun _ => 0, g⟩ (fun r => (∀ c : Dev Cert.GSsdOutIdeal.nD,
      r.2.mem ((c.tc : Thread Cert.GSsdOutIdeal.nD Cert.GSsdOutIdeal.τ).loc Cert.GSsdOutIdeal.main_arg0) = m ((c.tc : Thread Cert.GSsdOutIdeal.nD Cert.GSsdOutIdeal.τ).loc Cert.GSsdOutIdeal.main_arg0)
      ∧ r.2.mem ((c.tc : Thread Cert.GSsdOutIdeal.nD Cert.GSsdOutIdeal.τ).loc Cert.GSsdOutIdeal.main_arg1) = m ((c.tc : Thread Cert.GSsdOutIdeal.nD Cert.GSsdOutIdeal.τ).loc Cert.GSsdOutIdeal.main_arg1))
      ∧ r.2.sem = fun _ => 0)

def quiescent_GSsdOutReferenceIdeal [hGSsdOutReferenceIdeal : Cert.GSsdOutReferenceIdeal.Facts] : Prop :=
  ∀ (m : (ℓ : Loc Cert.GSsdOutReferenceIdeal.nD Cert.GSsdOutReferenceIdeal.τ Cert.GSsdOutReferenceIdeal.sig) → Buf (Elt Ideal) ℓ) (g : Dev Cert.GSsdOutReferenceIdeal.nD → PrngReg), Pre_GSsdOutReferenceIdeal m →
    θ_run (Cert.GSsdOutReferenceIdeal.defs (F := Ideal)) (onTc (τ := Cert.GSsdOutReferenceIdeal.τ) (Cert.GSsdOutReferenceIdeal.main (F := Ideal))) ⟨m, fun _ => 0, g⟩ (fun r => (∀ c : Dev Cert.GSsdOutReferenceIdeal.nD,
      r.2.mem ((c.tc : Thread Cert.GSsdOutReferenceIdeal.nD Cert.GSsdOutReferenceIdeal.τ).loc Cert.GSsdOutReferenceIdeal.main_arg0) = m ((c.tc : Thread Cert.GSsdOutReferenceIdeal.nD Cert.GSsdOutReferenceIdeal.τ).loc Cert.GSsdOutReferenceIdeal.main_arg0)
      ∧ r.2.mem ((c.tc : Thread Cert.GSsdOutReferenceIdeal.nD Cert.GSsdOutReferenceIdeal.τ).loc Cert.GSsdOutReferenceIdeal.main_arg1) = m ((c.tc : Thread Cert.GSsdOutReferenceIdeal.nD Cert.GSsdOutReferenceIdeal.τ).loc Cert.GSsdOutReferenceIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1))
      ∧ r.2.sem = fun _ => 0)

def preserves_Kernel_KernelIdeal : Prop :=
  True

def algebraic_KernelIdeal_ReferenceIdeal_pre_finite_gradient_and_gate [hKernelIdeal : Cert.KernelIdeal.Facts] [hReferenceIdeal : Cert.ReferenceIdeal.Facts] [hPre_finite_gradient_and_gate : Cert.Pre_finite_gradient_and_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gradient_and_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v447) = v0 c
          ∧ r.2.mem ((c.tc : Thread Cert.ReferenceIdeal.nD Cert.ReferenceIdeal.τ).loc Cert.ReferenceIdeal.main_v310) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v15) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Gdown_GdownIdeal : Prop :=
  True

def algebraic_GdownIdeal_GdownReferenceIdeal [hGdownIdeal : Cert.GdownIdeal.Facts] [hGdownReferenceIdeal : Cert.GdownReferenceIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownReferenceIdeal.nD Cert.GdownReferenceIdeal.τ Cert.GdownReferenceIdeal.sig) → Buf (Elt Ideal) ℓ) (g' : Dev Cert.GdownReferenceIdeal.nD → PrngReg), Pre_GdownIdeal m →
    (∀ c : Dev Cert.GdownIdeal.nD,
      m' ((c.tc : Thread Cert.GdownReferenceIdeal.nD Cert.GdownReferenceIdeal.τ).loc Cert.GdownReferenceIdeal.main_arg0) = m ((c.tc : Thread Cert.GdownIdeal.nD Cert.GdownIdeal.τ).loc Cert.GdownIdeal.main_arg0)
      ∧ m' ((c.tc : Thread Cert.GdownReferenceIdeal.nD Cert.GdownReferenceIdeal.τ).loc Cert.GdownReferenceIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v2)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v2) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownReferenceIdeal.defs (F := Ideal)) (onTc (τ := Cert.GdownReferenceIdeal.τ) (Cert.GdownReferenceIdeal.main (F := Ideal))) ⟨m', fun _ => 0, g'⟩ (fun r => ∀ c : Dev Cert.GdownReferenceIdeal.nD,
          r.2.mem ((c.tc : Thread Cert.GdownReferenceIdeal.nD Cert.GdownReferenceIdeal.τ).loc Cert.GdownReferenceIdeal.main_v1) = v0 c
          ∧ r.2.mem ((c.tc : Thread Cert.GdownReferenceIdeal.nD Cert.GdownReferenceIdeal.τ).loc Cert.GdownReferenceIdeal.main_arg0) = m' ((c.tc : Thread Cert.GdownReferenceIdeal.nD Cert.GdownReferenceIdeal.τ).loc Cert.GdownReferenceIdeal.main_arg0)
          ∧ r.2.mem ((c.tc : Thread Cert.GdownReferenceIdeal.nD Cert.GdownReferenceIdeal.τ).loc Cert.GdownReferenceIdeal.main_arg1) = m' ((c.tc : Thread Cert.GdownReferenceIdeal.nD Cert.GdownReferenceIdeal.τ).loc Cert.GdownReferenceIdeal.main_arg1))

def preserves_Du_DuIdeal : Prop :=
  True

def algebraic_DuIdeal_DuReferenceIdeal [hDuIdeal : Cert.DuIdeal.Facts] [hDuReferenceIdeal : Cert.DuReferenceIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuReferenceIdeal.nD Cert.DuReferenceIdeal.τ Cert.DuReferenceIdeal.sig) → Buf (Elt Ideal) ℓ) (g' : Dev Cert.DuReferenceIdeal.nD → PrngReg), Pre_DuIdeal m →
    (∀ c : Dev Cert.DuIdeal.nD,
      m' ((c.tc : Thread Cert.DuReferenceIdeal.nD Cert.DuReferenceIdeal.τ).loc Cert.DuReferenceIdeal.main_arg0) = m ((c.tc : Thread Cert.DuIdeal.nD Cert.DuIdeal.τ).loc Cert.DuIdeal.main_arg0)
      ∧ m' ((c.tc : Thread Cert.DuReferenceIdeal.nD Cert.DuReferenceIdeal.τ).loc Cert.DuReferenceIdeal.main_arg1) = m ((c.tc : Thread Cert.DuIdeal.nD Cert.DuIdeal.τ).loc Cert.DuIdeal.main_arg1)) →
    ∃ (v0 : (c : Dev Cert.DuIdeal.nD) → Buf (Elt Ideal) ((c.tc : Thread Cert.DuIdeal.nD Cert.DuIdeal.τ).loc Cert.DuIdeal.main_v3)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v3) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1))
      ∧ θ_run (Cert.DuReferenceIdeal.defs (F := Ideal)) (onTc (τ := Cert.DuReferenceIdeal.τ) (Cert.DuReferenceIdeal.main (F := Ideal))) ⟨m', fun _ => 0, g'⟩ (fun r => ∀ c : Dev Cert.DuReferenceIdeal.nD,
          r.2.mem ((c.tc : Thread Cert.DuReferenceIdeal.nD Cert.DuReferenceIdeal.τ).loc Cert.DuReferenceIdeal.main_v0) = v0 c
          ∧ r.2.mem ((c.tc : Thread Cert.DuReferenceIdeal.nD Cert.DuReferenceIdeal.τ).loc Cert.DuReferenceIdeal.main_arg0) = m' ((c.tc : Thread Cert.DuReferenceIdeal.nD Cert.DuReferenceIdeal.τ).loc Cert.DuReferenceIdeal.main_arg0)
          ∧ r.2.mem ((c.tc : Thread Cert.DuReferenceIdeal.nD Cert.DuReferenceIdeal.τ).loc Cert.DuReferenceIdeal.main_arg1) = m' ((c.tc : Thread Cert.DuReferenceIdeal.nD Cert.DuReferenceIdeal.τ).loc Cert.DuReferenceIdeal.main_arg1))

def preserves_Gup_GupIdeal : Prop :=
  True

def algebraic_GupIdeal_GupReferenceIdeal [hGupIdeal : Cert.GupIdeal.Facts] [hGupReferenceIdeal : Cert.GupReferenceIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupReferenceIdeal.nD Cert.GupReferenceIdeal.τ Cert.GupReferenceIdeal.sig) → Buf (Elt Ideal) ℓ) (g' : Dev Cert.GupReferenceIdeal.nD → PrngReg), Pre_GupIdeal m →
    (∀ c : Dev Cert.GupIdeal.nD,
      m' ((c.tc : Thread Cert.GupReferenceIdeal.nD Cert.GupReferenceIdeal.τ).loc Cert.GupReferenceIdeal.main_arg0) = m ((c.tc : Thread Cert.GupIdeal.nD Cert.GupIdeal.τ).loc Cert.GupIdeal.main_arg0)
      ∧ m' ((c.tc : Thread Cert.GupReferenceIdeal.nD Cert.GupReferenceIdeal.τ).loc Cert.GupReferenceIdeal.main_arg1) = m ((c.tc : Thread Cert.GupIdeal.nD Cert.GupIdeal.τ).loc Cert.GupIdeal.main_arg1)) →
    ∃ (v0 : (c : Dev Cert.GupIdeal.nD) → Buf (Elt Ideal) ((c.tc : Thread Cert.GupIdeal.nD Cert.GupIdeal.τ).loc Cert.GupIdeal.main_v4)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v4) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ θ_run (Cert.GupReferenceIdeal.defs (F := Ideal)) (onTc (τ := Cert.GupReferenceIdeal.τ) (Cert.GupReferenceIdeal.main (F := Ideal))) ⟨m', fun _ => 0, g'⟩ (fun r => ∀ c : Dev Cert.GupReferenceIdeal.nD,
          r.2.mem ((c.tc : Thread Cert.GupReferenceIdeal.nD Cert.GupReferenceIdeal.τ).loc Cert.GupReferenceIdeal.main_v1) = v0 c
          ∧ r.2.mem ((c.tc : Thread Cert.GupReferenceIdeal.nD Cert.GupReferenceIdeal.τ).loc Cert.GupReferenceIdeal.main_arg0) = m' ((c.tc : Thread Cert.GupReferenceIdeal.nD Cert.GupReferenceIdeal.τ).loc Cert.GupReferenceIdeal.main_arg0)
          ∧ r.2.mem ((c.tc : Thread Cert.GupReferenceIdeal.nD Cert.GupReferenceIdeal.τ).loc Cert.GupReferenceIdeal.main_arg1) = m' ((c.tc : Thread Cert.GupReferenceIdeal.nD Cert.GupReferenceIdeal.τ).loc Cert.GupReferenceIdeal.main_arg1))

def preserves_DuRet_DuRetIdeal : Prop :=
  True

def algebraic_DuRetIdeal_DuRetReferenceIdeal [hDuRetIdeal : Cert.DuRetIdeal.Facts] [hDuRetReferenceIdeal : Cert.DuRetReferenceIdeal.Facts] : Prop :=
  ∀ (m : (ℓ : Loc Cert.DuRetIdeal.nD Cert.DuRetIdeal.τ Cert.DuRetIdeal.sig) → Buf (Elt Ideal) ℓ) (g : Dev Cert.DuRetIdeal.nD → PrngReg)
    (m' : (ℓ : Loc Cert.DuRetReferenceIdeal.nD Cert.DuRetReferenceIdeal.τ Cert.DuRetReferenceIdeal.sig) → Buf (Elt Ideal) ℓ) (g' : Dev Cert.DuRetReferenceIdeal.nD → PrngReg), Pre_DuRetIdeal m →
    (∀ c : Dev Cert.DuRetIdeal.nD,
      m' ((c.tc : Thread Cert.DuRetReferenceIdeal.nD Cert.DuRetReferenceIdeal.τ).loc Cert.DuRetReferenceIdeal.main_arg0) = m ((c.tc : Thread Cert.DuRetIdeal.nD Cert.DuRetIdeal.τ).loc Cert.DuRetIdeal.main_arg0)
      ∧ m' ((c.tc : Thread Cert.DuRetReferenceIdeal.nD Cert.DuRetReferenceIdeal.τ).loc Cert.DuRetReferenceIdeal.main_arg1) = m ((c.tc : Thread Cert.DuRetIdeal.nD Cert.DuRetIdeal.τ).loc Cert.DuRetIdeal.main_arg1)) →
    ∃ (v0 : (c : Dev Cert.DuRetIdeal.nD) → Buf (Elt Ideal) ((c.tc : Thread Cert.DuRetIdeal.nD Cert.DuRetIdeal.τ).loc Cert.DuRetIdeal.main_v3)),
      θ_run (Cert.DuRetIdeal.defs (F := Ideal)) (onTc (τ := Cert.DuRetIdeal.τ) (Cert.DuRetIdeal.main (F := Ideal))) ⟨m, fun _ => 0, g⟩ (fun r => ∀ c : Dev Cert.DuRetIdeal.nD,
          r.2.mem ((c.tc : Thread Cert.DuRetIdeal.nD Cert.DuRetIdeal.τ).loc Cert.DuRetIdeal.main_v3) = v0 c
          ∧ r.2.mem ((c.tc : Thread Cert.DuRetIdeal.nD Cert.DuRetIdeal.τ).loc Cert.DuRetIdeal.main_arg0) = m ((c.tc : Thread Cert.DuRetIdeal.nD Cert.DuRetIdeal.τ).loc Cert.DuRetIdeal.main_arg0)
          ∧ r.2.mem ((c.tc : Thread Cert.DuRetIdeal.nD Cert.DuRetIdeal.τ).loc Cert.DuRetIdeal.main_arg1) = m ((c.tc : Thread Cert.DuRetIdeal.nD Cert.DuRetIdeal.τ).loc Cert.DuRetIdeal.main_arg1))
      ∧ θ_run (Cert.DuRetReferenceIdeal.defs (F := Ideal)) (onTc (τ := Cert.DuRetReferenceIdeal.τ) (Cert.DuRetReferenceIdeal.main (F := Ideal))) ⟨m', fun _ => 0, g'⟩ (fun r => ∀ c : Dev Cert.DuRetReferenceIdeal.nD,
          r.2.mem ((c.tc : Thread Cert.DuRetReferenceIdeal.nD Cert.DuRetReferenceIdeal.τ).loc Cert.DuRetReferenceIdeal.main_v0) = v0 c
          ∧ r.2.mem ((c.tc : Thread Cert.DuRetReferenceIdeal.nD Cert.DuRetReferenceIdeal.τ).loc Cert.DuRetReferenceIdeal.main_arg0) = m' ((c.tc : Thread Cert.DuRetReferenceIdeal.nD Cert.DuRetReferenceIdeal.τ).loc Cert.DuRetReferenceIdeal.main_arg0)
          ∧ r.2.mem ((c.tc : Thread Cert.DuRetReferenceIdeal.nD Cert.DuRetReferenceIdeal.τ).loc Cert.DuRetReferenceIdeal.main_arg1) = m' ((c.tc : Thread Cert.DuRetReferenceIdeal.nD Cert.DuRetReferenceIdeal.τ).loc Cert.DuRetReferenceIdeal.main_arg1))

def preserves_GRetIn0_GRetIn0Ideal : Prop :=
  True

def algebraic_GRetIn0Ideal_GRetIn0ReferenceIdeal [hGRetIn0Ideal : Cert.GRetIn0Ideal.Facts] [hGRetIn0ReferenceIdeal : Cert.GRetIn0ReferenceIdeal.Facts] : Prop :=
  ∀ (m : (ℓ : Loc Cert.GRetIn0Ideal.nD Cert.GRetIn0Ideal.τ Cert.GRetIn0Ideal.sig) → Buf (Elt Ideal) ℓ) (g : Dev Cert.GRetIn0Ideal.nD → PrngReg)
    (m' : (ℓ : Loc Cert.GRetIn0ReferenceIdeal.nD Cert.GRetIn0ReferenceIdeal.τ Cert.GRetIn0ReferenceIdeal.sig) → Buf (Elt Ideal) ℓ) (g' : Dev Cert.GRetIn0ReferenceIdeal.nD → PrngReg), Pre_GRetIn0Ideal m →
    (∀ c : Dev Cert.GRetIn0Ideal.nD,
      m' ((c.tc : Thread Cert.GRetIn0ReferenceIdeal.nD Cert.GRetIn0ReferenceIdeal.τ).loc Cert.GRetIn0ReferenceIdeal.main_arg0) = m ((c.tc : Thread Cert.GRetIn0Ideal.nD Cert.GRetIn0Ideal.τ).loc Cert.GRetIn0Ideal.main_arg0)
      ∧ m' ((c.tc : Thread Cert.GRetIn0ReferenceIdeal.nD Cert.GRetIn0ReferenceIdeal.τ).loc Cert.GRetIn0ReferenceIdeal.main_arg1) = m ((c.tc : Thread Cert.GRetIn0Ideal.nD Cert.GRetIn0Ideal.τ).loc Cert.GRetIn0Ideal.main_arg1)) →
    ∃ (v0 : (c : Dev Cert.GRetIn0Ideal.nD) → Buf (Elt Ideal) ((c.tc : Thread Cert.GRetIn0Ideal.nD Cert.GRetIn0Ideal.τ).loc Cert.GRetIn0Ideal.main_v4)),
      θ_run (Cert.GRetIn0Ideal.defs (F := Ideal)) (onTc (τ := Cert.GRetIn0Ideal.τ) (Cert.GRetIn0Ideal.main (F := Ideal))) ⟨m, fun _ => 0, g⟩ (fun r => ∀ c : Dev Cert.GRetIn0Ideal.nD,
          r.2.mem ((c.tc : Thread Cert.GRetIn0Ideal.nD Cert.GRetIn0Ideal.τ).loc Cert.GRetIn0Ideal.main_v4) = v0 c
          ∧ r.2.mem ((c.tc : Thread Cert.GRetIn0Ideal.nD Cert.GRetIn0Ideal.τ).loc Cert.GRetIn0Ideal.main_arg0) = m ((c.tc : Thread Cert.GRetIn0Ideal.nD Cert.GRetIn0Ideal.τ).loc Cert.GRetIn0Ideal.main_arg0)
          ∧ r.2.mem ((c.tc : Thread Cert.GRetIn0Ideal.nD Cert.GRetIn0Ideal.τ).loc Cert.GRetIn0Ideal.main_arg1) = m ((c.tc : Thread Cert.GRetIn0Ideal.nD Cert.GRetIn0Ideal.τ).loc Cert.GRetIn0Ideal.main_arg1))
      ∧ θ_run (Cert.GRetIn0ReferenceIdeal.defs (F := Ideal)) (onTc (τ := Cert.GRetIn0ReferenceIdeal.τ) (Cert.GRetIn0ReferenceIdeal.main (F := Ideal))) ⟨m', fun _ => 0, g'⟩ (fun r => ∀ c : Dev Cert.GRetIn0ReferenceIdeal.nD,
          r.2.mem ((c.tc : Thread Cert.GRetIn0ReferenceIdeal.nD Cert.GRetIn0ReferenceIdeal.τ).loc Cert.GRetIn0ReferenceIdeal.main_v2) = v0 c
          ∧ r.2.mem ((c.tc : Thread Cert.GRetIn0ReferenceIdeal.nD Cert.GRetIn0ReferenceIdeal.τ).loc Cert.GRetIn0ReferenceIdeal.main_arg0) = m' ((c.tc : Thread Cert.GRetIn0ReferenceIdeal.nD Cert.GRetIn0ReferenceIdeal.τ).loc Cert.GRetIn0ReferenceIdeal.main_arg0)
          ∧ r.2.mem ((c.tc : Thread Cert.GRetIn0ReferenceIdeal.nD Cert.GRetIn0ReferenceIdeal.τ).loc Cert.GRetIn0ReferenceIdeal.main_arg1) = m' ((c.tc : Thread Cert.GRetIn0ReferenceIdeal.nD Cert.GRetIn0ReferenceIdeal.τ).loc Cert.GRetIn0ReferenceIdeal.main_arg1))

def preserves_GRetIn1_GRetIn1Ideal : Prop :=
  True

def algebraic_GRetIn1Ideal_GRetIn1ReferenceIdeal [hGRetIn1Ideal : Cert.GRetIn1Ideal.Facts] [hGRetIn1ReferenceIdeal : Cert.GRetIn1ReferenceIdeal.Facts] : Prop :=
  ∀ (m : (ℓ : Loc Cert.GRetIn1Ideal.nD Cert.GRetIn1Ideal.τ Cert.GRetIn1Ideal.sig) → Buf (Elt Ideal) ℓ) (g : Dev Cert.GRetIn1Ideal.nD → PrngReg)
    (m' : (ℓ : Loc Cert.GRetIn1ReferenceIdeal.nD Cert.GRetIn1ReferenceIdeal.τ Cert.GRetIn1ReferenceIdeal.sig) → Buf (Elt Ideal) ℓ) (g' : Dev Cert.GRetIn1ReferenceIdeal.nD → PrngReg), Pre_GRetIn1Ideal m →
    (∀ c : Dev Cert.GRetIn1Ideal.nD,
      m' ((c.tc : Thread Cert.GRetIn1ReferenceIdeal.nD Cert.GRetIn1ReferenceIdeal.τ).loc Cert.GRetIn1ReferenceIdeal.main_arg0) = m ((c.tc : Thread Cert.GRetIn1Ideal.nD Cert.GRetIn1Ideal.τ).loc Cert.GRetIn1Ideal.main_arg0)
      ∧ m' ((c.tc : Thread Cert.GRetIn1ReferenceIdeal.nD Cert.GRetIn1ReferenceIdeal.τ).loc Cert.GRetIn1ReferenceIdeal.main_arg1) = m ((c.tc : Thread Cert.GRetIn1Ideal.nD Cert.GRetIn1Ideal.τ).loc Cert.GRetIn1Ideal.main_arg1)) →
    ∃ (v0 : (c : Dev Cert.GRetIn1Ideal.nD) → Buf (Elt Ideal) ((c.tc : Thread Cert.GRetIn1Ideal.nD Cert.GRetIn1Ideal.τ).loc Cert.GRetIn1Ideal.main_v4)),
      θ_run (Cert.GRetIn1Ideal.defs (F := Ideal)) (onTc (τ := Cert.GRetIn1Ideal.τ) (Cert.GRetIn1Ideal.main (F := Ideal))) ⟨m, fun _ => 0, g⟩ (fun r => ∀ c : Dev Cert.GRetIn1Ideal.nD,
          r.2.mem ((c.tc : Thread Cert.GRetIn1Ideal.nD Cert.GRetIn1Ideal.τ).loc Cert.GRetIn1Ideal.main_v4) = v0 c
          ∧ r.2.mem ((c.tc : Thread Cert.GRetIn1Ideal.nD Cert.GRetIn1Ideal.τ).loc Cert.GRetIn1Ideal.main_arg0) = m ((c.tc : Thread Cert.GRetIn1Ideal.nD Cert.GRetIn1Ideal.τ).loc Cert.GRetIn1Ideal.main_arg0)
          ∧ r.2.mem ((c.tc : Thread Cert.GRetIn1Ideal.nD Cert.GRetIn1Ideal.τ).loc Cert.GRetIn1Ideal.main_arg1) = m ((c.tc : Thread Cert.GRetIn1Ideal.nD Cert.GRetIn1Ideal.τ).loc Cert.GRetIn1Ideal.main_arg1))
      ∧ θ_run (Cert.GRetIn1ReferenceIdeal.defs (F := Ideal)) (onTc (τ := Cert.GRetIn1ReferenceIdeal.τ) (Cert.GRetIn1ReferenceIdeal.main (F := Ideal))) ⟨m', fun _ => 0, g'⟩ (fun r => ∀ c : Dev Cert.GRetIn1ReferenceIdeal.nD,
          r.2.mem ((c.tc : Thread Cert.GRetIn1ReferenceIdeal.nD Cert.GRetIn1ReferenceIdeal.τ).loc Cert.GRetIn1ReferenceIdeal.main_v2) = v0 c
          ∧ r.2.mem ((c.tc : Thread Cert.GRetIn1ReferenceIdeal.nD Cert.GRetIn1ReferenceIdeal.τ).loc Cert.GRetIn1ReferenceIdeal.main_arg0) = m' ((c.tc : Thread Cert.GRetIn1ReferenceIdeal.nD Cert.GRetIn1ReferenceIdeal.τ).loc Cert.GRetIn1ReferenceIdeal.main_arg0)
          ∧ r.2.mem ((c.tc : Thread Cert.GRetIn1ReferenceIdeal.nD Cert.GRetIn1ReferenceIdeal.τ).loc Cert.GRetIn1ReferenceIdeal.main_arg1) = m' ((c.tc : Thread Cert.GRetIn1ReferenceIdeal.nD Cert.GRetIn1ReferenceIdeal.τ).loc Cert.GRetIn1ReferenceIdeal.main_arg1))

def preserves_DuSsd_DuSsdIdeal : Prop :=
  True

def algebraic_DuSsdIdeal_DuSsdReferenceIdeal [hDuSsdIdeal : Cert.DuSsdIdeal.Facts] [hDuSsdReferenceIdeal : Cert.DuSsdReferenceIdeal.Facts] : Prop :=
  ∀ (m : (ℓ : Loc Cert.DuSsdIdeal.nD Cert.DuSsdIdeal.τ Cert.DuSsdIdeal.sig) → Buf (Elt Ideal) ℓ) (g : Dev Cert.DuSsdIdeal.nD → PrngReg)
    (m' : (ℓ : Loc Cert.DuSsdReferenceIdeal.nD Cert.DuSsdReferenceIdeal.τ Cert.DuSsdReferenceIdeal.sig) → Buf (Elt Ideal) ℓ) (g' : Dev Cert.DuSsdReferenceIdeal.nD → PrngReg), Pre_DuSsdIdeal m →
    (∀ c : Dev Cert.DuSsdIdeal.nD,
      m' ((c.tc : Thread Cert.DuSsdReferenceIdeal.nD Cert.DuSsdReferenceIdeal.τ).loc Cert.DuSsdReferenceIdeal.main_arg0) = m ((c.tc : Thread Cert.DuSsdIdeal.nD Cert.DuSsdIdeal.τ).loc Cert.DuSsdIdeal.main_arg0)
      ∧ m' ((c.tc : Thread Cert.DuSsdReferenceIdeal.nD Cert.DuSsdReferenceIdeal.τ).loc Cert.DuSsdReferenceIdeal.main_arg1) = m ((c.tc : Thread Cert.DuSsdIdeal.nD Cert.DuSsdIdeal.τ).loc Cert.DuSsdIdeal.main_arg1)) →
    ∃ (v0 : (c : Dev Cert.DuSsdIdeal.nD) → Buf (Elt Ideal) ((c.tc : Thread Cert.DuSsdIdeal.nD Cert.DuSsdIdeal.τ).loc Cert.DuSsdIdeal.main_v4)),
      θ_run (Cert.DuSsdIdeal.defs (F := Ideal)) (onTc (τ := Cert.DuSsdIdeal.τ) (Cert.DuSsdIdeal.main (F := Ideal))) ⟨m, fun _ => 0, g⟩ (fun r => ∀ c : Dev Cert.DuSsdIdeal.nD,
          r.2.mem ((c.tc : Thread Cert.DuSsdIdeal.nD Cert.DuSsdIdeal.τ).loc Cert.DuSsdIdeal.main_v4) = v0 c
          ∧ r.2.mem ((c.tc : Thread Cert.DuSsdIdeal.nD Cert.DuSsdIdeal.τ).loc Cert.DuSsdIdeal.main_arg0) = m ((c.tc : Thread Cert.DuSsdIdeal.nD Cert.DuSsdIdeal.τ).loc Cert.DuSsdIdeal.main_arg0)
          ∧ r.2.mem ((c.tc : Thread Cert.DuSsdIdeal.nD Cert.DuSsdIdeal.τ).loc Cert.DuSsdIdeal.main_arg1) = m ((c.tc : Thread Cert.DuSsdIdeal.nD Cert.DuSsdIdeal.τ).loc Cert.DuSsdIdeal.main_arg1))
      ∧ θ_run (Cert.DuSsdReferenceIdeal.defs (F := Ideal)) (onTc (τ := Cert.DuSsdReferenceIdeal.τ) (Cert.DuSsdReferenceIdeal.main (F := Ideal))) ⟨m', fun _ => 0, g'⟩ (fun r => ∀ c : Dev Cert.DuSsdReferenceIdeal.nD,
          r.2.mem ((c.tc : Thread Cert.DuSsdReferenceIdeal.nD Cert.DuSsdReferenceIdeal.τ).loc Cert.DuSsdReferenceIdeal.main_v1) = v0 c
          ∧ r.2.mem ((c.tc : Thread Cert.DuSsdReferenceIdeal.nD Cert.DuSsdReferenceIdeal.τ).loc Cert.DuSsdReferenceIdeal.main_arg0) = m' ((c.tc : Thread Cert.DuSsdReferenceIdeal.nD Cert.DuSsdReferenceIdeal.τ).loc Cert.DuSsdReferenceIdeal.main_arg0)
          ∧ r.2.mem ((c.tc : Thread Cert.DuSsdReferenceIdeal.nD Cert.DuSsdReferenceIdeal.τ).loc Cert.DuSsdReferenceIdeal.main_arg1) = m' ((c.tc : Thread Cert.DuSsdReferenceIdeal.nD Cert.DuSsdReferenceIdeal.τ).loc Cert.DuSsdReferenceIdeal.main_arg1))

def preserves_GSsdIn_GSsdInIdeal : Prop :=
  True

def algebraic_GSsdInIdeal_GSsdInReferenceIdeal [hGSsdInIdeal : Cert.GSsdInIdeal.Facts] [hGSsdInReferenceIdeal : Cert.GSsdInReferenceIdeal.Facts] : Prop :=
  ∀ (m : (ℓ : Loc Cert.GSsdInIdeal.nD Cert.GSsdInIdeal.τ Cert.GSsdInIdeal.sig) → Buf (Elt Ideal) ℓ) (g : Dev Cert.GSsdInIdeal.nD → PrngReg)
    (m' : (ℓ : Loc Cert.GSsdInReferenceIdeal.nD Cert.GSsdInReferenceIdeal.τ Cert.GSsdInReferenceIdeal.sig) → Buf (Elt Ideal) ℓ) (g' : Dev Cert.GSsdInReferenceIdeal.nD → PrngReg), Pre_GSsdInIdeal m →
    (∀ c : Dev Cert.GSsdInIdeal.nD,
      m' ((c.tc : Thread Cert.GSsdInReferenceIdeal.nD Cert.GSsdInReferenceIdeal.τ).loc Cert.GSsdInReferenceIdeal.main_arg0) = m ((c.tc : Thread Cert.GSsdInIdeal.nD Cert.GSsdInIdeal.τ).loc Cert.GSsdInIdeal.main_arg0)
      ∧ m' ((c.tc : Thread Cert.GSsdInReferenceIdeal.nD Cert.GSsdInReferenceIdeal.τ).loc Cert.GSsdInReferenceIdeal.main_arg1) = m ((c.tc : Thread Cert.GSsdInIdeal.nD Cert.GSsdInIdeal.τ).loc Cert.GSsdInIdeal.main_arg1)) →
    ∃ (v0 : (c : Dev Cert.GSsdInIdeal.nD) → Buf (Elt Ideal) ((c.tc : Thread Cert.GSsdInIdeal.nD Cert.GSsdInIdeal.τ).loc Cert.GSsdInIdeal.main_v4)),
      θ_run (Cert.GSsdInIdeal.defs (F := Ideal)) (onTc (τ := Cert.GSsdInIdeal.τ) (Cert.GSsdInIdeal.main (F := Ideal))) ⟨m, fun _ => 0, g⟩ (fun r => ∀ c : Dev Cert.GSsdInIdeal.nD,
          r.2.mem ((c.tc : Thread Cert.GSsdInIdeal.nD Cert.GSsdInIdeal.τ).loc Cert.GSsdInIdeal.main_v4) = v0 c
          ∧ r.2.mem ((c.tc : Thread Cert.GSsdInIdeal.nD Cert.GSsdInIdeal.τ).loc Cert.GSsdInIdeal.main_arg0) = m ((c.tc : Thread Cert.GSsdInIdeal.nD Cert.GSsdInIdeal.τ).loc Cert.GSsdInIdeal.main_arg0)
          ∧ r.2.mem ((c.tc : Thread Cert.GSsdInIdeal.nD Cert.GSsdInIdeal.τ).loc Cert.GSsdInIdeal.main_arg1) = m ((c.tc : Thread Cert.GSsdInIdeal.nD Cert.GSsdInIdeal.τ).loc Cert.GSsdInIdeal.main_arg1))
      ∧ θ_run (Cert.GSsdInReferenceIdeal.defs (F := Ideal)) (onTc (τ := Cert.GSsdInReferenceIdeal.τ) (Cert.GSsdInReferenceIdeal.main (F := Ideal))) ⟨m', fun _ => 0, g'⟩ (fun r => ∀ c : Dev Cert.GSsdInReferenceIdeal.nD,
          r.2.mem ((c.tc : Thread Cert.GSsdInReferenceIdeal.nD Cert.GSsdInReferenceIdeal.τ).loc Cert.GSsdInReferenceIdeal.main_v2) = v0 c
          ∧ r.2.mem ((c.tc : Thread Cert.GSsdInReferenceIdeal.nD Cert.GSsdInReferenceIdeal.τ).loc Cert.GSsdInReferenceIdeal.main_arg0) = m' ((c.tc : Thread Cert.GSsdInReferenceIdeal.nD Cert.GSsdInReferenceIdeal.τ).loc Cert.GSsdInReferenceIdeal.main_arg0)
          ∧ r.2.mem ((c.tc : Thread Cert.GSsdInReferenceIdeal.nD Cert.GSsdInReferenceIdeal.τ).loc Cert.GSsdInReferenceIdeal.main_arg1) = m' ((c.tc : Thread Cert.GSsdInReferenceIdeal.nD Cert.GSsdInReferenceIdeal.τ).loc Cert.GSsdInReferenceIdeal.main_arg1))

def preserves_DyRet_DyRetIdeal : Prop :=
  True

def algebraic_DyRetIdeal_DyRetReferenceIdeal [hDyRetIdeal : Cert.DyRetIdeal.Facts] [hDyRetReferenceIdeal : Cert.DyRetReferenceIdeal.Facts] : Prop :=
  ∀ (m : (ℓ : Loc Cert.DyRetIdeal.nD Cert.DyRetIdeal.τ Cert.DyRetIdeal.sig) → Buf (Elt Ideal) ℓ) (g : Dev Cert.DyRetIdeal.nD → PrngReg)
    (m' : (ℓ : Loc Cert.DyRetReferenceIdeal.nD Cert.DyRetReferenceIdeal.τ Cert.DyRetReferenceIdeal.sig) → Buf (Elt Ideal) ℓ) (g' : Dev Cert.DyRetReferenceIdeal.nD → PrngReg), Pre_DyRetIdeal m →
    (∀ c : Dev Cert.DyRetIdeal.nD,
      m' ((c.tc : Thread Cert.DyRetReferenceIdeal.nD Cert.DyRetReferenceIdeal.τ).loc Cert.DyRetReferenceIdeal.main_arg0) = m ((c.tc : Thread Cert.DyRetIdeal.nD Cert.DyRetIdeal.τ).loc Cert.DyRetIdeal.main_arg0)
      ∧ m' ((c.tc : Thread Cert.DyRetReferenceIdeal.nD Cert.DyRetReferenceIdeal.τ).loc Cert.DyRetReferenceIdeal.main_arg1) = m ((c.tc : Thread Cert.DyRetIdeal.nD Cert.DyRetIdeal.τ).loc Cert.DyRetIdeal.main_arg1)) →
    ∃ (v0 : (c : Dev Cert.DyRetIdeal.nD) → Buf (Elt Ideal) ((c.tc : Thread Cert.DyRetIdeal.nD Cert.DyRetIdeal.τ).loc Cert.DyRetIdeal.main_v2)),
      θ_run (Cert.DyRetIdeal.defs (F := Ideal)) (onTc (τ := Cert.DyRetIdeal.τ) (Cert.DyRetIdeal.main (F := Ideal))) ⟨m, fun _ => 0, g⟩ (fun r => ∀ c : Dev Cert.DyRetIdeal.nD,
          r.2.mem ((c.tc : Thread Cert.DyRetIdeal.nD Cert.DyRetIdeal.τ).loc Cert.DyRetIdeal.main_v2) = v0 c
          ∧ r.2.mem ((c.tc : Thread Cert.DyRetIdeal.nD Cert.DyRetIdeal.τ).loc Cert.DyRetIdeal.main_arg0) = m ((c.tc : Thread Cert.DyRetIdeal.nD Cert.DyRetIdeal.τ).loc Cert.DyRetIdeal.main_arg0)
          ∧ r.2.mem ((c.tc : Thread Cert.DyRetIdeal.nD Cert.DyRetIdeal.τ).loc Cert.DyRetIdeal.main_arg1) = m ((c.tc : Thread Cert.DyRetIdeal.nD Cert.DyRetIdeal.τ).loc Cert.DyRetIdeal.main_arg1))
      ∧ θ_run (Cert.DyRetReferenceIdeal.defs (F := Ideal)) (onTc (τ := Cert.DyRetReferenceIdeal.τ) (Cert.DyRetReferenceIdeal.main (F := Ideal))) ⟨m', fun _ => 0, g'⟩ (fun r => ∀ c : Dev Cert.DyRetReferenceIdeal.nD,
          r.2.mem ((c.tc : Thread Cert.DyRetReferenceIdeal.nD Cert.DyRetReferenceIdeal.τ).loc Cert.DyRetReferenceIdeal.main_v0) = v0 c
          ∧ r.2.mem ((c.tc : Thread Cert.DyRetReferenceIdeal.nD Cert.DyRetReferenceIdeal.τ).loc Cert.DyRetReferenceIdeal.main_arg0) = m' ((c.tc : Thread Cert.DyRetReferenceIdeal.nD Cert.DyRetReferenceIdeal.τ).loc Cert.DyRetReferenceIdeal.main_arg0)
          ∧ r.2.mem ((c.tc : Thread Cert.DyRetReferenceIdeal.nD Cert.DyRetReferenceIdeal.τ).loc Cert.DyRetReferenceIdeal.main_arg1) = m' ((c.tc : Thread Cert.DyRetReferenceIdeal.nD Cert.DyRetReferenceIdeal.τ).loc Cert.DyRetReferenceIdeal.main_arg1))

def preserves_GRetOut_GRetOutIdeal : Prop :=
  True

def algebraic_GRetOutIdeal_GRetOutReferenceIdeal [hGRetOutIdeal : Cert.GRetOutIdeal.Facts] [hGRetOutReferenceIdeal : Cert.GRetOutReferenceIdeal.Facts] : Prop :=
  ∀ (m : (ℓ : Loc Cert.GRetOutIdeal.nD Cert.GRetOutIdeal.τ Cert.GRetOutIdeal.sig) → Buf (Elt Ideal) ℓ) (g : Dev Cert.GRetOutIdeal.nD → PrngReg)
    (m' : (ℓ : Loc Cert.GRetOutReferenceIdeal.nD Cert.GRetOutReferenceIdeal.τ Cert.GRetOutReferenceIdeal.sig) → Buf (Elt Ideal) ℓ) (g' : Dev Cert.GRetOutReferenceIdeal.nD → PrngReg), Pre_GRetOutIdeal m →
    (∀ c : Dev Cert.GRetOutIdeal.nD,
      m' ((c.tc : Thread Cert.GRetOutReferenceIdeal.nD Cert.GRetOutReferenceIdeal.τ).loc Cert.GRetOutReferenceIdeal.main_arg0) = m ((c.tc : Thread Cert.GRetOutIdeal.nD Cert.GRetOutIdeal.τ).loc Cert.GRetOutIdeal.main_arg0)
      ∧ m' ((c.tc : Thread Cert.GRetOutReferenceIdeal.nD Cert.GRetOutReferenceIdeal.τ).loc Cert.GRetOutReferenceIdeal.main_arg1) = m ((c.tc : Thread Cert.GRetOutIdeal.nD Cert.GRetOutIdeal.τ).loc Cert.GRetOutIdeal.main_arg1)) →
    ∃ (v0 : (c : Dev Cert.GRetOutIdeal.nD) → Buf (Elt Ideal) ((c.tc : Thread Cert.GRetOutIdeal.nD Cert.GRetOutIdeal.τ).loc Cert.GRetOutIdeal.main_v2)),
      θ_run (Cert.GRetOutIdeal.defs (F := Ideal)) (onTc (τ := Cert.GRetOutIdeal.τ) (Cert.GRetOutIdeal.main (F := Ideal))) ⟨m, fun _ => 0, g⟩ (fun r => ∀ c : Dev Cert.GRetOutIdeal.nD,
          r.2.mem ((c.tc : Thread Cert.GRetOutIdeal.nD Cert.GRetOutIdeal.τ).loc Cert.GRetOutIdeal.main_v2) = v0 c
          ∧ r.2.mem ((c.tc : Thread Cert.GRetOutIdeal.nD Cert.GRetOutIdeal.τ).loc Cert.GRetOutIdeal.main_arg0) = m ((c.tc : Thread Cert.GRetOutIdeal.nD Cert.GRetOutIdeal.τ).loc Cert.GRetOutIdeal.main_arg0)
          ∧ r.2.mem ((c.tc : Thread Cert.GRetOutIdeal.nD Cert.GRetOutIdeal.τ).loc Cert.GRetOutIdeal.main_arg1) = m ((c.tc : Thread Cert.GRetOutIdeal.nD Cert.GRetOutIdeal.τ).loc Cert.GRetOutIdeal.main_arg1))
      ∧ θ_run (Cert.GRetOutReferenceIdeal.defs (F := Ideal)) (onTc (τ := Cert.GRetOutReferenceIdeal.τ) (Cert.GRetOutReferenceIdeal.main (F := Ideal))) ⟨m', fun _ => 0, g'⟩ (fun r => ∀ c : Dev Cert.GRetOutReferenceIdeal.nD,
          r.2.mem ((c.tc : Thread Cert.GRetOutReferenceIdeal.nD Cert.GRetOutReferenceIdeal.τ).loc Cert.GRetOutReferenceIdeal.main_v1) = v0 c
          ∧ r.2.mem ((c.tc : Thread Cert.GRetOutReferenceIdeal.nD Cert.GRetOutReferenceIdeal.τ).loc Cert.GRetOutReferenceIdeal.main_arg0) = m' ((c.tc : Thread Cert.GRetOutReferenceIdeal.nD Cert.GRetOutReferenceIdeal.τ).loc Cert.GRetOutReferenceIdeal.main_arg0)
          ∧ r.2.mem ((c.tc : Thread Cert.GRetOutReferenceIdeal.nD Cert.GRetOutReferenceIdeal.τ).loc Cert.GRetOutReferenceIdeal.main_arg1) = m' ((c.tc : Thread Cert.GRetOutReferenceIdeal.nD Cert.GRetOutReferenceIdeal.τ).loc Cert.GRetOutReferenceIdeal.main_arg1))

def preserves_DySsd_DySsdIdeal : Prop :=
  True

def algebraic_DySsdIdeal_DySsdReferenceIdeal [hDySsdIdeal : Cert.DySsdIdeal.Facts] [hDySsdReferenceIdeal : Cert.DySsdReferenceIdeal.Facts] : Prop :=
  ∀ (m : (ℓ : Loc Cert.DySsdIdeal.nD Cert.DySsdIdeal.τ Cert.DySsdIdeal.sig) → Buf (Elt Ideal) ℓ) (g : Dev Cert.DySsdIdeal.nD → PrngReg)
    (m' : (ℓ : Loc Cert.DySsdReferenceIdeal.nD Cert.DySsdReferenceIdeal.τ Cert.DySsdReferenceIdeal.sig) → Buf (Elt Ideal) ℓ) (g' : Dev Cert.DySsdReferenceIdeal.nD → PrngReg), Pre_DySsdIdeal m →
    (∀ c : Dev Cert.DySsdIdeal.nD,
      m' ((c.tc : Thread Cert.DySsdReferenceIdeal.nD Cert.DySsdReferenceIdeal.τ).loc Cert.DySsdReferenceIdeal.main_arg0) = m ((c.tc : Thread Cert.DySsdIdeal.nD Cert.DySsdIdeal.τ).loc Cert.DySsdIdeal.main_arg0)
      ∧ m' ((c.tc : Thread Cert.DySsdReferenceIdeal.nD Cert.DySsdReferenceIdeal.τ).loc Cert.DySsdReferenceIdeal.main_arg1) = m ((c.tc : Thread Cert.DySsdIdeal.nD Cert.DySsdIdeal.τ).loc Cert.DySsdIdeal.main_arg1)) →
    ∃ (v0 : (c : Dev Cert.DySsdIdeal.nD) → Buf (Elt Ideal) ((c.tc : Thread Cert.DySsdIdeal.nD Cert.DySsdIdeal.τ).loc Cert.DySsdIdeal.main_v2)),
      θ_run (Cert.DySsdIdeal.defs (F := Ideal)) (onTc (τ := Cert.DySsdIdeal.τ) (Cert.DySsdIdeal.main (F := Ideal))) ⟨m, fun _ => 0, g⟩ (fun r => ∀ c : Dev Cert.DySsdIdeal.nD,
          r.2.mem ((c.tc : Thread Cert.DySsdIdeal.nD Cert.DySsdIdeal.τ).loc Cert.DySsdIdeal.main_v2) = v0 c
          ∧ r.2.mem ((c.tc : Thread Cert.DySsdIdeal.nD Cert.DySsdIdeal.τ).loc Cert.DySsdIdeal.main_arg0) = m ((c.tc : Thread Cert.DySsdIdeal.nD Cert.DySsdIdeal.τ).loc Cert.DySsdIdeal.main_arg0)
          ∧ r.2.mem ((c.tc : Thread Cert.DySsdIdeal.nD Cert.DySsdIdeal.τ).loc Cert.DySsdIdeal.main_arg1) = m ((c.tc : Thread Cert.DySsdIdeal.nD Cert.DySsdIdeal.τ).loc Cert.DySsdIdeal.main_arg1))
      ∧ θ_run (Cert.DySsdReferenceIdeal.defs (F := Ideal)) (onTc (τ := Cert.DySsdReferenceIdeal.τ) (Cert.DySsdReferenceIdeal.main (F := Ideal))) ⟨m', fun _ => 0, g'⟩ (fun r => ∀ c : Dev Cert.DySsdReferenceIdeal.nD,
          r.2.mem ((c.tc : Thread Cert.DySsdReferenceIdeal.nD Cert.DySsdReferenceIdeal.τ).loc Cert.DySsdReferenceIdeal.main_v0) = v0 c
          ∧ r.2.mem ((c.tc : Thread Cert.DySsdReferenceIdeal.nD Cert.DySsdReferenceIdeal.τ).loc Cert.DySsdReferenceIdeal.main_arg0) = m' ((c.tc : Thread Cert.DySsdReferenceIdeal.nD Cert.DySsdReferenceIdeal.τ).loc Cert.DySsdReferenceIdeal.main_arg0)
          ∧ r.2.mem ((c.tc : Thread Cert.DySsdReferenceIdeal.nD Cert.DySsdReferenceIdeal.τ).loc Cert.DySsdReferenceIdeal.main_arg1) = m' ((c.tc : Thread Cert.DySsdReferenceIdeal.nD Cert.DySsdReferenceIdeal.τ).loc Cert.DySsdReferenceIdeal.main_arg1))

def preserves_GSsdOut_GSsdOutIdeal : Prop :=
  True

def algebraic_GSsdOutIdeal_GSsdOutReferenceIdeal [hGSsdOutIdeal : Cert.GSsdOutIdeal.Facts] [hGSsdOutReferenceIdeal : Cert.GSsdOutReferenceIdeal.Facts] : Prop :=
  ∀ (m : (ℓ : Loc Cert.GSsdOutIdeal.nD Cert.GSsdOutIdeal.τ Cert.GSsdOutIdeal.sig) → Buf (Elt Ideal) ℓ) (g : Dev Cert.GSsdOutIdeal.nD → PrngReg)
    (m' : (ℓ : Loc Cert.GSsdOutReferenceIdeal.nD Cert.GSsdOutReferenceIdeal.τ Cert.GSsdOutReferenceIdeal.sig) → Buf (Elt Ideal) ℓ) (g' : Dev Cert.GSsdOutReferenceIdeal.nD → PrngReg), Pre_GSsdOutIdeal m →
    (∀ c : Dev Cert.GSsdOutIdeal.nD,
      m' ((c.tc : Thread Cert.GSsdOutReferenceIdeal.nD Cert.GSsdOutReferenceIdeal.τ).loc Cert.GSsdOutReferenceIdeal.main_arg0) = m ((c.tc : Thread Cert.GSsdOutIdeal.nD Cert.GSsdOutIdeal.τ).loc Cert.GSsdOutIdeal.main_arg0)
      ∧ m' ((c.tc : Thread Cert.GSsdOutReferenceIdeal.nD Cert.GSsdOutReferenceIdeal.τ).loc Cert.GSsdOutReferenceIdeal.main_arg1) = m ((c.tc : Thread Cert.GSsdOutIdeal.nD Cert.GSsdOutIdeal.τ).loc Cert.GSsdOutIdeal.main_arg1)) →
    ∃ (v0 : (c : Dev Cert.GSsdOutIdeal.nD) → Buf (Elt Ideal) ((c.tc : Thread Cert.GSsdOutIdeal.nD Cert.GSsdOutIdeal.τ).loc Cert.GSsdOutIdeal.main_v2)),
      θ_run (Cert.GSsdOutIdeal.defs (F := Ideal)) (onTc (τ := Cert.GSsdOutIdeal.τ) (Cert.GSsdOutIdeal.main (F := Ideal))) ⟨m, fun _ => 0, g⟩ (fun r => ∀ c : Dev Cert.GSsdOutIdeal.nD,
          r.2.mem ((c.tc : Thread Cert.GSsdOutIdeal.nD Cert.GSsdOutIdeal.τ).loc Cert.GSsdOutIdeal.main_v2) = v0 c
          ∧ r.2.mem ((c.tc : Thread Cert.GSsdOutIdeal.nD Cert.GSsdOutIdeal.τ).loc Cert.GSsdOutIdeal.main_arg0) = m ((c.tc : Thread Cert.GSsdOutIdeal.nD Cert.GSsdOutIdeal.τ).loc Cert.GSsdOutIdeal.main_arg0)
          ∧ r.2.mem ((c.tc : Thread Cert.GSsdOutIdeal.nD Cert.GSsdOutIdeal.τ).loc Cert.GSsdOutIdeal.main_arg1) = m ((c.tc : Thread Cert.GSsdOutIdeal.nD Cert.GSsdOutIdeal.τ).loc Cert.GSsdOutIdeal.main_arg1))
      ∧ θ_run (Cert.GSsdOutReferenceIdeal.defs (F := Ideal)) (onTc (τ := Cert.GSsdOutReferenceIdeal.τ) (Cert.GSsdOutReferenceIdeal.main (F := Ideal))) ⟨m', fun _ => 0, g'⟩ (fun r => ∀ c : Dev Cert.GSsdOutReferenceIdeal.nD,
          r.2.mem ((c.tc : Thread Cert.GSsdOutReferenceIdeal.nD Cert.GSsdOutReferenceIdeal.τ).loc Cert.GSsdOutReferenceIdeal.main_v1) = v0 c
          ∧ r.2.mem ((c.tc : Thread Cert.GSsdOutReferenceIdeal.nD Cert.GSsdOutReferenceIdeal.τ).loc Cert.GSsdOutReferenceIdeal.main_arg0) = m' ((c.tc : Thread Cert.GSsdOutReferenceIdeal.nD Cert.GSsdOutReferenceIdeal.τ).loc Cert.GSsdOutReferenceIdeal.main_arg0)
          ∧ r.2.mem ((c.tc : Thread Cert.GSsdOutReferenceIdeal.nD Cert.GSsdOutReferenceIdeal.τ).loc Cert.GSsdOutReferenceIdeal.main_arg1) = m' ((c.tc : Thread Cert.GSsdOutReferenceIdeal.nD Cert.GSsdOutReferenceIdeal.τ).loc Cert.GSsdOutReferenceIdeal.main_arg1))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v5)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v5) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v0) = v0 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v0) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)) →
    ∃ (v0 : (c : Dev Cert.SsdOutIdeal.nD) → Buf (Elt Ideal) ((c.tc : Thread Cert.SsdOutIdeal.nD Cert.SsdOutIdeal.τ).loc Cert.SsdOutIdeal.main_v2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v0) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hDown : Cert.Down.Facts) (hDownIdeal : Cert.DownIdeal.Facts) (hDownReferenceIdeal : Cert.DownReferenceIdeal.Facts) (hGdown : Cert.Gdown.Facts) (hGdownIdeal : Cert.GdownIdeal.Facts) (hGdownReferenceIdeal : Cert.GdownReferenceIdeal.Facts) (hDu : Cert.Du.Facts) (hDuIdeal : Cert.DuIdeal.Facts) (hDuReferenceIdeal : Cert.DuReferenceIdeal.Facts) (hGup : Cert.Gup.Facts) (hGupIdeal : Cert.GupIdeal.Facts) (hGupReferenceIdeal : Cert.GupReferenceIdeal.Facts) (hDuRet : Cert.DuRet.Facts) (hDuRetIdeal : Cert.DuRetIdeal.Facts) (hDuRetReferenceIdeal : Cert.DuRetReferenceIdeal.Facts) (hGRetIn0 : Cert.GRetIn0.Facts) (hGRetIn0Ideal : Cert.GRetIn0Ideal.Facts) (hGRetIn0ReferenceIdeal : Cert.GRetIn0ReferenceIdeal.Facts) (hGRetIn1 : Cert.GRetIn1.Facts) (hGRetIn1Ideal : Cert.GRetIn1Ideal.Facts) (hGRetIn1ReferenceIdeal : Cert.GRetIn1ReferenceIdeal.Facts) (hDuSsd : Cert.DuSsd.Facts) (hDuSsdIdeal : Cert.DuSsdIdeal.Facts) (hDuSsdReferenceIdeal : Cert.DuSsdReferenceIdeal.Facts) (hGSsdIn : Cert.GSsdIn.Facts) (hGSsdInIdeal : Cert.GSsdInIdeal.Facts) (hGSsdInReferenceIdeal : Cert.GSsdInReferenceIdeal.Facts) (hDyRet : Cert.DyRet.Facts) (hDyRetIdeal : Cert.DyRetIdeal.Facts) (hDyRetReferenceIdeal : Cert.DyRetReferenceIdeal.Facts) (hGRetOut : Cert.GRetOut.Facts) (hGRetOutIdeal : Cert.GRetOutIdeal.Facts) (hGRetOutReferenceIdeal : Cert.GRetOutReferenceIdeal.Facts) (hDySsd : Cert.DySsd.Facts) (hDySsdIdeal : Cert.DySsdIdeal.Facts) (hDySsdReferenceIdeal : Cert.DySsdReferenceIdeal.Facts) (hGSsdOut : Cert.GSsdOut.Facts) (hGSsdOutIdeal : Cert.GSsdOutIdeal.Facts) (hGSsdOutReferenceIdeal : Cert.GSsdOutReferenceIdeal.Facts) (hSsdIn : Cert.SsdIn.Facts) (hSsdInIdeal : Cert.SsdInIdeal.Facts) (hSsdInReferenceIdeal : Cert.SsdInReferenceIdeal.Facts) (hRetOut : Cert.RetOut.Facts) (hRetOutIdeal : Cert.RetOutIdeal.Facts) (hRetOutReferenceIdeal : Cert.RetOutReferenceIdeal.Facts) (hSsdOut : Cert.SsdOut.Facts) (hSsdOutIdeal : Cert.SsdOutIdeal.Facts) (hSsdOutReferenceIdeal : Cert.SsdOutReferenceIdeal.Facts) (hPre_finite_gradient_and_gate : Cert.Pre_finite_gradient_and_gate.Facts),
    quiescent_Kernel (hKernel := hKernel)
    ∧ quiescent_KernelIdeal (hKernelIdeal := hKernelIdeal)
    ∧ quiescent_KernelIdeal_pre_finite_gradient_and_gate (hKernelIdeal := hKernelIdeal) (hPre_finite_gradient_and_gate := hPre_finite_gradient_and_gate)
    ∧ quiescent_ReferenceIdeal (hReferenceIdeal := hReferenceIdeal)
    ∧ quiescent_ReferenceIdeal_pre_finite_gradient_and_gate (hReferenceIdeal := hReferenceIdeal) (hPre_finite_gradient_and_gate := hPre_finite_gradient_and_gate)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Down (hDown := hDown)
    ∧ quiescent_DownIdeal (hDownIdeal := hDownIdeal)
    ∧ quiescent_DownReferenceIdeal (hDownReferenceIdeal := hDownReferenceIdeal)
    ∧ quiescent_Gdown (hGdown := hGdown)
    ∧ quiescent_GdownIdeal (hGdownIdeal := hGdownIdeal)
    ∧ quiescent_GdownReferenceIdeal (hGdownReferenceIdeal := hGdownReferenceIdeal)
    ∧ quiescent_Du (hDu := hDu)
    ∧ quiescent_DuIdeal (hDuIdeal := hDuIdeal)
    ∧ quiescent_DuReferenceIdeal (hDuReferenceIdeal := hDuReferenceIdeal)
    ∧ quiescent_Gup (hGup := hGup)
    ∧ quiescent_GupIdeal (hGupIdeal := hGupIdeal)
    ∧ quiescent_GupReferenceIdeal (hGupReferenceIdeal := hGupReferenceIdeal)
    ∧ quiescent_DuRet (hDuRet := hDuRet)
    ∧ quiescent_DuRetIdeal (hDuRetIdeal := hDuRetIdeal)
    ∧ quiescent_DuRetReferenceIdeal (hDuRetReferenceIdeal := hDuRetReferenceIdeal)
    ∧ quiescent_GRetIn0 (hGRetIn0 := hGRetIn0)
    ∧ quiescent_GRetIn0Ideal (hGRetIn0Ideal := hGRetIn0Ideal)
    ∧ quiescent_GRetIn0ReferenceIdeal (hGRetIn0ReferenceIdeal := hGRetIn0ReferenceIdeal)
    ∧ quiescent_GRetIn1 (hGRetIn1 := hGRetIn1)
    ∧ quiescent_GRetIn1Ideal (hGRetIn1Ideal := hGRetIn1Ideal)
    ∧ quiescent_GRetIn1ReferenceIdeal (hGRetIn1ReferenceIdeal := hGRetIn1ReferenceIdeal)
    ∧ quiescent_DuSsd (hDuSsd := hDuSsd)
    ∧ quiescent_DuSsdIdeal (hDuSsdIdeal := hDuSsdIdeal)
    ∧ quiescent_DuSsdReferenceIdeal (hDuSsdReferenceIdeal := hDuSsdReferenceIdeal)
    ∧ quiescent_GSsdIn (hGSsdIn := hGSsdIn)
    ∧ quiescent_GSsdInIdeal (hGSsdInIdeal := hGSsdInIdeal)
    ∧ quiescent_GSsdInReferenceIdeal (hGSsdInReferenceIdeal := hGSsdInReferenceIdeal)
    ∧ quiescent_DyRet (hDyRet := hDyRet)
    ∧ quiescent_DyRetIdeal (hDyRetIdeal := hDyRetIdeal)
    ∧ quiescent_DyRetReferenceIdeal (hDyRetReferenceIdeal := hDyRetReferenceIdeal)
    ∧ quiescent_GRetOut (hGRetOut := hGRetOut)
    ∧ quiescent_GRetOutIdeal (hGRetOutIdeal := hGRetOutIdeal)
    ∧ quiescent_GRetOutReferenceIdeal (hGRetOutReferenceIdeal := hGRetOutReferenceIdeal)
    ∧ quiescent_DySsd (hDySsd := hDySsd)
    ∧ quiescent_DySsdIdeal (hDySsdIdeal := hDySsdIdeal)
    ∧ quiescent_DySsdReferenceIdeal (hDySsdReferenceIdeal := hDySsdReferenceIdeal)
    ∧ quiescent_GSsdOut (hGSsdOut := hGSsdOut)
    ∧ quiescent_GSsdOutIdeal (hGSsdOutIdeal := hGSsdOutIdeal)
    ∧ quiescent_GSsdOutReferenceIdeal (hGSsdOutReferenceIdeal := hGSsdOutReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ preserves_Kernel_KernelIdeal
    ∧ algebraic_KernelIdeal_ReferenceIdeal_pre_finite_gradient_and_gate (hKernelIdeal := hKernelIdeal) (hReferenceIdeal := hReferenceIdeal) (hPre_finite_gradient_and_gate := hPre_finite_gradient_and_gate)
    ∧ preserves_Mlp_MlpIdeal
    ∧ algebraic_MlpIdeal_MlpReferenceIdeal (hMlpIdeal := hMlpIdeal) (hMlpReferenceIdeal := hMlpReferenceIdeal)
    ∧ preserves_Down_DownIdeal
    ∧ algebraic_DownIdeal_DownReferenceIdeal (hDownIdeal := hDownIdeal) (hDownReferenceIdeal := hDownReferenceIdeal)
    ∧ preserves_Gdown_GdownIdeal
    ∧ algebraic_GdownIdeal_GdownReferenceIdeal (hGdownIdeal := hGdownIdeal) (hGdownReferenceIdeal := hGdownReferenceIdeal)
    ∧ preserves_Du_DuIdeal
    ∧ algebraic_DuIdeal_DuReferenceIdeal (hDuIdeal := hDuIdeal) (hDuReferenceIdeal := hDuReferenceIdeal)
    ∧ preserves_Gup_GupIdeal
    ∧ algebraic_GupIdeal_GupReferenceIdeal (hGupIdeal := hGupIdeal) (hGupReferenceIdeal := hGupReferenceIdeal)
    ∧ preserves_DuRet_DuRetIdeal
    ∧ algebraic_DuRetIdeal_DuRetReferenceIdeal (hDuRetIdeal := hDuRetIdeal) (hDuRetReferenceIdeal := hDuRetReferenceIdeal)
    ∧ preserves_GRetIn0_GRetIn0Ideal
    ∧ algebraic_GRetIn0Ideal_GRetIn0ReferenceIdeal (hGRetIn0Ideal := hGRetIn0Ideal) (hGRetIn0ReferenceIdeal := hGRetIn0ReferenceIdeal)
    ∧ preserves_GRetIn1_GRetIn1Ideal
    ∧ algebraic_GRetIn1Ideal_GRetIn1ReferenceIdeal (hGRetIn1Ideal := hGRetIn1Ideal) (hGRetIn1ReferenceIdeal := hGRetIn1ReferenceIdeal)
    ∧ preserves_DuSsd_DuSsdIdeal
    ∧ algebraic_DuSsdIdeal_DuSsdReferenceIdeal (hDuSsdIdeal := hDuSsdIdeal) (hDuSsdReferenceIdeal := hDuSsdReferenceIdeal)
    ∧ preserves_GSsdIn_GSsdInIdeal
    ∧ algebraic_GSsdInIdeal_GSsdInReferenceIdeal (hGSsdInIdeal := hGSsdInIdeal) (hGSsdInReferenceIdeal := hGSsdInReferenceIdeal)
    ∧ preserves_DyRet_DyRetIdeal
    ∧ algebraic_DyRetIdeal_DyRetReferenceIdeal (hDyRetIdeal := hDyRetIdeal) (hDyRetReferenceIdeal := hDyRetReferenceIdeal)
    ∧ preserves_GRetOut_GRetOutIdeal
    ∧ algebraic_GRetOutIdeal_GRetOutReferenceIdeal (hGRetOutIdeal := hGRetOutIdeal) (hGRetOutReferenceIdeal := hGRetOutReferenceIdeal)
    ∧ preserves_DySsd_DySsdIdeal
    ∧ algebraic_DySsdIdeal_DySsdReferenceIdeal (hDySsdIdeal := hDySsdIdeal) (hDySsdReferenceIdeal := hDySsdReferenceIdeal)
    ∧ preserves_GSsdOut_GSsdOutIdeal
    ∧ algebraic_GSsdOutIdeal_GSsdOutReferenceIdeal (hGSsdOutIdeal := hGSsdOutIdeal) (hGSsdOutReferenceIdeal := hGSsdOutReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_RetOut_RetOutIdeal
    ∧ algebraic_RetOutIdeal_RetOutReferenceIdeal (hRetOutIdeal := hRetOutIdeal) (hRetOutReferenceIdeal := hRetOutReferenceIdeal)
    ∧ preserves_SsdOut_SsdOutIdeal
    ∧ algebraic_SsdOutIdeal_SsdOutReferenceIdeal (hSsdOutIdeal := hSsdOutIdeal) (hSsdOutReferenceIdeal := hSsdOutReferenceIdeal)
-- ==== Pre_finite_gradient_and_gate.lean ====
abbrev S8192x12288 : Shape := ⟨2, ![8192, 12288]⟩
abbrev S1x4096 : Shape := ⟨2, ![1, 4096]⟩
abbrev S8192x4096 : Shape := ⟨2, ![8192, 4096]⟩
abbrev S128x8x256x512 : Shape := ⟨4, ![128, 8, 256, 512]⟩
abbrev S_ : Shape := ⟨0, ![]⟩

class Facts : Prop where
  bcast_S_S8192x4096 : S_.BroadcastsInDim S8192x4096 (![] : Fin 0 → Fin S8192x4096.rank)
  bcast_S_S1x4096 : S_.BroadcastsInDim S1x4096 (![] : Fin 0 → Fin S1x4096.rank)
  slices_S8192x12288_S8192x4096_0_8192 : S8192x12288.Slices ![0, 8192] S8192x4096

variable [Facts]

def fn {F : FTy → Type} [FloatOps F] (main_arg0 : FVec F S8192x12288 .f32) (main_arg1 : FVec F S1x4096 .f32) (main_arg2 : FVec F S8192x4096 .f32) (main_arg3 : FVec F S128x8x256x512 .bf16) (main_arg4 : FVec F S8192x4096 .f32) : IVec S8192x4096 1 × IVec S1x4096 1 × IVec S8192x4096 1 :=
  let main_v0 : FVec F S8192x4096 .f32 := Host.absf main_arg4
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S1x4096 .f32 := Host.absf main_arg1
  let main_cst_0 : FVec F S_ .f32 := constant S_ .f32 0x7F800000#32
  let main_v4 : FVec F S1x4096 .f32 := broadcastInDim S1x4096 ![] bcast_S_S1x4096 main_cst_0
  let main_v5 : IVec S1x4096 1 := cmpf .olt main_v3 main_v4
  let main_v6 : FVec F S8192x4096 .f32 := (extractStridedSlice S8192x4096 ![0, 8192] · slices_S8192x12288_S8192x4096_0_8192) main_arg0
  let main_v7 : FVec F S8192x4096 .f32 := Host.absf main_v6
  let main_cst_1 : FVec F S_ .f32 := constant S_ .f32 0x7F800000#32
  let main_v8 : FVec F S8192x4096 .f32 := broadcastInDim S8192x4096 ![] bcast_S_S8192x4096 main_cst_1
  let main_v9 : IVec S8192x4096 1 := cmpf .olt main_v7 main_v8
  (main_v2, main_v5, main_v9)
-- ==== Kernel.lean ====
abbrev S8192x12288 : Shape := ⟨2, ![8192, 12288]⟩
abbrev S1x4096 : Shape := ⟨2, ![1, 4096]⟩
abbrev S8192x4096 : Shape := ⟨2, ![8192, 4096]⟩
abbrev S128x8x256x512 : Shape := ⟨4, ![128, 8, 256, 512]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S8 : Shape := ⟨1, ![8]⟩
abbrev S512x256 : Shape := ⟨2, ![512, 256]⟩
abbrev S512x512 : Shape := ⟨2, ![512, 512]⟩
abbrev S512x128 : Shape := ⟨2, ![512, 128]⟩
abbrev S1x512 : Shape := ⟨2, ![1, 512]⟩
abbrev S8x1x256x512 : Shape := ⟨4, ![8, 1, 256, 512]⟩
abbrev S256x512 : Shape := ⟨2, ![256, 512]⟩
abbrev S2x512x256 : Shape := ⟨3, ![2, 512, 256]⟩
abbrev S2x512x512 : Shape := ⟨3, ![2, 512, 512]⟩
abbrev S2x4 : Shape := ⟨2, ![2, 4]⟩
abbrev S1x1 : Shape := ⟨2, ![1, 1]⟩
abbrev S1x512x256 : Shape := ⟨3, ![1, 512, 256]⟩
abbrev S1x512x512 : Shape := ⟨3, ![1, 512, 512]⟩
abbrev S1 : Shape := ⟨1, ![1]⟩
abbrev S64x64 : Shape := ⟨2, ![64, 64]⟩
abbrev S64x1 : Shape := ⟨2, ![64, 1]⟩
abbrev S64x128 : Shape := ⟨2, ![64, 128]⟩
abbrev S64x256 : Shape := ⟨2, ![64, 256]⟩
abbrev S64x512 : Shape := ⟨2, ![64, 512]⟩
abbrev S64 : Shape := ⟨1, ![64]⟩
abbrev S1x64x512 : Shape := ⟨3, ![1, 64, 512]⟩
abbrev S512 : Shape := ⟨1, ![512]⟩
abbrev S1x1x256x512 : Shape := ⟨4, ![1, 1, 256, 512]⟩
abbrev S1x64x256 : Shape := ⟨3, ![1, 64, 256]⟩

abbrev nBuf : Space → Nat
  | .hbm => 34
  | .vmem => 27
  | .smem => 1
  | _ => 0

abbrev bufTy : (tb : Table) → Fin (tcTables nBuf tb) → BufTy
  | .hbm, ⟨0, _⟩ => ⟨S8192x12288, .f32⟩
  | .hbm, ⟨1, _⟩ => ⟨S1x4096, .f32⟩
  | .hbm, ⟨2, _⟩ => ⟨S8192x4096, .f32⟩
  | .hbm, ⟨3, _⟩ => ⟨S128x8x256x512, .bf16⟩
  | .hbm, ⟨4, _⟩ => ⟨S8192x4096, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S8192, .i32⟩
  | .hbm, ⟨14, _⟩ => ⟨S8192, .f32⟩
  | .hbm, ⟨15, _⟩ => ⟨S8192x1, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8192x12288, .bf16⟩
  | .hbm, ⟨33, _⟩ => ⟨S1x4096, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S8x1x256x512, .bf16⟩
  | .local _ .vmem, ⟨17, _⟩ => ⟨S8x1x256x512, .bf16⟩
  | .local _ .vmem, ⟨18, _⟩ => ⟨S512x512, .f32⟩
  | .local _ .vmem, ⟨19, _⟩ => ⟨S512x512, .f32⟩
  | .local _ .vmem, ⟨20, _⟩ => ⟨S1x512, .f32⟩
  | .local _ .vmem, ⟨21, _⟩ => ⟨S1x512, .f32⟩
  | .local _ .vmem, ⟨22, _⟩ => ⟨S256x512, .f32⟩
  | .local _ .vmem, ⟨23, _⟩ => ⟨S2x512x256, .bf16⟩
  | .local _ .vmem, ⟨24, _⟩ => ⟨S2x512x256, .bf16⟩
  | .local _ .vmem, ⟨25, _⟩ => ⟨S2x512x512, .bf16⟩
  | .local _ .vmem, ⟨26, _⟩ => ⟨S2x512x512, .bf16⟩
  | .local _ .smem, ⟨0, _⟩ => ⟨S8, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_mult1 (i : grid0.Coords) : BitVec 32 :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  v1724
def k0_mult2 (i : grid0.Coords) : BitVec 32 :=
  let c0_i32_585 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_584 : BitVec 32 := 256#32
  let v1736 : BitVec 32 := Scalar.muli v1712 c256_i32_584
  let v1737 : BitVec 32 := Scalar.addi c0_i32_585 v1736
  v1737
def k0_mult3 (i : grid0.Coords) : BitVec 32 :=
  let c2048_i32_599 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_598 : BitVec 32 := 256#32
  let v1759 : BitVec 32 := Scalar.muli v1712 c256_i32_598
  let v1760 : BitVec 32 := Scalar.addi c2048_i32_599 v1759
  v1760
def k0_mult4 (i : grid0.Coords) : BitVec 32 :=
  let c4096_i32_613 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_612 : BitVec 32 := 512#32
  let v1782 : BitVec 32 := Scalar.muli v1712 c512_i32_612
  let v1783 : BitVec 32 := Scalar.addi c4096_i32_613 v1782
  v1783
def k0_mult5 (i : grid0.Coords) : BitVec 32 :=
  let c8192_i32_627 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_626 : BitVec 32 := 512#32
  let v1805 : BitVec 32 := Scalar.muli v1712 c512_i32_626
  let v1806 : BitVec 32 := Scalar.addi c8192_i32_627 v1805
  v1806
def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_586 : BitVec 32 := 2#32
  let c0_i32_587 : BitVec 32 := 0#32
  let v1739 : BitVec 1 := Scalar.cmpi .eq c2_i32_586 c0_i32_587
  let c1_i32_588 : BitVec 32 := 1#32
  let v1740 : BitVec 32 := Scalar.select v1739 c1_i32_588 c2_i32_586
  let v1741 : BitVec 32 := Scalar.remsi v1695 v1740
  let c0_i32_590 : BitVec 32 := 0#32
  let v1743 : BitVec 1 := Scalar.cmpi .slt v1741 c0_i32_590
  let c0_i32_591 : BitVec 32 := 0#32
  let v1744 : BitVec 1 := Scalar.cmpi .slt v1740 c0_i32_591
  let v1745 : BitVec 1 := Scalar.xori v1743 v1744
  let c0_i32_589 : BitVec 32 := 0#32
  let v1742 : BitVec 1 := Scalar.cmpi .ne v1741 c0_i32_589
  let v1746 : BitVec 1 := Scalar.andi v1745 v1742
  let v1747 : BitVec 32 := Scalar.addi v1741 v1740
  let v1748 : BitVec 32 := Scalar.select v1746 v1747 v1741
  let c0_i32_634 : BitVec 32 := 0#32
  ![v1748.toNat, 0]
def k0_off2 (i : grid0.Coords) (c0_i32_585 : BitVec 32) : Fin 2 → Nat :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  let v1725 : BitVec 32 := v1724
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_584 : BitVec 32 := 256#32
  let v1736 : BitVec 32 := Scalar.muli v1712 c256_i32_584
  let v1737 : BitVec 32 := Scalar.addi c0_i32_585 v1736
  let v1738 : BitVec 32 := v1737
  ![v1725.toNat, v1738.toNat]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_578 : BitVec 32 := 2#32
  let c0_i32_579 : BitVec 32 := 0#32
  let v1726 : BitVec 1 := Scalar.cmpi .eq c2_i32_578 c0_i32_579
  let c1_i32_580 : BitVec 32 := 1#32
  let v1727 : BitVec 32 := Scalar.select v1726 c1_i32_580 c2_i32_578
  let v1728 : BitVec 32 := Scalar.remsi v1695 v1727
  let c0_i32_582 : BitVec 32 := 0#32
  let v1730 : BitVec 1 := Scalar.cmpi .slt v1728 c0_i32_582
  let c0_i32_583 : BitVec 32 := 0#32
  let v1731 : BitVec 1 := Scalar.cmpi .slt v1727 c0_i32_583
  let v1732 : BitVec 1 := Scalar.xori v1730 v1731
  let c0_i32_581 : BitVec 32 := 0#32
  let v1729 : BitVec 1 := Scalar.cmpi .ne v1728 c0_i32_581
  let v1733 : BitVec 1 := Scalar.andi v1732 v1729
  let v1734 : BitVec 32 := Scalar.addi v1728 v1727
  let v1735 : BitVec 32 := Scalar.select v1733 v1734 v1728
  let c0_i32_635 : BitVec 32 := 0#32
  let c0_i32_636 : BitVec 32 := 0#32
  ![v1735.toNat, 0, 0]
def k0_off4 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_600 : BitVec 32 := 2#32
  let c0_i32_601 : BitVec 32 := 0#32
  let v1762 : BitVec 1 := Scalar.cmpi .eq c2_i32_600 c0_i32_601
  let c1_i32_602 : BitVec 32 := 1#32
  let v1763 : BitVec 32 := Scalar.select v1762 c1_i32_602 c2_i32_600
  let v1764 : BitVec 32 := Scalar.remsi v1695 v1763
  let c0_i32_604 : BitVec 32 := 0#32
  let v1766 : BitVec 1 := Scalar.cmpi .slt v1764 c0_i32_604
  let c0_i32_605 : BitVec 32 := 0#32
  let v1767 : BitVec 1 := Scalar.cmpi .slt v1763 c0_i32_605
  let v1768 : BitVec 1 := Scalar.xori v1766 v1767
  let c0_i32_603 : BitVec 32 := 0#32
  let v1765 : BitVec 1 := Scalar.cmpi .ne v1764 c0_i32_603
  let v1769 : BitVec 1 := Scalar.andi v1768 v1765
  let v1770 : BitVec 32 := Scalar.addi v1764 v1763
  let v1771 : BitVec 32 := Scalar.select v1769 v1770 v1764
  let c1_i32_637 : BitVec 32 := 1#32
  ![v1771.toNat, 1]
def k0_off5 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_614 : BitVec 32 := 2#32
  let c0_i32_615 : BitVec 32 := 0#32
  let v1785 : BitVec 1 := Scalar.cmpi .eq c2_i32_614 c0_i32_615
  let c1_i32_616 : BitVec 32 := 1#32
  let v1786 : BitVec 32 := Scalar.select v1785 c1_i32_616 c2_i32_614
  let v1787 : BitVec 32 := Scalar.remsi v1695 v1786
  let c0_i32_618 : BitVec 32 := 0#32
  let v1789 : BitVec 1 := Scalar.cmpi .slt v1787 c0_i32_618
  let c0_i32_619 : BitVec 32 := 0#32
  let v1790 : BitVec 1 := Scalar.cmpi .slt v1786 c0_i32_619
  let v1791 : BitVec 1 := Scalar.xori v1789 v1790
  let c0_i32_617 : BitVec 32 := 0#32
  let v1788 : BitVec 1 := Scalar.cmpi .ne v1787 c0_i32_617
  let v1792 : BitVec 1 := Scalar.andi v1791 v1788
  let v1793 : BitVec 32 := Scalar.addi v1787 v1786
  let v1794 : BitVec 32 := Scalar.select v1792 v1793 v1787
  let c2_i32_640 : BitVec 32 := 2#32
  ![v1794.toNat, 2]
def k0_off6 (i : grid0.Coords) (c4096_i32_613 : BitVec 32) : Fin 2 → Nat :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  let v1725 : BitVec 32 := v1724
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_612 : BitVec 32 := 512#32
  let v1782 : BitVec 32 := Scalar.muli v1712 c512_i32_612
  let v1783 : BitVec 32 := Scalar.addi c4096_i32_613 v1782
  let v1784 : BitVec 32 := v1783
  ![v1725.toNat, v1784.toNat]
def k0_off7 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_606 : BitVec 32 := 2#32
  let c0_i32_607 : BitVec 32 := 0#32
  let v1772 : BitVec 1 := Scalar.cmpi .eq c2_i32_606 c0_i32_607
  let c1_i32_608 : BitVec 32 := 1#32
  let v1773 : BitVec 32 := Scalar.select v1772 c1_i32_608 c2_i32_606
  let v1774 : BitVec 32 := Scalar.remsi v1695 v1773
  let c0_i32_610 : BitVec 32 := 0#32
  let v1776 : BitVec 1 := Scalar.cmpi .slt v1774 c0_i32_610
  let c0_i32_611 : BitVec 32 := 0#32
  let v1777 : BitVec 1 := Scalar.cmpi .slt v1773 c0_i32_611
  let v1778 : BitVec 1 := Scalar.xori v1776 v1777
  let c0_i32_609 : BitVec 32 := 0#32
  let v1775 : BitVec 1 := Scalar.cmpi .ne v1774 c0_i32_609
  let v1779 : BitVec 1 := Scalar.andi v1778 v1775
  let v1780 : BitVec 32 := Scalar.addi v1774 v1773
  let v1781 : BitVec 32 := Scalar.select v1779 v1780 v1774
  let c0_i32_641 : BitVec 32 := 0#32
  let c0_i32_642 : BitVec 32 := 0#32
  ![v1781.toNat, 0, 0]
def k0_off8 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_562 : BitVec 32 := 2#32
  let v1695 : BitVec 32 := Scalar.subi v1 c2_i32_562
  let c2_i32_628 : BitVec 32 := 2#32
  let c0_i32_629 : BitVec 32 := 0#32
  let v1808 : BitVec 1 := Scalar.cmpi .eq c2_i32_628 c0_i32_629
  let c1_i32_630 : BitVec 32 := 1#32
  let v1809 : BitVec 32 := Scalar.select v1808 c1_i32_630 c2_i32_628
  let v1810 : BitVec 32 := Scalar.remsi v1695 v1809
  let c0_i32_632 : BitVec 32 := 0#32
  let v1812 : BitVec 1 := Scalar.cmpi .slt v1810 c0_i32_632
  let c0_i32_633 : BitVec 32 := 0#32
  let v1813 : BitVec 1 := Scalar.cmpi .slt v1809 c0_i32_633
  let v1814 : BitVec 1 := Scalar.xori v1812 v1813
  let c0_i32_631 : BitVec 32 := 0#32
  let v1811 : BitVec 1 := Scalar.cmpi .ne v1810 c0_i32_631
  let v1815 : BitVec 1 := Scalar.andi v1814 v1811
  let v1816 : BitVec 32 := Scalar.addi v1810 v1809
  let v1817 : BitVec 32 := Scalar.select v1815 v1816 v1810
  let c3_i32_643 : BitVec 32 := 3#32
  ![v1817.toNat, 3]
def k0_off9 (i : grid0.Coords) : Fin 1 → Nat :=
  let arg0 : BitVec 32 := BitVec.ofNat 32 (i 0).val
  let v18 : Index := Scalar.indexCast arg0
  ![v18.toNat]
def k0_mult6 : BitVec 32 :=
  let c7_i32 : BitVec 32 := 7#32
  let c0_i32_10 : BitVec 32 := 0#32
  let v46 : BitVec 32 := Scalar.subi c7_i32 c0_i32_10
  let c64_i32 : BitVec 32 := 64#32
  let v47 : BitVec 32 := Scalar.muli v46 c64_i32
  v47
def k0_off10 (c0_i32_10 : BitVec 32) : Fin 2 → Nat :=
  let c7_i32 : BitVec 32 := 7#32
  let v46 : BitVec 32 := Scalar.subi c7_i32 c0_i32_10
  let c64_i32 : BitVec 32 := 64#32
  let v47 : BitVec 32 := Scalar.muli v46 c64_i32
  let v48 : BitVec 32 := v47
  let v49 : Index := Scalar.indexCast v48
  let c0_11 : Index := 0#32
  ![v49.toNat, 0]
def k0_off11 (c0_i32_10 : BitVec 32) : Fin 2 → Nat :=
  let c7_i32 : BitVec 32 := 7#32
  let v46 : BitVec 32 := Scalar.subi c7_i32 c0_i32_10
  let c64_i32 : BitVec 32 := 64#32
  let v47 : BitVec 32 := Scalar.muli v46 c64_i32
  let v48 : BitVec 32 := v47
  let v55 : Index := Scalar.indexCast v48
  let c0_13 : Index := 0#32
  ![v55.toNat, 0]
def k0_off12 (c0_i32_10 : BitVec 32) : Fin 2 → Nat :=
  let c7_i32 : BitVec 32 := 7#32
  let v46 : BitVec 32 := Scalar.subi c7_i32 c0_i32_10
  let c64_i32 : BitVec 32 := 64#32
  let v47 : BitVec 32 := Scalar.muli v46 c64_i32
  let v48 : BitVec 32 := v47
  let v84 : Index := Scalar.indexCast v48
  let c0_16 : Index := 0#32
  ![v84.toNat, 0]
def k0_off13 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_31 : BitVec 32 := 0#32
  let c0_i32_32 : BitVec 32 := 0#32
  ![v11.toNat, 0, 0]
def k0_off14 (i : grid0.Coords) (c0_i32_10 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c7_i32 : BitVec 32 := 7#32
  let v46 : BitVec 32 := Scalar.subi c7_i32 c0_i32_10
  let c64_i32 : BitVec 32 := 64#32
  let v47 : BitVec 32 := Scalar.muli v46 c64_i32
  let v48 : BitVec 32 := v47
  let v134 : Index := Scalar.indexCast v48
  let c0_i32_32 : BitVec 32 := 0#32
  ![v11.toNat, v134.toNat, 0]
def k0_off15 (c0_i32_10 : BitVec 32) : Fin 4 → Nat :=
  let c7_i32 : BitVec 32 := 7#32
  let v46 : BitVec 32 := Scalar.subi c7_i32 c0_i32_10
  let v169 : Index := Scalar.indexCast v46
  let c0_45 : Index := 0#32
  let c0_46 : Index := 0#32
  let c0_47 : Index := 0#32
  ![v169.toNat, 0, 0, 0]
def k0_off16 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_61 : BitVec 32 := 0#32
  let c0_i32_62 : BitVec 32 := 0#32
  ![v11.toNat, 0, 0]
def k0_off17 (i : grid0.Coords) (c0_i32_10 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c7_i32 : BitVec 32 := 7#32
  let v46 : BitVec 32 := Scalar.subi c7_i32 c0_i32_10
  let c64_i32 : BitVec 32 := 64#32
  let v47 : BitVec 32 := Scalar.muli v46 c64_i32
  let v48 : BitVec 32 := v47
  let v212 : Index := Scalar.indexCast v48
  let c0_i32_62 : BitVec 32 := 0#32
  ![v11.toNat, v212.toNat, 0]
def k0_mult7 : BitVec 32 :=
  let c7_i32_69 : BitVec 32 := 7#32
  let c1_i32_68 : BitVec 32 := 1#32
  let v234 : BitVec 32 := Scalar.subi c7_i32_69 c1_i32_68
  let c64_i32_70 : BitVec 32 := 64#32
  let v235 : BitVec 32 := Scalar.muli v234 c64_i32_70
  v235
def k0_mult8 : BitVec 32 :=
  let c7_i32_129 : BitVec 32 := 7#32
  let c2_i32_128 : BitVec 32 := 2#32
  let v422 : BitVec 32 := Scalar.subi c7_i32_129 c2_i32_128
  let c64_i32_130 : BitVec 32 := 64#32
  let v423 : BitVec 32 := Scalar.muli v422 c64_i32_130
  v423
def k0_mult9 : BitVec 32 :=
  let c7_i32_188 : BitVec 32 := 7#32
  let c3_i32 : BitVec 32 := 3#32
  let v610 : BitVec 32 := Scalar.subi c7_i32_188 c3_i32
  let c64_i32_189 : BitVec 32 := 64#32
  let v611 : BitVec 32 := Scalar.muli v610 c64_i32_189
  v611
def k0_mult10 : BitVec 32 :=
  let c7_i32_247 : BitVec 32 := 7#32
  let c4_i32 : BitVec 32 := 4#32
  let v798 : BitVec 32 := Scalar.subi c7_i32_247 c4_i32
  let c64_i32_248 : BitVec 32 := 64#32
  let v799 : BitVec 32 := Scalar.muli v798 c64_i32_248
  v799
def k0_mult11 : BitVec 32 :=
  let c7_i32_306 : BitVec 32 := 7#32
  let c5_i32 : BitVec 32 := 5#32
  let v986 : BitVec 32 := Scalar.subi c7_i32_306 c5_i32
  let c64_i32_307 : BitVec 32 := 64#32
  let v987 : BitVec 32 := Scalar.muli v986 c64_i32_307
  v987
def k0_mult12 : BitVec 32 :=
  let c7_i32_365 : BitVec 32 := 7#32
  let c6_i32 : BitVec 32 := 6#32
  let v1174 : BitVec 32 := Scalar.subi c7_i32_365 c6_i32
  let c64_i32_366 : BitVec 32 := 64#32
  let v1175 : BitVec 32 := Scalar.muli v1174 c64_i32_366
  v1175
def k0_mult13 : BitVec 32 :=
  let c7_i32_425 : BitVec 32 := 7#32
  let c7_i32_424 : BitVec 32 := 7#32
  let v1362 : BitVec 32 := Scalar.subi c7_i32_425 c7_i32_424
  let c64_i32_426 : BitVec 32 := 64#32
  let v1363 : BitVec 32 := Scalar.muli v1362 c64_i32_426
  v1363
def k0_mult14 (i : grid0.Coords) : BitVec 32 :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_491 : BitVec 32 := 16#32
  let c0_i32_492 : BitVec 32 := 0#32
  let v1567 : BitVec 1 := Scalar.cmpi .eq c16_i32_491 c0_i32_492
  let c1_i32_493 : BitVec 32 := 1#32
  let v1568 : BitVec 32 := Scalar.select v1567 c1_i32_493 c16_i32_491
  let v1569 : BitVec 32 := Scalar.remsi v1 v1568
  let c0_i32_495 : BitVec 32 := 0#32
  let v1571 : BitVec 1 := Scalar.cmpi .slt v1569 c0_i32_495
  let c0_i32_496 : BitVec 32 := 0#32
  let v1572 : BitVec 1 := Scalar.cmpi .slt v1568 c0_i32_496
  let v1573 : BitVec 1 := Scalar.xori v1571 v1572
  let c0_i32_494 : BitVec 32 := 0#32
  let v1570 : BitVec 1 := Scalar.cmpi .ne v1569 c0_i32_494
  let v1574 : BitVec 1 := Scalar.andi v1573 v1570
  let v1575 : BitVec 32 := Scalar.addi v1569 v1568
  let v1576 : BitVec 32 := Scalar.select v1574 v1575 v1569
  let v1577 : BitVec 32 := Scalar.subi c15_i32 v1576
  let c512_i32 : BitVec 32 := 512#32
  let v1578 : BitVec 32 := Scalar.muli v1577 c512_i32
  v1578
def k0_mult15 (i : grid0.Coords) : BitVec 32 :=
  let c0_i32_503 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c256_i32 : BitVec 32 := 256#32
  let v1590 : BitVec 32 := Scalar.muli v1566 c256_i32
  let v1591 : BitVec 32 := Scalar.addi c0_i32_503 v1590
  v1591
def k0_mult16 (i : grid0.Coords) : BitVec 32 :=
  let c2048_i32 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c256_i32_516 : BitVec 32 := 256#32
  let v1613 : BitVec 32 := Scalar.muli v1566 c256_i32_516
  let v1614 : BitVec 32 := Scalar.addi c2048_i32 v1613
  v1614
def k0_mult17 (i : grid0.Coords) : BitVec 32 :=
  let c4096_i32 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c512_i32_529 : BitVec 32 := 512#32
  let v1636 : BitVec 32 := Scalar.muli v1566 c512_i32_529
  let v1637 : BitVec 32 := Scalar.addi c4096_i32 v1636
  v1637
def k0_mult18 (i : grid0.Coords) : BitVec 32 :=
  let c8192_i32 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c512_i32_542 : BitVec 32 := 512#32
  let v1659 : BitVec 32 := Scalar.muli v1566 c512_i32_542
  let v1660 : BitVec 32 := Scalar.addi c8192_i32 v1659
  v1660
def k0_off18 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_504 : BitVec 32 := 2#32
  let c0_i32_505 : BitVec 32 := 0#32
  let v1593 : BitVec 1 := Scalar.cmpi .eq c2_i32_504 c0_i32_505
  let c1_i32_506 : BitVec 32 := 1#32
  let v1594 : BitVec 32 := Scalar.select v1593 c1_i32_506 c2_i32_504
  let v1595 : BitVec 32 := Scalar.remsi v1 v1594
  let c0_i32_508 : BitVec 32 := 0#32
  let v1597 : BitVec 1 := Scalar.cmpi .slt v1595 c0_i32_508
  let c0_i32_509 : BitVec 32 := 0#32
  let v1598 : BitVec 1 := Scalar.cmpi .slt v1594 c0_i32_509
  let v1599 : BitVec 1 := Scalar.xori v1597 v1598
  let c0_i32_507 : BitVec 32 := 0#32
  let v1596 : BitVec 1 := Scalar.cmpi .ne v1595 c0_i32_507
  let v1600 : BitVec 1 := Scalar.andi v1599 v1596
  let v1601 : BitVec 32 := Scalar.addi v1595 v1594
  let v1602 : BitVec 32 := Scalar.select v1600 v1601 v1595
  let c0_i32_549 : BitVec 32 := 0#32
  ![v1602.toNat, 0]
def k0_off19 (i : grid0.Coords) (c0_i32_503 : BitVec 32) : Fin 2 → Nat :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_491 : BitVec 32 := 16#32
  let c0_i32_492 : BitVec 32 := 0#32
  let v1567 : BitVec 1 := Scalar.cmpi .eq c16_i32_491 c0_i32_492
  let c1_i32_493 : BitVec 32 := 1#32
  let v1568 : BitVec 32 := Scalar.select v1567 c1_i32_493 c16_i32_491
  let v1569 : BitVec 32 := Scalar.remsi v1 v1568
  let c0_i32_495 : BitVec 32 := 0#32
  let v1571 : BitVec 1 := Scalar.cmpi .slt v1569 c0_i32_495
  let c0_i32_496 : BitVec 32 := 0#32
  let v1572 : BitVec 1 := Scalar.cmpi .slt v1568 c0_i32_496
  let v1573 : BitVec 1 := Scalar.xori v1571 v1572
  let c0_i32_494 : BitVec 32 := 0#32
  let v1570 : BitVec 1 := Scalar.cmpi .ne v1569 c0_i32_494
  let v1574 : BitVec 1 := Scalar.andi v1573 v1570
  let v1575 : BitVec 32 := Scalar.addi v1569 v1568
  let v1576 : BitVec 32 := Scalar.select v1574 v1575 v1569
  let v1577 : BitVec 32 := Scalar.subi c15_i32 v1576
  let c512_i32 : BitVec 32 := 512#32
  let v1578 : BitVec 32 := Scalar.muli v1577 c512_i32
  let v1579 : BitVec 32 := v1578
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c256_i32 : BitVec 32 := 256#32
  let v1590 : BitVec 32 := Scalar.muli v1566 c256_i32
  let v1591 : BitVec 32 := Scalar.addi c0_i32_503 v1590
  let v1592 : BitVec 32 := v1591
  ![v1579.toNat, v1592.toNat]
def k0_off20 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_517 : BitVec 32 := 2#32
  let c0_i32_518 : BitVec 32 := 0#32
  let v1616 : BitVec 1 := Scalar.cmpi .eq c2_i32_517 c0_i32_518
  let c1_i32_519 : BitVec 32 := 1#32
  let v1617 : BitVec 32 := Scalar.select v1616 c1_i32_519 c2_i32_517
  let v1618 : BitVec 32 := Scalar.remsi v1 v1617
  let c0_i32_521 : BitVec 32 := 0#32
  let v1620 : BitVec 1 := Scalar.cmpi .slt v1618 c0_i32_521
  let c0_i32_522 : BitVec 32 := 0#32
  let v1621 : BitVec 1 := Scalar.cmpi .slt v1617 c0_i32_522
  let v1622 : BitVec 1 := Scalar.xori v1620 v1621
  let c0_i32_520 : BitVec 32 := 0#32
  let v1619 : BitVec 1 := Scalar.cmpi .ne v1618 c0_i32_520
  let v1623 : BitVec 1 := Scalar.andi v1622 v1619
  let v1624 : BitVec 32 := Scalar.addi v1618 v1617
  let v1625 : BitVec 32 := Scalar.select v1623 v1624 v1618
  let c1_i32_552 : BitVec 32 := 1#32
  ![v1625.toNat, 1]
def k0_off21 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_530 : BitVec 32 := 2#32
  let c0_i32_531 : BitVec 32 := 0#32
  let v1639 : BitVec 1 := Scalar.cmpi .eq c2_i32_530 c0_i32_531
  let c1_i32_532 : BitVec 32 := 1#32
  let v1640 : BitVec 32 := Scalar.select v1639 c1_i32_532 c2_i32_530
  let v1641 : BitVec 32 := Scalar.remsi v1 v1640
  let c0_i32_534 : BitVec 32 := 0#32
  let v1643 : BitVec 1 := Scalar.cmpi .slt v1641 c0_i32_534
  let c0_i32_535 : BitVec 32 := 0#32
  let v1644 : BitVec 1 := Scalar.cmpi .slt v1640 c0_i32_535
  let v1645 : BitVec 1 := Scalar.xori v1643 v1644
  let c0_i32_533 : BitVec 32 := 0#32
  let v1642 : BitVec 1 := Scalar.cmpi .ne v1641 c0_i32_533
  let v1646 : BitVec 1 := Scalar.andi v1645 v1642
  let v1647 : BitVec 32 := Scalar.addi v1641 v1640
  let v1648 : BitVec 32 := Scalar.select v1646 v1647 v1641
  let c2_i32_555 : BitVec 32 := 2#32
  ![v1648.toNat, 2]
def k0_off22 (i : grid0.Coords) (c4096_i32 : BitVec 32) : Fin 2 → Nat :=
  let c15_i32 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_491 : BitVec 32 := 16#32
  let c0_i32_492 : BitVec 32 := 0#32
  let v1567 : BitVec 1 := Scalar.cmpi .eq c16_i32_491 c0_i32_492
  let c1_i32_493 : BitVec 32 := 1#32
  let v1568 : BitVec 32 := Scalar.select v1567 c1_i32_493 c16_i32_491
  let v1569 : BitVec 32 := Scalar.remsi v1 v1568
  let c0_i32_495 : BitVec 32 := 0#32
  let v1571 : BitVec 1 := Scalar.cmpi .slt v1569 c0_i32_495
  let c0_i32_496 : BitVec 32 := 0#32
  let v1572 : BitVec 1 := Scalar.cmpi .slt v1568 c0_i32_496
  let v1573 : BitVec 1 := Scalar.xori v1571 v1572
  let c0_i32_494 : BitVec 32 := 0#32
  let v1570 : BitVec 1 := Scalar.cmpi .ne v1569 c0_i32_494
  let v1574 : BitVec 1 := Scalar.andi v1573 v1570
  let v1575 : BitVec 32 := Scalar.addi v1569 v1568
  let v1576 : BitVec 32 := Scalar.select v1574 v1575 v1569
  let v1577 : BitVec 32 := Scalar.subi c15_i32 v1576
  let c512_i32 : BitVec 32 := 512#32
  let v1578 : BitVec 32 := Scalar.muli v1577 c512_i32
  let v1579 : BitVec 32 := v1578
  let c0_i32_485 : BitVec 32 := 0#32
  let v1551 : BitVec 1 := Scalar.cmpi .sgt v1 c0_i32_485
  let v1552 : BitVec 32 := Scalar.extui v1551
  let c0_i32_486 : BitVec 32 := 0#32
  let v1553 : BitVec 1 := Scalar.cmpi .slt v1 c0_i32_486
  let v1554 : BitVec 32 := Scalar.extui v1553
  let v1555 : BitVec 32 := Scalar.subi v1552 v1554
  let c16_i32_484 : BitVec 32 := 16#32
  let c0_i32_487 : BitVec 32 := 0#32
  let v1556 : BitVec 1 := Scalar.cmpi .sgt c16_i32_484 c0_i32_487
  let v1557 : BitVec 32 := Scalar.extui v1556
  let c0_i32_488 : BitVec 32 := 0#32
  let v1558 : BitVec 1 := Scalar.cmpi .slt c16_i32_484 c0_i32_488
  let v1559 : BitVec 32 := Scalar.extui v1558
  let v1560 : BitVec 32 := Scalar.subi v1557 v1559
  let v1561 : BitVec 1 := Scalar.cmpi .ne v1555 v1560
  let v1562 : BitVec 32 := Scalar.remsi v1 c16_i32_484
  let c0_i32_489 : BitVec 32 := 0#32
  let v1563 : BitVec 1 := Scalar.cmpi .ne v1562 c0_i32_489
  let v1564 : BitVec 1 := Scalar.andi v1561 v1563
  let v1550 : BitVec 32 := Scalar.divsi v1 c16_i32_484
  let c1_i32_490 : BitVec 32 := 1#32
  let v1565 : BitVec 32 := Scalar.subi v1550 c1_i32_490
  let v1566 : BitVec 32 := Scalar.select v1564 v1565 v1550
  let c512_i32_529 : BitVec 32 := 512#32
  let v1636 : BitVec 32 := Scalar.muli v1566 c512_i32_529
  let v1637 : BitVec 32 := Scalar.addi c4096_i32 v1636
  let v1638 : BitVec 32 := v1637
  ![v1579.toNat, v1638.toNat]
def k0_off23 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_543 : BitVec 32 := 2#32
  let c0_i32_544 : BitVec 32 := 0#32
  let v1662 : BitVec 1 := Scalar.cmpi .eq c2_i32_543 c0_i32_544
  let c1_i32_545 : BitVec 32 := 1#32
  let v1663 : BitVec 32 := Scalar.select v1662 c1_i32_545 c2_i32_543
  let v1664 : BitVec 32 := Scalar.remsi v1 v1663
  let c0_i32_547 : BitVec 32 := 0#32
  let v1666 : BitVec 1 := Scalar.cmpi .slt v1664 c0_i32_547
  let c0_i32_548 : BitVec 32 := 0#32
  let v1667 : BitVec 1 := Scalar.cmpi .slt v1663 c0_i32_548
  let v1668 : BitVec 1 := Scalar.xori v1666 v1667
  let c0_i32_546 : BitVec 32 := 0#32
  let v1665 : BitVec 1 := Scalar.cmpi .ne v1664 c0_i32_546
  let v1669 : BitVec 1 := Scalar.andi v1668 v1665
  let v1670 : BitVec 32 := Scalar.addi v1664 v1663
  let v1671 : BitVec 32 := Scalar.select v1669 v1670 v1664
  let c3_i32_558 : BitVec 32 := 3#32
  ![v1671.toNat, 3]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c127_i32 : BitVec 32 := 127#32
  let v1692 : BitVec 1 := Scalar.cmpi .eq v1 c127_i32
  let v1693 : BitVec 32 := Scalar.extui v1692
  let c0_i32_561 : BitVec 32 := 0#32
  let v1694 : BitVec 1 := Scalar.cmpi .ne v1693 c0_i32_561
  v1694

def k0_mult19 (i : grid0.Coords) : BitVec 32 :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  v1724
def k0_mult20 (i : grid0.Coords) : BitVec 32 :=
  let c0_i32_585 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_584 : BitVec 32 := 256#32
  let v1736 : BitVec 32 := Scalar.muli v1712 c256_i32_584
  let v1737 : BitVec 32 := Scalar.addi c0_i32_585 v1736
  v1737
def k0_mult21 (i : grid0.Coords) : BitVec 32 :=
  let c2048_i32_599 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_598 : BitVec 32 := 256#32
  let v1759 : BitVec 32 := Scalar.muli v1712 c256_i32_598
  let v1760 : BitVec 32 := Scalar.addi c2048_i32_599 v1759
  v1760
def k0_mult22 (i : grid0.Coords) : BitVec 32 :=
  let c4096_i32_613 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_612 : BitVec 32 := 512#32
  let v1782 : BitVec 32 := Scalar.muli v1712 c512_i32_612
  let v1783 : BitVec 32 := Scalar.addi c4096_i32_613 v1782
  v1783
def k0_mult23 (i : grid0.Coords) : BitVec 32 :=
  let c8192_i32_627 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_626 : BitVec 32 := 512#32
  let v1805 : BitVec 32 := Scalar.muli v1712 c512_i32_626
  let v1806 : BitVec 32 := Scalar.addi c8192_i32_627 v1805
  v1806
def k0_off24 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_586 : BitVec 32 := 2#32
  let c0_i32_587 : BitVec 32 := 0#32
  let v1739 : BitVec 1 := Scalar.cmpi .eq c2_i32_586 c0_i32_587
  let c1_i32_588 : BitVec 32 := 1#32
  let v1740 : BitVec 32 := Scalar.select v1739 c1_i32_588 c2_i32_586
  let v1741 : BitVec 32 := Scalar.remsi v1695 v1740
  let c0_i32_590 : BitVec 32 := 0#32
  let v1743 : BitVec 1 := Scalar.cmpi .slt v1741 c0_i32_590
  let c0_i32_591 : BitVec 32 := 0#32
  let v1744 : BitVec 1 := Scalar.cmpi .slt v1740 c0_i32_591
  let v1745 : BitVec 1 := Scalar.xori v1743 v1744
  let c0_i32_589 : BitVec 32 := 0#32
  let v1742 : BitVec 1 := Scalar.cmpi .ne v1741 c0_i32_589
  let v1746 : BitVec 1 := Scalar.andi v1745 v1742
  let v1747 : BitVec 32 := Scalar.addi v1741 v1740
  let v1748 : BitVec 32 := Scalar.select v1746 v1747 v1741
  let c0_i32_634 : BitVec 32 := 0#32
  ![v1748.toNat, 0]
def k0_off25 (i : grid0.Coords) (c0_i32_585 : BitVec 32) : Fin 2 → Nat :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  let v1725 : BitVec 32 := v1724
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c256_i32_584 : BitVec 32 := 256#32
  let v1736 : BitVec 32 := Scalar.muli v1712 c256_i32_584
  let v1737 : BitVec 32 := Scalar.addi c0_i32_585 v1736
  let v1738 : BitVec 32 := v1737
  ![v1725.toNat, v1738.toNat]
def k0_off26 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_578 : BitVec 32 := 2#32
  let c0_i32_579 : BitVec 32 := 0#32
  let v1726 : BitVec 1 := Scalar.cmpi .eq c2_i32_578 c0_i32_579
  let c1_i32_580 : BitVec 32 := 1#32
  let v1727 : BitVec 32 := Scalar.select v1726 c1_i32_580 c2_i32_578
  let v1728 : BitVec 32 := Scalar.remsi v1695 v1727
  let c0_i32_582 : BitVec 32 := 0#32
  let v1730 : BitVec 1 := Scalar.cmpi .slt v1728 c0_i32_582
  let c0_i32_583 : BitVec 32 := 0#32
  let v1731 : BitVec 1 := Scalar.cmpi .slt v1727 c0_i32_583
  let v1732 : BitVec 1 := Scalar.xori v1730 v1731
  let c0_i32_581 : BitVec 32 := 0#32
  let v1729 : BitVec 1 := Scalar.cmpi .ne v1728 c0_i32_581
  let v1733 : BitVec 1 := Scalar.andi v1732 v1729
  let v1734 : BitVec 32 := Scalar.addi v1728 v1727
  let v1735 : BitVec 32 := Scalar.select v1733 v1734 v1728
  let c0_i32_635 : BitVec 32 := 0#32
  let c0_i32_636 : BitVec 32 := 0#32
  ![v1735.toNat, 0, 0]
def k0_off27 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_600 : BitVec 32 := 2#32
  let c0_i32_601 : BitVec 32 := 0#32
  let v1762 : BitVec 1 := Scalar.cmpi .eq c2_i32_600 c0_i32_601
  let c1_i32_602 : BitVec 32 := 1#32
  let v1763 : BitVec 32 := Scalar.select v1762 c1_i32_602 c2_i32_600
  let v1764 : BitVec 32 := Scalar.remsi v1695 v1763
  let c0_i32_604 : BitVec 32 := 0#32
  let v1766 : BitVec 1 := Scalar.cmpi .slt v1764 c0_i32_604
  let c0_i32_605 : BitVec 32 := 0#32
  let v1767 : BitVec 1 := Scalar.cmpi .slt v1763 c0_i32_605
  let v1768 : BitVec 1 := Scalar.xori v1766 v1767
  let c0_i32_603 : BitVec 32 := 0#32
  let v1765 : BitVec 1 := Scalar.cmpi .ne v1764 c0_i32_603
  let v1769 : BitVec 1 := Scalar.andi v1768 v1765
  let v1770 : BitVec 32 := Scalar.addi v1764 v1763
  let v1771 : BitVec 32 := Scalar.select v1769 v1770 v1764
  let c1_i32_637 : BitVec 32 := 1#32
  ![v1771.toNat, 1]
def k0_off28 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_614 : BitVec 32 := 2#32
  let c0_i32_615 : BitVec 32 := 0#32
  let v1785 : BitVec 1 := Scalar.cmpi .eq c2_i32_614 c0_i32_615
  let c1_i32_616 : BitVec 32 := 1#32
  let v1786 : BitVec 32 := Scalar.select v1785 c1_i32_616 c2_i32_614
  let v1787 : BitVec 32 := Scalar.remsi v1695 v1786
  let c0_i32_618 : BitVec 32 := 0#32
  let v1789 : BitVec 1 := Scalar.cmpi .slt v1787 c0_i32_618
  let c0_i32_619 : BitVec 32 := 0#32
  let v1790 : BitVec 1 := Scalar.cmpi .slt v1786 c0_i32_619
  let v1791 : BitVec 1 := Scalar.xori v1789 v1790
  let c0_i32_617 : BitVec 32 := 0#32
  let v1788 : BitVec 1 := Scalar.cmpi .ne v1787 c0_i32_617
  let v1792 : BitVec 1 := Scalar.andi v1791 v1788
  let v1793 : BitVec 32 := Scalar.addi v1787 v1786
  let v1794 : BitVec 32 := Scalar.select v1792 v1793 v1787
  let c2_i32_640 : BitVec 32 := 2#32
  ![v1794.toNat, 2]
def k0_off29 (i : grid0.Coords) (c4096_i32_613 : BitVec 32) : Fin 2 → Nat :=
  let c15_i32_576 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c16_i32_570 : BitVec 32 := 16#32
  let c0_i32_571 : BitVec 32 := 0#32
  let v1713 : BitVec 1 := Scalar.cmpi .eq c16_i32_570 c0_i32_571
  let c1_i32_572 : BitVec 32 := 1#32
  let v1714 : BitVec 32 := Scalar.select v1713 c1_i32_572 c16_i32_570
  let v1715 : BitVec 32 := Scalar.remsi v1695 v1714
  let c0_i32_574 : BitVec 32 := 0#32
  let v1717 : BitVec 1 := Scalar.cmpi .slt v1715 c0_i32_574
  let c0_i32_575 : BitVec 32 := 0#32
  let v1718 : BitVec 1 := Scalar.cmpi .slt v1714 c0_i32_575
  let v1719 : BitVec 1 := Scalar.xori v1717 v1718
  let c0_i32_573 : BitVec 32 := 0#32
  let v1716 : BitVec 1 := Scalar.cmpi .ne v1715 c0_i32_573
  let v1720 : BitVec 1 := Scalar.andi v1719 v1716
  let v1721 : BitVec 32 := Scalar.addi v1715 v1714
  let v1722 : BitVec 32 := Scalar.select v1720 v1721 v1715
  let v1723 : BitVec 32 := Scalar.subi c15_i32_576 v1722
  let c512_i32_577 : BitVec 32 := 512#32
  let v1724 : BitVec 32 := Scalar.muli v1723 c512_i32_577
  let v1725 : BitVec 32 := v1724
  let c0_i32_564 : BitVec 32 := 0#32
  let v1697 : BitVec 1 := Scalar.cmpi .sgt v1695 c0_i32_564
  let v1698 : BitVec 32 := Scalar.extui v1697
  let c0_i32_565 : BitVec 32 := 0#32
  let v1699 : BitVec 1 := Scalar.cmpi .slt v1695 c0_i32_565
  let v1700 : BitVec 32 := Scalar.extui v1699
  let v1701 : BitVec 32 := Scalar.subi v1698 v1700
  let c16_i32_563 : BitVec 32 := 16#32
  let c0_i32_566 : BitVec 32 := 0#32
  let v1702 : BitVec 1 := Scalar.cmpi .sgt c16_i32_563 c0_i32_566
  let v1703 : BitVec 32 := Scalar.extui v1702
  let c0_i32_567 : BitVec 32 := 0#32
  let v1704 : BitVec 1 := Scalar.cmpi .slt c16_i32_563 c0_i32_567
  let v1705 : BitVec 32 := Scalar.extui v1704
  let v1706 : BitVec 32 := Scalar.subi v1703 v1705
  let v1707 : BitVec 1 := Scalar.cmpi .ne v1701 v1706
  let v1708 : BitVec 32 := Scalar.remsi v1695 c16_i32_563
  let c0_i32_568 : BitVec 32 := 0#32
  let v1709 : BitVec 1 := Scalar.cmpi .ne v1708 c0_i32_568
  let v1710 : BitVec 1 := Scalar.andi v1707 v1709
  let v1696 : BitVec 32 := Scalar.divsi v1695 c16_i32_563
  let c1_i32_569 : BitVec 32 := 1#32
  let v1711 : BitVec 32 := Scalar.subi v1696 c1_i32_569
  let v1712 : BitVec 32 := Scalar.select v1710 v1711 v1696
  let c512_i32_612 : BitVec 32 := 512#32
  let v1782 : BitVec 32 := Scalar.muli v1712 c512_i32_612
  let v1783 : BitVec 32 := Scalar.addi c4096_i32_613 v1782
  let v1784 : BitVec 32 := v1783
  ![v1725.toNat, v1784.toNat]
def k0_off30 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_606 : BitVec 32 := 2#32
  let c0_i32_607 : BitVec 32 := 0#32
  let v1772 : BitVec 1 := Scalar.cmpi .eq c2_i32_606 c0_i32_607
  let c1_i32_608 : BitVec 32 := 1#32
  let v1773 : BitVec 32 := Scalar.select v1772 c1_i32_608 c2_i32_606
  let v1774 : BitVec 32 := Scalar.remsi v1695 v1773
  let c0_i32_610 : BitVec 32 := 0#32
  let v1776 : BitVec 1 := Scalar.cmpi .slt v1774 c0_i32_610
  let c0_i32_611 : BitVec 32 := 0#32
  let v1777 : BitVec 1 := Scalar.cmpi .slt v1773 c0_i32_611
  let v1778 : BitVec 1 := Scalar.xori v1776 v1777
  let c0_i32_609 : BitVec 32 := 0#32
  let v1775 : BitVec 1 := Scalar.cmpi .ne v1774 c0_i32_609
  let v1779 : BitVec 1 := Scalar.andi v1778 v1775
  let v1780 : BitVec 32 := Scalar.addi v1774 v1773
  let v1781 : BitVec 32 := Scalar.select v1779 v1780 v1774
  let c0_i32_641 : BitVec 32 := 0#32
  let c0_i32_642 : BitVec 32 := 0#32
  ![v1781.toNat, 0, 0]
def k0_off31 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_562 : BitVec 32 := 1#32
  let v1695 : BitVec 32 := Scalar.subi v1 c1_i32_562
  let c2_i32_628 : BitVec 32 := 2#32
  let c0_i32_629 : BitVec 32 := 0#32
  let v1808 : BitVec 1 := Scalar.cmpi .eq c2_i32_628 c0_i32_629
  let c1_i32_630 : BitVec 32 := 1#32
  let v1809 : BitVec 32 := Scalar.select v1808 c1_i32_630 c2_i32_628
  let v1810 : BitVec 32 := Scalar.remsi v1695 v1809
  let c0_i32_632 : BitVec 32 := 0#32
  let v1812 : BitVec 1 := Scalar.cmpi .slt v1810 c0_i32_632
  let c0_i32_633 : BitVec 32 := 0#32
  let v1813 : BitVec 1 := Scalar.cmpi .slt v1809 c0_i32_633
  let v1814 : BitVec 1 := Scalar.xori v1812 v1813
  let c0_i32_631 : BitVec 32 := 0#32
  let v1811 : BitVec 1 := Scalar.cmpi .ne v1810 c0_i32_631
  let v1815 : BitVec 1 := Scalar.andi v1814 v1811
  let v1816 : BitVec 32 := Scalar.addi v1810 v1809
  let v1817 : BitVec 32 := Scalar.select v1815 v1816 v1810
  let c3_i32_643 : BitVec 32 := 3#32
  ![v1817.toNat, 3]
def k0_mult24 (i : grid0.Coords) : BitVec 32 :=
  let c15_i32_659 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_653 : BitVec 32 := 16#32
  let c0_i32_654 : BitVec 32 := 0#32
  let v1855 : BitVec 1 := Scalar.cmpi .eq c16_i32_653 c0_i32_654
  let c1_i32_655 : BitVec 32 := 1#32
  let v1856 : BitVec 32 := Scalar.select v1855 c1_i32_655 c16_i32_653
  let v1857 : BitVec 32 := Scalar.remsi v1 v1856
  let c0_i32_657 : BitVec 32 := 0#32
  let v1859 : BitVec 1 := Scalar.cmpi .slt v1857 c0_i32_657
  let c0_i32_658 : BitVec 32 := 0#32
  let v1860 : BitVec 1 := Scalar.cmpi .slt v1856 c0_i32_658
  let v1861 : BitVec 1 := Scalar.xori v1859 v1860
  let c0_i32_656 : BitVec 32 := 0#32
  let v1858 : BitVec 1 := Scalar.cmpi .ne v1857 c0_i32_656
  let v1862 : BitVec 1 := Scalar.andi v1861 v1858
  let v1863 : BitVec 32 := Scalar.addi v1857 v1856
  let v1864 : BitVec 32 := Scalar.select v1862 v1863 v1857
  let v1865 : BitVec 32 := Scalar.subi c15_i32_659 v1864
  let c512_i32_660 : BitVec 32 := 512#32
  let v1866 : BitVec 32 := Scalar.muli v1865 c512_i32_660
  v1866
def k0_mult25 (i : grid0.Coords) : BitVec 32 :=
  let c0_i32_668 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c256_i32_667 : BitVec 32 := 256#32
  let v1878 : BitVec 32 := Scalar.muli v1854 c256_i32_667
  let v1879 : BitVec 32 := Scalar.addi c0_i32_668 v1878
  v1879
def k0_mult26 (i : grid0.Coords) : BitVec 32 :=
  let c2048_i32_682 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c256_i32_681 : BitVec 32 := 256#32
  let v1901 : BitVec 32 := Scalar.muli v1854 c256_i32_681
  let v1902 : BitVec 32 := Scalar.addi c2048_i32_682 v1901
  v1902
def k0_mult27 (i : grid0.Coords) : BitVec 32 :=
  let c4096_i32_696 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c512_i32_695 : BitVec 32 := 512#32
  let v1924 : BitVec 32 := Scalar.muli v1854 c512_i32_695
  let v1925 : BitVec 32 := Scalar.addi c4096_i32_696 v1924
  v1925
def k0_mult28 (i : grid0.Coords) : BitVec 32 :=
  let c8192_i32_710 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c512_i32_709 : BitVec 32 := 512#32
  let v1947 : BitVec 32 := Scalar.muli v1854 c512_i32_709
  let v1948 : BitVec 32 := Scalar.addi c8192_i32_710 v1947
  v1948
def k0_off32 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_669 : BitVec 32 := 2#32
  let c0_i32_670 : BitVec 32 := 0#32
  let v1881 : BitVec 1 := Scalar.cmpi .eq c2_i32_669 c0_i32_670
  let c1_i32_671 : BitVec 32 := 1#32
  let v1882 : BitVec 32 := Scalar.select v1881 c1_i32_671 c2_i32_669
  let v1883 : BitVec 32 := Scalar.remsi v1 v1882
  let c0_i32_673 : BitVec 32 := 0#32
  let v1885 : BitVec 1 := Scalar.cmpi .slt v1883 c0_i32_673
  let c0_i32_674 : BitVec 32 := 0#32
  let v1886 : BitVec 1 := Scalar.cmpi .slt v1882 c0_i32_674
  let v1887 : BitVec 1 := Scalar.xori v1885 v1886
  let c0_i32_672 : BitVec 32 := 0#32
  let v1884 : BitVec 1 := Scalar.cmpi .ne v1883 c0_i32_672
  let v1888 : BitVec 1 := Scalar.andi v1887 v1884
  let v1889 : BitVec 32 := Scalar.addi v1883 v1882
  let v1890 : BitVec 32 := Scalar.select v1888 v1889 v1883
  let c0_i32_717 : BitVec 32 := 0#32
  ![v1890.toNat, 0]
def k0_off33 (i : grid0.Coords) (c0_i32_668 : BitVec 32) : Fin 2 → Nat :=
  let c15_i32_659 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_653 : BitVec 32 := 16#32
  let c0_i32_654 : BitVec 32 := 0#32
  let v1855 : BitVec 1 := Scalar.cmpi .eq c16_i32_653 c0_i32_654
  let c1_i32_655 : BitVec 32 := 1#32
  let v1856 : BitVec 32 := Scalar.select v1855 c1_i32_655 c16_i32_653
  let v1857 : BitVec 32 := Scalar.remsi v1 v1856
  let c0_i32_657 : BitVec 32 := 0#32
  let v1859 : BitVec 1 := Scalar.cmpi .slt v1857 c0_i32_657
  let c0_i32_658 : BitVec 32 := 0#32
  let v1860 : BitVec 1 := Scalar.cmpi .slt v1856 c0_i32_658
  let v1861 : BitVec 1 := Scalar.xori v1859 v1860
  let c0_i32_656 : BitVec 32 := 0#32
  let v1858 : BitVec 1 := Scalar.cmpi .ne v1857 c0_i32_656
  let v1862 : BitVec 1 := Scalar.andi v1861 v1858
  let v1863 : BitVec 32 := Scalar.addi v1857 v1856
  let v1864 : BitVec 32 := Scalar.select v1862 v1863 v1857
  let v1865 : BitVec 32 := Scalar.subi c15_i32_659 v1864
  let c512_i32_660 : BitVec 32 := 512#32
  let v1866 : BitVec 32 := Scalar.muli v1865 c512_i32_660
  let v1867 : BitVec 32 := v1866
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c256_i32_667 : BitVec 32 := 256#32
  let v1878 : BitVec 32 := Scalar.muli v1854 c256_i32_667
  let v1879 : BitVec 32 := Scalar.addi c0_i32_668 v1878
  let v1880 : BitVec 32 := v1879
  ![v1867.toNat, v1880.toNat]
def k0_off34 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_661 : BitVec 32 := 2#32
  let c0_i32_662 : BitVec 32 := 0#32
  let v1868 : BitVec 1 := Scalar.cmpi .eq c2_i32_661 c0_i32_662
  let c1_i32_663 : BitVec 32 := 1#32
  let v1869 : BitVec 32 := Scalar.select v1868 c1_i32_663 c2_i32_661
  let v1870 : BitVec 32 := Scalar.remsi v1 v1869
  let c0_i32_665 : BitVec 32 := 0#32
  let v1872 : BitVec 1 := Scalar.cmpi .slt v1870 c0_i32_665
  let c0_i32_666 : BitVec 32 := 0#32
  let v1873 : BitVec 1 := Scalar.cmpi .slt v1869 c0_i32_666
  let v1874 : BitVec 1 := Scalar.xori v1872 v1873
  let c0_i32_664 : BitVec 32 := 0#32
  let v1871 : BitVec 1 := Scalar.cmpi .ne v1870 c0_i32_664
  let v1875 : BitVec 1 := Scalar.andi v1874 v1871
  let v1876 : BitVec 32 := Scalar.addi v1870 v1869
  let v1877 : BitVec 32 := Scalar.select v1875 v1876 v1870
  let c0_i32_718 : BitVec 32 := 0#32
  let c0_i32_719 : BitVec 32 := 0#32
  ![v1877.toNat, 0, 0]
def k0_off35 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_683 : BitVec 32 := 2#32
  let c0_i32_684 : BitVec 32 := 0#32
  let v1904 : BitVec 1 := Scalar.cmpi .eq c2_i32_683 c0_i32_684
  let c1_i32_685 : BitVec 32 := 1#32
  let v1905 : BitVec 32 := Scalar.select v1904 c1_i32_685 c2_i32_683
  let v1906 : BitVec 32 := Scalar.remsi v1 v1905
  let c0_i32_687 : BitVec 32 := 0#32
  let v1908 : BitVec 1 := Scalar.cmpi .slt v1906 c0_i32_687
  let c0_i32_688 : BitVec 32 := 0#32
  let v1909 : BitVec 1 := Scalar.cmpi .slt v1905 c0_i32_688
  let v1910 : BitVec 1 := Scalar.xori v1908 v1909
  let c0_i32_686 : BitVec 32 := 0#32
  let v1907 : BitVec 1 := Scalar.cmpi .ne v1906 c0_i32_686
  let v1911 : BitVec 1 := Scalar.andi v1910 v1907
  let v1912 : BitVec 32 := Scalar.addi v1906 v1905
  let v1913 : BitVec 32 := Scalar.select v1911 v1912 v1906
  let c1_i32_720 : BitVec 32 := 1#32
  ![v1913.toNat, 1]
def k0_off36 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_697 : BitVec 32 := 2#32
  let c0_i32_698 : BitVec 32 := 0#32
  let v1927 : BitVec 1 := Scalar.cmpi .eq c2_i32_697 c0_i32_698
  let c1_i32_699 : BitVec 32 := 1#32
  let v1928 : BitVec 32 := Scalar.select v1927 c1_i32_699 c2_i32_697
  let v1929 : BitVec 32 := Scalar.remsi v1 v1928
  let c0_i32_701 : BitVec 32 := 0#32
  let v1931 : BitVec 1 := Scalar.cmpi .slt v1929 c0_i32_701
  let c0_i32_702 : BitVec 32 := 0#32
  let v1932 : BitVec 1 := Scalar.cmpi .slt v1928 c0_i32_702
  let v1933 : BitVec 1 := Scalar.xori v1931 v1932
  let c0_i32_700 : BitVec 32 := 0#32
  let v1930 : BitVec 1 := Scalar.cmpi .ne v1929 c0_i32_700
  let v1934 : BitVec 1 := Scalar.andi v1933 v1930
  let v1935 : BitVec 32 := Scalar.addi v1929 v1928
  let v1936 : BitVec 32 := Scalar.select v1934 v1935 v1929
  let c2_i32_723 : BitVec 32 := 2#32
  ![v1936.toNat, 2]
def k0_off37 (i : grid0.Coords) (c4096_i32_696 : BitVec 32) : Fin 2 → Nat :=
  let c15_i32_659 : BitVec 32 := 15#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_653 : BitVec 32 := 16#32
  let c0_i32_654 : BitVec 32 := 0#32
  let v1855 : BitVec 1 := Scalar.cmpi .eq c16_i32_653 c0_i32_654
  let c1_i32_655 : BitVec 32 := 1#32
  let v1856 : BitVec 32 := Scalar.select v1855 c1_i32_655 c16_i32_653
  let v1857 : BitVec 32 := Scalar.remsi v1 v1856
  let c0_i32_657 : BitVec 32 := 0#32
  let v1859 : BitVec 1 := Scalar.cmpi .slt v1857 c0_i32_657
  let c0_i32_658 : BitVec 32 := 0#32
  let v1860 : BitVec 1 := Scalar.cmpi .slt v1856 c0_i32_658
  let v1861 : BitVec 1 := Scalar.xori v1859 v1860
  let c0_i32_656 : BitVec 32 := 0#32
  let v1858 : BitVec 1 := Scalar.cmpi .ne v1857 c0_i32_656
  let v1862 : BitVec 1 := Scalar.andi v1861 v1858
  let v1863 : BitVec 32 := Scalar.addi v1857 v1856
  let v1864 : BitVec 32 := Scalar.select v1862 v1863 v1857
  let v1865 : BitVec 32 := Scalar.subi c15_i32_659 v1864
  let c512_i32_660 : BitVec 32 := 512#32
  let v1866 : BitVec 32 := Scalar.muli v1865 c512_i32_660
  let v1867 : BitVec 32 := v1866
  let c0_i32_647 : BitVec 32 := 0#32
  let v1839 : BitVec 1 := Scalar.cmpi .sgt v1 c0_i32_647
  let v1840 : BitVec 32 := Scalar.extui v1839
  let c0_i32_648 : BitVec 32 := 0#32
  let v1841 : BitVec 1 := Scalar.cmpi .slt v1 c0_i32_648
  let v1842 : BitVec 32 := Scalar.extui v1841
  let v1843 : BitVec 32 := Scalar.subi v1840 v1842
  let c16_i32_646 : BitVec 32 := 16#32
  let c0_i32_649 : BitVec 32 := 0#32
  let v1844 : BitVec 1 := Scalar.cmpi .sgt c16_i32_646 c0_i32_649
  let v1845 : BitVec 32 := Scalar.extui v1844
  let c0_i32_650 : BitVec 32 := 0#32
  let v1846 : BitVec 1 := Scalar.cmpi .slt c16_i32_646 c0_i32_650
  let v1847 : BitVec 32 := Scalar.extui v1846
  let v1848 : BitVec 32 := Scalar.subi v1845 v1847
  let v1849 : BitVec 1 := Scalar.cmpi .ne v1843 v1848
  let v1850 : BitVec 32 := Scalar.remsi v1 c16_i32_646
  let c0_i32_651 : BitVec 32 := 0#32
  let v1851 : BitVec 1 := Scalar.cmpi .ne v1850 c0_i32_651
  let v1852 : BitVec 1 := Scalar.andi v1849 v1851
  let v1838 : BitVec 32 := Scalar.divsi v1 c16_i32_646
  let c1_i32_652 : BitVec 32 := 1#32
  let v1853 : BitVec 32 := Scalar.subi v1838 c1_i32_652
  let v1854 : BitVec 32 := Scalar.select v1852 v1853 v1838
  let c512_i32_695 : BitVec 32 := 512#32
  let v1924 : BitVec 32 := Scalar.muli v1854 c512_i32_695
  let v1925 : BitVec 32 := Scalar.addi c4096_i32_696 v1924
  let v1926 : BitVec 32 := v1925
  ![v1867.toNat, v1926.toNat]
def k0_off38 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_689 : BitVec 32 := 2#32
  let c0_i32_690 : BitVec 32 := 0#32
  let v1914 : BitVec 1 := Scalar.cmpi .eq c2_i32_689 c0_i32_690
  let c1_i32_691 : BitVec 32 := 1#32
  let v1915 : BitVec 32 := Scalar.select v1914 c1_i32_691 c2_i32_689
  let v1916 : BitVec 32 := Scalar.remsi v1 v1915
  let c0_i32_693 : BitVec 32 := 0#32
  let v1918 : BitVec 1 := Scalar.cmpi .slt v1916 c0_i32_693
  let c0_i32_694 : BitVec 32 := 0#32
  let v1919 : BitVec 1 := Scalar.cmpi .slt v1915 c0_i32_694
  let v1920 : BitVec 1 := Scalar.xori v1918 v1919
  let c0_i32_692 : BitVec 32 := 0#32
  let v1917 : BitVec 1 := Scalar.cmpi .ne v1916 c0_i32_692
  let v1921 : BitVec 1 := Scalar.andi v1920 v1917
  let v1922 : BitVec 32 := Scalar.addi v1916 v1915
  let v1923 : BitVec 32 := Scalar.select v1921 v1922 v1916
  let c0_i32_724 : BitVec 32 := 0#32
  let c0_i32_725 : BitVec 32 := 0#32
  ![v1923.toNat, 0, 0]
def k0_off39 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_711 : BitVec 32 := 2#32
  let c0_i32_712 : BitVec 32 := 0#32
  let v1950 : BitVec 1 := Scalar.cmpi .eq c2_i32_711 c0_i32_712
  let c1_i32_713 : BitVec 32 := 1#32
  let v1951 : BitVec 32 := Scalar.select v1950 c1_i32_713 c2_i32_711
  let v1952 : BitVec 32 := Scalar.remsi v1 v1951
  let c0_i32_715 : BitVec 32 := 0#32
  let v1954 : BitVec 1 := Scalar.cmpi .slt v1952 c0_i32_715
  let c0_i32_716 : BitVec 32 := 0#32
  let v1955 : BitVec 1 := Scalar.cmpi .slt v1951 c0_i32_716
  let v1956 : BitVec 1 := Scalar.xori v1954 v1955
  let c0_i32_714 : BitVec 32 := 0#32
  let v1953 : BitVec 1 := Scalar.cmpi .ne v1952 c0_i32_714
  let v1957 : BitVec 1 := Scalar.andi v1956 v1953
  let v1958 : BitVec 32 := Scalar.addi v1952 v1951
  let v1959 : BitVec 32 := Scalar.select v1957 v1958 v1952
  let c3_i32_726 : BitVec 32 := 3#32
  ![v1959.toNat, 3]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c16_i32 : BitVec 32 := 16#32
  let v1 : BitVec 32 := Scalar.addi c16_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8192x12288 : Shape := ⟨2, ![8192, 12288]⟩
abbrev S1x4096 : Shape := ⟨2, ![1, 4096]⟩
abbrev S8192x4096 : Shape := ⟨2, ![8192, 4096]⟩
abbrev S128x8x256x512 : Shape := ⟨4, ![128, 8, 256, 512]⟩
abbrev S8192x2048 : Shape := ⟨2, ![8192, 2048]⟩
abbrev S8192 : Shape := ⟨1, ![8192]⟩
abbrev S8192x8x256 : Shape := ⟨3, ![8192, 8, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x8x128 : Shape := ⟨3, ![8192, 8, 128]⟩
abbrev S8192x8x512 : Shape := ⟨3, ![8192, 8, 512]⟩
abbrev S8192x8 : Shape := ⟨2, ![8192, 8]⟩
abbrev S8192x8x1 : Shape := ⟨3, ![8192, 8, 1]⟩
abbrev S4096 : Shape := ⟨1, ![4096]⟩
abbrev S8x256x512 : Shape := ⟨3, ![8, 256, 512]⟩
abbrev S128x64x8x256 : Shape := ⟨4, ![128, 64, 8, 256]⟩
abbrev S128x64x8x512 : Shape := ⟨4, ![128, 64, 8, 512]⟩
abbrev S1x8x256x512 : Shape := ⟨4, ![1, 8, 256, 512]⟩
abbrev S1x64x8x256 : Shape := ⟨4, ![1, 64, 8, 256]⟩
abbrev S64x8x256 : Shape := ⟨3, ![64, 8, 256]⟩
abbrev S1x64x8x512 : Shape := ⟨4, ![1, 64, 8, 512]⟩
abbrev S64x8x512 : Shape := ⟨3, ![64, 8, 512]⟩
abbrev S8 : Shape := ⟨1, ![8]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S1x8 : Shape := ⟨2, ![1, 8]⟩
abbrev S64x8 : Shape := ⟨2, ![64, 8]⟩
abbrev S8x512x64 : Shape := ⟨3, ![8, 512, 64]⟩
abbrev S64x8x1 : Shape := ⟨3, ![64, 8, 1]⟩
abbrev S8x256x64 : Shape := ⟨3, ![8, 256, 64]⟩
abbrev S8x64x256 : Shape := ⟨3, ![8, 64, 256]⟩
abbrev S8x512x256 : Shape := ⟨3, ![8, 512, 256]⟩

abbrev nBuf : Space → Nat
  | .hbm => 691
  | .vmem => 0
  | .smem => 0
  | _ => 0

abbrev hbmTy0_0 (i : Nat) : BufTy := match i % 128 with
  | 0 => ⟨S8192x12288, .f32⟩
  | 1 => ⟨S1x4096, .f32⟩
  | 2 => ⟨S8192x4096, .f32⟩
  | 3 => ⟨S128x8x256x512, .bf16⟩
  | 4 => ⟨S8192x4096, .f32⟩
  | 5 => ⟨S8192x2048, .f32⟩
  | 6 => ⟨S8192x2048, .f32⟩
  | 7 => ⟨S8192x4096, .f32⟩
  | 8 => ⟨S8192x4096, .f32⟩
  | 9 => ⟨S8192, .i32⟩
  | 10 => ⟨S8192x8x256, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S8192, .f32⟩
  | 20 => ⟨S8192x1, .f32⟩
  | 21 => ⟨S1x128, .f32⟩
  | 22 => ⟨S8192x128, .f32⟩
  | 23 => ⟨S8192x128, .f32⟩
  | 24 => ⟨S8192x128, .f32⟩
  | 25 => ⟨S8192x128, .f32⟩
  | 26 => ⟨S8192x1x128, .f32⟩
  | 27 => ⟨S8192x128, .f32⟩
  | 28 => ⟨S8192x1x128, .f32⟩
  | 29 => ⟨S8192x8x128, .f32⟩
  | 30 => ⟨S8192x8x128, .f32⟩
  | 31 => ⟨S8192x8x128, .f32⟩
  | 32 => ⟨S8192x8x128, .f32⟩
  | 33 => ⟨S8192x8x128, .f32⟩
  | 34 => ⟨S8192x8x128, .f32⟩
  | 35 => ⟨S8192x8x128, .f32⟩
  | 36 => ⟨S8192x8x128, .f32⟩
  | 37 => ⟨S8192x8x128, .f32⟩
  | 38 => ⟨S8192x8x128, .f32⟩
  | 39 => ⟨S8192x8x128, .f32⟩
  | 40 => ⟨S8192x8x128, .f32⟩
  | 41 => ⟨S8192x8x256, .f32⟩
  | 42 => ⟨S8192x8x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S8192, .f32⟩
  | 52 => ⟨S8192x1, .f32⟩
  | 53 => ⟨S1x128, .f32⟩
  | 54 => ⟨S8192x128, .f32⟩
  | 55 => ⟨S8192x128, .f32⟩
  | 56 => ⟨S8192x128, .f32⟩
  | 57 => ⟨S8192x128, .f32⟩
  | 58 => ⟨S8192x1x128, .f32⟩
  | 59 => ⟨S8192x128, .f32⟩
  | 60 => ⟨S8192x1x128, .f32⟩
  | 61 => ⟨S8192x8x128, .f32⟩
  | 62 => ⟨S8192x8x128, .f32⟩
  | 63 => ⟨S8192x8x128, .f32⟩
  | 64 => ⟨S8192x8x128, .f32⟩
  | 65 => ⟨S8192x8x128, .f32⟩
  | 66 => ⟨S8192x8x128, .f32⟩
  | 67 => ⟨S8192x8x128, .f32⟩
  | 68 => ⟨S8192x8x128, .f32⟩
  | 69 => ⟨S8192x8x128, .f32⟩
  | 70 => ⟨S8192x8x128, .f32⟩
  | 71 => ⟨S8192x8x128, .f32⟩
  | 72 => ⟨S8192x8x128, .f32⟩
  | 73 => ⟨S8192x8x256, .f32⟩
  | 74 => ⟨S_, .f32⟩
  | 75 => ⟨S8192x8x256, .f32⟩
  | 76 => ⟨S8192x8x256, .f32⟩
  | 77 => ⟨S8192x8x512, .f32⟩
  | 78 => ⟨S8192x2048, .f32⟩
  | 79 => ⟨S8192x2048, .f32⟩
  | 80 => ⟨S8192x4096, .f32⟩
  | 81 => ⟨S8192x4096, .f32⟩
  | 82 => ⟨S8192, .i32⟩
  | 83 => ⟨S8192x8x256, .f32⟩
  | 84 => ⟨S128, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S8192, .f32⟩
  | 93 => ⟨S8192x1, .f32⟩
  | 94 => ⟨S1x128, .f32⟩
  | 95 => ⟨S8192x128, .f32⟩
  | 96 => ⟨S8192x128, .f32⟩
  | 97 => ⟨S8192x128, .f32⟩
  | 98 => ⟨S8192x128, .f32⟩
  | 99 => ⟨S8192x1x128, .f32⟩
  | 100 => ⟨S8192x128, .f32⟩
  | 101 => ⟨S8192x1x128, .f32⟩
  | 102 => ⟨S8192x8x128, .f32⟩
  | 103 => ⟨S8192x8x128, .f32⟩
  | 104 => ⟨S8192x8x128, .f32⟩
  | 105 => ⟨S8192x8x128, .f32⟩
  | 106 => ⟨S8192x8x128, .f32⟩
  | 107 => ⟨S8192x8x128, .f32⟩
  | 108 => ⟨S8192x8x128, .f32⟩
  | 109 => ⟨S8192x8x128, .f32⟩
  | 110 => ⟨S8192x8x128, .f32⟩
  | 111 => ⟨S8192x8x128, .f32⟩
  | 112 => ⟨S8192x8x128, .f32⟩
  | 113 => ⟨S8192x8x128, .f32⟩
  | 114 => ⟨S8192x8x256, .f32⟩
  | 115 => ⟨S8192x8x256, .f32⟩
  | 116 => ⟨S128, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S8192, .f32⟩
  | 125 => ⟨S8192x1, .f32⟩
  | 126 => ⟨S1x128, .f32⟩
  | 127 => ⟨S8192x128, .f32⟩
  | _ => ⟨S8192x12288, .f32⟩

abbrev hbmTy0_1 (i : Nat) : BufTy := match i % 128 with
  | 0 => ⟨S8192x128, .f32⟩
  | 1 => ⟨S8192x128, .f32⟩
  | 2 => ⟨S8192x128, .f32⟩
  | 3 => ⟨S8192x1x128, .f32⟩
  | 4 => ⟨S8192x128, .f32⟩
  | 5 => ⟨S8192x1x128, .f32⟩
  | 6 => ⟨S8192x8x128, .f32⟩
  | 7 => ⟨S8192x8x128, .f32⟩
  | 8 => ⟨S8192x8x128, .f32⟩
  | 9 => ⟨S8192x8x128, .f32⟩
  | 10 => ⟨S8192x8x128, .f32⟩
  | 11 => ⟨S8192x8x128, .f32⟩
  | 12 => ⟨S8192x8x128, .f32⟩
  | 13 => ⟨S8192x8x128, .f32⟩
  | 14 => ⟨S8192x8x128, .f32⟩
  | 15 => ⟨S8192x8x128, .f32⟩
  | 16 => ⟨S8192x8x128, .f32⟩
  | 17 => ⟨S8192x8x128, .f32⟩
  | 18 => ⟨S8192x8x256, .f32⟩
  | 19 => ⟨S_, .f32⟩
  | 20 => ⟨S8192x8x256, .f32⟩
  | 21 => ⟨S8192x8x256, .f32⟩
  | 22 => ⟨S8192x8x512, .f32⟩
  | 23 => ⟨S8192x8x512, .f32⟩
  | 24 => ⟨S_, .f32⟩
  | 25 => ⟨S8192x8, .f32⟩
  | 26 => ⟨S8192x8x1, .f32⟩
  | 27 => ⟨S_, .f32⟩
  | 28 => ⟨S8192x8x1, .f32⟩
  | 29 => ⟨S8192x8x1, .f32⟩
  | 30 => ⟨S8192x8x512, .f32⟩
  | 31 => ⟨S8192x8x512, .f32⟩
  | 32 => ⟨S8192x8x512, .f32⟩
  | 33 => ⟨S_, .f32⟩
  | 34 => ⟨S8192x8x512, .f32⟩
  | 35 => ⟨S8192x8x512, .f32⟩
  | 36 => ⟨S_, .f32⟩
  | 37 => ⟨S8192x8, .f32⟩
  | 38 => ⟨S8192x8x1, .f32⟩
  | 39 => ⟨S_, .f32⟩
  | 40 => ⟨S8192x8x1, .f32⟩
  | 41 => ⟨S8192x8x1, .f32⟩
  | 42 => ⟨S8192x8x512, .f32⟩
  | 43 => ⟨S8192x8x512, .f32⟩
  | 44 => ⟨S_, .f32⟩
  | 45 => ⟨S8192x8x1, .f32⟩
  | 46 => ⟨S8192x8x1, .f32⟩
  | 47 => ⟨S8192x8x1, .f32⟩
  | 48 => ⟨S8192x8x1, .f32⟩
  | 49 => ⟨S_, .f32⟩
  | 50 => ⟨S8192x8x1, .f32⟩
  | 51 => ⟨S8192x8x1, .f32⟩
  | 52 => ⟨S8192x8x512, .f32⟩
  | 53 => ⟨S8192x8x512, .f32⟩
  | 54 => ⟨S8192x4096, .f32⟩
  | 55 => ⟨S8192x4096, .f32⟩
  | 56 => ⟨S8192x4096, .f32⟩
  | 57 => ⟨S8192x4096, .f32⟩
  | 58 => ⟨S8192x4096, .f32⟩
  | 59 => ⟨S_, .f32⟩
  | 60 => ⟨S8192x4096, .f32⟩
  | 61 => ⟨S8192x4096, .f32⟩
  | 62 => ⟨S_, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S8192x4096, .f32⟩
  | 69 => ⟨S8192x4096, .f32⟩
  | 70 => ⟨S8192x4096, .f32⟩
  | 71 => ⟨S8192x4096, .f32⟩
  | 72 => ⟨S8192x4096, .f32⟩
  | 73 => ⟨S8192x4096, .f32⟩
  | 74 => ⟨S8192x4096, .f32⟩
  | 75 => ⟨S8192x4096, .f32⟩
  | 76 => ⟨S8192x4096, .f32⟩
  | 77 => ⟨S8192x4096, .f32⟩
  | 78 => ⟨S_, .f32⟩
  | 79 => ⟨S4096, .f32⟩
  | 80 => ⟨S1x4096, .f32⟩
  | 81 => ⟨S8192x4096, .f32⟩
  | 82 => ⟨S8192x4096, .f32⟩
  | 83 => ⟨S8192x8x512, .f32⟩
  | 84 => ⟨S8192x8x512, .f32⟩
  | 85 => ⟨S_, .f32⟩
  | 86 => ⟨S8192x8, .f32⟩
  | 87 => ⟨S8192x8x1, .f32⟩
  | 88 => ⟨S8192x8x512, .f32⟩
  | 89 => ⟨S8192x8x512, .f32⟩
  | 90 => ⟨S8192x8x1, .f32⟩
  | 91 => ⟨S8192x8x512, .f32⟩
  | 92 => ⟨S_, .f32⟩
  | 93 => ⟨S8192x8, .f32⟩
  | 94 => ⟨S8192x8x1, .f32⟩
  | 95 => ⟨S_, .f32⟩
  | 96 => ⟨S8192x8x1, .f32⟩
  | 97 => ⟨S8192x8x1, .f32⟩
  | 98 => ⟨S_, .f32⟩
  | 99 => ⟨S8192x8, .f32⟩
  | 100 => ⟨S8192x8x512, .f32⟩
  | 101 => ⟨S8192x8x512, .f32⟩
  | 102 => ⟨S8192x8x512, .f32⟩
  | 103 => ⟨S_, .f32⟩
  | 104 => ⟨S8192x8, .f32⟩
  | 105 => ⟨S8192x8x1, .f32⟩
  | 106 => ⟨S8192x8x512, .f32⟩
  | 107 => ⟨S8192x8x1, .f32⟩
  | 108 => ⟨S_, .f32⟩
  | 109 => ⟨S8192x8x1, .f32⟩
  | 110 => ⟨S8192x8x1, .f32⟩
  | 111 => ⟨S_, .f32⟩
  | 112 => ⟨S8192x8, .f32⟩
  | 113 => ⟨S8192x8x512, .f32⟩
  | 114 => ⟨S8192x8x512, .f32⟩
  | 115 => ⟨S_, .f32⟩
  | 116 => ⟨S8x256x512, .f32⟩
  | 117 => ⟨S128x8x256x512, .f32⟩
  | 118 => ⟨S128x64x8x256, .f32⟩
  | 119 => ⟨S128x64x8x256, .f32⟩
  | 120 => ⟨S128x64x8x512, .f32⟩
  | 121 => ⟨S128x64x8x512, .f32⟩
  | 122 => ⟨S_, .f32⟩
  | 123 => ⟨S128x64x8x256, .f32⟩
  | 124 => ⟨S_, .f32⟩
  | 125 => ⟨S128x64x8x256, .f32⟩
  | 126 => ⟨S_, .f32⟩
  | 127 => ⟨S128x64x8x512, .f32⟩
  | _ => ⟨S8192x12288, .f32⟩

abbrev hbmTy0_2 (i : Nat) : BufTy := match i % 128 with
  | 0 => ⟨S_, .i32⟩
  | 1 => ⟨S128x8x256x512, .f32⟩
  | 2 => ⟨S128x64x8x256, .f32⟩
  | 3 => ⟨S128x64x8x256, .f32⟩
  | 4 => ⟨S128x64x8x512, .f32⟩
  | 5 => ⟨S128x64x8x512, .f32⟩
  | 6 => ⟨S_, .i32⟩
  | 7 => ⟨S8x256x512, .f32⟩
  | 8 => ⟨S128x64x8x256, .f32⟩
  | 9 => ⟨S128x64x8x256, .f32⟩
  | 10 => ⟨S128x64x8x512, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S1x8x256x512, .f32⟩
  | 21 => ⟨S8x256x512, .f32⟩
  | 22 => ⟨S_, .i32⟩
  | 23 => ⟨S_, .i32⟩
  | 24 => ⟨S_, .i32⟩
  | 25 => ⟨S1x64x8x256, .f32⟩
  | 26 => ⟨S64x8x256, .f32⟩
  | 27 => ⟨S_, .i32⟩
  | 28 => ⟨S_, .i32⟩
  | 29 => ⟨S_, .i32⟩
  | 30 => ⟨S1x64x8x256, .f32⟩
  | 31 => ⟨S64x8x256, .f32⟩
  | 32 => ⟨S_, .i32⟩
  | 33 => ⟨S_, .i32⟩
  | 34 => ⟨S_, .i32⟩
  | 35 => ⟨S1x64x8x512, .f32⟩
  | 36 => ⟨S64x8x512, .f32⟩
  | 37 => ⟨S_, .i32⟩
  | 38 => ⟨S_, .i32⟩
  | 39 => ⟨S_, .i32⟩
  | 40 => ⟨S1x64x8x512, .f32⟩
  | 41 => ⟨S64x8x512, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S8, .f32⟩
  | 50 => ⟨S8, .f32⟩
  | 51 => ⟨S8, .f32⟩
  | 52 => ⟨S64, .f32⟩
  | 53 => ⟨S64x1, .f32⟩
  | 54 => ⟨S1x64, .f32⟩
  | 55 => ⟨S64x64, .f32⟩
  | 56 => ⟨S64x64, .f32⟩
  | 57 => ⟨S64x64, .f32⟩
  | 58 => ⟨S64x64, .f32⟩
  | 59 => ⟨S1x64x64, .f32⟩
  | 60 => ⟨S8x1x1, .f32⟩
  | 61 => ⟨S8x64x64, .f32⟩
  | 62 => ⟨S8x64x64, .f32⟩
  | 63 => ⟨S8x64x64, .f32⟩
  | 64 => ⟨S8x64x64, .f32⟩
  | 65 => ⟨S64x1, .f32⟩
  | 66 => ⟨S_, .f32⟩
  | 67 => ⟨S64x1, .f32⟩
  | 68 => ⟨S64x1, .f32⟩
  | 69 => ⟨S1x8, .f32⟩
  | 70 => ⟨S64x8, .f32⟩
  | 71 => ⟨S64x8, .f32⟩
  | 72 => ⟨S64x8, .f32⟩
  | 73 => ⟨S64x8, .f32⟩
  | 74 => ⟨S_, .f32⟩
  | 75 => ⟨S64, .f32⟩
  | 76 => ⟨S64, .f32⟩
  | 77 => ⟨S64x1, .f32⟩
  | 78 => ⟨S1x8, .f32⟩
  | 79 => ⟨S64x8, .f32⟩
  | 80 => ⟨S64x8, .f32⟩
  | 81 => ⟨S64x8, .f32⟩
  | 82 => ⟨S64x8, .f32⟩
  | 83 => ⟨S_, .f32⟩
  | 84 => ⟨S8, .f32⟩
  | 85 => ⟨S8, .f32⟩
  | 86 => ⟨S8, .f32⟩
  | 87 => ⟨S8x64x64, .f32⟩
  | 88 => ⟨S8x64x64, .f32⟩
  | 89 => ⟨S8x512x64, .f32⟩
  | 90 => ⟨S64x8x512, .f32⟩
  | 91 => ⟨S8x512x64, .f32⟩
  | 92 => ⟨S64x8x512, .f32⟩
  | 93 => ⟨S64x8x1, .f32⟩
  | 94 => ⟨S64x8x512, .f32⟩
  | 95 => ⟨S64x8x512, .f32⟩
  | 96 => ⟨S8x1x1, .f32⟩
  | 97 => ⟨S8x256x512, .f32⟩
  | 98 => ⟨S8x256x512, .f32⟩
  | 99 => ⟨S64x8x1, .f32⟩
  | 100 => ⟨S64x8x256, .f32⟩
  | 101 => ⟨S64x8x256, .f32⟩
  | 102 => ⟨S8x256x512, .f32⟩
  | 103 => ⟨S8x256x512, .f32⟩
  | 104 => ⟨S64x8x512, .f32⟩
  | 105 => ⟨S8x512x64, .f32⟩
  | 106 => ⟨S64x8x512, .f32⟩
  | 107 => ⟨S8x256x64, .f32⟩
  | 108 => ⟨S64x8x256, .f32⟩
  | 109 => ⟨S64x8x256, .f32⟩
  | 110 => ⟨S64x8x256, .f32⟩
  | 111 => ⟨S8x256x512, .f32⟩
  | 112 => ⟨S8x256x512, .f32⟩
  | 113 => ⟨S64x8x512, .f32⟩
  | 114 => ⟨S64x8x512, .f32⟩
  | 115 => ⟨S8x512x64, .f32⟩
  | 116 => ⟨S8x64x256, .f32⟩
  | 117 => ⟨S64x8x256, .f32⟩
  | 118 => ⟨S8x512x256, .f32⟩
  | 119 => ⟨S8x256x512, .f32⟩
  | 120 => ⟨S8x256x512, .f32⟩
  | 121 => ⟨S8x512x64, .f32⟩
  | 122 => ⟨S8x64x64, .f32⟩
  | 123 => ⟨S8x512x64, .f32⟩
  | 124 => ⟨S64x8x512, .f32⟩
  | 125 => ⟨S64x8x512, .f32⟩
  | 126 => ⟨S8x64x64, .f32⟩
  | 127 => ⟨S8x64x256, .f32⟩
  | _ => ⟨S8192x12288, .f32⟩

abbrev hbmTy0_3 (i : Nat) : BufTy := match i % 128 with
  | 0 => ⟨S64x8x256, .f32⟩
  | 1 => ⟨S64x8x256, .f32⟩
  | 2 => ⟨S8x64x256, .f32⟩
  | 3 => ⟨S64x8x256, .f32⟩
  | 4 => ⟨S64x8x256, .f32⟩
  | 5 => ⟨S1x64x8x256, .f32⟩
  | 6 => ⟨S_, .i32⟩
  | 7 => ⟨S_, .i32⟩
  | 8 => ⟨S_, .i32⟩
  | 9 => ⟨S128x64x8x256, .f32⟩
  | 10 => ⟨S1x64x8x256, .f32⟩
  | 11 => ⟨S_, .i32⟩
  | 12 => ⟨S_, .i32⟩
  | 13 => ⟨S_, .i32⟩
  | 14 => ⟨S128x64x8x256, .f32⟩
  | 15 => ⟨S1x64x8x512, .f32⟩
  | 16 => ⟨S_, .i32⟩
  | 17 => ⟨S_, .i32⟩
  | 18 => ⟨S_, .i32⟩
  | 19 => ⟨S128x64x8x512, .f32⟩
  | 20 => ⟨S_, .i32⟩
  | 21 => ⟨S_, .i32⟩
  | 22 => ⟨S8192x2048, .f32⟩
  | 23 => ⟨S8192x2048, .f32⟩
  | 24 => ⟨S8192x4096, .f32⟩
  | 25 => ⟨S8192x4096, .f32⟩
  | 26 => ⟨S8192, .i32⟩
  | 27 => ⟨S8192x8x256, .f32⟩
  | 28 => ⟨S128, .f32⟩
  | 29 => ⟨S128, .f32⟩
  | 30 => ⟨S_, .f32⟩
  | 31 => ⟨S128, .f32⟩
  | 32 => ⟨S128, .f32⟩
  | 33 => ⟨S_, .f32⟩
  | 34 => ⟨S128, .f32⟩
  | 35 => ⟨S128, .f32⟩
  | 36 => ⟨S8192, .f32⟩
  | 37 => ⟨S8192x1, .f32⟩
  | 38 => ⟨S1x128, .f32⟩
  | 39 => ⟨S8192x128, .f32⟩
  | 40 => ⟨S8192x128, .f32⟩
  | 41 => ⟨S8192x128, .f32⟩
  | 42 => ⟨S8192x128, .f32⟩
  | 43 => ⟨S8192x1x128, .f32⟩
  | 44 => ⟨S8192x128, .f32⟩
  | 45 => ⟨S8192x1x128, .f32⟩
  | 46 => ⟨S8192x8x128, .f32⟩
  | 47 => ⟨S8192x8x128, .f32⟩
  | 48 => ⟨S8192x8x128, .f32⟩
  | 49 => ⟨S8192x8x128, .f32⟩
  | 50 => ⟨S8192x8x128, .f32⟩
  | 51 => ⟨S8192x8x128, .f32⟩
  | 52 => ⟨S8192x8x128, .f32⟩
  | 53 => ⟨S8192x8x128, .f32⟩
  | 54 => ⟨S8192x8x128, .f32⟩
  | 55 => ⟨S8192x8x128, .f32⟩
  | 56 => ⟨S8192x8x128, .f32⟩
  | 57 => ⟨S8192x8x128, .f32⟩
  | 58 => ⟨S8192x8x256, .f32⟩
  | 59 => ⟨S8192x8x256, .f32⟩
  | 60 => ⟨S128, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S8192, .f32⟩
  | 69 => ⟨S8192x1, .f32⟩
  | 70 => ⟨S1x128, .f32⟩
  | 71 => ⟨S8192x128, .f32⟩
  | 72 => ⟨S8192x128, .f32⟩
  | 73 => ⟨S8192x128, .f32⟩
  | 74 => ⟨S8192x128, .f32⟩
  | 75 => ⟨S8192x1x128, .f32⟩
  | 76 => ⟨S8192x128, .f32⟩
  | 77 => ⟨S8192x1x128, .f32⟩
  | 78 => ⟨S8192x8x128, .f32⟩
  | 79 => ⟨S8192x8x128, .f32⟩
  | 80 => ⟨S8192x8x128, .f32⟩
  | 81 => ⟨S8192x8x128, .f32⟩
  | 82 => ⟨S8192x8x128, .f32⟩
  | 83 => ⟨S8192x8x128, .f32⟩
  | 84 => ⟨S8192x8x128, .f32⟩
  | 85 => ⟨S8192x8x128, .f32⟩
  | 86 => ⟨S8192x8x128, .f32⟩
  | 87 => ⟨S8192x8x128, .f32⟩
  | 88 => ⟨S8192x8x128, .f32⟩
  | 89 => ⟨S8192x8x128, .f32⟩
  | 90 => ⟨S8192x8x256, .f32⟩
  | 91 => ⟨S_, .f32⟩
  | 92 => ⟨S8192x8x256, .f32⟩
  | 93 => ⟨S8192x8x256, .f32⟩
  | 94 => ⟨S8192x8x512, .f32⟩
  | 95 => ⟨S8192x8x512, .f32⟩
  | 96 => ⟨S_, .f32⟩
  | 97 => ⟨S8192x8, .f32⟩
  | 98 => ⟨S8192x8x1, .f32⟩
  | 99 => ⟨S_, .f32⟩
  | 100 => ⟨S8192x8x1, .f32⟩
  | 101 => ⟨S8192x8x1, .f32⟩
  | 102 => ⟨S8192x8x512, .f32⟩
  | 103 => ⟨S8192x8x512, .f32⟩
  | 104 => ⟨S8192x8x512, .f32⟩
  | 105 => ⟨S_, .f32⟩
  | 106 => ⟨S8192x8x512, .f32⟩
  | 107 => ⟨S8192x8x512, .f32⟩
  | 108 => ⟨S_, .f32⟩
  | 109 => ⟨S8192x8, .f32⟩
  | 110 => ⟨S8192x8x1, .f32⟩
  | 111 => ⟨S_, .f32⟩
  | 112 => ⟨S8192x8x1, .f32⟩
  | 113 => ⟨S8192x8x1, .f32⟩
  | 114 => ⟨S8192x8x512, .f32⟩
  | 115 => ⟨S8192x8x512, .f32⟩
  | 116 => ⟨S_, .f32⟩
  | 117 => ⟨S8192x8x1, .f32⟩
  | 118 => ⟨S8192x8x1, .f32⟩
  | 119 => ⟨S8192x8x1, .f32⟩
  | 120 => ⟨S8192x8x1, .f32⟩
  | 121 => ⟨S_, .f32⟩
  | 122 => ⟨S8192x8x1, .f32⟩
  | 123 => ⟨S8192x8x1, .f32⟩
  | 124 => ⟨S8192x8x512, .f32⟩
  | 125 => ⟨S8192x8x512, .f32⟩
  | 126 => ⟨S8192x4096, .f32⟩
  | 127 => ⟨S8192x4096, .f32⟩
  | _ => ⟨S8192x12288, .f32⟩

abbrev hbmTy0_4 (i : Nat) : BufTy := match i % 128 with
  | 0 => ⟨S8192x4096, .f32⟩
  | 1 => ⟨S8192x4096, .f32⟩
  | 2 => ⟨S8192x4096, .f32⟩
  | 3 => ⟨S_, .f32⟩
  | 4 => ⟨S8192x4096, .f32⟩
  | 5 => ⟨S8192x4096, .f32⟩
  | 6 => ⟨S_, .f32⟩
  | 7 => ⟨S8192x4096, .f32⟩
  | 8 => ⟨S8192x4096, .f32⟩
  | 9 => ⟨S_, .f32⟩
  | 10 => ⟨S8192x4096, .f32⟩
  | 11 => ⟨S8192x4096, .f32⟩
  | 12 => ⟨S8192x4096, .f32⟩
  | 13 => ⟨S8192x4096, .f32⟩
  | 14 => ⟨S8192x4096, .f32⟩
  | 15 => ⟨S8192x4096, .f32⟩
  | 16 => ⟨S8192x4096, .f32⟩
  | 17 => ⟨S8192x4096, .f32⟩
  | 18 => ⟨S8192x4096, .f32⟩
  | 19 => ⟨S8192x4096, .f32⟩
  | 20 => ⟨S8192x4096, .f32⟩
  | 21 => ⟨S8192x4096, .f32⟩
  | 22 => ⟨S_, .f32⟩
  | 23 => ⟨S4096, .f32⟩
  | 24 => ⟨S1x4096, .f32⟩
  | 25 => ⟨S8192x4096, .f32⟩
  | 26 => ⟨S8192x4096, .f32⟩
  | 27 => ⟨S8192x8x512, .f32⟩
  | 28 => ⟨S8192x8x512, .f32⟩
  | 29 => ⟨S_, .f32⟩
  | 30 => ⟨S8192x8, .f32⟩
  | 31 => ⟨S8192x8x1, .f32⟩
  | 32 => ⟨S8192x8x512, .f32⟩
  | 33 => ⟨S8192x8x512, .f32⟩
  | 34 => ⟨S8192x8x1, .f32⟩
  | 35 => ⟨S8192x8x512, .f32⟩
  | 36 => ⟨S_, .f32⟩
  | 37 => ⟨S8192x8, .f32⟩
  | 38 => ⟨S8192x8x1, .f32⟩
  | 39 => ⟨S_, .f32⟩
  | 40 => ⟨S8192x8x1, .f32⟩
  | 41 => ⟨S8192x8x1, .f32⟩
  | 42 => ⟨S_, .f32⟩
  | 43 => ⟨S8192x8, .f32⟩
  | 44 => ⟨S8192x8x512, .f32⟩
  | 45 => ⟨S8192x8x512, .f32⟩
  | 46 => ⟨S8192x8x512, .f32⟩
  | 47 => ⟨S_, .f32⟩
  | 48 => ⟨S8192x8, .f32⟩
  | 49 => ⟨S8192x8x1, .f32⟩
  | 50 => ⟨S8192x8x512, .f32⟩
  | 51 => ⟨S8192x8x1, .f32⟩
  | 52 => ⟨S_, .f32⟩
  | 53 => ⟨S8192x8x1, .f32⟩
  | 54 => ⟨S8192x8x1, .f32⟩
  | 55 => ⟨S_, .f32⟩
  | 56 => ⟨S8192x8, .f32⟩
  | 57 => ⟨S8192x8x512, .f32⟩
  | 58 => ⟨S8192x8x512, .f32⟩
  | 59 => ⟨S8192x2048, .f32⟩
  | 60 => ⟨S8192x2048, .f32⟩
  | 61 => ⟨S8192x4096, .f32⟩
  | 62 => ⟨S8192x4096, .f32⟩
  | 63 => ⟨S8192, .i32⟩
  | 64 => ⟨S8192x8x256, .f32⟩
  | 65 => ⟨S128, .f32⟩
  | 66 => ⟨S128, .f32⟩
  | 67 => ⟨S_, .f32⟩
  | 68 => ⟨S128, .f32⟩
  | 69 => ⟨S128, .f32⟩
  | 70 => ⟨S_, .f32⟩
  | 71 => ⟨S128, .f32⟩
  | 72 => ⟨S128, .f32⟩
  | 73 => ⟨S8192, .f32⟩
  | 74 => ⟨S8192x1, .f32⟩
  | 75 => ⟨S1x128, .f32⟩
  | 76 => ⟨S8192x128, .f32⟩
  | 77 => ⟨S8192x128, .f32⟩
  | 78 => ⟨S8192x128, .f32⟩
  | 79 => ⟨S8192x128, .f32⟩
  | 80 => ⟨S8192x1x128, .f32⟩
  | 81 => ⟨S8192x128, .f32⟩
  | 82 => ⟨S8192x1x128, .f32⟩
  | 83 => ⟨S8192x8x128, .f32⟩
  | 84 => ⟨S8192x8x128, .f32⟩
  | 85 => ⟨S8192x8x128, .f32⟩
  | 86 => ⟨S8192x8x128, .f32⟩
  | 87 => ⟨S8192x8x128, .f32⟩
  | 88 => ⟨S8192x8x128, .f32⟩
  | 89 => ⟨S8192x8x128, .f32⟩
  | 90 => ⟨S8192x8x128, .f32⟩
  | 91 => ⟨S8192x8x128, .f32⟩
  | 92 => ⟨S8192x8x128, .f32⟩
  | 93 => ⟨S8192x8x128, .f32⟩
  | 94 => ⟨S8192x8x128, .f32⟩
  | 95 => ⟨S8192x8x256, .f32⟩
  | 96 => ⟨S8192x8x256, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S128, .f32⟩
  | 104 => ⟨S128, .f32⟩
  | 105 => ⟨S8192, .f32⟩
  | 106 => ⟨S8192x1, .f32⟩
  | 107 => ⟨S1x128, .f32⟩
  | 108 => ⟨S8192x128, .f32⟩
  | 109 => ⟨S8192x128, .f32⟩
  | 110 => ⟨S8192x128, .f32⟩
  | 111 => ⟨S8192x128, .f32⟩
  | 112 => ⟨S8192x1x128, .f32⟩
  | 113 => ⟨S8192x128, .f32⟩
  | 114 => ⟨S8192x1x128, .f32⟩
  | 115 => ⟨S8192x8x128, .f32⟩
  | 116 => ⟨S8192x8x128, .f32⟩
  | 117 => ⟨S8192x8x128, .f32⟩
  | 118 => ⟨S8192x8x128, .f32⟩
  | 119 => ⟨S8192x8x128, .f32⟩
  | 120 => ⟨S8192x8x128, .f32⟩
  | 121 => ⟨S8192x8x128, .f32⟩
  | 122 => ⟨S8192x8x128, .f32⟩
  | 123 => ⟨S8192x8x128, .f32⟩
  | 124 => ⟨S8192x8x128, .f32⟩
  | 125 => ⟨S8192x8x128, .f32⟩
  | 126 => ⟨S8192x8x128, .f32⟩
  | 127 => ⟨S8192x8x256, .f32⟩
  | _ => ⟨S8192x12288, .f32⟩

abbrev hbmTy0_5 (i : Nat) : BufTy := match i % 128 with
  | 0 => ⟨S_, .f32⟩
  | 1 => ⟨S8192x8x256, .f32⟩
  | 2 => ⟨S8192x8x256, .f32⟩
  | 3 => ⟨S8192x8x512, .f32⟩
  | 4 => ⟨S8192x8x256, .f32⟩
  | 5 => ⟨S8192x8x256, .f32⟩
  | 6 => ⟨S8192x8x512, .f32⟩
  | 7 => ⟨S8192x4096, .f32⟩
  | 8 => ⟨S_, .f32⟩
  | 9 => ⟨S8192x8x256, .f32⟩
  | 10 => ⟨S8192x8x256, .f32⟩
  | 11 => ⟨S8192x8x128, .f32⟩
  | 12 => ⟨S8192x8x128, .f32⟩
  | 13 => ⟨S8192x8x128, .f32⟩
  | 14 => ⟨S8192x8x128, .f32⟩
  | 15 => ⟨S8192x8x128, .f32⟩
  | 16 => ⟨S8192x8x128, .f32⟩
  | 17 => ⟨S8192x8x128, .f32⟩
  | 18 => ⟨S8192x8x128, .f32⟩
  | 19 => ⟨S8192x8x128, .f32⟩
  | 20 => ⟨S8192x8x128, .f32⟩
  | 21 => ⟨S8192x8x128, .f32⟩
  | 22 => ⟨S8192x8x128, .f32⟩
  | 23 => ⟨S8192x8x128, .f32⟩
  | 24 => ⟨S_, .f32⟩
  | 25 => ⟨S8192x8x256, .f32⟩
  | 26 => ⟨S_, .f32⟩
  | 27 => ⟨S8192x8x256, .f32⟩
  | 28 => ⟨S8192x8x256, .f32⟩
  | 29 => ⟨S8192x2048, .f32⟩
  | 30 => ⟨S8192x8x128, .f32⟩
  | 31 => ⟨S8192x8x128, .f32⟩
  | 32 => ⟨S8192x8x128, .f32⟩
  | 33 => ⟨S8192x8x128, .f32⟩
  | 34 => ⟨S8192x8x128, .f32⟩
  | 35 => ⟨S8192x8x128, .f32⟩
  | 36 => ⟨S8192x8x128, .f32⟩
  | 37 => ⟨S8192x8x128, .f32⟩
  | 38 => ⟨S8192x8x128, .f32⟩
  | 39 => ⟨S8192x8x128, .f32⟩
  | 40 => ⟨S8192x8x128, .f32⟩
  | 41 => ⟨S8192x8x128, .f32⟩
  | 42 => ⟨S8192x8x128, .f32⟩
  | 43 => ⟨S_, .f32⟩
  | 44 => ⟨S8192x8x256, .f32⟩
  | 45 => ⟨S_, .f32⟩
  | 46 => ⟨S8192x8x256, .f32⟩
  | 47 => ⟨S8192x8x256, .f32⟩
  | 48 => ⟨S8192x2048, .f32⟩
  | 49 => ⟨S8192x12288, .f32⟩
  | 50 => ⟨S8192x12288, .bf16⟩
  | _ => ⟨S8192x12288, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_3 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_4 : Ref sig .tc := ⟨.hbm, 86, rfl⟩
abbrev main_v76 : Ref sig .tc := ⟨.hbm, 87, rfl⟩
abbrev main_v77 : Ref sig .tc := ⟨.hbm, 88, rfl⟩
abbrev main_cst_5 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_cst_6 : Ref sig .tc := ⟨.hbm, 118, rfl⟩
abbrev main_v106 : Ref sig .tc := ⟨.hbm, 119, rfl⟩
abbrev main_v107 : Ref sig .tc := ⟨.hbm, 120, rfl⟩
abbrev main_cst_7 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_cst_8 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_cst_9 : Ref sig .tc := ⟨.hbm, 152, rfl⟩
abbrev main_v137 : Ref sig .tc := ⟨.hbm, 153, rfl⟩
abbrev main_v138 : Ref sig .tc := ⟨.hbm, 154, rfl⟩
abbrev main_cst_10 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_cst_11 : Ref sig .tc := ⟨.hbm, 161, rfl⟩
abbrev main_v144 : Ref sig .tc := ⟨.hbm, 162, rfl⟩
abbrev main_v145 : Ref sig .tc := ⟨.hbm, 163, rfl⟩
abbrev main_cst_12 : Ref sig .tc := ⟨.hbm, 164, rfl⟩
abbrev main_v146 : Ref sig .tc := ⟨.hbm, 165, rfl⟩
abbrev main_v147 : Ref sig .tc := ⟨.hbm, 166, rfl⟩
abbrev main_cst_13 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_cst_14 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_cst_15 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_call0_v0 : Ref sig .tc := ⟨.hbm, 185, rfl⟩
abbrev main_call0_v1 : Ref sig .tc := ⟨.hbm, 186, rfl⟩
abbrev main_call0_cst : Ref sig .tc := ⟨.hbm, 187, rfl⟩
abbrev main_call0_v2 : Ref sig .tc := ⟨.hbm, 188, rfl⟩
abbrev main_call0_v3 : Ref sig .tc := ⟨.hbm, 189, rfl⟩
abbrev main_call0_cst_0 : Ref sig .tc := ⟨.hbm, 190, rfl⟩
abbrev main_call0_v4 : Ref sig .tc := ⟨.hbm, 191, rfl⟩
abbrev main_v163_2 : Ref sig .tc := ⟨.hbm, 192, rfl⟩
abbrev main_call0_cst_1 : Ref sig .tc := ⟨.hbm, 193, rfl⟩
abbrev main_call0_v6 : Ref sig .tc := ⟨.hbm, 194, rfl⟩
abbrev main_call0_v7 : Ref sig .tc := ⟨.hbm, 195, rfl⟩
abbrev main_v163_1 : Ref sig .tc := ⟨.hbm, 196, rfl⟩
abbrev main_v163_0 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_call1_v0 : Ref sig .tc := ⟨.hbm, 201, rfl⟩
abbrev main_call1_v1 : Ref sig .tc := ⟨.hbm, 202, rfl⟩
abbrev main_call1_v2 : Ref sig .tc := ⟨.hbm, 203, rfl⟩
abbrev main_v167 : Ref sig .tc := ⟨.hbm, 204, rfl⟩
abbrev main_v168 : Ref sig .tc := ⟨.hbm, 205, rfl⟩
abbrev main_cst_16 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_17 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_18 : Ref sig .tc := ⟨.hbm, 220, rfl⟩
abbrev main_v181 : Ref sig .tc := ⟨.hbm, 221, rfl⟩
abbrev main_v182 : Ref sig .tc := ⟨.hbm, 222, rfl⟩
abbrev main_cst_19 : Ref sig .tc := ⟨.hbm, 223, rfl⟩
abbrev main_v183 : Ref sig .tc := ⟨.hbm, 224, rfl⟩
abbrev main_v184 : Ref sig .tc := ⟨.hbm, 225, rfl⟩
abbrev main_cst_20 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_21 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_cst_22 : Ref sig .tc := ⟨.hbm, 236, rfl⟩
abbrev main_v193 : Ref sig .tc := ⟨.hbm, 237, rfl⟩
abbrev main_v194 : Ref sig .tc := ⟨.hbm, 238, rfl⟩
abbrev main_cst_23 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_cst_24 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_25 : Ref sig .tc := ⟨.hbm, 250, rfl⟩
abbrev main_v204 : Ref sig .tc := ⟨.hbm, 251, rfl⟩
abbrev main_cst_26 : Ref sig .tc := ⟨.hbm, 252, rfl⟩
abbrev main_v205 : Ref sig .tc := ⟨.hbm, 253, rfl⟩
abbrev main_cst_27 : Ref sig .tc := ⟨.hbm, 254, rfl⟩
abbrev main_v206 : Ref sig .tc := ⟨.hbm, 255, rfl⟩
abbrev main_c : Ref sig .tc := ⟨.hbm, 256, rfl⟩
abbrev main_v207_0 : Ref sig .tc := ⟨.hbm, 257, rfl⟩
abbrev main_v207_1 : Ref sig .tc := ⟨.hbm, 258, rfl⟩
abbrev main_v207_2 : Ref sig .tc := ⟨.hbm, 259, rfl⟩
abbrev main_v207_3 : Ref sig .tc := ⟨.hbm, 260, rfl⟩
abbrev main_v207_4 : Ref sig .tc := ⟨.hbm, 261, rfl⟩
abbrev main_v207_5 : Ref sig .tc := ⟨.hbm, 262, rfl⟩
abbrev main_v207_6 : Ref sig .tc := ⟨.hbm, 263, rfl⟩
abbrev main_v207_7 : Ref sig .tc := ⟨.hbm, 264, rfl⟩
abbrev main_v207_8 : Ref sig .tc := ⟨.hbm, 265, rfl⟩
abbrev main_v207_9 : Ref sig .tc := ⟨.hbm, 266, rfl⟩
abbrev main_while0c_c_67 : Ref sig .tc := ⟨.hbm, 267, rfl⟩
abbrev main_while0c_v448 : Ref sig .tc := ⟨.hbm, 268, rfl⟩
abbrev main_while0b_c_67 : Ref sig .tc := ⟨.hbm, 269, rfl⟩
abbrev main_while0b_v448 : Ref sig .tc := ⟨.hbm, 270, rfl⟩
abbrev main_while0b_c_68 : Ref sig .tc := ⟨.hbm, 271, rfl⟩
abbrev main_while0b_v449 : Ref sig .tc := ⟨.hbm, 272, rfl⟩
abbrev main_while0b_call2_c : Ref sig .tc := ⟨.hbm, 273, rfl⟩
abbrev main_while0b_call2_c_0 : Ref sig .tc := ⟨.hbm, 274, rfl⟩
abbrev main_while0b_call2_c_1 : Ref sig .tc := ⟨.hbm, 275, rfl⟩
abbrev main_while0b_call2_v0 : Ref sig .tc := ⟨.hbm, 276, rfl⟩
abbrev main_while0b_v450 : Ref sig .tc := ⟨.hbm, 277, rfl⟩
abbrev main_while0b_call3_c : Ref sig .tc := ⟨.hbm, 278, rfl⟩
abbrev main_while0b_call3_c_0 : Ref sig .tc := ⟨.hbm, 279, rfl⟩
abbrev main_while0b_call3_c_1 : Ref sig .tc := ⟨.hbm, 280, rfl⟩
abbrev main_while0b_call3_v0 : Ref sig .tc := ⟨.hbm, 281, rfl⟩
abbrev main_while0b_v451 : Ref sig .tc := ⟨.hbm, 282, rfl⟩
abbrev main_while0b_call4_c : Ref sig .tc := ⟨.hbm, 283, rfl⟩
abbrev main_while0b_call4_c_0 : Ref sig .tc := ⟨.hbm, 284, rfl⟩
abbrev main_while0b_call4_c_1 : Ref sig .tc := ⟨.hbm, 285, rfl⟩
abbrev main_while0b_call4_v0 : Ref sig .tc := ⟨.hbm, 286, rfl⟩
abbrev main_while0b_v452 : Ref sig .tc := ⟨.hbm, 287, rfl⟩
abbrev main_while0b_call5_c : Ref sig .tc := ⟨.hbm, 288, rfl⟩
abbrev main_while0b_call5_c_0 : Ref sig .tc := ⟨.hbm, 289, rfl⟩
abbrev main_while0b_call5_c_1 : Ref sig .tc := ⟨.hbm, 290, rfl⟩
abbrev main_while0b_call5_v0 : Ref sig .tc := ⟨.hbm, 291, rfl⟩
abbrev main_while0b_v453 : Ref sig .tc := ⟨.hbm, 292, rfl⟩
abbrev main_while0b_call6_c : Ref sig .tc := ⟨.hbm, 293, rfl⟩
abbrev main_while0b_call6_c_0 : Ref sig .tc := ⟨.hbm, 294, rfl⟩
abbrev main_while0b_call6_c_1 : Ref sig .tc := ⟨.hbm, 295, rfl⟩
abbrev main_while0b_call6_v0 : Ref sig .tc := ⟨.hbm, 296, rfl⟩
abbrev main_while0b_v454 : Ref sig .tc := ⟨.hbm, 297, rfl⟩
abbrev main_while0b_v455 : Ref sig .tc := ⟨.hbm, 298, rfl⟩
abbrev main_while0b_cst_69 : Ref sig .tc := ⟨.hbm, 299, rfl⟩
abbrev main_while0b_v456 : Ref sig .tc := ⟨.hbm, 300, rfl⟩
abbrev main_while0b_v457 : Ref sig .tc := ⟨.hbm, 301, rfl⟩
abbrev main_while0b_cst_70 : Ref sig .tc := ⟨.hbm, 302, rfl⟩
abbrev main_while0b_v458 : Ref sig .tc := ⟨.hbm, 303, rfl⟩
abbrev main_while0b_v459 : Ref sig .tc := ⟨.hbm, 304, rfl⟩
abbrev main_while0b_v460 : Ref sig .tc := ⟨.hbm, 305, rfl⟩
abbrev main_while0b_v461 : Ref sig .tc := ⟨.hbm, 306, rfl⟩
abbrev main_while0b_v462 : Ref sig .tc := ⟨.hbm, 307, rfl⟩
abbrev main_while0b_v463 : Ref sig .tc := ⟨.hbm, 308, rfl⟩
abbrev main_while0b_v464 : Ref sig .tc := ⟨.hbm, 309, rfl⟩
abbrev main_while0b_v465 : Ref sig .tc := ⟨.hbm, 310, rfl⟩
abbrev main_while0b_v466 : Ref sig .tc := ⟨.hbm, 311, rfl⟩
abbrev main_while0b_v467 : Ref sig .tc := ⟨.hbm, 312, rfl⟩
abbrev main_while0b_v468 : Ref sig .tc := ⟨.hbm, 313, rfl⟩
abbrev main_while0b_v469 : Ref sig .tc := ⟨.hbm, 314, rfl⟩
abbrev main_while0b_v470 : Ref sig .tc := ⟨.hbm, 315, rfl⟩
abbrev main_while0b_v471 : Ref sig .tc := ⟨.hbm, 316, rfl⟩
abbrev main_while0b_v472 : Ref sig .tc := ⟨.hbm, 317, rfl⟩
abbrev main_while0b_v473 : Ref sig .tc := ⟨.hbm, 318, rfl⟩
abbrev main_while0b_v474 : Ref sig .tc := ⟨.hbm, 319, rfl⟩
abbrev main_while0b_v475 : Ref sig .tc := ⟨.hbm, 320, rfl⟩
abbrev main_while0b_v476 : Ref sig .tc := ⟨.hbm, 321, rfl⟩
abbrev main_while0b_cst_71 : Ref sig .tc := ⟨.hbm, 322, rfl⟩
abbrev main_while0b_v477 : Ref sig .tc := ⟨.hbm, 323, rfl⟩
abbrev main_while0b_v478 : Ref sig .tc := ⟨.hbm, 324, rfl⟩
abbrev main_while0b_v479 : Ref sig .tc := ⟨.hbm, 325, rfl⟩
abbrev main_while0b_v480 : Ref sig .tc := ⟨.hbm, 326, rfl⟩
abbrev main_while0b_v481 : Ref sig .tc := ⟨.hbm, 327, rfl⟩
abbrev main_while0b_v482 : Ref sig .tc := ⟨.hbm, 328, rfl⟩
abbrev main_while0b_v483 : Ref sig .tc := ⟨.hbm, 329, rfl⟩
abbrev main_while0b_cst_72 : Ref sig .tc := ⟨.hbm, 330, rfl⟩
abbrev main_while0b_v484 : Ref sig .tc := ⟨.hbm, 331, rfl⟩
abbrev main_while0b_v485 : Ref sig .tc := ⟨.hbm, 332, rfl⟩
abbrev main_while0b_v486 : Ref sig .tc := ⟨.hbm, 333, rfl⟩
abbrev main_while0b_v487 : Ref sig .tc := ⟨.hbm, 334, rfl⟩
abbrev main_while0b_v488 : Ref sig .tc := ⟨.hbm, 335, rfl⟩
abbrev main_while0b_v489 : Ref sig .tc := ⟨.hbm, 336, rfl⟩
abbrev main_while0b_v490 : Ref sig .tc := ⟨.hbm, 337, rfl⟩
abbrev main_while0b_v491 : Ref sig .tc := ⟨.hbm, 338, rfl⟩
abbrev main_while0b_cst_73 : Ref sig .tc := ⟨.hbm, 339, rfl⟩
abbrev main_while0b_v492 : Ref sig .tc := ⟨.hbm, 340, rfl⟩
abbrev main_while0b_v493 : Ref sig .tc := ⟨.hbm, 341, rfl⟩
abbrev main_while0b_v494 : Ref sig .tc := ⟨.hbm, 342, rfl⟩
abbrev main_while0b_v495 : Ref sig .tc := ⟨.hbm, 343, rfl⟩
abbrev main_while0b_v496 : Ref sig .tc := ⟨.hbm, 344, rfl⟩
abbrev main_while0b_v497 : Ref sig .tc := ⟨.hbm, 345, rfl⟩
abbrev main_while0b_v498 : Ref sig .tc := ⟨.hbm, 346, rfl⟩
abbrev main_while0b_v499 : Ref sig .tc := ⟨.hbm, 347, rfl⟩
abbrev main_while0b_v500 : Ref sig .tc := ⟨.hbm, 348, rfl⟩
abbrev main_while0b_v501 : Ref sig .tc := ⟨.hbm, 349, rfl⟩
abbrev main_while0b_v502 : Ref sig .tc := ⟨.hbm, 350, rfl⟩
abbrev main_while0b_v503 : Ref sig .tc := ⟨.hbm, 351, rfl⟩
abbrev main_while0b_v504 : Ref sig .tc := ⟨.hbm, 352, rfl⟩
abbrev main_while0b_v505 : Ref sig .tc := ⟨.hbm, 353, rfl⟩
abbrev main_while0b_v506 : Ref sig .tc := ⟨.hbm, 354, rfl⟩
abbrev main_while0b_v507 : Ref sig .tc := ⟨.hbm, 355, rfl⟩
abbrev main_while0b_v508 : Ref sig .tc := ⟨.hbm, 356, rfl⟩
abbrev main_while0b_v509 : Ref sig .tc := ⟨.hbm, 357, rfl⟩
abbrev main_while0b_v510 : Ref sig .tc := ⟨.hbm, 358, rfl⟩
abbrev main_while0b_v511 : Ref sig .tc := ⟨.hbm, 359, rfl⟩
abbrev main_while0b_v512 : Ref sig .tc := ⟨.hbm, 360, rfl⟩
abbrev main_while0b_v513 : Ref sig .tc := ⟨.hbm, 361, rfl⟩
abbrev main_while0b_v514 : Ref sig .tc := ⟨.hbm, 362, rfl⟩
abbrev main_while0b_v515 : Ref sig .tc := ⟨.hbm, 363, rfl⟩
abbrev main_while0b_v516 : Ref sig .tc := ⟨.hbm, 364, rfl⟩
abbrev main_while0b_v517 : Ref sig .tc := ⟨.hbm, 365, rfl⟩
abbrev main_while0b_v518 : Ref sig .tc := ⟨.hbm, 366, rfl⟩
abbrev main_while0b_v519 : Ref sig .tc := ⟨.hbm, 367, rfl⟩
abbrev main_while0b_v520 : Ref sig .tc := ⟨.hbm, 368, rfl⟩
abbrev main_while0b_v521 : Ref sig .tc := ⟨.hbm, 369, rfl⟩
abbrev main_while0b_v522 : Ref sig .tc := ⟨.hbm, 370, rfl⟩
abbrev main_while0b_v523 : Ref sig .tc := ⟨.hbm, 371, rfl⟩
abbrev main_while0b_v524 : Ref sig .tc := ⟨.hbm, 372, rfl⟩
abbrev main_while0b_v525 : Ref sig .tc := ⟨.hbm, 373, rfl⟩
abbrev main_while0b_v526 : Ref sig .tc := ⟨.hbm, 374, rfl⟩
abbrev main_while0b_v527 : Ref sig .tc := ⟨.hbm, 375, rfl⟩
abbrev main_while0b_v528 : Ref sig .tc := ⟨.hbm, 376, rfl⟩
abbrev main_while0b_v529 : Ref sig .tc := ⟨.hbm, 377, rfl⟩
abbrev main_while0b_v530 : Ref sig .tc := ⟨.hbm, 378, rfl⟩
abbrev main_while0b_v531 : Ref sig .tc := ⟨.hbm, 379, rfl⟩
abbrev main_while0b_v532 : Ref sig .tc := ⟨.hbm, 380, rfl⟩
abbrev main_while0b_v533 : Ref sig .tc := ⟨.hbm, 381, rfl⟩
abbrev main_while0b_v534 : Ref sig .tc := ⟨.hbm, 382, rfl⟩
abbrev main_while0b_v535 : Ref sig .tc := ⟨.hbm, 383, rfl⟩
abbrev main_while0b_v536 : Ref sig .tc := ⟨.hbm, 384, rfl⟩
abbrev main_while0b_v537 : Ref sig .tc := ⟨.hbm, 385, rfl⟩
abbrev main_while0b_v538 : Ref sig .tc := ⟨.hbm, 386, rfl⟩
abbrev main_while0b_v539 : Ref sig .tc := ⟨.hbm, 387, rfl⟩
abbrev main_while0b_v540 : Ref sig .tc := ⟨.hbm, 388, rfl⟩
abbrev main_while0b_call7_v0 : Ref sig .tc := ⟨.hbm, 389, rfl⟩
abbrev main_while0b_call7_c : Ref sig .tc := ⟨.hbm, 390, rfl⟩
abbrev main_while0b_call7_c_0 : Ref sig .tc := ⟨.hbm, 391, rfl⟩
abbrev main_while0b_call7_c_1 : Ref sig .tc := ⟨.hbm, 392, rfl⟩
abbrev main_while0b_v541 : Ref sig .tc := ⟨.hbm, 393, rfl⟩
abbrev main_while0b_call8_v0 : Ref sig .tc := ⟨.hbm, 394, rfl⟩
abbrev main_while0b_call8_c : Ref sig .tc := ⟨.hbm, 395, rfl⟩
abbrev main_while0b_call8_c_0 : Ref sig .tc := ⟨.hbm, 396, rfl⟩
abbrev main_while0b_call8_c_1 : Ref sig .tc := ⟨.hbm, 397, rfl⟩
abbrev main_while0b_v542 : Ref sig .tc := ⟨.hbm, 398, rfl⟩
abbrev main_while0b_call9_v0 : Ref sig .tc := ⟨.hbm, 399, rfl⟩
abbrev main_while0b_call9_c : Ref sig .tc := ⟨.hbm, 400, rfl⟩
abbrev main_while0b_call9_c_0 : Ref sig .tc := ⟨.hbm, 401, rfl⟩
abbrev main_while0b_call9_c_1 : Ref sig .tc := ⟨.hbm, 402, rfl⟩
abbrev main_while0b_v543 : Ref sig .tc := ⟨.hbm, 403, rfl⟩
abbrev main_while0b_c_74 : Ref sig .tc := ⟨.hbm, 404, rfl⟩
abbrev main_while0b_v544 : Ref sig .tc := ⟨.hbm, 405, rfl⟩
abbrev main_v208 : Ref sig .tc := ⟨.hbm, 406, rfl⟩
abbrev main_v209 : Ref sig .tc := ⟨.hbm, 407, rfl⟩
abbrev main_v210 : Ref sig .tc := ⟨.hbm, 408, rfl⟩
abbrev main_v211 : Ref sig .tc := ⟨.hbm, 409, rfl⟩
abbrev main_v212 : Ref sig .tc := ⟨.hbm, 410, rfl⟩
abbrev main_v213 : Ref sig .tc := ⟨.hbm, 411, rfl⟩
abbrev main_v214 : Ref sig .tc := ⟨.hbm, 412, rfl⟩
abbrev main_v215 : Ref sig .tc := ⟨.hbm, 413, rfl⟩
abbrev main_cst_28 : Ref sig .tc := ⟨.hbm, 414, rfl⟩
abbrev main_v216 : Ref sig .tc := ⟨.hbm, 415, rfl⟩
abbrev main_v217 : Ref sig .tc := ⟨.hbm, 416, rfl⟩
abbrev main_cst_29 : Ref sig .tc := ⟨.hbm, 417, rfl⟩
abbrev main_v218 : Ref sig .tc := ⟨.hbm, 418, rfl⟩
abbrev main_v219 : Ref sig .tc := ⟨.hbm, 419, rfl⟩
abbrev main_v220 : Ref sig .tc := ⟨.hbm, 420, rfl⟩
abbrev main_v221 : Ref sig .tc := ⟨.hbm, 421, rfl⟩
abbrev main_v222 : Ref sig .tc := ⟨.hbm, 422, rfl⟩
abbrev main_v223 : Ref sig .tc := ⟨.hbm, 423, rfl⟩
abbrev main_v224 : Ref sig .tc := ⟨.hbm, 424, rfl⟩
abbrev main_v225 : Ref sig .tc := ⟨.hbm, 425, rfl⟩
abbrev main_v226 : Ref sig .tc := ⟨.hbm, 426, rfl⟩
abbrev main_v227 : Ref sig .tc := ⟨.hbm, 427, rfl⟩
abbrev main_v228 : Ref sig .tc := ⟨.hbm, 428, rfl⟩
abbrev main_v229 : Ref sig .tc := ⟨.hbm, 429, rfl⟩
abbrev main_v230 : Ref sig .tc := ⟨.hbm, 430, rfl⟩
abbrev main_v231 : Ref sig .tc := ⟨.hbm, 431, rfl⟩
abbrev main_v232 : Ref sig .tc := ⟨.hbm, 432, rfl⟩
abbrev main_v233 : Ref sig .tc := ⟨.hbm, 433, rfl⟩
abbrev main_v234 : Ref sig .tc := ⟨.hbm, 434, rfl⟩
abbrev main_v235 : Ref sig .tc := ⟨.hbm, 435, rfl⟩
abbrev main_v236 : Ref sig .tc := ⟨.hbm, 436, rfl⟩
abbrev main_v237 : Ref sig .tc := ⟨.hbm, 437, rfl⟩
abbrev main_v238 : Ref sig .tc := ⟨.hbm, 438, rfl⟩
abbrev main_v239 : Ref sig .tc := ⟨.hbm, 439, rfl⟩
abbrev main_v240 : Ref sig .tc := ⟨.hbm, 440, rfl⟩
abbrev main_v241 : Ref sig .tc := ⟨.hbm, 441, rfl⟩
abbrev main_v242 : Ref sig .tc := ⟨.hbm, 442, rfl⟩
abbrev main_v243 : Ref sig .tc := ⟨.hbm, 443, rfl⟩
abbrev main_v244 : Ref sig .tc := ⟨.hbm, 444, rfl⟩
abbrev main_v245 : Ref sig .tc := ⟨.hbm, 445, rfl⟩
abbrev main_cst_30 : Ref sig .tc := ⟨.hbm, 446, rfl⟩
abbrev main_v246 : Ref sig .tc := ⟨.hbm, 447, rfl⟩
abbrev main_v247 : Ref sig .tc := ⟨.hbm, 448, rfl⟩
abbrev main_cst_31 : Ref sig .tc := ⟨.hbm, 449, rfl⟩
abbrev main_v248 : Ref sig .tc := ⟨.hbm, 450, rfl⟩
abbrev main_v249 : Ref sig .tc := ⟨.hbm, 451, rfl⟩
abbrev main_v250 : Ref sig .tc := ⟨.hbm, 452, rfl⟩
abbrev main_v251 : Ref sig .tc := ⟨.hbm, 453, rfl⟩
abbrev main_v252 : Ref sig .tc := ⟨.hbm, 454, rfl⟩
abbrev main_v253 : Ref sig .tc := ⟨.hbm, 455, rfl⟩
abbrev main_v254 : Ref sig .tc := ⟨.hbm, 456, rfl⟩
abbrev main_v255 : Ref sig .tc := ⟨.hbm, 457, rfl⟩
abbrev main_v256 : Ref sig .tc := ⟨.hbm, 458, rfl⟩
abbrev main_v257 : Ref sig .tc := ⟨.hbm, 459, rfl⟩
abbrev main_v258 : Ref sig .tc := ⟨.hbm, 460, rfl⟩
abbrev main_v259 : Ref sig .tc := ⟨.hbm, 461, rfl⟩
abbrev main_v260 : Ref sig .tc := ⟨.hbm, 462, rfl⟩
abbrev main_v261 : Ref sig .tc := ⟨.hbm, 463, rfl⟩
abbrev main_v262 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_v266 : Ref sig .tc := ⟨.hbm, 468, rfl⟩
abbrev main_v267 : Ref sig .tc := ⟨.hbm, 469, rfl⟩
abbrev main_v268 : Ref sig .tc := ⟨.hbm, 470, rfl⟩
abbrev main_v269 : Ref sig .tc := ⟨.hbm, 471, rfl⟩
abbrev main_v270 : Ref sig .tc := ⟨.hbm, 472, rfl⟩
abbrev main_v271 : Ref sig .tc := ⟨.hbm, 473, rfl⟩
abbrev main_v272 : Ref sig .tc := ⟨.hbm, 474, rfl⟩
abbrev main_cst_32 : Ref sig .tc := ⟨.hbm, 475, rfl⟩
abbrev main_v273 : Ref sig .tc := ⟨.hbm, 476, rfl⟩
abbrev main_v274 : Ref sig .tc := ⟨.hbm, 477, rfl⟩
abbrev main_v275 : Ref sig .tc := ⟨.hbm, 478, rfl⟩
abbrev main_v276 : Ref sig .tc := ⟨.hbm, 479, rfl⟩
abbrev main_cst_33 : Ref sig .tc := ⟨.hbm, 480, rfl⟩
abbrev main_v277 : Ref sig .tc := ⟨.hbm, 481, rfl⟩
abbrev main_v278 : Ref sig .tc := ⟨.hbm, 482, rfl⟩
abbrev main_cst_34 : Ref sig .tc := ⟨.hbm, 483, rfl⟩
abbrev main_v279 : Ref sig .tc := ⟨.hbm, 484, rfl⟩
abbrev main_v280 : Ref sig .tc := ⟨.hbm, 485, rfl⟩
abbrev main_v281 : Ref sig .tc := ⟨.hbm, 486, rfl⟩
abbrev main_v282 : Ref sig .tc := ⟨.hbm, 487, rfl⟩
abbrev main_v283 : Ref sig .tc := ⟨.hbm, 488, rfl⟩
abbrev main_cst_35 : Ref sig .tc := ⟨.hbm, 489, rfl⟩
abbrev main_v284 : Ref sig .tc := ⟨.hbm, 490, rfl⟩
abbrev main_v285 : Ref sig .tc := ⟨.hbm, 491, rfl⟩
abbrev main_cst_36 : Ref sig .tc := ⟨.hbm, 492, rfl⟩
abbrev main_v286 : Ref sig .tc := ⟨.hbm, 493, rfl⟩
abbrev main_v287 : Ref sig .tc := ⟨.hbm, 494, rfl⟩
abbrev main_cst_37 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_v291 : Ref sig .tc := ⟨.hbm, 499, rfl⟩
abbrev main_cst_38 : Ref sig .tc := ⟨.hbm, 500, rfl⟩
abbrev main_v292 : Ref sig .tc := ⟨.hbm, 501, rfl⟩
abbrev main_v293 : Ref sig .tc := ⟨.hbm, 502, rfl⟩
abbrev main_v294 : Ref sig .tc := ⟨.hbm, 503, rfl⟩
abbrev main_v295 : Ref sig .tc := ⟨.hbm, 504, rfl⟩
abbrev main_cst_39 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_v299 : Ref sig .tc := ⟨.hbm, 509, rfl⟩
abbrev main_v300 : Ref sig .tc := ⟨.hbm, 510, rfl⟩
abbrev main_v301 : Ref sig .tc := ⟨.hbm, 511, rfl⟩
abbrev main_v302 : Ref sig .tc := ⟨.hbm, 512, rfl⟩
abbrev main_call10_v0 : Ref sig .tc := ⟨.hbm, 513, rfl⟩
abbrev main_call10_v1 : Ref sig .tc := ⟨.hbm, 514, rfl⟩
abbrev main_call10_cst : Ref sig .tc := ⟨.hbm, 515, rfl⟩
abbrev main_call10_v2 : Ref sig .tc := ⟨.hbm, 516, rfl⟩
abbrev main_call10_v3 : Ref sig .tc := ⟨.hbm, 517, rfl⟩
abbrev main_call10_cst_0 : Ref sig .tc := ⟨.hbm, 518, rfl⟩
abbrev main_call10_v4 : Ref sig .tc := ⟨.hbm, 519, rfl⟩
abbrev main_v303_2 : Ref sig .tc := ⟨.hbm, 520, rfl⟩
abbrev main_call10_cst_1 : Ref sig .tc := ⟨.hbm, 521, rfl⟩
abbrev main_call10_v6 : Ref sig .tc := ⟨.hbm, 522, rfl⟩
abbrev main_call10_v7 : Ref sig .tc := ⟨.hbm, 523, rfl⟩
abbrev main_v303_1 : Ref sig .tc := ⟨.hbm, 524, rfl⟩
abbrev main_v303_0 : Ref sig .tc := ⟨.hbm, 525, rfl⟩
abbrev main_v304 : Ref sig .tc := ⟨.hbm, 526, rfl⟩
abbrev main_v305 : Ref sig .tc := ⟨.hbm, 527, rfl⟩
abbrev main_v306 : Ref sig .tc := ⟨.hbm, 528, rfl⟩
abbrev main_call11_v0 : Ref sig .tc := ⟨.hbm, 529, rfl⟩
abbrev main_call11_v1 : Ref sig .tc := ⟨.hbm, 530, rfl⟩
abbrev main_call11_v2 : Ref sig .tc := ⟨.hbm, 531, rfl⟩
abbrev main_v307 : Ref sig .tc := ⟨.hbm, 532, rfl⟩
abbrev main_v308 : Ref sig .tc := ⟨.hbm, 533, rfl⟩
abbrev main_cst_40 : Ref sig .tc := ⟨.hbm, 534, rfl⟩
abbrev main_v309 : Ref sig .tc := ⟨.hbm, 535, rfl⟩
abbrev main_v310 : Ref sig .tc := ⟨.hbm, 536, rfl⟩
abbrev main_v311 : Ref sig .tc := ⟨.hbm, 537, rfl⟩
abbrev main_v312 : Ref sig .tc := ⟨.hbm, 538, rfl⟩
abbrev main_v313 : Ref sig .tc := ⟨.hbm, 539, rfl⟩
abbrev main_v314 : Ref sig .tc := ⟨.hbm, 540, rfl⟩
abbrev main_cst_41 : Ref sig .tc := ⟨.hbm, 541, rfl⟩
abbrev main_v315 : Ref sig .tc := ⟨.hbm, 542, rfl⟩
abbrev main_v316 : Ref sig .tc := ⟨.hbm, 543, rfl⟩
abbrev main_v317 : Ref sig .tc := ⟨.hbm, 544, rfl⟩
abbrev main_v318 : Ref sig .tc := ⟨.hbm, 545, rfl⟩
abbrev main_v319 : Ref sig .tc := ⟨.hbm, 546, rfl⟩
abbrev main_v320 : Ref sig .tc := ⟨.hbm, 547, rfl⟩
abbrev main_cst_42 : Ref sig .tc := ⟨.hbm, 548, rfl⟩
abbrev main_v321 : Ref sig .tc := ⟨.hbm, 549, rfl⟩
abbrev main_v322 : Ref sig .tc := ⟨.hbm, 550, rfl⟩
abbrev main_cst_43 : Ref sig .tc := ⟨.hbm, 551, rfl⟩
abbrev main_v323 : Ref sig .tc := ⟨.hbm, 552, rfl⟩
abbrev main_v324 : Ref sig .tc := ⟨.hbm, 553, rfl⟩
abbrev main_cst_44 : Ref sig .tc := ⟨.hbm, 554, rfl⟩
abbrev main_v325 : Ref sig .tc := ⟨.hbm, 555, rfl⟩
abbrev main_v326 : Ref sig .tc := ⟨.hbm, 556, rfl⟩
abbrev main_v327 : Ref sig .tc := ⟨.hbm, 557, rfl⟩
abbrev main_v328 : Ref sig .tc := ⟨.hbm, 558, rfl⟩
abbrev main_cst_45 : Ref sig .tc := ⟨.hbm, 559, rfl⟩
abbrev main_v329 : Ref sig .tc := ⟨.hbm, 560, rfl⟩
abbrev main_v330 : Ref sig .tc := ⟨.hbm, 561, rfl⟩
abbrev main_v331 : Ref sig .tc := ⟨.hbm, 562, rfl⟩
abbrev main_v332 : Ref sig .tc := ⟨.hbm, 563, rfl⟩
abbrev main_cst_46 : Ref sig .tc := ⟨.hbm, 564, rfl⟩
abbrev main_v333 : Ref sig .tc := ⟨.hbm, 565, rfl⟩
abbrev main_v334 : Ref sig .tc := ⟨.hbm, 566, rfl⟩
abbrev main_cst_47 : Ref sig .tc := ⟨.hbm, 567, rfl⟩
abbrev main_v335 : Ref sig .tc := ⟨.hbm, 568, rfl⟩
abbrev main_v336 : Ref sig .tc := ⟨.hbm, 569, rfl⟩
abbrev main_v337 : Ref sig .tc := ⟨.hbm, 570, rfl⟩
abbrev main_v338 : Ref sig .tc := ⟨.hbm, 571, rfl⟩
abbrev main_v339 : Ref sig .tc := ⟨.hbm, 572, rfl⟩
abbrev main_v340 : Ref sig .tc := ⟨.hbm, 573, rfl⟩
abbrev main_v341 : Ref sig .tc := ⟨.hbm, 574, rfl⟩
abbrev main_v342 : Ref sig .tc := ⟨.hbm, 575, rfl⟩
abbrev main_v343 : Ref sig .tc := ⟨.hbm, 576, rfl⟩
abbrev main_v344 : Ref sig .tc := ⟨.hbm, 577, rfl⟩
abbrev main_v345 : Ref sig .tc := ⟨.hbm, 578, rfl⟩
abbrev main_cst_48 : Ref sig .tc := ⟨.hbm, 579, rfl⟩
abbrev main_v346 : Ref sig .tc := ⟨.hbm, 580, rfl⟩
abbrev main_v347 : Ref sig .tc := ⟨.hbm, 581, rfl⟩
abbrev main_cst_49 : Ref sig .tc := ⟨.hbm, 582, rfl⟩
abbrev main_v348 : Ref sig .tc := ⟨.hbm, 583, rfl⟩
abbrev main_v349 : Ref sig .tc := ⟨.hbm, 584, rfl⟩
abbrev main_v350 : Ref sig .tc := ⟨.hbm, 585, rfl⟩
abbrev main_v351 : Ref sig .tc := ⟨.hbm, 586, rfl⟩
abbrev main_v352 : Ref sig .tc := ⟨.hbm, 587, rfl⟩
abbrev main_v353 : Ref sig .tc := ⟨.hbm, 588, rfl⟩
abbrev main_v354 : Ref sig .tc := ⟨.hbm, 589, rfl⟩
abbrev main_v355 : Ref sig .tc := ⟨.hbm, 590, rfl⟩
abbrev main_v356 : Ref sig .tc := ⟨.hbm, 591, rfl⟩
abbrev main_v357 : Ref sig .tc := ⟨.hbm, 592, rfl⟩
abbrev main_v358 : Ref sig .tc := ⟨.hbm, 593, rfl⟩
abbrev main_v359 : Ref sig .tc := ⟨.hbm, 594, rfl⟩
abbrev main_v360 : Ref sig .tc := ⟨.hbm, 595, rfl⟩
abbrev main_v361 : Ref sig .tc := ⟨.hbm, 596, rfl⟩
abbrev main_v362 : Ref sig .tc := ⟨.hbm, 597, rfl⟩
abbrev main_v363 : Ref sig .tc := ⟨.hbm, 598, rfl⟩
abbrev main_v364 : Ref sig .tc := ⟨.hbm, 599, rfl⟩
abbrev main_v365 : Ref sig .tc := ⟨.hbm, 600, rfl⟩
abbrev main_v366 : Ref sig .tc := ⟨.hbm, 601, rfl⟩
abbrev main_v367 : Ref sig .tc := ⟨.hbm, 602, rfl⟩
abbrev main_v368 : Ref sig .tc := ⟨.hbm, 603, rfl⟩
abbrev main_v369 : Ref sig .tc := ⟨.hbm, 604, rfl⟩
abbrev main_v370 : Ref sig .tc := ⟨.hbm, 605, rfl⟩
abbrev main_v371 : Ref sig .tc := ⟨.hbm, 606, rfl⟩
abbrev main_v372 : Ref sig .tc := ⟨.hbm, 607, rfl⟩
abbrev main_v373 : Ref sig .tc := ⟨.hbm, 608, rfl⟩
abbrev main_v374 : Ref sig .tc := ⟨.hbm, 609, rfl⟩
abbrev main_v375 : Ref sig .tc := ⟨.hbm, 610, rfl⟩
abbrev main_cst_50 : Ref sig .tc := ⟨.hbm, 611, rfl⟩
abbrev main_v376 : Ref sig .tc := ⟨.hbm, 612, rfl⟩
abbrev main_v377 : Ref sig .tc := ⟨.hbm, 613, rfl⟩
abbrev main_cst_51 : Ref sig .tc := ⟨.hbm, 614, rfl⟩
abbrev main_v378 : Ref sig .tc := ⟨.hbm, 615, rfl⟩
abbrev main_v379 : Ref sig .tc := ⟨.hbm, 616, rfl⟩
abbrev main_v380 : Ref sig .tc := ⟨.hbm, 617, rfl⟩
abbrev main_v381 : Ref sig .tc := ⟨.hbm, 618, rfl⟩
abbrev main_v382 : Ref sig .tc := ⟨.hbm, 619, rfl⟩
abbrev main_v383 : Ref sig .tc := ⟨.hbm, 620, rfl⟩
abbrev main_v384 : Ref sig .tc := ⟨.hbm, 621, rfl⟩
abbrev main_v385 : Ref sig .tc := ⟨.hbm, 622, rfl⟩
abbrev main_v386 : Ref sig .tc := ⟨.hbm, 623, rfl⟩
abbrev main_v387 : Ref sig .tc := ⟨.hbm, 624, rfl⟩
abbrev main_v388 : Ref sig .tc := ⟨.hbm, 625, rfl⟩
abbrev main_v389 : Ref sig .tc := ⟨.hbm, 626, rfl⟩
abbrev main_v390 : Ref sig .tc := ⟨.hbm, 627, rfl⟩
abbrev main_v391 : Ref sig .tc := ⟨.hbm, 628, rfl⟩
abbrev main_v392 : Ref sig .tc := ⟨.hbm, 629, rfl⟩
abbrev main_v393 : Ref sig .tc := ⟨.hbm, 630, rfl⟩
abbrev main_v394 : Ref sig .tc := ⟨.hbm, 631, rfl⟩
abbrev main_v395 : Ref sig .tc := ⟨.hbm, 632, rfl⟩
abbrev main_v396 : Ref sig .tc := ⟨.hbm, 633, rfl⟩
abbrev main_v397 : Ref sig .tc := ⟨.hbm, 634, rfl⟩
abbrev main_v398 : Ref sig .tc := ⟨.hbm, 635, rfl⟩
abbrev main_v399 : Ref sig .tc := ⟨.hbm, 636, rfl⟩
abbrev main_v400 : Ref sig .tc := ⟨.hbm, 637, rfl⟩
abbrev main_v401 : Ref sig .tc := ⟨.hbm, 638, rfl⟩
abbrev main_v402 : Ref sig .tc := ⟨.hbm, 639, rfl⟩
abbrev main_cst_52 : Ref sig .tc := ⟨.hbm, 640, rfl⟩
abbrev main_v403 : Ref sig .tc := ⟨.hbm, 641, rfl⟩
abbrev main_v404 : Ref sig .tc := ⟨.hbm, 642, rfl⟩
abbrev main_v405 : Ref sig .tc := ⟨.hbm, 643, rfl⟩
abbrev main_v406 : Ref sig .tc := ⟨.hbm, 644, rfl⟩
abbrev main_v407 : Ref sig .tc := ⟨.hbm, 645, rfl⟩
abbrev main_v408 : Ref sig .tc := ⟨.hbm, 646, rfl⟩
abbrev main_v409 : Ref sig .tc := ⟨.hbm, 647, rfl⟩
abbrev main_cst_53 : Ref sig .tc := ⟨.hbm, 648, rfl⟩
abbrev main_v410 : Ref sig .tc := ⟨.hbm, 649, rfl⟩
abbrev main_v411 : Ref sig .tc := ⟨.hbm, 650, rfl⟩
abbrev main_v412 : Ref sig .tc := ⟨.hbm, 651, rfl⟩
abbrev main_v413 : Ref sig .tc := ⟨.hbm, 652, rfl⟩
abbrev main_v414 : Ref sig .tc := ⟨.hbm, 653, rfl⟩
abbrev main_v415 : Ref sig .tc := ⟨.hbm, 654, rfl⟩
abbrev main_v416 : Ref sig .tc := ⟨.hbm, 655, rfl⟩
abbrev main_v417 : Ref sig .tc := ⟨.hbm, 656, rfl⟩
abbrev main_v418 : Ref sig .tc := ⟨.hbm, 657, rfl⟩
abbrev main_v419 : Ref sig .tc := ⟨.hbm, 658, rfl⟩
abbrev main_v420 : Ref sig .tc := ⟨.hbm, 659, rfl⟩
abbrev main_v421 : Ref sig .tc := ⟨.hbm, 660, rfl⟩
abbrev main_v422 : Ref sig .tc := ⟨.hbm, 661, rfl⟩
abbrev main_v423 : Ref sig .tc := ⟨.hbm, 662, rfl⟩
abbrev main_v424 : Ref sig .tc := ⟨.hbm, 663, rfl⟩
abbrev main_cst_54 : Ref sig .tc := ⟨.hbm, 664, rfl⟩
abbrev main_v425 : Ref sig .tc := ⟨.hbm, 665, rfl⟩
abbrev main_cst_55 : Ref sig .tc := ⟨.hbm, 666, rfl⟩
abbrev main_v426 : Ref sig .tc := ⟨.hbm, 667, rfl⟩
abbrev main_v427 : Ref sig .tc := ⟨.hbm, 668, rfl⟩
abbrev main_v428 : Ref sig .tc := ⟨.hbm, 669, rfl⟩
abbrev main_v429 : Ref sig .tc := ⟨.hbm, 670, rfl⟩
abbrev main_v430 : Ref sig .tc := ⟨.hbm, 671, rfl⟩
abbrev main_v431 : Ref sig .tc := ⟨.hbm, 672, rfl⟩
abbrev main_v432 : Ref sig .tc := ⟨.hbm, 673, rfl⟩
abbrev main_v433 : Ref sig .tc := ⟨.hbm, 674, rfl⟩
abbrev main_v434 : Ref sig .tc := ⟨.hbm, 675, rfl⟩
abbrev main_v435 : Ref sig .tc := ⟨.hbm, 676, rfl⟩
abbrev main_v436 : Ref sig .tc := ⟨.hbm, 677, rfl⟩
abbrev main_v437 : Ref sig .tc := ⟨.hbm, 678, rfl⟩
abbrev main_v438 : Ref sig .tc := ⟨.hbm, 679, rfl⟩
abbrev main_v439 : Ref sig .tc := ⟨.hbm, 680, rfl⟩
abbrev main_v440 : Ref sig .tc := ⟨.hbm, 681, rfl⟩
abbrev main_v441 : Ref sig .tc := ⟨.hbm, 682, rfl⟩
abbrev main_cst_56 : Ref sig .tc := ⟨.hbm, 683, rfl⟩
abbrev main_v442 : Ref sig .tc := ⟨.hbm, 684, rfl⟩
abbrev main_cst_57 : Ref sig .tc := ⟨.hbm, 685, rfl⟩
abbrev main_v443 : Ref sig .tc := ⟨.hbm, 686, rfl⟩
abbrev main_v444 : Ref sig .tc := ⟨.hbm, 687, rfl⟩
abbrev main_v445 : Ref sig .tc := ⟨.hbm, 688, rfl⟩
abbrev main_v446 : Ref sig .tc := ⟨.hbm, 689, rfl⟩
abbrev main_v447 : Ref sig .tc := ⟨.hbm, 690, rfl⟩

abbrev nD : Nat := 1
abbrev τ : Topo := Topo.v7x

variable {F : FTy → Type} [FloatOps F]

abbrev main_while0_count : Scf.Loop 32 := ⟨0#32, 128#32, 1#32⟩
-- ==== Mlp.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x8192, .bf16⟩
  | .hbm, ⟨10, _⟩ => ⟨S8192x8192, .bf16⟩
  | .hbm, ⟨11, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== MlpReferenceIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S2048x8192, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x8192 : Shape := ⟨2, ![8192, 8192]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gdown.lean ====
abbrev S8192x8192 : Shape := ⟨2, ![8192, 8192]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8192x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownReferenceIdeal.lean ====
abbrev S8192x8192 : Shape := ⟨2, ![8192, 8192]⟩
abbrev S8192x2048 : Shape := ⟨2, ![8192, 2048]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S2048x8192, .f32⟩
  | .hbm, ⟨3, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Du.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x2048, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuReferenceIdeal.lean ====
abbrev S8192x8192 : Shape := ⟨2, ![8192, 8192]⟩
abbrev S2048x8192 : Shape := ⟨2, ![2048, 8192]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S2048x8192, .f32⟩
  | .hbm, ⟨2, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Gup.lean ====
abbrev S8192x2048 : Shape := ⟨2, ![8192, 2048]⟩
abbrev S8192x8192 : Shape := ⟨2, ![8192, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩
abbrev S2048x8x1024 : Shape := ⟨3, ![2048, 8, 1024]⟩
abbrev S2048x8192 : Shape := ⟨2, ![2048, 8192]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .bf16⟩
  | .hbm, ⟨3, _⟩ => ⟨S8192x8192, .bf16⟩
  | .hbm, ⟨4, _⟩ => ⟨S8x2048x1024, .f32⟩
  | .hbm, ⟨5, _⟩ => ⟨S2048x8x1024, .f32⟩
  | .hbm, ⟨6, _⟩ => ⟨S2048x8192, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupReferenceIdeal.lean ====
abbrev S8192x2048 : Shape := ⟨2, ![8192, 2048]⟩
abbrev S8192x8192 : Shape := ⟨2, ![8192, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x2048, .f32⟩
  | .hbm, ⟨3, _⟩ => ⟨S2048x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DuRet.lean ====
abbrev S8192x12288 : Shape := ⟨2, ![8192, 12288]⟩
abbrev S2048x12288 : Shape := ⟨2, ![2048, 12288]⟩
abbrev S12288x2048 : Shape := ⟨2, ![12288, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x12288, .f32⟩
  | .hbm, ⟨1, _⟩ => ⟨S2048x12288, .f32⟩
  | .hbm, ⟨2, _⟩ => ⟨S8192x12288, .bf16⟩
  | .hbm, ⟨3, _⟩ => ⟨S12288x2048, .f32⟩
  | .hbm, ⟨4, _⟩ => ⟨S12288x2048, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuRetReferenceIdeal.lean ====
abbrev S8192x12288 : Shape := ⟨2, ![8192, 12288]⟩
abbrev S2048x12288 : Shape := ⟨2, ![2048, 12288]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S2048x12288, .f32⟩
  | .hbm, ⟨2, _⟩ => ⟨S8192x2048, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GRetIn0.lean ====
abbrev S8192x2048 : Shape := ⟨2, ![8192, 2048]⟩
abbrev S8192x12288 : Shape := ⟨2, ![8192, 12288]⟩
abbrev S8x1024x1536 : Shape := ⟨3, ![8, 1024, 1536]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩
abbrev S1024x8x1536 : Shape := ⟨3, ![1024, 8, 1536]⟩
abbrev S1024x12288 : Shape := ⟨2, ![1024, 12288]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S8192x2048, .bf16⟩
  | .hbm, ⟨3, _⟩ => ⟨S8192x12288, .bf16⟩
  | .hbm, ⟨4, _⟩ => ⟨S8x1024x1536, .f32⟩
  | .hbm, ⟨5, _⟩ => ⟨S1024x8x1536, .f32⟩
  | .hbm, ⟨6, _⟩ => ⟨S1024x12288, .f32⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .f32⟩
  | .local _ .vmem, ⟨5, _⟩ => ⟨S1x512x1536, .f32⟩
  | .local _ .vmem, ⟨6, _⟩ => ⟨S512x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRetIn0ReferenceIdeal.lean ====
abbrev S8192x2048 : Shape := ⟨2, ![8192, 2048]⟩
abbrev S8192x12288 : Shape := ⟨2, ![8192, 12288]⟩
abbrev S12288x2048 : Shape := ⟨2, ![12288, 2048]⟩
abbrev S2048x12288 : Shape := ⟨2, ![2048, 12288]⟩
abbrev S1024x12288 : Shape := ⟨2, ![1024, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S12288x2048, .f32⟩
  | .hbm, ⟨3, _⟩ => ⟨S2048x12288, .f32⟩
  | .hbm, ⟨4, _⟩ => ⟨S1024x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GRetIn1.lean ====
abbrev S8192x2048 : Shape := ⟨2, ![8192, 2048]⟩
abbrev S8192x12288 : Shape := ⟨2, ![8192, 12288]⟩
abbrev S8x1024x1536 : Shape := ⟨3, ![8, 1024, 1536]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩
abbrev S1024x8x1536 : Shape := ⟨3, ![1024, 8, 1536]⟩
abbrev S1024x12288 : Shape := ⟨2, ![1024, 12288]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S8192x2048, .bf16⟩
  | .hbm, ⟨3, _⟩ => ⟨S8192x12288, .bf16⟩
  | .hbm, ⟨4, _⟩ => ⟨S8x1024x1536, .f32⟩
  | .hbm, ⟨5, _⟩ => ⟨S1024x8x1536, .f32⟩
  | .hbm, ⟨6, _⟩ => ⟨S1024x12288, .f32⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .f32⟩
  | .local _ .vmem, ⟨5, _⟩ => ⟨S1x512x1536, .f32⟩
  | .local _ .vmem, ⟨6, _⟩ => ⟨S512x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRetIn1ReferenceIdeal.lean ====
abbrev S8192x2048 : Shape := ⟨2, ![8192, 2048]⟩
abbrev S8192x12288 : Shape := ⟨2, ![8192, 12288]⟩
abbrev S12288x2048 : Shape := ⟨2, ![12288, 2048]⟩
abbrev S2048x12288 : Shape := ⟨2, ![2048, 12288]⟩
abbrev S1024x12288 : Shape := ⟨2, ![1024, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x12288, .f32⟩
  | .hbm, ⟨2, _⟩ => ⟨S12288x2048, .f32⟩
  | .hbm, ⟨3, _⟩ => ⟨S2048x12288, .f32⟩
  | .hbm, ⟨4, _⟩ => ⟨S1024x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DuSsd.lean ====
abbrev S8192x10368 : Shape := ⟨2, ![8192, 10368]⟩
abbrev S2048x10304 : Shape := ⟨2, ![2048, 10304]⟩
abbrev S10304x2048 : Shape := ⟨2, ![10304, 2048]⟩
abbrev S_ : Shape := ⟨0, ![]⟩
abbrev S10368x2048 : Shape := ⟨2, ![10368, 2048]⟩
abbrev S8192x2048 : Shape := ⟨2, ![8192, 2048]⟩
abbrev S1024x3456 : Shape := ⟨2, ![1024, 3456]⟩
abbrev S3456x1024 : Shape := ⟨2, ![3456, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x10368, .f32⟩
  | .hbm, ⟨1, _⟩ => ⟨S2048x10304, .f32⟩
  | .hbm, ⟨2, _⟩ => ⟨S10304x2048, .f32⟩
  | .hbm, ⟨3, _⟩ => ⟨S10304x2048, .bf16⟩
  | .hbm, ⟨4, _⟩ => ⟨S_, .i32⟩
  | .hbm, ⟨5, _⟩ => ⟨S_, .bf16⟩
  | .hbm, ⟨6, _⟩ => ⟨S10368x2048, .bf16⟩
  | .hbm, ⟨7, _⟩ => ⟨S8192x10368, .bf16⟩
  | .hbm, ⟨8, _⟩ => ⟨S8192x2048, .f32⟩
  | .local _ .vmem, ⟨0, _⟩ => ⟨S1024x3456, .bf16⟩
  | .local _ .vmem, ⟨1, _⟩ => ⟨S1024x3456, .bf16⟩
  | .local _ .vmem, ⟨2, _⟩ => ⟨S3456x1024, .bf16⟩
  | .local _ .vmem, ⟨3, _⟩ => ⟨S3456x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3456x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuSsdReferenceIdeal.lean ====
abbrev S8192x10368 : Shape := ⟨2, ![8192, 10368]⟩
abbrev S2048x10304 : Shape := ⟨2, ![2048, 10304]⟩
abbrev S8192x10304 : Shape := ⟨2, ![8192, 10304]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x10368, .f32⟩
  | .hbm, ⟨1, _⟩ => ⟨S2048x10304, .f32⟩
  | .hbm, ⟨2, _⟩ => ⟨S8192x10304, .f32⟩
  | .hbm, ⟨3, _⟩ => ⟨S8192x2048, .f32⟩
  | _, _ => ⟨S8192x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GSsdIn.lean ====
abbrev S8192x2048 : Shape := ⟨2, ![8192, 2048]⟩
abbrev S8192x10368 : Shape := ⟨2, ![8192, 10368]⟩
abbrev S10368x2048 : Shape := ⟨2, ![10368, 2048]⟩
abbrev S2048x1152 : Shape := ⟨2, ![2048, 1152]⟩
abbrev S2048x1024 : Shape := ⟨2, ![2048, 1024]⟩
abbrev S1152x1024 : Shape := ⟨2, ![1152, 1024]⟩
abbrev S10304x2048 : Shape := ⟨2, ![10304, 2048]⟩
abbrev S2048x10304 : Shape := ⟨2, ![2048, 10304]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x10368, .f32⟩
  | .hbm, ⟨2, _⟩ => ⟨S8192x10368, .bf16⟩
  | .hbm, ⟨3, _⟩ => ⟨S8192x2048, .bf16⟩
  | .hbm, ⟨4, _⟩ => ⟨S10368x2048, .f32⟩
  | .hbm, ⟨5, _⟩ => ⟨S10304x2048, .f32⟩
  | .hbm, ⟨6, _⟩ => ⟨S2048x10304, .f32⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GSsdInReferenceIdeal.lean ====
abbrev S8192x2048 : Shape := ⟨2, ![8192, 2048]⟩
abbrev S8192x10368 : Shape := ⟨2, ![8192, 10368]⟩
abbrev S8192x10304 : Shape := ⟨2, ![8192, 10304]⟩
abbrev S10304x2048 : Shape := ⟨2, ![10304, 2048]⟩
abbrev S2048x10304 : Shape := ⟨2, ![2048, 10304]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x10368, .f32⟩
  | .hbm, ⟨2, _⟩ => ⟨S8192x10304, .f32⟩
  | .hbm, ⟨3, _⟩ => ⟨S10304x2048, .f32⟩
  | .hbm, ⟨4, _⟩ => ⟨S2048x10304, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DyRet.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRetReferenceIdeal.lean ====
abbrev S8192x2048 : Shape := ⟨2, ![8192, 2048]⟩
abbrev S4096x2048 : Shape := ⟨2, ![4096, 2048]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GRetOut.lean ====
abbrev S8192x4096 : Shape := ⟨2, ![8192, 4096]⟩
abbrev S8192x2048 : Shape := ⟨2, ![8192, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRetOutReferenceIdeal.lean ====
abbrev S8192x4096 : Shape := ⟨2, ![8192, 4096]⟩
abbrev S8192x2048 : Shape := ⟨2, ![8192, 2048]⟩
abbrev S2048x4096 : Shape := ⟨2, ![2048, 4096]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S2048x4096, .f32⟩
  | .hbm, ⟨3, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DySsd.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DySsdReferenceIdeal.lean ====
abbrev S8192x2048 : Shape := ⟨2, ![8192, 2048]⟩
abbrev S4096x2048 : Shape := ⟨2, ![4096, 2048]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GSsdOut.lean ====
abbrev S8192x4096 : Shape := ⟨2, ![8192, 4096]⟩
abbrev S8192x2048 : Shape := ⟨2, ![8192, 2048]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GSsdOutReferenceIdeal.lean ====
abbrev S8192x4096 : Shape := ⟨2, ![8192, 4096]⟩
abbrev S8192x2048 : Shape := ⟨2, ![8192, 2048]⟩
abbrev S2048x4096 : Shape := ⟨2, ![2048, 4096]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S2048x4096, .f32⟩
  | .hbm, ⟨3, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SsdIn.lean ====
abbrev S8192x2048 : Shape := ⟨2, ![8192, 2048]⟩
abbrev S2048x10304 : Shape := ⟨2, ![2048, 10304]⟩
abbrev S10304x2048 : Shape := ⟨2, ![10304, 2048]⟩
abbrev S_ : Shape := ⟨0, ![]⟩
abbrev S10368x2048 : Shape := ⟨2, ![10368, 2048]⟩
abbrev S8192x10368 : Shape := ⟨2, ![8192, 10368]⟩
abbrev S1024x2048 : Shape := ⟨2, ![1024, 2048]⟩
abbrev S1152x2048 : Shape := ⟨2, ![1152, 2048]⟩
abbrev S1024x1152 : Shape := ⟨2, ![1024, 1152]⟩
abbrev S8192x10304 : Shape := ⟨2, ![8192, 10304]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S10304x2048, .f32⟩
  | .hbm, ⟨3, _⟩ => ⟨S10304x2048, .bf16⟩
  | .hbm, ⟨4, _⟩ => ⟨S_, .i32⟩
  | .hbm, ⟨5, _⟩ => ⟨S_, .bf16⟩
  | .hbm, ⟨6, _⟩ => ⟨S10368x2048, .bf16⟩
  | .hbm, ⟨7, _⟩ => ⟨S8192x2048, .bf16⟩
  | .hbm, ⟨8, _⟩ => ⟨S8192x10368, .f32⟩
  | .hbm, ⟨9, _⟩ => ⟨S8192x10304, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .f32⟩
  | .local _ .vmem, ⟨5, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInReferenceIdeal.lean ====
abbrev S8192x2048 : Shape := ⟨2, ![8192, 2048]⟩
abbrev S2048x10304 : Shape := ⟨2, ![2048, 10304]⟩
abbrev S8192x10304 : Shape := ⟨2, ![8192, 10304]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x10304, .f32⟩
  | .hbm, ⟨2, _⟩ => ⟨S8192x10304, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RetOut.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetOutReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsdOut.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ret.Names.lean ====
/- The tiles, the boxes of the result and the cells of the retention backward pass's own copies. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## The buffers the body moves by its own copies

The body keeps four pairs of tiles (one pair for each of the gradients of q, k, v and the gate) and copies each step's four
tiles into four boxes of the result `dp`, on the cells of a 2 × 4 array of semaphores. -/

abbrev scS : Memref sig .tc .vmem S256x512 .f32 := Memref.whole cc0_scratch0
abbrev scQ : Memref sig .tc .vmem S2x512x256 .bf16 := Memref.whole cc0_scratch1
abbrev scK : Memref sig .tc .vmem S2x512x256 .bf16 := Memref.whole cc0_scratch2
abbrev scV : Memref sig .tc .vmem S2x512x512 .bf16 := Memref.whole cc0_scratch3
abbrev scG : Memref sig .tc .vmem S2x512x512 .bf16 := Memref.whole cc0_scratch4
abbrev dpM : Memref sig .tc .hbm S8192x12288 .bf16 := Memref.whole main_v23_0

instance : NeZero grid0.N := ⟨by rw [N_0]; decide⟩

theorem inbTileA (g : Fin 2) : ∀ a, (![g.val, 0, 0] : Fin 3 → Nat) a + S1x512x256.size a ≤ S2x512x256.size a := by
  have := g.isLt; intro a; fin_cases a <;> simp <;> omega
theorem inbTileB (g : Fin 2) : ∀ a, (![g.val, 0, 0] : Fin 3 → Nat) a + S1x512x512.size a ≤ S2x512x512.size a := by
  have := g.isLt; intro a; fin_cases a <;> simp <;> omega
theorem inbCell (g : Fin 2) (j : Fin 4) : ∀ a, (![g.val, j.val] : Fin 2 → Nat) a + S1x1.size a ≤ S2x4.size a := by
  have := g.isLt; have := j.isLt; intro a; fin_cases a <;> simp <;> omega

/-- Where step `u`'s narrow box `b` starts (0: the gradient of q, 1: of k): the rows go down as the steps go up. -/
abbrev offA (b : Fin 2) (u : Fin 128) : Fin 2 → Nat := ![512 * (15 - u.val % 16), 2048 * b.val + 256 * (u.val / 16)]
/-- Where step `u`'s wide box `b` starts (0: the gradient of v, 1: of the gate). -/
abbrev offB (b : Fin 2) (u : Fin 128) : Fin 2 → Nat := ![512 * (15 - u.val % 16), 4096 + 4096 * b.val + 512 * (u.val / 16)]
theorem inbPieceA (b : Fin 2) (u : Fin 128) : ∀ a, offA b u a + S512x256.size a ≤ S8192x12288.size a := by
  have := u.isLt; have := b.isLt; intro a; fin_cases a <;> simp [offA] <;> omega
theorem inbPieceB (b : Fin 2) (u : Fin 128) : ∀ a, offB b u a + S512x512.size a ≤ S8192x12288.size a := by
  have := u.isLt; have := b.isLt; intro a; fin_cases a <;> simp [offB] <;> omega

/-- Slot `g` of a pair of narrow tiles. -/
def tileA (M : Memref sig .tc .vmem S2x512x256 .bf16) (g : Fin 2) : Memref sig .tc .vmem S512x256 .bf16 :=
  (M.slice (Rect.unit (s := S2x512x256) ![g.val, 0, 0] S1x512x256.size (inbTileA g)) (fun _ => rfl)).squeeze S512x256 squeezes_S1x512x256_S512x256
/-- Slot `g` of a pair of wide tiles. -/
def tileB (M : Memref sig .tc .vmem S2x512x512 .bf16) (g : Fin 2) : Memref sig .tc .vmem S512x512 .bf16 :=
  (M.slice (Rect.unit (s := S2x512x512) ![g.val, 0, 0] S1x512x512.size (inbTileB g)) (fun _ => rfl)).squeeze S512x512 squeezes_S1x512x512_S512x512
/-- Step `u`'s narrow box `b` of the result. -/
def pieceA (b : Fin 2) (u : Fin 128) : Memref sig .tc .hbm S512x256 .bf16 :=
  dpM.slice (Rect.unit (s := S8192x12288) (offA b u) S512x256.size (inbPieceA b u)) (fun _ => rfl)
/-- Step `u`'s wide box `b` of the result. -/
def pieceB (b : Fin 2) (u : Fin 128) : Memref sig .tc .hbm S512x512 .bf16 :=
  dpM.slice (Rect.unit (s := S8192x12288) (offB b u) S512x512.size (inbPieceB b u)) (fun _ => rfl)
/-- Cell (g, j): the one the copy of slot `g`'s tile `j` is counted on. -/
def cellD (g : Fin 2) (j : Fin 4) : DmaSems sig S_ :=
  (cc0_scratch5.slice (Rect.unit (s := S2x4) ![g.val, j.val] S1x1.size (inbCell g j))).squeeze S_ squeezes_S1x1_S_
abbrev cellR (g : Fin 2) (j : Fin 4) : SemLoc sig := SemLoc.dma (cellD g j).sem

/-! ## The names the body gives them -/

section Canon
omit [FloatOps F]

theorem tileA_canon (M : Memref sig .tc .vmem S2x512x256 .bf16) {o : Fin 3 → Nat} (g : Fin 2) (h : o = ![g.val, 0, 0])
    (hb : ∀ a, o a + S1x512x256.size a ≤ S2x512x256.size a) :
    (M.slice (Rect.unit (s := S2x512x256) o S1x512x256.size hb) (fun _ => rfl)).squeeze S512x256 squeezes_S1x512x256_S512x256 = tileA M g := by
  subst h; rfl
theorem tileB_canon (M : Memref sig .tc .vmem S2x512x512 .bf16) {o : Fin 3 → Nat} (g : Fin 2) (h : o = ![g.val, 0, 0])
    (hb : ∀ a, o a + S1x512x512.size a ≤ S2x512x512.size a) :
    (M.slice (Rect.unit (s := S2x512x512) o S1x512x512.size hb) (fun _ => rfl)).squeeze S512x512 squeezes_S1x512x512_S512x512 = tileB M g := by
  subst h; rfl
theorem pieceA_canon {o : Fin 2 → Nat} (b : Fin 2) (u : Fin 128) (h : o = offA b u)
    (hb : ∀ a, o a + S512x256.size a ≤ S8192x12288.size a) :
    dpM.slice (Rect.unit (s := S8192x12288) o S512x256.size hb) (fun _ => rfl) = pieceA b u := by subst h; rfl
theorem pieceB_canon {o : Fin 2 → Nat} (b : Fin 2) (u : Fin 128) (h : o = offB b u)
    (hb : ∀ a, o a + S512x512.size a ≤ S8192x12288.size a) :
    dpM.slice (Rect.unit (s := S8192x12288) o S512x512.size hb) (fun _ => rfl) = pieceB b u := by subst h; rfl
theorem cell_canon {o : Fin 2 → Nat} (g : Fin 2) (j : Fin 4) (h : o = ![g.val, j.val])
    (hb : ∀ a, o a + S1x1.size a ≤ S2x4.size a) :
    (cc0_scratch5.slice (Rect.unit (s := S2x4) o S1x1.size hb)).squeeze S_ squeezes_S1x1_S_ = cellD g j := by subst h; rfl

set_option synthInstance.maxSize 4096 in
theorem co_tileA_3 : ∀ t : Fin grid0.N, k0_cond1 (grid0.coords t) = 1#1 → k0_off3 (grid0.coords t) = ![(Ring.sl 2 t.val).val, 0, 0] := by decide +kernel
@[sl_canon] theorem ca_tileA_3 (M : Memref sig .tc .vmem S2x512x256 .bf16) (t : Fin grid0.N) (h : k0_cond1 (grid0.coords t) = 1#1) :
    (M.slice (Rect.unit (s := S2x512x256) (k0_off3 (grid0.coords t)) S1x512x256.size (k0_off3_inb (grid0.coords t) h)) (fun _ => rfl)).squeeze S512x256 squeezes_S1x512x256_S512x256 = tileA M (Ring.sl 2 t.val) :=
  tileA_canon M _ (co_tileA_3 t h) _
@[sl_canon] theorem ca_tileA_3' (M : Memref sig .tc .vmem S2x512x256 .bf16) (t : Fin grid0.N) (h : k0_cond1 (grid0.coords t) = 1#1) :
    (M.slice (Rect.unit (s := S2x512x256) (k0_off3 (grid0.coords t)) ![1, 512, 256] (k0_off3_inb (grid0.coords t) h)) (fun _ => rfl)).squeeze S512x256 squeezes_S1x512x256_S512x256 = tileA M (Ring.sl 2 t.val) :=
  tileA_canon M _ (co_tileA_3 t h) _
set_option synthInstance.maxSize 4096 in
theorem co_tileA_16 : ∀ t : Fin grid0.N, k0_off16 (grid0.coords t) = ![(Ring.sl 2 t.val).val, 0, 0] := by decide +kernel
@[sl_canon] theorem ca_tileA_16 (M : Memref sig .tc .vmem S2x512x256 .bf16) (t : Fin grid0.N) :
    (M.slice (Rect.unit (s := S2x512x256) (k0_off16 (grid0.coords t)) S1x512x256.size (k0_off16_inb (grid0.coords t))) (fun _ => rfl)).squeeze S512x256 squeezes_S1x512x256_S512x256 = tileA M (Ring.sl 2 t.val) :=
  tileA_canon M _ (co_tileA_16 t) _
@[sl_canon] theorem ca_tileA_16' (M : Memref sig .tc .vmem S2x512x256 .bf16) (t : Fin grid0.N) :
    (M.slice (Rect.unit (s := S2x512x256) (k0_off16 (grid0.coords t)) ![1, 512, 256] (k0_off16_inb (grid0.coords t))) (fun _ => rfl)).squeeze S512x256 squeezes_S1x512x256_S512x256 = tileA M (Ring.sl 2 t.val) :=
  tileA_canon M _ (co_tileA_16 t) _
set_option synthInstance.maxSize 4096 in
theorem co_tileA_26 : ∀ t : Fin grid0.N, k0_cond3 (grid0.coords t) = 1#1 → k0_off26 (grid0.coords t) = ![(Ring.sl 2 (t.val + 1)).val, 0, 0] := by decide +kernel
@[sl_canon] theorem ca_tileA_26 (M : Memref sig .tc .vmem S2x512x256 .bf16) (t : Fin grid0.N) (h : k0_cond3 (grid0.coords t) = 1#1) :
    (M.slice (Rect.unit (s := S2x512x256) (k0_off26 (grid0.coords t)) S1x512x256.size (k0_off26_inb (grid0.coords t) h)) (fun _ => rfl)).squeeze S512x256 squeezes_S1x512x256_S512x256 = tileA M (Ring.sl 2 (t.val + 1)) :=
  tileA_canon M _ (co_tileA_26 t h) _
@[sl_canon] theorem ca_tileA_26' (M : Memref sig .tc .vmem S2x512x256 .bf16) (t : Fin grid0.N) (h : k0_cond3 (grid0.coords t) = 1#1) :
    (M.slice (Rect.unit (s := S2x512x256) (k0_off26 (grid0.coords t)) ![1, 512, 256] (k0_off26_inb (grid0.coords t) h)) (fun _ => rfl)).squeeze S512x256 squeezes_S1x512x256_S512x256 = tileA M (Ring.sl 2 (t.val + 1)) :=
  tileA_canon M _ (co_tileA_26 t h) _
set_option synthInstance.maxSize 4096 in
theorem co_tileA_34 : ∀ t : Fin grid0.N, k0_cond3 (grid0.coords t) = 1#1 → k0_off34 (grid0.coords t) = ![(Ring.sl 2 t.val).val, 0, 0] := by decide +kernel
@[sl_canon] theorem ca_tileA_34 (M : Memref sig .tc .vmem S2x512x256 .bf16) (t : Fin grid0.N) (h : k0_cond3 (grid0.coords t) = 1#1) :
    (M.slice (Rect.unit (s := S2x512x256) (k0_off34 (grid0.coords t)) S1x512x256.size (k0_off34_inb (grid0.coords t) h)) (fun _ => rfl)).squeeze S512x256 squeezes_S1x512x256_S512x256 = tileA M (Ring.sl 2 t.val) :=
  tileA_canon M _ (co_tileA_34 t h) _
@[sl_canon] theorem ca_tileA_34' (M : Memref sig .tc .vmem S2x512x256 .bf16) (t : Fin grid0.N) (h : k0_cond3 (grid0.coords t) = 1#1) :
    (M.slice (Rect.unit (s := S2x512x256) (k0_off34 (grid0.coords t)) ![1, 512, 256] (k0_off34_inb (grid0.coords t) h)) (fun _ => rfl)).squeeze S512x256 squeezes_S1x512x256_S512x256 = tileA M (Ring.sl 2 t.val) :=
  tileA_canon M _ (co_tileA_34 t h) _
set_option synthInstance.maxSize 4096 in
theorem co_tileB_7 : ∀ t : Fin grid0.N, k0_cond1 (grid0.coords t) = 1#1 → k0_off7 (grid0.coords t) = ![(Ring.sl 2 t.val).val, 0, 0] := by decide +kernel
@[sl_canon] theorem ca_tileB_7 (M : Memref sig .tc .vmem S2x512x512 .bf16) (t : Fin grid0.N) (h : k0_cond1 (grid0.coords t) = 1#1) :
    (M.slice (Rect.unit (s := S2x512x512) (k0_off7 (grid0.coords t)) S1x512x512.size (k0_off7_inb (grid0.coords t) h)) (fun _ => rfl)).squeeze S512x512 squeezes_S1x512x512_S512x512 = tileB M (Ring.sl 2 t.val) :=
  tileB_canon M _ (co_tileB_7 t h) _
@[sl_canon] theorem ca_tileB_7' (M : Memref sig .tc .vmem S2x512x512 .bf16) (t : Fin grid0.N) (h : k0_cond1 (grid0.coords t) = 1#1) :
    (M.slice (Rect.unit (s := S2x512x512) (k0_off7 (grid0.coords t)) ![1, 512, 512] (k0_off7_inb (grid0.coords t) h)) (fun _ => rfl)).squeeze S512x512 squeezes_S1x512x512_S512x512 = tileB M (Ring.sl 2 t.val) :=
  tileB_canon M _ (co_tileB_7 t h) _
set_option synthInstance.maxSize 4096 in
theorem co_tileB_13 : ∀ t : Fin grid0.N, k0_off13 (grid0.coords t) = ![(Ring.sl 2 t.val).val, 0, 0] := by decide +kernel
@[sl_canon] theorem ca_tileB_13 (M : Memref sig .tc .vmem S2x512x512 .bf16) (t : Fin grid0.N) :
    (M.slice (Rect.unit (s := S2x512x512) (k0_off13 (grid0.coords t)) S1x512x512.size (k0_off13_inb (grid0.coords t))) (fun _ => rfl)).squeeze S512x512 squeezes_S1x512x512_S512x512 = tileB M (Ring.sl 2 t.val) :=
  tileB_canon M _ (co_tileB_13 t) _
@[sl_canon] theorem ca_tileB_13' (M : Memref sig .tc .vmem S2x512x512 .bf16) (t : Fin grid0.N) :
    (M.slice (Rect.unit (s := S2x512x512) (k0_off13 (grid0.coords t)) ![1, 512, 512] (k0_off13_inb (grid0.coords t))) (fun _ => rfl)).squeeze S512x512 squeezes_S1x512x512_S512x512 = tileB M (Ring.sl 2 t.val) :=
  tileB_canon M _ (co_tileB_13 t) _
set_option synthInstance.maxSize 4096 in
theorem co_tileB_30 : ∀ t : Fin grid0.N, k0_cond3 (grid0.coords t) = 1#1 → k0_off30 (grid0.coords t) = ![(Ring.sl 2 (t.val + 1)).val, 0, 0] := by decide +kernel
@[sl_canon] theorem ca_tileB_30 (M : Memref sig .tc .vmem S2x512x512 .bf16) (t : Fin grid0.N) (h : k0_cond3 (grid0.coords t) = 1#1) :
    (M.slice (Rect.unit (s := S2x512x512) (k0_off30 (grid0.coords t)) S1x512x512.size (k0_off30_inb (grid0.coords t) h)) (fun _ => rfl)).squeeze S512x512 squeezes_S1x512x512_S512x512 = tileB M (Ring.sl 2 (t.val + 1)) :=
  tileB_canon M _ (co_tileB_30 t h) _
@[sl_canon] theorem ca_tileB_30' (M : Memref sig .tc .vmem S2x512x512 .bf16) (t : Fin grid0.N) (h : k0_cond3 (grid0.coords t) = 1#1) :
    (M.slice (Rect.unit (s := S2x512x512) (k0_off30 (grid0.coords t)) ![1, 512, 512] (k0_off30_inb (grid0.coords t) h)) (fun _ => rfl)).squeeze S512x512 squeezes_S1x512x512_S512x512 = tileB M (Ring.sl 2 (t.val + 1)) :=
  tileB_canon M _ (co_tileB_30 t h) _
set_option synthInstance.maxSize 4096 in
theorem co_tileB_38 : ∀ t : Fin grid0.N, k0_cond3 (grid0.coords t) = 1#1 → k0_off38 (grid0.coords t) = ![(Ring.sl 2 t.val).val, 0, 0] := by decide +kernel
@[sl_canon] theorem ca_tileB_38 (M : Memref sig .tc .vmem S2x512x512 .bf16) (t : Fin grid0.N) (h : k0_cond3 (grid0.coords t) = 1#1) :
    (M.slice (Rect.unit (s := S2x512x512) (k0_off38 (grid0.coords t)) S1x512x512.size (k0_off38_inb (grid0.coords t) h)) (fun _ => rfl)).squeeze S512x512 squeezes_S1x512x512_S512x512 = tileB M (Ring.sl 2 t.val) :=
  tileB_canon M _ (co_tileB_38 t h) _
@[sl_canon] theorem ca_tileB_38' (M : Memref sig .tc .vmem S2x512x512 .bf16) (t : Fin grid0.N) (h : k0_cond3 (grid0.coords t) = 1#1) :
    (M.slice (Rect.unit (s := S2x512x512) (k0_off38 (grid0.coords t)) ![1, 512, 512] (k0_off38_inb (grid0.coords t) h)) (fun _ => rfl)).squeeze S512x512 squeezes_S1x512x512_S512x512 = tileB M (Ring.sl 2 t.val) :=
  tileB_canon M _ (co_tileB_38 t h) _
set_option synthInstance.maxSize 4096 in
theorem co_cell_1 : ∀ t : Fin grid0.N, k0_cond1 (grid0.coords t) = 1#1 → k0_off1 (grid0.coords t) = ![(Ring.sl 2 t.val).val, 0] := by decide +kernel
@[sl_canon] theorem ca_cell_1 (t : Fin grid0.N) (h : k0_cond1 (grid0.coords t) = 1#1) :
    (cc0_scratch5.slice (Rect.unit (s := S2x4) (k0_off1 (grid0.coords t)) S1x1.size (k0_off1_inb (grid0.coords t) h))).squeeze S_ squeezes_S1x1_S_ = cellD (Ring.sl 2 t.val) 0 :=
  cell_canon _ 0 (co_cell_1 t h) _
@[sl_canon] theorem ca_cell_1' (t : Fin grid0.N) (h : k0_cond1 (grid0.coords t) = 1#1) :
    (cc0_scratch5.slice (Rect.unit (s := S2x4) (k0_off1 (grid0.coords t)) ![1, 1] (k0_off1_inb (grid0.coords t) h))).squeeze S_ squeezes_S1x1_S_ = cellD (Ring.sl 2 t.val) 0 :=
  cell_canon _ 0 (co_cell_1 t h) _
set_option synthInstance.maxSize 4096 in
theorem co_cell_4 : ∀ t : Fin grid0.N, k0_cond1 (grid0.coords t) = 1#1 → k0_off4 (grid0.coords t) = ![(Ring.sl 2 t.val).val, 1] := by decide +kernel
@[sl_canon] theorem ca_cell_4 (t : Fin grid0.N) (h : k0_cond1 (grid0.coords t) = 1#1) :
    (cc0_scratch5.slice (Rect.unit (s := S2x4) (k0_off4 (grid0.coords t)) S1x1.size (k0_off4_inb (grid0.coords t) h))).squeeze S_ squeezes_S1x1_S_ = cellD (Ring.sl 2 t.val) 1 :=
  cell_canon _ 1 (co_cell_4 t h) _
@[sl_canon] theorem ca_cell_4' (t : Fin grid0.N) (h : k0_cond1 (grid0.coords t) = 1#1) :
    (cc0_scratch5.slice (Rect.unit (s := S2x4) (k0_off4 (grid0.coords t)) ![1, 1] (k0_off4_inb (grid0.coords t) h))).squeeze S_ squeezes_S1x1_S_ = cellD (Ring.sl 2 t.val) 1 :=
  cell_canon _ 1 (co_cell_4 t h) _
set_option synthInstance.maxSize 4096 in
theorem co_cell_5 : ∀ t : Fin grid0.N, k0_cond1 (grid0.coords t) = 1#1 → k0_off5 (grid0.coords t) = ![(Ring.sl 2 t.val).val, 2] := by decide +kernel
@[sl_canon] theorem ca_cell_5 (t : Fin grid0.N) (h : k0_cond1 (grid0.coords t) = 1#1) :
    (cc0_scratch5.slice (Rect.unit (s := S2x4) (k0_off5 (grid0.coords t)) S1x1.size (k0_off5_inb (grid0.coords t) h))).squeeze S_ squeezes_S1x1_S_ = cellD (Ring.sl 2 t.val) 2 :=
  cell_canon _ 2 (co_cell_5 t h) _
@[sl_canon] theorem ca_cell_5' (t : Fin grid0.N) (h : k0_cond1 (grid0.coords t) = 1#1) :
    (cc0_scratch5.slice (Rect.unit (s := S2x4) (k0_off5 (grid0.coords t)) ![1, 1] (k0_off5_inb (grid0.coords t) h))).squeeze S_ squeezes_S1x1_S_ = cellD (Ring.sl 2 t.val) 2 :=
  cell_canon _ 2 (co_cell_5 t h) _
set_option synthInstance.maxSize 4096 in
theorem co_cell_8 : ∀ t : Fin grid0.N, k0_cond1 (grid0.coords t) = 1#1 → k0_off8 (grid0.coords t) = ![(Ring.sl 2 t.val).val, 3] := by decide +kernel
@[sl_canon] theorem ca_cell_8 (t : Fin grid0.N) (h : k0_cond1 (grid0.coords t) = 1#1) :
    (cc0_scratch5.slice (Rect.unit (s := S2x4) (k0_off8 (grid0.coords t)) S1x1.size (k0_off8_inb (grid0.coords t) h))).squeeze S_ squeezes_S1x1_S_ = cellD (Ring.sl 2 t.val) 3 :=
  cell_canon _ 3 (co_cell_8 t h) _
@[sl_canon] theorem ca_cell_8' (t : Fin grid0.N) (h : k0_cond1 (grid0.coords t) = 1#1) :
    (cc0_scratch5.slice (Rect.unit (s := S2x4) (k0_off8 (grid0.coords t)) ![1, 1] (k0_off8_inb (grid0.coords t) h))).squeeze S_ squeezes_S1x1_S_ = cellD (Ring.sl 2 t.val) 3 :=
  cell_canon _ 3 (co_cell_8 t h) _
set_option synthInstance.maxSize 4096 in
theorem co_cell_18 : ∀ t : Fin grid0.N, k0_off18 (grid0.coords t) = ![(Ring.sl 2 t.val).val, 0] := by decide +kernel
@[sl_canon] theorem ca_cell_18 (t : Fin grid0.N) :
    (cc0_scratch5.slice (Rect.unit (s := S2x4) (k0_off18 (grid0.coords t)) S1x1.size (k0_off18_inb (grid0.coords t)))).squeeze S_ squeezes_S1x1_S_ = cellD (Ring.sl 2 t.val) 0 :=
  cell_canon _ 0 (co_cell_18 t) _
@[sl_canon] theorem ca_cell_18' (t : Fin grid0.N) :
    (cc0_scratch5.slice (Rect.unit (s := S2x4) (k0_off18 (grid0.coords t)) ![1, 1] (k0_off18_inb (grid0.coords t)))).squeeze S_ squeezes_S1x1_S_ = cellD (Ring.sl 2 t.val) 0 :=
  cell_canon _ 0 (co_cell_18 t) _
set_option synthInstance.maxSize 4096 in
theorem co_cell_20 : ∀ t : Fin grid0.N, k0_off20 (grid0.coords t) = ![(Ring.sl 2 t.val).val, 1] := by decide +kernel
@[sl_canon] theorem ca_cell_20 (t : Fin grid0.N) :
    (cc0_scratch5.slice (Rect.unit (s := S2x4) (k0_off20 (grid0.coords t)) S1x1.size (k0_off20_inb (grid0.coords t)))).squeeze S_ squeezes_S1x1_S_ = cellD (Ring.sl 2 t.val) 1 :=
  cell_canon _ 1 (co_cell_20 t) _
@[sl_canon] theorem ca_cell_20' (t : Fin grid0.N) :
    (cc0_scratch5.slice (Rect.unit (s := S2x4) (k0_off20 (grid0.coords t)) ![1, 1] (k0_off20_inb (grid0.coords t)))).squeeze S_ squeezes_S1x1_S_ = cellD (Ring.sl 2 t.val) 1 :=
  cell_canon _ 1 (co_cell_20 t) _
set_option synthInstance.maxSize 4096 in
theorem co_cell_21 : ∀ t : Fin grid0.N, k0_off21 (grid0.coords t) = ![(Ring.sl 2 t.val).val, 2] := by decide +kernel
@[sl_canon] theorem ca_cell_21 (t : Fin grid0.N) :
    (cc0_scratch5.slice (Rect.unit (s := S2x4) (k0_off21 (grid0.coords t)) S1x1.size (k0_off21_inb (grid0.coords t)))).squeeze S_ squeezes_S1x1_S_ = cellD (Ring.sl 2 t.val) 2 :=
  cell_canon _ 2 (co_cell_21 t) _
@[sl_canon] theorem ca_cell_21' (t : Fin grid0.N) :
    (cc0_scratch5.slice (Rect.unit (s := S2x4) (k0_off21 (grid0.coords t)) ![1, 1] (k0_off21_inb (grid0.coords t)))).squeeze S_ squeezes_S1x1_S_ = cellD (Ring.sl 2 t.val) 2 :=
  cell_canon _ 2 (co_cell_21 t) _
set_option synthInstance.maxSize 4096 in
theorem co_cell_23 : ∀ t : Fin grid0.N, k0_off23 (grid0.coords t) = ![(Ring.sl 2 t.val).val, 3] := by decide +kernel
@[sl_canon] theorem ca_cell_23 (t : Fin grid0.N) :
    (cc0_scratch5.slice (Rect.unit (s := S2x4) (k0_off23 (grid0.coords t)) S1x1.size (k0_off23_inb (grid0.coords t)))).squeeze S_ squeezes_S1x1_S_ = cellD (Ring.sl 2 t.val) 3 :=
  cell_canon _ 3 (co_cell_23 t) _
@[sl_canon] theorem ca_cell_23' (t : Fin grid0.N) :
    (cc0_scratch5.slice (Rect.unit (s := S2x4) (k0_off23 (grid0.coords t)) ![1, 1] (k0_off23_inb (grid0.coords t)))).squeeze S_ squeezes_S1x1_S_ = cellD (Ring.sl 2 t.val) 3 :=
  cell_canon _ 3 (co_cell_23 t) _
set_option synthInstance.maxSize 4096 in
theorem co_cell_24 : ∀ t : Fin grid0.N, k0_cond3 (grid0.coords t) = 1#1 → k0_off24 (grid0.coords t) = ![(Ring.sl 2 (t.val + 1)).val, 0] := by decide +kernel
@[sl_canon] theorem ca_cell_24 (t : Fin grid0.N) (h : k0_cond3 (grid0.coords t) = 1#1) :
    (cc0_scratch5.slice (Rect.unit (s := S2x4) (k0_off24 (grid0.coords t)) S1x1.size (k0_off24_inb (grid0.coords t) h))).squeeze S_ squeezes_S1x1_S_ = cellD (Ring.sl 2 (t.val + 1)) 0 :=
  cell_canon _ 0 (co_cell_24 t h) _
@[sl_canon] theorem ca_cell_24' (t : Fin grid0.N) (h : k0_cond3 (grid0.coords t) = 1#1) :
    (cc0_scratch5.slice (Rect.unit (s := S2x4) (k0_off24 (grid0.coords t)) ![1, 1] (k0_off24_inb (grid0.coords t) h))).squeeze S_ squeezes_S1x1_S_ = cellD (Ring.sl 2 (t.val + 1)) 0 :=
  cell_canon _ 0 (co_cell_24 t h) _
set_option synthInstance.maxSize 4096 in
theorem co_cell_27 : ∀ t : Fin grid0.N, k0_cond3 (grid0.coords t) = 1#1 → k0_off27 (grid0.coords t) = ![(Ring.sl 2 (t.val + 1)).val, 1] := by decide +kernel
@[sl_canon] theorem ca_cell_27 (t : Fin grid0.N) (h : k0_cond3 (grid0.coords t) = 1#1) :
    (cc0_scratch5.slice (Rect.unit (s := S2x4) (k0_off27 (grid0.coords t)) S1x1.size (k0_off27_inb (grid0.coords t) h))).squeeze S_ squeezes_S1x1_S_ = cellD (Ring.sl 2 (t.val + 1)) 1 :=
  cell_canon _ 1 (co_cell_27 t h) _
@[sl_canon] theorem ca_cell_27' (t : Fin grid0.N) (h : k0_cond3 (grid0.coords t) = 1#1) :
    (cc0_scratch5.slice (Rect.unit (s := S2x4) (k0_off27 (grid0.coords t)) ![1, 1] (k0_off27_inb (grid0.coords t) h))).squeeze S_ squeezes_S1x1_S_ = cellD (Ring.sl 2 (t.val + 1)) 1 :=
  cell_canon _ 1 (co_cell_27 t h) _
set_option synthInstance.maxSize 4096 in
theorem co_cell_28 : ∀ t : Fin grid0.N, k0_cond3 (grid0.coords t) = 1#1 → k0_off28 (grid0.coords t) = ![(Ring.sl 2 (t.val + 1)).val, 2] := by decide +kernel
@[sl_canon] theorem ca_cell_28 (t : Fin grid0.N) (h : k0_cond3 (grid0.coords t) = 1#1) :
    (cc0_scratch5.slice (Rect.unit (s := S2x4) (k0_off28 (grid0.coords t)) S1x1.size (k0_off28_inb (grid0.coords t) h))).squeeze S_ squeezes_S1x1_S_ = cellD (Ring.sl 2 (t.val + 1)) 2 :=
  cell_canon _ 2 (co_cell_28 t h) _
@[sl_canon] theorem ca_cell_28' (t : Fin grid0.N) (h : k0_cond3 (grid0.coords t) = 1#1) :
    (cc0_scratch5.slice (Rect.unit (s := S2x4) (k0_off28 (grid0.coords t)) ![1, 1] (k0_off28_inb (grid0.coords t) h))).squeeze S_ squeezes_S1x1_S_ = cellD (Ring.sl 2 (t.val + 1)) 2 :=
  cell_canon _ 2 (co_cell_28 t h) _
set_option synthInstance.maxSize 4096 in
theorem co_cell_31 : ∀ t : Fin grid0.N, k0_cond3 (grid0.coords t) = 1#1 → k0_off31 (grid0.coords t) = ![(Ring.sl 2 (t.val + 1)).val, 3] := by decide +kernel
@[sl_canon] theorem ca_cell_31 (t : Fin grid0.N) (h : k0_cond3 (grid0.coords t) = 1#1) :
    (cc0_scratch5.slice (Rect.unit (s := S2x4) (k0_off31 (grid0.coords t)) S1x1.size (k0_off31_inb (grid0.coords t) h))).squeeze S_ squeezes_S1x1_S_ = cellD (Ring.sl 2 (t.val + 1)) 3 :=
  cell_canon _ 3 (co_cell_31 t h) _
@[sl_canon] theorem ca_cell_31' (t : Fin grid0.N) (h : k0_cond3 (grid0.coords t) = 1#1) :
    (cc0_scratch5.slice (Rect.unit (s := S2x4) (k0_off31 (grid0.coords t)) ![1, 1] (k0_off31_inb (grid0.coords t) h))).squeeze S_ squeezes_S1x1_S_ = cellD (Ring.sl 2 (t.val + 1)) 3 :=
  cell_canon _ 3 (co_cell_31 t h) _
set_option synthInstance.maxSize 4096 in
theorem co_cell_32 : ∀ t : Fin grid0.N, k0_cond3 (grid0.coords t) = 1#1 → k0_off32 (grid0.coords t) = ![(Ring.sl 2 t.val).val, 0] := by decide +kernel
@[sl_canon] theorem ca_cell_32 (t : Fin grid0.N) (h : k0_cond3 (grid0.coords t) = 1#1) :
    (cc0_scratch5.slice (Rect.unit (s := S2x4) (k0_off32 (grid0.coords t)) S1x1.size (k0_off32_inb (grid0.coords t) h))).squeeze S_ squeezes_S1x1_S_ = cellD (Ring.sl 2 t.val) 0 :=
  cell_canon _ 0 (co_cell_32 t h) _
@[sl_canon] theorem ca_cell_32' (t : Fin grid0.N) (h : k0_cond3 (grid0.coords t) = 1#1) :
    (cc0_scratch5.slice (Rect.unit (s := S2x4) (k0_off32 (grid0.coords t)) ![1, 1] (k0_off32_inb (grid0.coords t) h))).squeeze S_ squeezes_S1x1_S_ = cellD (Ring.sl 2 t.val) 0 :=
  cell_canon _ 0 (co_cell_32 t h) _
set_option synthInstance.maxSize 4096 in
theorem co_cell_35 : ∀ t : Fin grid0.N, k0_cond3 (grid0.coords t) = 1#1 → k0_off35 (grid0.coords t) = ![(Ring.sl 2 t.val).val, 1] := by decide +kernel
@[sl_canon] theorem ca_cell_35 (t : Fin grid0.N) (h : k0_cond3 (grid0.coords t) = 1#1) :
    (cc0_scratch5.slice (Rect.unit (s := S2x4) (k0_off35 (grid0.coords t)) S1x1.size (k0_off35_inb (grid0.coords t) h))).squeeze S_ squeezes_S1x1_S_ = cellD (Ring.sl 2 t.val) 1 :=
  cell_canon _ 1 (co_cell_35 t h) _
@[sl_canon] theorem ca_cell_35' (t : Fin grid0.N) (h : k0_cond3 (grid0.coords t) = 1#1) :
    (cc0_scratch5.slice (Rect.unit (s := S2x4) (k0_off35 (grid0.coords t)) ![1, 1] (k0_off35_inb (grid0.coords t) h))).squeeze S_ squeezes_S1x1_S_ = cellD (Ring.sl 2 t.val) 1 :=
  cell_canon _ 1 (co_cell_35 t h) _
set_option synthInstance.maxSize 4096 in
theorem co_cell_36 : ∀ t : Fin grid0.N, k0_cond3 (grid0.coords t) = 1#1 → k0_off36 (grid0.coords t) = ![(Ring.sl 2 t.val).val, 2] := by decide +kernel
@[sl_canon] theorem ca_cell_36 (t : Fin grid0.N) (h : k0_cond3 (grid0.coords t) = 1#1) :
    (cc0_scratch5.slice (Rect.unit (s := S2x4) (k0_off36 (grid0.coords t)) S1x1.size (k0_off36_inb (grid0.coords t) h))).squeeze S_ squeezes_S1x1_S_ = cellD (Ring.sl 2 t.val) 2 :=
  cell_canon _ 2 (co_cell_36 t h) _
@[sl_canon] theorem ca_cell_36' (t : Fin grid0.N) (h : k0_cond3 (grid0.coords t) = 1#1) :
    (cc0_scratch5.slice (Rect.unit (s := S2x4) (k0_off36 (grid0.coords t)) ![1, 1] (k0_off36_inb (grid0.coords t) h))).squeeze S_ squeezes_S1x1_S_ = cellD (Ring.sl 2 t.val) 2 :=
  cell_canon _ 2 (co_cell_36 t h) _
set_option synthInstance.maxSize 4096 in
theorem co_cell_39 : ∀ t : Fin grid0.N, k0_cond3 (grid0.coords t) = 1#1 → k0_off39 (grid0.coords t) = ![(Ring.sl 2 t.val).val, 3] := by decide +kernel
@[sl_canon] theorem ca_cell_39 (t : Fin grid0.N) (h : k0_cond3 (grid0.coords t) = 1#1) :
    (cc0_scratch5.slice (Rect.unit (s := S2x4) (k0_off39 (grid0.coords t)) S1x1.size (k0_off39_inb (grid0.coords t) h))).squeeze S_ squeezes_S1x1_S_ = cellD (Ring.sl 2 t.val) 3 :=
  cell_canon _ 3 (co_cell_39 t h) _
@[sl_canon] theorem ca_cell_39' (t : Fin grid0.N) (h : k0_cond3 (grid0.coords t) = 1#1) :
    (cc0_scratch5.slice (Rect.unit (s := S2x4) (k0_off39 (grid0.coords t)) ![1, 1] (k0_off39_inb (grid0.coords t) h))).squeeze S_ squeezes_S1x1_S_ = cellD (Ring.sl 2 t.val) 3 :=
  cell_canon _ 3 (co_cell_39 t h) _
set_option synthInstance.maxSize 4096 in
theorem co_pieceA_2_0 : ∀ t : Fin grid0.N, k0_cond1 (grid0.coords t) = 1#1 → k0_off2 (grid0.coords t) 0#32 = offA 0 (Ring.bk 128 (t.val - 2)) := by decide +kernel
@[sl_canon] theorem ca_pieceA_2_0 (t : Fin grid0.N) (h : k0_cond1 (grid0.coords t) = 1#1) :
    dpM.slice (Rect.unit (s := S8192x12288) (k0_off2 (grid0.coords t) 0#32) S512x256.size (k0_off2_inb (grid0.coords t) h 0)) (fun _ => rfl) = pieceA 0 (Ring.bk 128 (t.val - 2)) :=
  pieceA_canon 0 _ (co_pieceA_2_0 t h) _
@[sl_canon] theorem ca_pieceA_2_0' (t : Fin grid0.N) (h : k0_cond1 (grid0.coords t) = 1#1) :
    dpM.slice (Rect.unit (s := S8192x12288) (k0_off2 (grid0.coords t) 0#32) ![512, 256] (k0_off2_inb (grid0.coords t) h 0)) (fun _ => rfl) = pieceA 0 (Ring.bk 128 (t.val - 2)) :=
  pieceA_canon 0 _ (co_pieceA_2_0 t h) _
set_option synthInstance.maxSize 4096 in
theorem co_pieceA_2_1 : ∀ t : Fin grid0.N, k0_cond1 (grid0.coords t) = 1#1 → k0_off2 (grid0.coords t) 2048#32 = offA 1 (Ring.bk 128 (t.val - 2)) := by decide +kernel
@[sl_canon] theorem ca_pieceA_2_1 (t : Fin grid0.N) (h : k0_cond1 (grid0.coords t) = 1#1) :
    dpM.slice (Rect.unit (s := S8192x12288) (k0_off2 (grid0.coords t) 2048#32) S512x256.size (k0_off2_inb (grid0.coords t) h 1)) (fun _ => rfl) = pieceA 1 (Ring.bk 128 (t.val - 2)) :=
  pieceA_canon 1 _ (co_pieceA_2_1 t h) _
@[sl_canon] theorem ca_pieceA_2_1' (t : Fin grid0.N) (h : k0_cond1 (grid0.coords t) = 1#1) :
    dpM.slice (Rect.unit (s := S8192x12288) (k0_off2 (grid0.coords t) 2048#32) ![512, 256] (k0_off2_inb (grid0.coords t) h 1)) (fun _ => rfl) = pieceA 1 (Ring.bk 128 (t.val - 2)) :=
  pieceA_canon 1 _ (co_pieceA_2_1 t h) _
set_option synthInstance.maxSize 4096 in
theorem co_pieceA_19_0 : ∀ t : Fin grid0.N, k0_off19 (grid0.coords t) 0#32 = offA 0 (Ring.bk 128 t.val) := by decide +kernel
@[sl_canon] theorem ca_pieceA_19_0 (t : Fin grid0.N) :
    dpM.slice (Rect.unit (s := S8192x12288) (k0_off19 (grid0.coords t) 0#32) S512x256.size (k0_off19_inb (grid0.coords t) 0)) (fun _ => rfl) = pieceA 0 (Ring.bk 128 t.val) :=
  pieceA_canon 0 _ (co_pieceA_19_0 t) _
@[sl_canon] theorem ca_pieceA_19_0' (t : Fin grid0.N) :
    dpM.slice (Rect.unit (s := S8192x12288) (k0_off19 (grid0.coords t) 0#32) ![512, 256] (k0_off19_inb (grid0.coords t) 0)) (fun _ => rfl) = pieceA 0 (Ring.bk 128 t.val) :=
  pieceA_canon 0 _ (co_pieceA_19_0 t) _
set_option synthInstance.maxSize 4096 in
theorem co_pieceA_19_1 : ∀ t : Fin grid0.N, k0_off19 (grid0.coords t) 2048#32 = offA 1 (Ring.bk 128 t.val) := by decide +kernel
@[sl_canon] theorem ca_pieceA_19_1 (t : Fin grid0.N) :
    dpM.slice (Rect.unit (s := S8192x12288) (k0_off19 (grid0.coords t) 2048#32) S512x256.size (k0_off19_inb (grid0.coords t) 1)) (fun _ => rfl) = pieceA 1 (Ring.bk 128 t.val) :=
  pieceA_canon 1 _ (co_pieceA_19_1 t) _
@[sl_canon] theorem ca_pieceA_19_1' (t : Fin grid0.N) :
    dpM.slice (Rect.unit (s := S8192x12288) (k0_off19 (grid0.coords t) 2048#32) ![512, 256] (k0_off19_inb (grid0.coords t) 1)) (fun _ => rfl) = pieceA 1 (Ring.bk 128 t.val) :=
  pieceA_canon 1 _ (co_pieceA_19_1 t) _
set_option synthInstance.maxSize 4096 in
theorem co_pieceA_25_0 : ∀ t : Fin grid0.N, k0_cond3 (grid0.coords t) = 1#1 → k0_off25 (grid0.coords t) 0#32 = offA 0 (Ring.bk 128 (t.val - 1)) := by decide +kernel
@[sl_canon] theorem ca_pieceA_25_0 (t : Fin grid0.N) (h : k0_cond3 (grid0.coords t) = 1#1) :
    dpM.slice (Rect.unit (s := S8192x12288) (k0_off25 (grid0.coords t) 0#32) S512x256.size (k0_off25_inb (grid0.coords t) h 0)) (fun _ => rfl) = pieceA 0 (Ring.bk 128 (t.val - 1)) :=
  pieceA_canon 0 _ (co_pieceA_25_0 t h) _
@[sl_canon] theorem ca_pieceA_25_0' (t : Fin grid0.N) (h : k0_cond3 (grid0.coords t) = 1#1) :
    dpM.slice (Rect.unit (s := S8192x12288) (k0_off25 (grid0.coords t) 0#32) ![512, 256] (k0_off25_inb (grid0.coords t) h 0)) (fun _ => rfl) = pieceA 0 (Ring.bk 128 (t.val - 1)) :=
  pieceA_canon 0 _ (co_pieceA_25_0 t h) _
set_option synthInstance.maxSize 4096 in
theorem co_pieceA_25_1 : ∀ t : Fin grid0.N, k0_cond3 (grid0.coords t) = 1#1 → k0_off25 (grid0.coords t) 2048#32 = offA 1 (Ring.bk 128 (t.val - 1)) := by decide +kernel
@[sl_canon] theorem ca_pieceA_25_1 (t : Fin grid0.N) (h : k0_cond3 (grid0.coords t) = 1#1) :
    dpM.slice (Rect.unit (s := S8192x12288) (k0_off25 (grid0.coords t) 2048#32) S512x256.size (k0_off25_inb (grid0.coords t) h 1)) (fun _ => rfl) = pieceA 1 (Ring.bk 128 (t.val - 1)) :=
  pieceA_canon 1 _ (co_pieceA_25_1 t h) _
@[sl_canon] theorem ca_pieceA_25_1' (t : Fin grid0.N) (h : k0_cond3 (grid0.coords t) = 1#1) :
    dpM.slice (Rect.unit (s := S8192x12288) (k0_off25 (grid0.coords t) 2048#32) ![512, 256] (k0_off25_inb (grid0.coords t) h 1)) (fun _ => rfl) = pieceA 1 (Ring.bk 128 (t.val - 1)) :=
  pieceA_canon 1 _ (co_pieceA_25_1 t h) _
set_option synthInstance.maxSize 4096 in
theorem co_pieceA_33_0 : ∀ t : Fin grid0.N, k0_cond3 (grid0.coords t) = 1#1 → k0_off33 (grid0.coords t) 0#32 = offA 0 (Ring.bk 128 t.val) := by decide +kernel
@[sl_canon] theorem ca_pieceA_33_0 (t : Fin grid0.N) (h : k0_cond3 (grid0.coords t) = 1#1) :
    dpM.slice (Rect.unit (s := S8192x12288) (k0_off33 (grid0.coords t) 0#32) S512x256.size (k0_off33_inb (grid0.coords t) h 0)) (fun _ => rfl) = pieceA 0 (Ring.bk 128 t.val) :=
  pieceA_canon 0 _ (co_pieceA_33_0 t h) _
@[sl_canon] theorem ca_pieceA_33_0' (t : Fin grid0.N) (h : k0_cond3 (grid0.coords t) = 1#1) :
    dpM.slice (Rect.unit (s := S8192x12288) (k0_off33 (grid0.coords t) 0#32) ![512, 256] (k0_off33_inb (grid0.coords t) h 0)) (fun _ => rfl) = pieceA 0 (Ring.bk 128 t.val) :=
  pieceA_canon 0 _ (co_pieceA_33_0 t h) _
set_option synthInstance.maxSize 4096 in
theorem co_pieceA_33_1 : ∀ t : Fin grid0.N, k0_cond3 (grid0.coords t) = 1#1 → k0_off33 (grid0.coords t) 2048#32 = offA 1 (Ring.bk 128 t.val) := by decide +kernel
@[sl_canon] theorem ca_pieceA_33_1 (t : Fin grid0.N) (h : k0_cond3 (grid0.coords t) = 1#1) :
    dpM.slice (Rect.unit (s := S8192x12288) (k0_off33 (grid0.coords t) 2048#32) S512x256.size (k0_off33_inb (grid0.coords t) h 1)) (fun _ => rfl) = pieceA 1 (Ring.bk 128 t.val) :=
  pieceA_canon 1 _ (co_pieceA_33_1 t h) _
@[sl_canon] theorem ca_pieceA_33_1' (t : Fin grid0.N) (h : k0_cond3 (grid0.coords t) = 1#1) :
    dpM.slice (Rect.unit (s := S8192x12288) (k0_off33 (grid0.coords t) 2048#32) ![512, 256] (k0_off33_inb (grid0.coords t) h 1)) (fun _ => rfl) = pieceA 1 (Ring.bk 128 t.val) :=
  pieceA_canon 1 _ (co_pieceA_33_1 t h) _
set_option synthInstance.maxSize 4096 in
theorem co_pieceB_6_0 : ∀ t : Fin grid0.N, k0_cond1 (grid0.coords t) = 1#1 → k0_off6 (grid0.coords t) 4096#32 = offB 0 (Ring.bk 128 (t.val - 2)) := by decide +kernel
@[sl_canon] theorem ca_pieceB_6_0 (t : Fin grid0.N) (h : k0_cond1 (grid0.coords t) = 1#1) :
    dpM.slice (Rect.unit (s := S8192x12288) (k0_off6 (grid0.coords t) 4096#32) S512x512.size (k0_off6_inb (grid0.coords t) h 0)) (fun _ => rfl) = pieceB 0 (Ring.bk 128 (t.val - 2)) :=
  pieceB_canon 0 _ (co_pieceB_6_0 t h) _
@[sl_canon] theorem ca_pieceB_6_0' (t : Fin grid0.N) (h : k0_cond1 (grid0.coords t) = 1#1) :
    dpM.slice (Rect.unit (s := S8192x12288) (k0_off6 (grid0.coords t) 4096#32) ![512, 512] (k0_off6_inb (grid0.coords t) h 0)) (fun _ => rfl) = pieceB 0 (Ring.bk 128 (t.val - 2)) :=
  pieceB_canon 0 _ (co_pieceB_6_0 t h) _
set_option synthInstance.maxSize 4096 in
theorem co_pieceB_6_1 : ∀ t : Fin grid0.N, k0_cond1 (grid0.coords t) = 1#1 → k0_off6 (grid0.coords t) 8192#32 = offB 1 (Ring.bk 128 (t.val - 2)) := by decide +kernel
@[sl_canon] theorem ca_pieceB_6_1 (t : Fin grid0.N) (h : k0_cond1 (grid0.coords t) = 1#1) :
    dpM.slice (Rect.unit (s := S8192x12288) (k0_off6 (grid0.coords t) 8192#32) S512x512.size (k0_off6_inb (grid0.coords t) h 1)) (fun _ => rfl) = pieceB 1 (Ring.bk 128 (t.val - 2)) :=
  pieceB_canon 1 _ (co_pieceB_6_1 t h) _
@[sl_canon] theorem ca_pieceB_6_1' (t : Fin grid0.N) (h : k0_cond1 (grid0.coords t) = 1#1) :
    dpM.slice (Rect.unit (s := S8192x12288) (k0_off6 (grid0.coords t) 8192#32) ![512, 512] (k0_off6_inb (grid0.coords t) h 1)) (fun _ => rfl) = pieceB 1 (Ring.bk 128 (t.val - 2)) :=
  pieceB_canon 1 _ (co_pieceB_6_1 t h) _
set_option synthInstance.maxSize 4096 in
theorem co_pieceB_22_0 : ∀ t : Fin grid0.N, k0_off22 (grid0.coords t) 4096#32 = offB 0 (Ring.bk 128 t.val) := by decide +kernel
@[sl_canon] theorem ca_pieceB_22_0 (t : Fin grid0.N) :
    dpM.slice (Rect.unit (s := S8192x12288) (k0_off22 (grid0.coords t) 4096#32) S512x512.size (k0_off22_inb (grid0.coords t) 0)) (fun _ => rfl) = pieceB 0 (Ring.bk 128 t.val) :=
  pieceB_canon 0 _ (co_pieceB_22_0 t) _
@[sl_canon] theorem ca_pieceB_22_0' (t : Fin grid0.N) :
    dpM.slice (Rect.unit (s := S8192x12288) (k0_off22 (grid0.coords t) 4096#32) ![512, 512] (k0_off22_inb (grid0.coords t) 0)) (fun _ => rfl) = pieceB 0 (Ring.bk 128 t.val) :=
  pieceB_canon 0 _ (co_pieceB_22_0 t) _
set_option synthInstance.maxSize 4096 in
theorem co_pieceB_22_1 : ∀ t : Fin grid0.N, k0_off22 (grid0.coords t) 8192#32 = offB 1 (Ring.bk 128 t.val) := by decide +kernel
@[sl_canon] theorem ca_pieceB_22_1 (t : Fin grid0.N) :
    dpM.slice (Rect.unit (s := S8192x12288) (k0_off22 (grid0.coords t) 8192#32) S512x512.size (k0_off22_inb (grid0.coords t) 1)) (fun _ => rfl) = pieceB 1 (Ring.bk 128 t.val) :=
  pieceB_canon 1 _ (co_pieceB_22_1 t) _
@[sl_canon] theorem ca_pieceB_22_1' (t : Fin grid0.N) :
    dpM.slice (Rect.unit (s := S8192x12288) (k0_off22 (grid0.coords t) 8192#32) ![512, 512] (k0_off22_inb (grid0.coords t) 1)) (fun _ => rfl) = pieceB 1 (Ring.bk 128 t.val) :=
  pieceB_canon 1 _ (co_pieceB_22_1 t) _
set_option synthInstance.maxSize 4096 in
theorem co_pieceB_29_0 : ∀ t : Fin grid0.N, k0_cond3 (grid0.coords t) = 1#1 → k0_off29 (grid0.coords t) 4096#32 = offB 0 (Ring.bk 128 (t.val - 1)) := by decide +kernel
@[sl_canon] theorem ca_pieceB_29_0 (t : Fin grid0.N) (h : k0_cond3 (grid0.coords t) = 1#1) :
    dpM.slice (Rect.unit (s := S8192x12288) (k0_off29 (grid0.coords t) 4096#32) S512x512.size (k0_off29_inb (grid0.coords t) h 0)) (fun _ => rfl) = pieceB 0 (Ring.bk 128 (t.val - 1)) :=
  pieceB_canon 0 _ (co_pieceB_29_0 t h) _
@[sl_canon] theorem ca_pieceB_29_0' (t : Fin grid0.N) (h : k0_cond3 (grid0.coords t) = 1#1) :
    dpM.slice (Rect.unit (s := S8192x12288) (k0_off29 (grid0.coords t) 4096#32) ![512, 512] (k0_off29_inb (grid0.coords t) h 0)) (fun _ => rfl) = pieceB 0 (Ring.bk 128 (t.val - 1)) :=
  pieceB_canon 0 _ (co_pieceB_29_0 t h) _
set_option synthInstance.maxSize 4096 in
theorem co_pieceB_29_1 : ∀ t : Fin grid0.N, k0_cond3 (grid0.coords t) = 1#1 → k0_off29 (grid0.coords t) 8192#32 = offB 1 (Ring.bk 128 (t.val - 1)) := by decide +kernel
@[sl_canon] theorem ca_pieceB_29_1 (t : Fin grid0.N) (h : k0_cond3 (grid0.coords t) = 1#1) :
    dpM.slice (Rect.unit (s := S8192x12288) (k0_off29 (grid0.coords t) 8192#32) S512x512.size (k0_off29_inb (grid0.coords t) h 1)) (fun _ => rfl) = pieceB 1 (Ring.bk 128 (t.val - 1)) :=
  pieceB_canon 1 _ (co_pieceB_29_1 t h) _
@[sl_canon] theorem ca_pieceB_29_1' (t : Fin grid0.N) (h : k0_cond3 (grid0.coords t) = 1#1) :
    dpM.slice (Rect.unit (s := S8192x12288) (k0_off29 (grid0.coords t) 8192#32) ![512, 512] (k0_off29_inb (grid0.coords t) h 1)) (fun _ => rfl) = pieceB 1 (Ring.bk 128 (t.val - 1)) :=
  pieceB_canon 1 _ (co_pieceB_29_1 t h) _
set_option synthInstance.maxSize 4096 in
theorem co_pieceB_37_0 : ∀ t : Fin grid0.N, k0_cond3 (grid0.coords t) = 1#1 → k0_off37 (grid0.coords t) 4096#32 = offB 0 (Ring.bk 128 t.val) := by decide +kernel
@[sl_canon] theorem ca_pieceB_37_0 (t : Fin grid0.N) (h : k0_cond3 (grid0.coords t) = 1#1) :
    dpM.slice (Rect.unit (s := S8192x12288) (k0_off37 (grid0.coords t) 4096#32) S512x512.size (k0_off37_inb (grid0.coords t) h 0)) (fun _ => rfl) = pieceB 0 (Ring.bk 128 t.val) :=
  pieceB_canon 0 _ (co_pieceB_37_0 t h) _
@[sl_canon] theorem ca_pieceB_37_0' (t : Fin grid0.N) (h : k0_cond3 (grid0.coords t) = 1#1) :
    dpM.slice (Rect.unit (s := S8192x12288) (k0_off37 (grid0.coords t) 4096#32) ![512, 512] (k0_off37_inb (grid0.coords t) h 0)) (fun _ => rfl) = pieceB 0 (Ring.bk 128 t.val) :=
  pieceB_canon 0 _ (co_pieceB_37_0 t h) _
set_option synthInstance.maxSize 4096 in
theorem co_pieceB_37_1 : ∀ t : Fin grid0.N, k0_cond3 (grid0.coords t) = 1#1 → k0_off37 (grid0.coords t) 8192#32 = offB 1 (Ring.bk 128 t.val) := by decide +kernel
@[sl_canon] theorem ca_pieceB_37_1 (t : Fin grid0.N) (h : k0_cond3 (grid0.coords t) = 1#1) :
    dpM.slice (Rect.unit (s := S8192x12288) (k0_off37 (grid0.coords t) 8192#32) S512x512.size (k0_off37_inb (grid0.coords t) h 1)) (fun _ => rfl) = pieceB 1 (Ring.bk 128 t.val) :=
  pieceB_canon 1 _ (co_pieceB_37_1 t h) _
@[sl_canon] theorem ca_pieceB_37_1' (t : Fin grid0.N) (h : k0_cond3 (grid0.coords t) = 1#1) :
    dpM.slice (Rect.unit (s := S8192x12288) (k0_off37 (grid0.coords t) 8192#32) ![512, 512] (k0_off37_inb (grid0.coords t) h 1)) (fun _ => rfl) = pieceB 1 (Ring.bk 128 t.val) :=
  pieceB_canon 1 _ (co_pieceB_37_1 t h) _
set_option synthInstance.maxSize 4096 in
theorem co_row_14_0 : ∀ t : Fin grid0.N, k0_off14 (grid0.coords t) 0#32 = ![(Ring.sl 2 t.val).val, 448, 0] := by decide +kernel
instance (priority := high) (t : Fin grid0.N) : ClosedOff (k0_off14 (grid0.coords t) 0#32) := ⟨![(Ring.sl 2 t.val).val, 448, 0], co_row_14_0 t⟩
set_option synthInstance.maxSize 4096 in
theorem co_row_14_1 : ∀ t : Fin grid0.N, k0_off14 (grid0.coords t) 1#32 = ![(Ring.sl 2 t.val).val, 384, 0] := by decide +kernel
instance (priority := high) (t : Fin grid0.N) : ClosedOff (k0_off14 (grid0.coords t) 1#32) := ⟨![(Ring.sl 2 t.val).val, 384, 0], co_row_14_1 t⟩
set_option synthInstance.maxSize 4096 in
theorem co_row_14_2 : ∀ t : Fin grid0.N, k0_off14 (grid0.coords t) 2#32 = ![(Ring.sl 2 t.val).val, 320, 0] := by decide +kernel
instance (priority := high) (t : Fin grid0.N) : ClosedOff (k0_off14 (grid0.coords t) 2#32) := ⟨![(Ring.sl 2 t.val).val, 320, 0], co_row_14_2 t⟩
set_option synthInstance.maxSize 4096 in
theorem co_row_14_3 : ∀ t : Fin grid0.N, k0_off14 (grid0.coords t) 3#32 = ![(Ring.sl 2 t.val).val, 256, 0] := by decide +kernel
instance (priority := high) (t : Fin grid0.N) : ClosedOff (k0_off14 (grid0.coords t) 3#32) := ⟨![(Ring.sl 2 t.val).val, 256, 0], co_row_14_3 t⟩
set_option synthInstance.maxSize 4096 in
theorem co_row_14_4 : ∀ t : Fin grid0.N, k0_off14 (grid0.coords t) 4#32 = ![(Ring.sl 2 t.val).val, 192, 0] := by decide +kernel
instance (priority := high) (t : Fin grid0.N) : ClosedOff (k0_off14 (grid0.coords t) 4#32) := ⟨![(Ring.sl 2 t.val).val, 192, 0], co_row_14_4 t⟩
set_option synthInstance.maxSize 4096 in
theorem co_row_14_5 : ∀ t : Fin grid0.N, k0_off14 (grid0.coords t) 5#32 = ![(Ring.sl 2 t.val).val, 128, 0] := by decide +kernel
instance (priority := high) (t : Fin grid0.N) : ClosedOff (k0_off14 (grid0.coords t) 5#32) := ⟨![(Ring.sl 2 t.val).val, 128, 0], co_row_14_5 t⟩
set_option synthInstance.maxSize 4096 in
theorem co_row_14_6 : ∀ t : Fin grid0.N, k0_off14 (grid0.coords t) 6#32 = ![(Ring.sl 2 t.val).val, 64, 0] := by decide +kernel
instance (priority := high) (t : Fin grid0.N) : ClosedOff (k0_off14 (grid0.coords t) 6#32) := ⟨![(Ring.sl 2 t.val).val, 64, 0], co_row_14_6 t⟩
set_option synthInstance.maxSize 4096 in
theorem co_row_14_7 : ∀ t : Fin grid0.N, k0_off14 (grid0.coords t) 7#32 = ![(Ring.sl 2 t.val).val, 0, 0] := by decide +kernel
instance (priority := high) (t : Fin grid0.N) : ClosedOff (k0_off14 (grid0.coords t) 7#32) := ⟨![(Ring.sl 2 t.val).val, 0, 0], co_row_14_7 t⟩
set_option synthInstance.maxSize 4096 in
theorem co_row_17_0 : ∀ t : Fin grid0.N, k0_off17 (grid0.coords t) 0#32 = ![(Ring.sl 2 t.val).val, 448, 0] := by decide +kernel
instance (priority := high) (t : Fin grid0.N) : ClosedOff (k0_off17 (grid0.coords t) 0#32) := ⟨![(Ring.sl 2 t.val).val, 448, 0], co_row_17_0 t⟩
set_option synthInstance.maxSize 4096 in
theorem co_row_17_1 : ∀ t : Fin grid0.N, k0_off17 (grid0.coords t) 1#32 = ![(Ring.sl 2 t.val).val, 384, 0] := by decide +kernel
instance (priority := high) (t : Fin grid0.N) : ClosedOff (k0_off17 (grid0.coords t) 1#32) := ⟨![(Ring.sl 2 t.val).val, 384, 0], co_row_17_1 t⟩
set_option synthInstance.maxSize 4096 in
theorem co_row_17_2 : ∀ t : Fin grid0.N, k0_off17 (grid0.coords t) 2#32 = ![(Ring.sl 2 t.val).val, 320, 0] := by decide +kernel
instance (priority := high) (t : Fin grid0.N) : ClosedOff (k0_off17 (grid0.coords t) 2#32) := ⟨![(Ring.sl 2 t.val).val, 320, 0], co_row_17_2 t⟩
set_option synthInstance.maxSize 4096 in
theorem co_row_17_3 : ∀ t : Fin grid0.N, k0_off17 (grid0.coords t) 3#32 = ![(Ring.sl 2 t.val).val, 256, 0] := by decide +kernel
instance (priority := high) (t : Fin grid0.N) : ClosedOff (k0_off17 (grid0.coords t) 3#32) := ⟨![(Ring.sl 2 t.val).val, 256, 0], co_row_17_3 t⟩
set_option synthInstance.maxSize 4096 in
theorem co_row_17_4 : ∀ t : Fin grid0.N, k0_off17 (grid0.coords t) 4#32 = ![(Ring.sl 2 t.val).val, 192, 0] := by decide +kernel
instance (priority := high) (t : Fin grid0.N) : ClosedOff (k0_off17 (grid0.coords t) 4#32) := ⟨![(Ring.sl 2 t.val).val, 192, 0], co_row_17_4 t⟩
set_option synthInstance.maxSize 4096 in
theorem co_row_17_5 : ∀ t : Fin grid0.N, k0_off17 (grid0.coords t) 5#32 = ![(Ring.sl 2 t.val).val, 128, 0] := by decide +kernel
instance (priority := high) (t : Fin grid0.N) : ClosedOff (k0_off17 (grid0.coords t) 5#32) := ⟨![(Ring.sl 2 t.val).val, 128, 0], co_row_17_5 t⟩
set_option synthInstance.maxSize 4096 in
theorem co_row_17_6 : ∀ t : Fin grid0.N, k0_off17 (grid0.coords t) 6#32 = ![(Ring.sl 2 t.val).val, 64, 0] := by decide +kernel
instance (priority := high) (t : Fin grid0.N) : ClosedOff (k0_off17 (grid0.coords t) 6#32) := ⟨![(Ring.sl 2 t.val).val, 64, 0], co_row_17_6 t⟩
set_option synthInstance.maxSize 4096 in
theorem co_row_17_7 : ∀ t : Fin grid0.N, k0_off17 (grid0.coords t) 7#32 = ![(Ring.sl 2 t.val).val, 0, 0] := by decide +kernel
instance (priority := high) (t : Fin grid0.N) : ClosedOff (k0_off17 (grid0.coords t) 7#32) := ⟨![(Ring.sl 2 t.val).val, 0, 0], co_row_17_7 t⟩

end Canon

end Cert.KernelIdeal.Ret

end
-- ==== Proof.Ret.Ring.lean ====
/- The write ring of the retention backward pass: what is held of the tiles, the boxes and the cells before each step. -/
module

public import proofs.«01_k».proof.Proof.Ret.Names

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What one step writes into its four boxes of the result. -/
structure Out (F : FTy → Type) where
  q : S512x256.Idx → Elt F .bf16
  k : S512x256.Idx → Elt F .bf16
  v : S512x512.Idx → Elt F .bf16
  g : S512x512.Idx → Elt F .bf16

/-- The contents of the buffer under a memref. -/
abbrev BufOf (c : Dev nD) {sp : Space} {S : Shape} {e : EltTy} (M : Memref sig .tc sp S e) : Type := Buf (Elt F) (M.view.loc (c : Thread nD τ))

section Families
variable (c : Dev nD)

/-- A memref's own elements held, its buffer at `f`. -/
abbrev held {sp : Space} {S : Shape} {e : EltTy} (M : Memref sig .tc sp S e) (f : BufOf (F := F) c M) : sProp 𝕄 :=
  M.view.loc (c : Thread nD τ) ↦[M.view.set]{fullShare} f
/-- Cell (g, j) at zero. -/
abbrev cellP (g : Fin 2) (j : Fin 4) : sProp 𝕄 := semVal ((c : Thread nD τ), cellR g j) 0
/-- A box held, reading `w`. -/
abbrev home {sp : Space} {S : Shape} {e : EltTy} (M : Memref sig .tc sp S e) (w : S.Idx → Elt F e) : sProp 𝕄 :=
  iprop(∃ f, ⌜M.view.read (Elt F) f = w⌝ ∗ held c M f)
/-- A copy of tile `T` into box `D` under way on cell `s`, which delivers the box reading `w` and the tile. -/
abbrev flight {S : Shape} (s : SemLoc sig) (D : Memref sig .tc .hbm S .bf16) (T : Memref sig .tc .vmem S .bf16)
    (w : S.Idx → Elt F .bf16) : sProp 𝕄 :=
  iprop(∃ f e, ⌜D.view.read (Elt F) f = w⌝ ∗ Transfers.Flight countersEmb (c : Thread nD τ) s default (D.view.amount s) iprop(held c D f ∗ held c T e))

/-- Slot `g` free: its cells at zero and its tiles at anything. -/
abbrev free (g : Fin 2) : sProp 𝕄 :=
  iprop((cellP c g 0 ∗ ∃ e, held (F := F) c (tileA scQ g) e) ∗ (cellP c g 1 ∗ ∃ e, held (F := F) c (tileA scK g) e)
    ∗ (cellP c g 2 ∗ ∃ e, held (F := F) c (tileB scV g) e) ∗ (cellP c g 3 ∗ ∃ e, held (F := F) c (tileB scG g) e))
/-- Slot `g` in flight with step `u`'s four copies. -/
abbrev infl (W : Fin 128 → Out F) (g : Fin 2) (u : Fin 128) : sProp 𝕄 :=
  iprop(flight c (cellR g 0) (pieceA 0 u) (tileA scQ g) (W u).q ∗ flight c (cellR g 1) (pieceA 1 u) (tileA scK g) (W u).k
    ∗ flight c (cellR g 2) (pieceB 0 u) (tileB scV g) (W u).v ∗ flight c (cellR g 3) (pieceB 1 u) (tileB scG g) (W u).g)
/-- Step `u`'s boxes before its copies, at anything. -/
abbrev ahead (u : Fin 128) : sProp 𝕄 :=
  iprop((∃ f, held (F := F) c (pieceA 0 u) f) ∗ (∃ f, held (F := F) c (pieceA 1 u) f) ∗ (∃ f, held (F := F) c (pieceB 0 u) f) ∗ (∃ f, held (F := F) c (pieceB 1 u) f))
/-- Step `u`'s boxes after its copies have landed. -/
abbrev behind (W : Fin 128 → Out F) (u : Fin 128) : sProp 𝕄 :=
  iprop(home c (pieceA 0 u) (W u).q ∗ home c (pieceA 1 u) (W u).k ∗ home c (pieceB 0 u) (W u).v ∗ home c (pieceB 1 u) (W u).g)
/-- The ring before step `k`. -/
def ring (W : Fin 128 → Out F) (k : ℕ) : sProp 𝕄 := Ring.AtBΦ 2 (free c) (infl c W) (ahead c) (behind c W) k

end Families

/-! ## The branches of the body -/

/-- The body waits for the copies of two steps before from step 2 on. -/
theorem waits_iff : ∀ t : Fin cfg0.N, k0_cond1 (grid0.coords t) = 1#1 ↔ 2 ≤ t.val :=
  (by decide +kernel : ∀ t : Fin grid0.N, k0_cond1 (grid0.coords t) = 1#1 ↔ 2 ≤ t.val)

/-- The body starts a head's accumulators afresh: the grid's second coordinate is zero. -/
abbrev resets (i : grid0.Coords) : Prop := (Scalar.cmpi .ne (Scalar.extui (Scalar.cmpi .eq (BitVec.ofNat 32 (i 1).val) 0#32)) 0#32) = 1#1
theorem resets_iff : ∀ t : Fin cfg0.N, resets (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [resets, e0, e1]
    word_cmp
   : ∀ t : Fin grid0.N, resets (grid0.coords t) ↔ t.val % 16 = 0)

/-- The body drains the ring at the last step. -/
theorem drains_iff : ∀ t : Fin cfg0.N, k0_cond3 (grid0.coords t) = 1#1 ↔ t.val = 127 :=
  (by decide +kernel : ∀ t : Fin grid0.N, k0_cond3 (grid0.coords t) = 1#1 ↔ t.val = 127)

end Cert.KernelIdeal.Ret

end
-- ==== Proof.Ret.Places.lean ====
/- Where the copies lie: the pairs of tiles and the four boxes of every step tile their buffers; what the launch hands the
   write ring, and what the ring gives back, the result at contents named element by element. -/
module

public import proofs.«01_k».proof.Proof.Ret.Ring
public import Idealize.ShloMosaic.Lib.ValueIdx

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2)

variable {F : FTy → Type} [FloatOps F]

local notation "𝕄" => MT nD τ sig Unit (Elt F) ℕ (Pipeline.UD sig nD τ) ℕ

/-! ## The tiles -/

abbrev tileSetA (g : Fin 2) : Finset S2x512x256.Idx := (Rect.unit (s := S2x512x256) ![g.val, 0, 0] S1x512x256.size (inbTileA g)).set
abbrev tileSetB (g : Fin 2) : Finset S2x512x512.Idx := (Rect.unit (s := S2x512x512) ![g.val, 0, 0] S1x512x512.size (inbTileB g)).set

theorem mem_tileSetA (g : Fin 2) (i : S2x512x256.Idx) : i ∈ tileSetA g ↔ g.val = (i 0).val := by
  have h1 : (i 1).val < 512 := (i 1).isLt
  have h2 : (i 2).val < 256 := (i 2).isLt
  rw [Rect.mem_set_unit]
  constructor
  · intro h
    have := h 0
    simp at this; omega
  · intro h a
    fin_cases a <;> simp <;> omega
theorem mem_tileSetB (g : Fin 2) (i : S2x512x512.Idx) : i ∈ tileSetB g ↔ g.val = (i 0).val := by
  have h1 : (i 1).val < 512 := (i 1).isLt
  have h2 : (i 2).val < 512 := (i 2).isLt
  rw [Rect.mem_set_unit]
  constructor
  · intro h
    have := h 0
    simp at this; omega
  · intro h a
    fin_cases a <;> simp <;> omega

theorem tilesA_disjoint (g g' : Fin 2) (h : g ≠ g') : Disjoint (tileSetA g) (tileSetA g') :=
  Finset.disjoint_left.mpr fun i hi hi' => h (Fin.ext (((mem_tileSetA g i).mp hi).trans ((mem_tileSetA g' i).mp hi').symm))
theorem tilesB_disjoint (g g' : Fin 2) (h : g ≠ g') : Disjoint (tileSetB g) (tileSetB g') :=
  Finset.disjoint_left.mpr fun i hi hi' => h (Fin.ext (((mem_tileSetB g i).mp hi).trans ((mem_tileSetB g' i).mp hi').symm))
theorem tilesA_cover : Finset.univ.biUnion tileSetA = Finset.univ :=
  Finset.eq_univ_iff_forall.mpr fun i => Finset.mem_biUnion.mpr ⟨(⟨(i 0).val, (i 0).isLt⟩ : Fin 2), Finset.mem_univ _, (mem_tileSetA _ i).mpr rfl⟩
theorem tilesB_cover : Finset.univ.biUnion tileSetB = Finset.univ :=
  Finset.eq_univ_iff_forall.mpr fun i => Finset.mem_biUnion.mpr ⟨(⟨(i 0).val, (i 0).isLt⟩ : Fin 2), Finset.mem_univ _, (mem_tileSetB _ i).mpr rfl⟩

section Tiles
variable (c : Dev nD)

theorem heldQ_eq (g : Fin 2) (e) : held (F := F) c (tileA scQ g) e = (((c : Thread nD τ).loc cc0_scratch1) ↦[tileSetA g]{fullShare} e : sProp 𝕄) := by
  unfold held; rw [show (tileA scQ g).view.set = tileSetA g from by simp only [tileA, Memref.view_squeeze, View.set_reshape]; exact View.set_slice_whole _ _]; rfl
theorem heldK_eq (g : Fin 2) (e) : held (F := F) c (tileA scK g) e = (((c : Thread nD τ).loc cc0_scratch2) ↦[tileSetA g]{fullShare} e : sProp 𝕄) := by
  unfold held; rw [show (tileA scK g).view.set = tileSetA g from by simp only [tileA, Memref.view_squeeze, View.set_reshape]; exact View.set_slice_whole _ _]; rfl
theorem heldV_eq (g : Fin 2) (e) : held (F := F) c (tileB scV g) e = (((c : Thread nD τ).loc cc0_scratch3) ↦[tileSetB g]{fullShare} e : sProp 𝕄) := by
  unfold held; rw [show (tileB scV g).view.set = tileSetB g from by simp only [tileB, Memref.view_squeeze, View.set_reshape]; exact View.set_slice_whole _ _]; rfl
theorem heldG_eq (g : Fin 2) (e) : held (F := F) c (tileB scG g) e = (((c : Thread nD τ).loc cc0_scratch4) ↦[tileSetB g]{fullShare} e : sProp 𝕄) := by
  unfold held; rw [show (tileB scG g).view.set = tileSetB g from by simp only [tileB, Memref.view_squeeze, View.set_reshape]; exact View.set_slice_whole _ _]; rfl

/-- A pair of tiles held slot by slot is the buffer held. -/
theorem two {P : Fin 2 → sProp 𝕄} : (bigSep Finset.univ P : sProp 𝕄) = iprop(P 0 ∗ P 1) := by
  rw [BI.bigSep_eq_bigSepL_of_eq [0, 1] (by decide) (by decide)]; rfl

theorem tilesQ_eq : (iprop(∃ f : Buf (Elt F) ((c : Thread nD τ).loc cc0_scratch1), ((c : Thread nD τ).loc cc0_scratch1) ↦{fullShare} f) : sProp 𝕄)
    = iprop((∃ e, held (F := F) c (tileA scQ 0) e) ∗ ∃ e, held (F := F) c (tileA scQ 1) e) := by
  rw [← two (P := fun g => iprop(∃ e, held (F := F) c (tileA scQ g) e))]
  refine BI.equiv_iff.mp ⟨Ring.pieces_split (U := Pipeline.UD sig nD τ) (ℓ := (c : Thread nD τ).loc cc0_scratch1) (q := fullShare) tileSetA tilesA_disjoint tilesA_cover
      (fun i e => held c (tileA scQ i) e) (heldQ_eq c), ?_⟩
  haveI : ∀ e, Nonempty (Elt F e) := fun e => inferInstance
  exact Ring.pieces_join (U := Pipeline.UD sig nD τ) (ℓ := (c : Thread nD τ).loc cc0_scratch1) (q := fullShare) tileSetA tilesA_disjoint tilesA_cover
      (fun i e => held c (tileA scQ i) e) (heldQ_eq c) Classical.ofNonempty
theorem tilesK_eq : (iprop(∃ f : Buf (Elt F) ((c : Thread nD τ).loc cc0_scratch2), ((c : Thread nD τ).loc cc0_scratch2) ↦{fullShare} f) : sProp 𝕄)
    = iprop((∃ e, held (F := F) c (tileA scK 0) e) ∗ ∃ e, held (F := F) c (tileA scK 1) e) := by
  rw [← two (P := fun g => iprop(∃ e, held (F := F) c (tileA scK g) e))]
  exact BI.equiv_iff.mp ⟨Ring.pieces_split (U := Pipeline.UD sig nD τ) (ℓ := (c : Thread nD τ).loc cc0_scratch2) (q := fullShare) tileSetA tilesA_disjoint tilesA_cover
      (fun i e => held c (tileA scK i) e) (heldK_eq c),
    Ring.pieces_join (U := Pipeline.UD sig nD τ) (ℓ := (c : Thread nD τ).loc cc0_scratch2) (q := fullShare) tileSetA tilesA_disjoint tilesA_cover
      (fun i e => held c (tileA scK i) e) (heldK_eq c) Classical.ofNonempty⟩
theorem tilesV_eq : (iprop(∃ f : Buf (Elt F) ((c : Thread nD τ).loc cc0_scratch3), ((c : Thread nD τ).loc cc0_scratch3) ↦{fullShare} f) : sProp 𝕄)
    = iprop((∃ e, held (F := F) c (tileB scV 0) e) ∗ ∃ e, held (F := F) c (tileB scV 1) e) := by
  rw [← two (P := fun g => iprop(∃ e, held (F := F) c (tileB scV g) e))]
  exact BI.equiv_iff.mp ⟨Ring.pieces_split (U := Pipeline.UD sig nD τ) (ℓ := (c : Thread nD τ).loc cc0_scratch3) (q := fullShare) tileSetB tilesB_disjoint tilesB_cover
      (fun i e => held c (tileB scV i) e) (heldV_eq c),
    Ring.pieces_join (U := Pipeline.UD sig nD τ) (ℓ := (c : Thread nD τ).loc cc0_scratch3) (q := fullShare) tileSetB tilesB_disjoint tilesB_cover
      (fun i e => held c (tileB scV i) e) (heldV_eq c) Classical.ofNonempty⟩
theorem tilesG_eq : (iprop(∃ f : Buf (Elt F) ((c : Thread nD τ).loc cc0_scratch4), ((c : Thread nD τ).loc cc0_scratch4) ↦{fullShare} f) : sProp 𝕄)
    = iprop((∃ e, held (F := F) c (tileB scG 0) e) ∗ ∃ e, held (F := F) c (tileB scG 1) e) := by
  rw [← two (P := fun g => iprop(∃ e, held (F := F) c (tileB scG g) e))]
  exact BI.equiv_iff.mp ⟨Ring.pieces_split (U := Pipeline.UD sig nD τ) (ℓ := (c : Thread nD τ).loc cc0_scratch4) (q := fullShare) tileSetB tilesB_disjoint tilesB_cover
      (fun i e => held c (tileB scG i) e) (heldG_eq c),
    Ring.pieces_join (U := Pipeline.UD sig nD τ) (ℓ := (c : Thread nD τ).loc cc0_scratch4) (q := fullShare) tileSetB tilesB_disjoint tilesB_cover
      (fun i e => held c (tileB scG i) e) (heldG_eq c) Classical.ofNonempty⟩

end Tiles

/-! ## The boxes of the result -/

/-- Box `j` of step `u`. -/
def boxSet : Fin 128 × Fin 4 → Finset S8192x12288.Idx
  | (u, 0) => (Rect.unit (s := S8192x12288) (offA 0 u) S512x256.size (inbPieceA 0 u)).set
  | (u, 1) => (Rect.unit (s := S8192x12288) (offA 1 u) S512x256.size (inbPieceA 1 u)).set
  | (u, 2) => (Rect.unit (s := S8192x12288) (offB 0 u) S512x512.size (inbPieceB 0 u)).set
  | (u, 3) => (Rect.unit (s := S8192x12288) (offB 1 u) S512x512.size (inbPieceB 1 u)).set

/-- The member whose boxes hold column `x`. -/
def memberOf (x : ℕ) : Fin 4 := if x < 2048 then 0 else if x < 4096 then 1 else if x < 8192 then 2 else 3
/-- The head column `x` belongs to. -/
def headOf (x : ℕ) : ℕ := if x < 2048 then x / 256 else if x < 4096 then (x - 2048) / 256 else if x < 8192 then (x - 4096) / 512 else (x - 8192) / 512
/-- The step that writes element `i`. -/
def stepOf (i : S8192x12288.Idx) : Fin 128 := ⟨16 * headOf (i 1).val + (15 - (i 0).val / 512), by
  have h0 : (i 0).val < 8192 := (i 0).isLt
  have h1 : (i 1).val < 12288 := (i 1).isLt
  unfold headOf; split_ifs <;> omega⟩
def ownerOf (i : S8192x12288.Idx) : Fin 128 × Fin 4 := (stepOf i, memberOf (i 1).val)

theorem mem_boxSet (b : Fin 128 × Fin 4) (i : S8192x12288.Idx) : i ∈ boxSet b ↔ b = ownerOf i := by
  obtain ⟨u, j⟩ := b
  have h0 : (i 0).val < 8192 := (i 0).isLt
  have h1 : (i 1).val < 12288 := (i 1).isLt
  have hu := u.isLt
  rw [ownerOf, Prod.mk.injEq, stepOf, Fin.ext_iff]
  match j with
  | 0 | 1 | 2 | 3 =>
    simp only [boxSet, Rect.mem_set_unit, Fin.forall_fin_two]
    simp [offA, offB, memberOf, headOf]
    split_ifs <;> simp <;> omega

theorem boxes_disjoint (b b' : Fin 128 × Fin 4) (h : b ≠ b') : Disjoint (boxSet b) (boxSet b') :=
  Finset.disjoint_left.mpr fun i hi hi' => h (((mem_boxSet b i).mp hi).trans ((mem_boxSet b' i).mp hi').symm)
theorem boxes_cover : Finset.univ.biUnion boxSet = Finset.univ :=
  Finset.eq_univ_iff_forall.mpr fun i => Finset.mem_biUnion.mpr ⟨ownerOf i, Finset.mem_univ _, (mem_boxSet _ i).mpr rfl⟩

/-- The result the steps leave, element by element. -/
def assembled (W : Fin 128 → Out F) (i : S8192x12288.Idx) : Elt F .bf16 :=
  if h : (i 1).val < 2048 then (W (stepOf i)).q (ix2 ⟨(i 0).val % 512, Nat.mod_lt _ (by decide)⟩ ⟨(i 1).val % 256, Nat.mod_lt _ (by decide)⟩)
  else if h : (i 1).val < 4096 then (W (stepOf i)).k (ix2 ⟨(i 0).val % 512, Nat.mod_lt _ (by decide)⟩ ⟨(i 1).val % 256, Nat.mod_lt _ (by decide)⟩)
  else if h : (i 1).val < 8192 then (W (stepOf i)).v (ix2 ⟨(i 0).val % 512, Nat.mod_lt _ (by decide)⟩ ⟨(i 1).val % 512, Nat.mod_lt _ (by decide)⟩)
  else (W (stepOf i)).g (ix2 ⟨(i 0).val % 512, Nat.mod_lt _ (by decide)⟩ ⟨(i 1).val % 512, Nat.mod_lt _ (by decide)⟩)

/-- At box `j` of step `u`, its element at offset `(y, x)` is what step `u` wrote there. -/
theorem assembled_q (W : Fin 128 → Out F) (u : Fin 128) (i : S8192x12288.Idx) (j : S512x256.Idx)
    (h0 : (i 0).val = offA 0 u 0 + (j 0).val) (h1 : (i 1).val = offA 0 u 1 + (j 1).val) : assembled W i = (W u).q j := by
  have hy : (j 0).val < 512 := (j 0).isLt
  have hx : (j 1).val < 256 := (j 1).isLt
  have hu := u.isLt
  simp [offA] at h0 h1
  have hs : stepOf i = u := by rw [stepOf, Fin.ext_iff]; simp only [headOf]; split_ifs <;> omega
  unfold assembled
  rw [dif_pos (by omega), hs]
  congr 1
  funext a; apply Fin.ext
  fin_cases a <;> simp [ix2] <;> omega
theorem assembled_k (W : Fin 128 → Out F) (u : Fin 128) (i : S8192x12288.Idx) (j : S512x256.Idx)
    (h0 : (i 0).val = offA 1 u 0 + (j 0).val) (h1 : (i 1).val = offA 1 u 1 + (j 1).val) : assembled W i = (W u).k j := by
  have hy : (j 0).val < 512 := (j 0).isLt
  have hx : (j 1).val < 256 := (j 1).isLt
  have hu := u.isLt
  simp [offA] at h0 h1
  have hs : stepOf i = u := by rw [stepOf, Fin.ext_iff]; simp only [headOf]; split_ifs <;> omega
  unfold assembled
  rw [dif_neg (by omega), dif_pos (by omega), hs]
  congr 1
  funext a; apply Fin.ext
  fin_cases a <;> simp [ix2] <;> omega
theorem assembled_v (W : Fin 128 → Out F) (u : Fin 128) (i : S8192x12288.Idx) (j : S512x512.Idx)
    (h0 : (i 0).val = offB 0 u 0 + (j 0).val) (h1 : (i 1).val = offB 0 u 1 + (j 1).val) : assembled W i = (W u).v j := by
  have hy : (j 0).val < 512 := (j 0).isLt
  have hx : (j 1).val < 512 := (j 1).isLt
  have hu := u.isLt
  simp [offB] at h0 h1
  have hs : stepOf i = u := by rw [stepOf, Fin.ext_iff]; simp only [headOf]; split_ifs <;> omega
  unfold assembled
  rw [dif_neg (by omega), dif_neg (by omega), dif_pos (by omega), hs]
  congr 1
  funext a; apply Fin.ext
  fin_cases a <;> simp [ix2] <;> omega
theorem assembled_g (W : Fin 128 → Out F) (u : Fin 128) (i : S8192x12288.Idx) (j : S512x512.Idx)
    (h0 : (i 0).val = offB 1 u 0 + (j 0).val) (h1 : (i 1).val = offB 1 u 1 + (j 1).val) : assembled W i = (W u).g j := by
  have hy : (j 0).val < 512 := (j 0).isLt
  have hx : (j 1).val < 512 := (j 1).isLt
  have hu := u.isLt
  simp [offB] at h0 h1
  have hs : stepOf i = u := by rw [stepOf, Fin.ext_iff]; simp only [headOf]; split_ifs <;> omega
  unfold assembled
  rw [dif_neg (by omega), dif_neg (by omega), dif_neg (by omega), hs]
  congr 1
  funext a; apply Fin.ext
  fin_cases a <;> simp [ix2] <;> omega

section Boxes
variable (c : Dev nD)

/-- The box `b` of the result held at `f`, as elements of the result. -/
abbrev boxP (f : Buf (Elt F) ((c : Thread nD τ).loc main_v23_0)) (b : Fin 128 × Fin 4) : sProp 𝕄 := ((c : Thread nD τ).loc main_v23_0) ↦[boxSet b]{fullShare} f

theorem heldA0_eq (u : Fin 128) (f) : held (F := F) c (pieceA 0 u) f = boxP c f (u, 0) := by
  unfold held boxP; rw [show (pieceA 0 u).view.set = boxSet (u, 0) from by simp only [pieceA]; exact View.set_slice_whole _ _]; rfl
theorem heldA1_eq (u : Fin 128) (f) : held (F := F) c (pieceA 1 u) f = boxP c f (u, 1) := by
  unfold held boxP; rw [show (pieceA 1 u).view.set = boxSet (u, 1) from by simp only [pieceA]; exact View.set_slice_whole _ _]; rfl
theorem heldB0_eq (u : Fin 128) (f) : held (F := F) c (pieceB 0 u) f = boxP c f (u, 2) := by
  unfold held boxP; rw [show (pieceB 0 u).view.set = boxSet (u, 2) from by simp only [pieceB]; exact View.set_slice_whole _ _]; rfl
theorem heldB1_eq (u : Fin 128) (f) : held (F := F) c (pieceB 1 u) f = boxP c f (u, 3) := by
  unfold held boxP; rw [show (pieceB 1 u).view.set = boxSet (u, 3) from by simp only [pieceB]; exact View.set_slice_whole _ _]; rfl

/-- The result whole is its boxes, step by step. -/
theorem whole_eq (f : Buf (Elt F) ((c : Thread nD τ).loc main_v23_0)) :
    (((c : Thread nD τ).loc main_v23_0) ↦{fullShare} f : sProp 𝕄)
      = bigSep Finset.univ fun u : Fin 128 => iprop(boxP c f (u, 0) ∗ boxP c f (u, 1) ∗ boxP c f (u, 2) ∗ boxP c f (u, 3)) := by
  rw [Ring.pointsTo_blocks (U := Pipeline.UD sig nD τ) (q := fullShare) boxSet boxes_disjoint boxes_cover f, BI.bigSep_univ_prod]
  refine BI.bigSep_congr fun u _ => ?_
  rw [BI.bigSep_eq_bigSepL_of_eq [0, 1, 2, 3] (by decide) (by decide)]; rfl

/-- The result whole at anything is every step's boxes at anything. -/
theorem whole_ahead (f : Buf (Elt F) ((c : Thread nD τ).loc main_v23_0)) :
    (((c : Thread nD τ).loc main_v23_0) ↦{fullShare} f : sProp 𝕄) ⊢ bigSep Finset.univ (ahead (F := F) c) := by
  rw [whole_eq]
  refine BI.bigSep_mono fun u _ => ?_
  show iprop(boxP c f (u, 0) ∗ boxP c f (u, 1) ∗ boxP c f (u, 2) ∗ boxP c f (u, 3)) ⊢ ahead c u
  iintro ⟨H0, H1, H2, H3⟩
  isplitl [H0]; · iexists f; iapply (Entails.of_eq (heldA0_eq c u f).symm); iexact H0
  isplitl [H1]; · iexists f; iapply (Entails.of_eq (heldA1_eq c u f).symm); iexact H1
  isplitl [H2]; · iexists f; iapply (Entails.of_eq (heldB0_eq c u f).symm); iexact H2
  iexists f; iapply (Entails.of_eq (heldB1_eq c u f).symm); iexact H3

theorem one_mul_add (a b : ℕ) : a + 1 * b = a + b := by omega

theorem homeA0 (W : Fin 128 → Out F) (u : Fin 128) : home c (pieceA 0 u) (W u).q ⊢ (boxP (F := F) c (assembled W) (u, 0) : sProp 𝕄) := by
  iintro ⟨%f, %hf, H⟩
  have e : held (F := F) c (pieceA 0 u) f = held c (pieceA 0 u) (assembled W) := pointsTo_congr fun i hi => by
    obtain ⟨j, -, rfl⟩ := Finset.mem_map.mp hi
    exact (congrFun hf j).trans (assembled_q W u ((pieceA 0 u).view.emb j) j (one_mul_add _ _) (one_mul_add _ _)).symm
  iapply (Entails.of_eq (e.trans (heldA0_eq c u (assembled W))))
  iexact H
theorem homeA1 (W : Fin 128 → Out F) (u : Fin 128) : home c (pieceA 1 u) (W u).k ⊢ (boxP (F := F) c (assembled W) (u, 1) : sProp 𝕄) := by
  iintro ⟨%f, %hf, H⟩
  have e : held (F := F) c (pieceA 1 u) f = held c (pieceA 1 u) (assembled W) := pointsTo_congr fun i hi => by
    obtain ⟨j, -, rfl⟩ := Finset.mem_map.mp hi
    exact (congrFun hf j).trans (assembled_k W u ((pieceA 1 u).view.emb j) j (one_mul_add _ _) (one_mul_add _ _)).symm
  iapply (Entails.of_eq (e.trans (heldA1_eq c u (assembled W))))
  iexact H
theorem homeB0 (W : Fin 128 → Out F) (u : Fin 128) : home c (pieceB 0 u) (W u).v ⊢ (boxP (F := F) c (assembled W) (u, 2) : sProp 𝕄) := by
  iintro ⟨%f, %hf, H⟩
  have e : held (F := F) c (pieceB 0 u) f = held c (pieceB 0 u) (assembled W) := pointsTo_congr fun i hi => by
    obtain ⟨j, -, rfl⟩ := Finset.mem_map.mp hi
    exact (congrFun hf j).trans (assembled_v W u ((pieceB 0 u).view.emb j) j (one_mul_add _ _) (one_mul_add _ _)).symm
  iapply (Entails.of_eq (e.trans (heldB0_eq c u (assembled W))))
  iexact H
theorem homeB1 (W : Fin 128 → Out F) (u : Fin 128) : home c (pieceB 1 u) (W u).g ⊢ (boxP (F := F) c (assembled W) (u, 3) : sProp 𝕄) := by
  iintro ⟨%f, %hf, H⟩
  have e : held (F := F) c (pieceB 1 u) f = held c (pieceB 1 u) (assembled W) := pointsTo_congr fun i hi => by
    obtain ⟨j, -, rfl⟩ := Finset.mem_map.mp hi
    exact (congrFun hf j).trans (assembled_g W u ((pieceB 1 u).view.emb j) j (one_mul_add _ _) (one_mul_add _ _)).symm
  iapply (Entails.of_eq (e.trans (heldB1_eq c u (assembled W))))
  iexact H

/-- Every step's boxes as the copies left them are the result whole, element by element. -/
theorem behind_whole (W : Fin 128 → Out F) :
    bigSep Finset.univ (behind c W) ⊢ (((c : Thread nD τ).loc main_v23_0) ↦{fullShare} (assembled W) : sProp 𝕄) := by
  rw [whole_eq]
  refine BI.bigSep_mono fun u _ => ?_
  show behind c W u ⊢ iprop(boxP c (assembled W) (u, 0) ∗ boxP c (assembled W) (u, 1) ∗ boxP c (assembled W) (u, 2) ∗ boxP c (assembled W) (u, 3))
  iintro ⟨H0, H1, H2, H3⟩
  isplitl [H0]; · iapply (homeA0 c W u); iexact H0
  isplitl [H1]; · iapply (homeA1 c W u); iexact H1
  isplitl [H2]; · iapply (homeB0 c W u); iexact H2
  iapply (homeB1 c W u); iexact H3

end Boxes

/-! ## Into the ring, and out of it -/

/-- The cells' numbers among the machine's. -/
abbrev osem0 : Fin 8 → SemLoc sig := fun j => (![SemLoc.dma 23, SemLoc.dma 24, SemLoc.dma 25, SemLoc.dma 26, SemLoc.dma 27, SemLoc.dma 28, SemLoc.dma 29, SemLoc.dma 30] : Fin 8 → SemLoc sig) j
theorem ownSemFacts0 : Pipeline.OwnSemFacts spec0 osem0 := by decide
theorem cellR_eq : ∀ (g : Fin 2) (j : Fin 4), cellR g j = osem0 ⟨4 * g.val + j.val, by omega⟩ := by decide
theorem cells_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 0 2 ∗ cellP c 0 3 ∗ cellP c 1 0 ∗ cellP c 1 1 ∗ cellP c 1 2 ∗ cellP c 1 3) := by
  rw [Pipeline.ownSems0_eq_of_list c osem0 [0, 1, 2, 3, 4, 5, 6, 7] (by decide) (by decide)]
  unfold cellP; simp only [cellR_eq]; rfl

/-- What the launch hands the ring: the pairs of tiles whole, the cells at zero, the result whole. -/
def handed (c : Dev nD) (f : Buf (Elt F) ((c : Thread nD τ).loc main_v23_0)) : sProp 𝕄 :=
  iprop((∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ Pipeline.ownSems0 (Ix := Unit) (Name := ℕ) (U := Pipeline.UD sig nD τ) (Lvl := ℕ) (Val := Elt F) (τ := τ) osem0 c
    ∗ ((c : Thread nD τ).loc main_v23_0) ↦{fullShare} f)

theorem ring_in (c : Dev nD) (W : Fin 128 → Out F) (f : Buf (Elt F) ((c : Thread nD τ).loc main_v23_0)) : handed c f ⊢ ring c W 0 := by
  unfold handed ring
  rw [Ring.AtBΦ_lt _ _ _ _ _ 0 (by decide), Ring.AtB_zero]; unfold Ring.AtB₀
  rw [two (P := free c), tilesQ_eq, tilesK_eq, tilesV_eq, tilesG_eq, cells_eq]
  iintro ⟨⟨Q0, Q1⟩, ⟨K0, K1⟩, ⟨V0, V1⟩, ⟨G0, G1⟩, ⟨C0, C1, C2, C3, C4, C5, C6, C7⟩, HD⟩
  isplitl [HD]; · iapply (whole_ahead c f); iexact HD
  isplitl [Q0 K0 V0 G0 C0 C1 C2 C3]
  · isplitl [C0 Q0]
    · isplitl [C0]; · iexact C0
      iexact Q0
    isplitl [C1 K0]
    · isplitl [C1]; · iexact C1
      iexact K0
    isplitl [C2 V0]
    · isplitl [C2]; · iexact C2
      iexact V0
    isplitl [C3]; · iexact C3
    iexact G0
  isplitl [C4 Q1]
  · isplitl [C4]; · iexact C4
    iexact Q1
  isplitl [C5 K1]
  · isplitl [C5]; · iexact C5
    iexact K1
  isplitl [C6 V1]
  · isplitl [C6]; · iexact C6
    iexact V1
  isplitl [C7]; · iexact C7
  iexact G1

theorem ring_out (c : Dev nD) (W : Fin 128 → Out F) : ring c W 128 ⊢ handed (F := F) c (assembled W) := by
  unfold handed ring
  rw [Ring.AtBΦ_ge _ _ _ _ _ 128 (by decide)]; unfold Ring.AtBEnd
  rw [two (P := free c), tilesQ_eq, tilesK_eq, tilesV_eq, tilesG_eq, cells_eq]
  iintro ⟨HD, ⟨⟨C0, Q0⟩, ⟨C1, K0⟩, ⟨C2, V0⟩, ⟨C3, G0⟩⟩, ⟨⟨C4, Q1⟩, ⟨C5, K1⟩, ⟨C6, V1⟩, ⟨C7, G1⟩⟩⟩
  isplitl [Q0 Q1]
  · isplitl [Q0]; · iexact Q0
    iexact Q1
  isplitl [K0 K1]
  · isplitl [K0]; · iexact K0
    iexact K1
  isplitl [V0 V1]
  · isplitl [V0]; · iexact V0
    iexact V1
  isplitl [G0 G1]
  · isplitl [G0]; · iexact G0
    iexact G1
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iapply (behind_whole c W)
  iexact HD

end Cert.KernelIdeal.Ret

end
-- ==== Proof.Ret.Start.lean ====
/- The start of the body: the waits for the copies of two steps before, and the accumulators started afresh at a head's first step. -/
module

public import proofs.«01_k».proof.Proof.Ret.Ring
public import Idealize.ShloMosaic.Lib.VecWindow
public import Idealize.ShloMosaic.Lib.WholeRead

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (c : Dev nD) (t : Fin cfg0.N)
  (arg2 : Memref sig .tc .smem S8 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x512 .f32) (harg5 : arg5.IsWhole)
  (arg6 : Memref sig .tc .vmem S512x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S1x512 .f32) (harg9 : arg9.IsWhole)
  (arg10 : Memref sig .tc .vmem S512x512 .f32) (harg10 : arg10.IsWhole) (arg11 : Memref sig .tc .vmem S8x1x256x512 .bf16) (harg11 : arg11.IsWhole)
  (arg12 : Memref sig .tc .vmem S512x512 .f32) (harg12 : arg12.IsWhole) (arg14 : Memref sig .tc .vmem S1x512 .f32) (harg14 : arg14.IsWhole)
  (arg15 : Memref sig .tc .vmem S256x512 .f32) (harg15 : arg15.IsWhole)

/-- The slot the step takes: in flight with the copies of two steps before, if there were any. -/
def slotBefore (W : Fin 128 → Out F) : sProp 𝕄 :=
  if 2 ≤ t.val then infl c W (Ring.sl 2 t.val) (Ring.bk 128 (t.val - 2)) else free c (Ring.sl 2 t.val)
/-- The boxes those copies wrote. -/
def landed (W : Fin 128 → Out F) : sProp 𝕄 :=
  if 2 ≤ t.val then behind c W (Ring.bk 128 (t.val - 2)) else iprop(emp)

/-- The head's decay exponent, as the body reads it: element `i 0` of the table of eight. -/
def lgOf (i : grid0.Coords) (x0 : Vec F S8 .f32) : Elt F .f32 :=
  x0 ((Rect.unit (s := S8) (k0_off9 i) S1.size (k0_off9_inb i)).toLoadRect.idx (Shape.Idx.first (numel1_S1.symm ▸ Nat.one_pos)))

/-- The step's number, as the body computes it. -/
abbrev stepWord (i : grid0.Coords) : BitVec 32 := Scalar.addi (Scalar.muli (BitVec.ofNat 32 (i 0).val) 16#32) (BitVec.ofNat 32 (i 1).val)

set_option maxHeartbeats 2000000 in
theorem start_run (W : Fin 128 → Out F) (x0 : Vec F S8 .f32) (gw : Vec F S1x512 .f32) (ds : Vec F S256x512 .f32) :
    ∀ (O : Waits sig Unit) (K : _ → sProp 𝕄),
      iprop(owns (c : Thread nD τ) arg2 fullShare x0 ∗ owns (c : Thread nD τ) arg14 fullShare gw ∗ owns (c : Thread nD τ) arg15 fullShare ds
          ∗ slotBefore c t W ∗ owes (c : Thread nD τ) 0 O
          ∗ (iprop(owns (c : Thread nD τ) arg2 fullShare x0
              ∗ owns (c : Thread nD τ) arg14 fullShare (if t.val % 16 = 0 then k0_pay2 else gw)
              ∗ owns (c : Thread nD τ) arg15 fullShare (if t.val % 16 = 0 then k0_pay1 else ds)
              ∗ free c (Ring.sl 2 t.val) ∗ landed c t W ∗ (∃ O', owes (c : Thread nD τ) 0 O'))
            -∗ K ⟨stepWord (grid0.coords t), lgOf (grid0.coords t) x0, k0_pay3 (lgOf (grid0.coords t) x0), k0_pay5 (lgOf (grid0.coords t) x0), k0_pay6 (lgOf (grid0.coords t) x0), k0_pay7⟩))
        ⊢ wp frame (wpE (defs₀ (F := F)) Variants.none c none) Set.univ
            (k0_part11 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5) K := by
  intro O K
  simp only [k0_part11_eq_skeleton]; unfold k0_part11_skel
  simp only [k0_part1_eq_skeleton, k0_part2_eq_skeleton, k0_part3_eq_skeleton]
  have hlg : lgOf (grid0.coords t) x0 = View.readAt (Elt F) arg2.view (Rect.unit (s := S8) (k0_off9 (grid0.coords t)) S1.size (k0_off9_inb (grid0.coords t))).toLoadRect (harg2.unread x0)
      (Shape.Idx.first (numel1_S1.symm ▸ Nat.one_pos)) := (harg2.readAt_unread x0 _ _).symm
  rw [hlg]
  unfold slotBefore landed owns
  by_cases h1 : 2 ≤ t.val
  · have hc1 := (waits_iff t).mpr h1
    haveI : Fact (k0_cond1 (grid0.coords t) = 1#1) := ⟨hc1⟩
    simp only [if_pos h1]
    by_cases h2 : t.val % 16 = 0
    · have hc2 : resets (grid0.coords t) := (resets_iff t).mpr h2
      simp only [if_pos h2]
      iintro ⟨⟨%f0, %hf0, H0⟩, ⟨%fg, %hg, Hg⟩, ⟨%fs, %hs, Hs⟩, ⟨⟨%f1, %e1, %w1, HF1⟩, ⟨%f2, %e2, %w2, HF2⟩, ⟨%f3, %e3, %w3, HF3⟩, ⟨%f4, %e4, %w4, HF4⟩⟩, HW, Hk⟩
      obtain rfl := harg2.eq_unread hf0
      sl_exec (disch := first | sl_exact hc1 | sl_exact hc2)
      sl_step
      first | unfold start_run.sl.r | unfold start_run.sl.r_1 | unfold start_run.sl.r_2 | unfold start_run.sl.r_3
      iapply Hk
      isplitl [H0]
      · iexists _; isplitr; · ipureintro; exact hf0
        iexact H0
      isplitl [Hg]
      · iexists _; isplitr; swap; · iexact Hg
        ipureintro; exact View.read_writes_full _ _ _ _ _
      isplitl [Hs]
      · iexists _; isplitr; swap; · iexact Hs
        ipureintro; exact View.read_writes_full _ _ _ _ _
      isplitl [HF1 HF2 HF3 HF4 HF1_src HF2_src HF3_src HF4_src]
      · isplitl [HF1 HF1_src]
        · isplitl [HF1]; · iexact HF1
          iexists _; iexact HF1_src
        isplitl [HF2 HF2_src]
        · isplitl [HF2]; · iexact HF2
          iexists _; iexact HF2_src
        isplitl [HF3 HF3_src]
        · isplitl [HF3]; · iexact HF3
          iexists _; iexact HF3_src
        isplitl [HF4]; · iexact HF4
        iexists _; iexact HF4_src
      isplitl [HF1_dst HF2_dst HF3_dst HF4_dst]
      · isplitl [HF1_dst]
        · iexists _; isplitr; · ipureintro; exact w1
          iexact HF1_dst
        isplitl [HF2_dst]
        · iexists _; isplitr; · ipureintro; exact w2
          iexact HF2_dst
        isplitl [HF3_dst]
        · iexists _; isplitr; · ipureintro; exact w3
          iexact HF3_dst
        iexists _; isplitr; · ipureintro; exact w4
        iexact HF4_dst
      iexists _; iexact HW
    · have hc2 : ¬resets (grid0.coords t) := fun h => h2 ((resets_iff t).mp h)
      simp only [if_neg h2]
      iintro ⟨⟨%f0, %hf0, H0⟩, ⟨%fg, %hg, Hg⟩, ⟨%fs, %hs, Hs⟩, ⟨⟨%f1, %e1, %w1, HF1⟩, ⟨%f2, %e2, %w2, HF2⟩, ⟨%f3, %e3, %w3, HF3⟩, ⟨%f4, %e4, %w4, HF4⟩⟩, HW, Hk⟩
      obtain rfl := harg2.eq_unread hf0
      sl_exec (disch := first | sl_exact hc1 | sl_exact hc2)
      sl_step
      first | unfold start_run.sl.r | unfold start_run.sl.r_1 | unfold start_run.sl.r_2 | unfold start_run.sl.r_3
      iapply Hk
      isplitl [H0]
      · iexists _; isplitr; · ipureintro; exact hf0
        iexact H0
      isplitl [Hg]
      · iexists _; isplitr; swap; · iexact Hg
        ipureintro; exact hg
      isplitl [Hs]
      · iexists _; isplitr; swap; · iexact Hs
        ipureintro; exact hs
      isplitl [HF1 HF2 HF3 HF4 HF1_src HF2_src HF3_src HF4_src]
      · isplitl [HF1 HF1_src]
        · isplitl [HF1]; · iexact HF1
          iexists _; iexact HF1_src
        isplitl [HF2 HF2_src]
        · isplitl [HF2]; · iexact HF2
          iexists _; iexact HF2_src
        isplitl [HF3 HF3_src]
        · isplitl [HF3]; · iexact HF3
          iexists _; iexact HF3_src
        isplitl [HF4]; · iexact HF4
        iexists _; iexact HF4_src
      isplitl [HF1_dst HF2_dst HF3_dst HF4_dst]
      · isplitl [HF1_dst]
        · iexists _; isplitr; · ipureintro; exact w1
          iexact HF1_dst
        isplitl [HF2_dst]
        · iexists _; isplitr; · ipureintro; exact w2
          iexact HF2_dst
        isplitl [HF3_dst]
        · iexists _; isplitr; · ipureintro; exact w3
          iexact HF3_dst
        iexists _; isplitr; · ipureintro; exact w4
        iexact HF4_dst
      iexists _; iexact HW
  · have hc1 := fun h => h1 ((waits_iff t).mp h)
    haveI : Fact (¬k0_cond1 (grid0.coords t) = 1#1) := ⟨hc1⟩
    simp only [if_neg h1]
    by_cases h2 : t.val % 16 = 0
    · have hc2 : resets (grid0.coords t) := (resets_iff t).mpr h2
      simp only [if_pos h2]
      iintro ⟨⟨%f0, %hf0, H0⟩, ⟨%fg, %hg, Hg⟩, ⟨%fs, %hs, Hs⟩, ⟨⟨HF1, ⟨%e1, T1⟩⟩, ⟨HF2, ⟨%e2, T2⟩⟩, ⟨HF3, ⟨%e3, T3⟩⟩, ⟨HF4, ⟨%e4, T4⟩⟩⟩, HW, Hk⟩
      obtain rfl := harg2.eq_unread hf0
      sl_exec (disch := first | sl_exact hc1 | sl_exact hc2)
      sl_step
      first | unfold start_run.sl.r | unfold start_run.sl.r_1 | unfold start_run.sl.r_2 | unfold start_run.sl.r_3
      iapply Hk
      isplitl [H0]
      · iexists _; isplitr; · ipureintro; exact hf0
        iexact H0
      isplitl [Hg]
      · iexists _; isplitr; swap; · iexact Hg
        ipureintro; exact View.read_writes_full _ _ _ _ _
      isplitl [Hs]
      · iexists _; isplitr; swap; · iexact Hs
        ipureintro; exact View.read_writes_full _ _ _ _ _
      isplitl [HF1 HF2 HF3 HF4 T1 T2 T3 T4]
      · isplitl [HF1 T1]
        · isplitl [HF1]; · iexact HF1
          iexists _; iexact T1
        isplitl [HF2 T2]
        · isplitl [HF2]; · iexact HF2
          iexists _; iexact T2
        isplitl [HF3 T3]
        · isplitl [HF3]; · iexact HF3
          iexists _; iexact T3
        isplitl [HF4]; · iexact HF4
        iexists _; iexact T4
      isplitr; · iempintro
      iexists _; iexact HW
    · have hc2 : ¬resets (grid0.coords t) := fun h => h2 ((resets_iff t).mp h)
      simp only [if_neg h2]
      iintro ⟨⟨%f0, %hf0, H0⟩, ⟨%fg, %hg, Hg⟩, ⟨%fs, %hs, Hs⟩, ⟨⟨HF1, ⟨%e1, T1⟩⟩, ⟨HF2, ⟨%e2, T2⟩⟩, ⟨HF3, ⟨%e3, T3⟩⟩, ⟨HF4, ⟨%e4, T4⟩⟩⟩, HW, Hk⟩
      obtain rfl := harg2.eq_unread hf0
      sl_exec (disch := first | sl_exact hc1 | sl_exact hc2)
      sl_step
      first | unfold start_run.sl.r | unfold start_run.sl.r_1 | unfold start_run.sl.r_2 | unfold start_run.sl.r_3
      iapply Hk
      isplitl [H0]
      · iexists _; isplitr; · ipureintro; exact hf0
        iexact H0
      isplitl [Hg]
      · iexists _; isplitr; swap; · iexact Hg
        ipureintro; exact hg
      isplitl [Hs]
      · iexists _; isplitr; swap; · iexact Hs
        ipureintro; exact hs
      isplitl [HF1 HF2 HF3 HF4 T1 T2 T3 T4]
      · isplitl [HF1 T1]
        · isplitl [HF1]; · iexact HF1
          iexists _; iexact T1
        isplitl [HF2 T2]
        · isplitl [HF2]; · iexact HF2
          iexists _; iexact T2
        isplitl [HF3 T3]
        · isplitl [HF3]; · iexact HF3
          iexists _; iexact T3
        isplitl [HF4]; · iexact HF4
        iexists _; iexact T4
      isplitr; · iempintro
      iexists _; iexact HW

end Cert.KernelIdeal.Ret

end
-- ==== Proof.Ret.Chunk.lean ====
/- What one grid step of the retention backward pass computes from its blocks: its eight chunks, taken from the last to the first. -/
module

public import proofs.«01_k».proof.Proof.Ret.Ring
public import Idealize.ShloMosaic.Lib.Pointwise.Index
public import Idealize.ShloMosaic.Lib.VecWindow
public import Idealize.ShloMosaic.Lib.WholeRead

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The blocks one grid step reads: the head's log decay, the norm's weights, and 512 rows of everything else. -/
structure Ins (F : FTy → Type) where
  lg : Elt F .f32
  w : Vec F S1x512 .f32
  q : Vec F S512x256 .f32
  k : Vec F S512x256 .f32
  v : Vec F S512x512 .f32
  g : Vec F S512x512 .f32
  cs : Vec F S512x128 .f32
  sn : Vec F S512x128 .f32
  o : Vec F S512x512 .f32
  st : Vec F S8x1x256x512 .bf16
  dy : Vec F S512x512 .f32

/-- One chunk's rows of them. -/
@[ext] structure Rows (F : FTy → Type) where
  q : Vec F S64x256 .f32
  k : Vec F S64x256 .f32
  v : Vec F S64x512 .f32
  g : Vec F S64x512 .f32
  cs : Vec F S64x128 .f32
  sn : Vec F S64x128 .f32
  o : Vec F S64x512 .f32
  st : Vec F S1x1x256x512 .bf16
  dy : Vec F S64x512 .f32

/-- Rows 64c … 64c+63 of a block of 512. -/
def band {n : ℕ} (c : Fin 8) (x : Vec F (⟨2, ![512, n]⟩ : Shape) .f32) : Vec F (⟨2, ![64, n]⟩ : Shape) .f32 :=
  fun j => x (ix2 ⟨64 * c.val + (j 0).val, by have := c.isLt; have := (j 0).isLt; simp only [Matrix.cons_val_zero] at this; omega⟩ (j 1))
/-- State c of a block of eight. -/
def stateOf (c : Fin 8) (x : Vec F S8x1x256x512 .bf16) : Vec F S1x1x256x512 .bf16 := fun j => x (ix4 c (j 1) (j 2) (j 3))

/-- Eight chunks' results one under another, w n being the chunk taken n-th, which is chunk 7 - n. -/
def glue {n : ℕ} (w : ℕ → Vec F (⟨3, ![1, 64, n]⟩ : Shape) .bf16) : (⟨2, ![512, n]⟩ : Shape).Idx → Elt F .bf16 :=
  fun j => w (7 - (j 0).val / 64) (ix3 0 ⟨(j 0).val % 64, Nat.mod_lt _ (by decide)⟩ (j 1))

namespace Ins
variable (X : Ins F) (R : Rows F)

def rows (c : Fin 8) : Rows F where
  q := band c X.q
  k := band c X.k
  v := band c X.v
  g := band c X.g
  cs := band c X.cs
  sn := band c X.sn
  o := band c X.o
  st := stateOf c X.st
  dy := band c X.dy

/-- The chunk's rotated queries and keys, and the keys times the decay to the chunk's end. -/
def qb : FVec F S64x256 .bf16 := k0_pay228 R.cs R.sn R.q
def kb : FVec F S64x256 .bf16 := k0_pay229 R.cs R.sn R.k
def kzb : FVec F S64x256 .bf16 := k0_pay230 (k0_pay6 X.lg) R.cs R.sn R.k
/-- The scores under the decay matrix. -/
def sb : FVec F S64x64 .bf16 := k0_pay232 (k0_pay3 X.lg) (qb R) (kb R)
/-- The normalised output and the gradient that reaches the norm's result. -/
def oh : FVec F S64x512 .f32 := k0_pay235 R.o
def dn : FVec F S64x512 .f32 := k0_pay237 R.g R.dy
/-- The gradient of the retention's output, plain and times the decay from the chunk's start. -/
def dob : FVec F S64x512 .bf16 := k0_pay242 X.w (k0_pay234 R.o) (oh R) (dn R)
def dox : FVec F S64x512 .bf16 := k0_pay243 (k0_pay5 X.lg) X.w (k0_pay234 R.o) (oh R) (dn R)

def dq : Vec F S1x64x256 .bf16 :=
  k0_pay250 (k0_pay249 (k0_pay3 X.lg) (k0_pay225 R.cs) (k0_pay226 R.sn) (kb R) (k0_pay231 R.v) (dob X R) (dox X R) R.st)
def dk (D : Vec F S256x512 .f32) : Vec F S1x64x256 .bf16 :=
  k0_pay251 (k0_pay225 R.cs) (k0_pay226 R.sn) (k0_pay247 (k0_pay3 X.lg) (k0_pay6 X.lg) (qb R) (k0_pay231 R.v) (dob X R) (k0_pay244 D))
def dv (D : Vec F S256x512 .f32) : Vec F S1x64x512 .bf16 := k0_pay245 (kzb X R) (sb X R) (dob X R) (k0_pay244 D)
def dg : Vec F S1x64x512 .bf16 := k0_pay239 (k0_pay238 X.w R.o R.g R.dy)
/-- The state's gradient before the chunk from the one after it, and the weights' gradient with the chunk's added. -/
def dsStep (D : Vec F S256x512 .f32) : Vec F S256x512 .f32 := k0_pay248 (k0_pay8 X.lg k0_pay7) (qb R) (dox X R) D
def gwStep (G : Vec F S1x512 .f32) : Vec F S1x512 .f32 := k0_pay240 (oh R) (dn R) G

/-- The chunk taken n-th. -/
def nth (n : ℕ) : Fin 8 := ⟨7 - n, by omega⟩
/-- The state's gradient after n chunks. -/
def dsAt (D : Vec F S256x512 .f32) : ℕ → Vec F S256x512 .f32
  | 0 => D
  | n + 1 => dsStep X (X.rows (nth n)) (dsAt D n)
/-- The weights' gradient after n chunks. -/
def gwAt (G : Vec F S1x512 .f32) : ℕ → Vec F S1x512 .f32
  | 0 => G
  | n + 1 => gwStep (X.rows (nth n)) (gwAt G n)

/-- What the step writes, the state's gradient being D before it. -/
def out (D : Vec F S256x512 .f32) : Out F where
  q := glue fun n => dq X (X.rows (nth n))
  k := glue fun n => dk X (X.rows (nth n)) (X.dsAt D n)
  v := glue fun n => dv X (X.rows (nth n)) (X.dsAt D n)
  g := glue fun n => dg X (X.rows (nth n))

end Ins

/-! ## The eight stores of one tile -/

/-- Where a store of rows o … o+63 of tile g puts its elements. -/
theorem band_emb {n : ℕ} (g : Fin 2) (o : ℕ)
    (inb : ∀ a, (![g.val, o, 0] : Fin 3 → ℕ) a + (⟨3, ![1, 64, n]⟩ : Shape).size a ≤ (⟨3, ![2, 512, n]⟩ : Shape).size a)
    (r : Fin 512) (x : Fin 64) (k : Fin n) (h : r.val = o + x.val) :
    (Rect.unit (s := (⟨3, ![2, 512, n]⟩ : Shape)) ![g.val, o, 0] (⟨3, ![1, 64, n]⟩ : Shape).size inb).emb (ix3 (0 : Fin 1) x k) = ix3 g r k := by
  funext a; apply Fin.ext; rw [Rect.emb_apply]
  match a with
  | ⟨0, _⟩ => show g.val + 1 * 0 = g.val; omega
  | ⟨1, _⟩ => show o + 1 * x.val = r.val; omega
  | ⟨2, _⟩ => show 0 + 1 * k.val = k.val; omega

/-- A store of rows o … o+63 of tile g, read back there. -/
theorem read_band_hit {n : ℕ} (M : Memref sig .tc .vmem (⟨3, ![2, 512, n]⟩ : Shape) .bf16) (f : M.view.ty.Contents (Elt F)) (g : Fin 2) (o : ℕ)
    {off : Fin 3 → ℕ} (h : off = ![g.val, o, 0]) (inb : ∀ a, off a + (⟨3, ![1, 64, n]⟩ : Shape).size a ≤ (⟨3, ![2, 512, n]⟩ : Shape).size a)
    (w : (Rect.unit (s := (⟨3, ![2, 512, n]⟩ : Shape)) off (⟨3, ![1, 64, n]⟩ : Shape).size inb).shape.Idx → Elt F .bf16)
    (r : Fin 512) (x : Fin 64) (k : Fin n) (hr : r.val = o + x.val) :
    M.view.read (Elt F) (View.write (Elt F) (M.access (Rect.unit (s := (⟨3, ![2, 512, n]⟩ : Shape)) off (⟨3, ![1, 64, n]⟩ : Shape).size inb)) f w Finset.univ) (ix3 g r k)
      = w (ix3 (0 : Fin 1) x k) := by
  subst h
  have e := View.read_slice_write_emb (Val := Elt F) (v := M.view) (Rect.unit (s := (⟨3, ![2, 512, n]⟩ : Shape)) ![g.val, o, 0] (⟨3, ![1, 64, n]⟩ : Shape).size inb) f w
    (Finset.mem_univ (ix3 (0 : Fin 1) x k))
  rw [band_emb g o inb r x k hr] at e
  exact e

/-- It leaves the other rows of the tile. -/
theorem read_band_miss {n : ℕ} (M : Memref sig .tc .vmem (⟨3, ![2, 512, n]⟩ : Shape) .bf16) (f : M.view.ty.Contents (Elt F)) (g : Fin 2) (o : ℕ)
    {off : Fin 3 → ℕ} (h : off = ![g.val, o, 0]) (inb : ∀ a, off a + (⟨3, ![1, 64, n]⟩ : Shape).size a ≤ (⟨3, ![2, 512, n]⟩ : Shape).size a)
    (w : (Rect.unit (s := (⟨3, ![2, 512, n]⟩ : Shape)) off (⟨3, ![1, 64, n]⟩ : Shape).size inb).shape.Idx → Elt F .bf16)
    (r : Fin 512) (k : Fin n) (h1 : ¬(o ≤ r.val ∧ r.val < o + 64)) :
    M.view.read (Elt F) (View.write (Elt F) (M.access (Rect.unit (s := (⟨3, ![2, 512, n]⟩ : Shape)) off (⟨3, ![1, 64, n]⟩ : Shape).size inb)) f w Finset.univ) (ix3 g r k)
      = M.view.read (Elt F) f (ix3 g r k) := by
  subst h
  refine View.read_slice_write_of_not_mem (Val := Elt F) (v := M.view) (Rect.unit (s := (⟨3, ![2, 512, n]⟩ : Shape)) ![g.val, o, 0] (⟨3, ![1, 64, n]⟩ : Shape).size inb) f w _ fun hm => h1 ?_
  obtain ⟨x, _, hx⟩ := Finset.mem_map.mp hm
  have e := congrArg (fun i : (⟨3, ![2, 512, n]⟩ : Shape).Idx => (i 1).val) hx
  have e' : o + 1 * (x 1).val = r.val := e
  have hx1 : (x 1).val < 64 := (x 1).isLt
  omega

/-- A tile's buffer after the stores of the first m chunks taken. -/
def stores {n : ℕ} (M : Memref sig .tc .vmem (⟨3, ![2, 512, n]⟩ : Shape) .bf16) (off : ℕ → Fin 3 → ℕ)
    (inb : ∀ m, ∀ a, off m a + (⟨3, ![1, 64, n]⟩ : Shape).size a ≤ (⟨3, ![2, 512, n]⟩ : Shape).size a)
    (f : M.view.ty.Contents (Elt F)) (w : ℕ → Vec F (⟨3, ![1, 64, n]⟩ : Shape) .bf16) : ℕ → M.view.ty.Contents (Elt F)
  | 0 => f
  | m + 1 => View.write (Elt F) (M.access (Rect.unit (s := (⟨3, ![2, 512, n]⟩ : Shape)) (off m) (⟨3, ![1, 64, n]⟩ : Shape).size (inb m))) (stores M off inb f w m) (w m) Finset.univ

/-- After all eight it holds the chunks' results one under another. -/
theorem read_stores {n : ℕ} (M : Memref sig .tc .vmem (⟨3, ![2, 512, n]⟩ : Shape) .bf16) (g : Fin 2)
    (off : ℕ → Fin 3 → ℕ) (hoff : ∀ m < 8, off m = ![g.val, 64 * (7 - m), 0])
    (inb : ∀ m, ∀ a, off m a + (⟨3, ![1, 64, n]⟩ : Shape).size a ≤ (⟨3, ![2, 512, n]⟩ : Shape).size a)
    (f : M.view.ty.Contents (Elt F)) (w : ℕ → Vec F (⟨3, ![1, 64, n]⟩ : Shape) .bf16) (r : Fin 512) (k : Fin n) :
    M.view.read (Elt F) (stores M off inb f w 8) (ix3 g r k) = glue w (ix2 r k) := by
  have key : ∀ m ≤ 8, 512 - 64 * m ≤ r.val → M.view.read (Elt F) (stores M off inb f w m) (ix3 g r k) = glue w (ix2 r k) := by
    intro m
    induction m with
    | zero => intro _ h; exact absurd r.isLt (by omega)
    | succ m ih =>
      intro hm h
      rw [stores]
      by_cases hc : 64 * (7 - m) ≤ r.val ∧ r.val < 64 * (7 - m) + 64
      · rw [read_band_hit M _ g (64 * (7 - m)) (hoff m (by omega)) (inb m) (w m) r ⟨r.val % 64, Nat.mod_lt _ (by decide)⟩ k (by show r.val = 64 * (7 - m) + r.val % 64; omega)]
        have e : 7 - r.val / 64 = m := by omega
        unfold glue
        show _ = w (7 - r.val / 64) _
        rw [e]; rfl
      · rw [read_band_miss M _ g (64 * (7 - m)) (hoff m (by omega)) (inb m) (w m) r k hc]
        exact ih (by omega) (by omega)
  exact key 8 le_rfl (by omega)

/-- Results that agree are glued alike. -/
theorem glue_congr {n : ℕ} {w w' : ℕ → Vec F (⟨3, ![1, 64, n]⟩ : Shape) .bf16} (h : ∀ m, w m = w' m) : glue w = glue w' := by
  rw [funext h]

/-! ## Loads of rows -/

theorem readAt_band {n : ℕ} {arg : Memref sig .tc .vmem (⟨2, ![512, n]⟩ : Shape) .f32} (harg : arg.IsWhole) (x : Vec F (⟨2, ![512, n]⟩ : Shape) .f32) (m : ℕ)
    (inb : ∀ a, (![64 * (7 - m), 0] : Fin 2 → ℕ) a + (⟨2, ![64, n]⟩ : Shape).size a ≤ (⟨2, ![512, n]⟩ : Shape).size a) :
    View.readAt (Elt F) arg.view (Rect.unit (s := (⟨2, ![512, n]⟩ : Shape)) ![64 * (7 - m), 0] (⟨2, ![64, n]⟩ : Shape).size inb).toLoadRect (harg.unread x) = band (Ins.nth m) x := by
  funext j
  refine (harg.readAt_unread x _ j).trans (congrArg x ?_)
  funext a; apply Fin.ext
  match a with
  | ⟨0, _⟩ => show 64 * (7 - m) + 1 * (j 0).val = 64 * (7 - m) + (j 0).val; omega
  | ⟨1, _⟩ => show 0 + 1 * (j 1).val = (j 1).val; omega

theorem readAt_state {arg : Memref sig .tc .vmem S8x1x256x512 .bf16} (harg : arg.IsWhole) (x : Vec F S8x1x256x512 .bf16) (m : ℕ)
    (inb : ∀ a, (![7 - m, 0, 0, 0] : Fin 4 → ℕ) a + S1x1x256x512.size a ≤ S8x1x256x512.size a) :
    View.readAt (Elt F) arg.view (Rect.unit (s := S8x1x256x512) ![7 - m, 0, 0, 0] S1x1x256x512.size inb).toLoadRect (harg.unread x) = stateOf (Ins.nth m) x := by
  funext j
  refine (harg.readAt_unread x _ j).trans (congrArg x ?_)
  funext a; apply Fin.ext
  have h0 : (j 0).val < 1 := (j 0).isLt
  match a with
  | ⟨0, _⟩ => show (7 - m) + 1 * (j 0).val = 7 - m; omega
  | ⟨1, _⟩ => show 0 + 1 * (j 1).val = (j 1).val; omega
  | ⟨2, _⟩ => show 0 + 1 * (j 2).val = (j 2).val; omega
  | ⟨3, _⟩ => show 0 + 1 * (j 3).val = (j 3).val; omega

theorem inbRow {n : ℕ} (m : ℕ) : ∀ a, (![64 * (7 - m), 0] : Fin 2 → ℕ) a + (⟨2, ![64, n]⟩ : Shape).size a ≤ (⟨2, ![512, n]⟩ : Shape).size a := by
  intro a; match a with
  | ⟨0, _⟩ => show 64 * (7 - m) + 64 ≤ 512; omega
  | ⟨1, _⟩ => show 0 + n ≤ n; omega
theorem inbState (m : ℕ) : ∀ a, (![7 - m, 0, 0, 0] : Fin 4 → ℕ) a + S1x1x256x512.size a ≤ S8x1x256x512.size a := by
  intro a; match a with
  | ⟨0, _⟩ => show (7 - m) + 1 ≤ 8; omega
  | ⟨1, _⟩ => show 0 + 1 ≤ 1; omega
  | ⟨2, _⟩ => show 0 + 256 ≤ 256; omega
  | ⟨3, _⟩ => show 0 + 512 ≤ 512; omega

/-- The tile at slot g read as the pair of tiles at g. -/
theorem read_tileA (M : Memref sig .tc .vmem S2x512x256 .bf16) (g : Fin 2) (f : M.view.ty.Contents (Elt F)) (j : S512x256.Idx) :
    (tileA M g).view.read (Elt F) f j = M.view.read (Elt F) f (ix3 g (j 0) (j 1)) := by
  have h1 : (tileA M g).view.read (Elt F) f j
      = M.view.read (Elt F) f ((Rect.unit (s := S2x512x256) ![g.val, 0, 0] S1x512x256.size (inbTileA g)).emb (Shape.reshapeEquiv squeezes_S1x512x256_S512x256.numel_eq j)) := rfl
  rw [h1, Shape.reshapeEquiv_cons_one]
  congr 1; funext a; apply Fin.ext; rw [Rect.emb_apply]
  match a with
  | ⟨0, _⟩ => show g.val + 1 * 0 = g.val; omega
  | ⟨1, _⟩ => show 0 + 1 * (j 0).val = (j 0).val; omega
  | ⟨2, _⟩ => show 0 + 1 * (j 1).val = (j 1).val; omega
theorem read_tileB (M : Memref sig .tc .vmem S2x512x512 .bf16) (g : Fin 2) (f : M.view.ty.Contents (Elt F)) (j : S512x512.Idx) :
    (tileB M g).view.read (Elt F) f j = M.view.read (Elt F) f (ix3 g (j 0) (j 1)) := by
  have h1 : (tileB M g).view.read (Elt F) f j
      = M.view.read (Elt F) f ((Rect.unit (s := S2x512x512) ![g.val, 0, 0] S1x512x512.size (inbTileB g)).emb (Shape.reshapeEquiv squeezes_S1x512x512_S512x512.numel_eq j)) := rfl
  rw [h1, Shape.reshapeEquiv_cons_one]
  congr 1; funext a; apply Fin.ext; rw [Rect.emb_apply]
  match a with
  | ⟨0, _⟩ => show g.val + 1 * 0 = g.val; omega
  | ⟨1, _⟩ => show 0 + 1 * (j 0).val = (j 0).val; omega
  | ⟨2, _⟩ => show 0 + 1 * (j 1).val = (j 1).val; omega
end Cert.KernelIdeal.Ret

end
-- ==== Proof.Ret.Raw.lean ====
/- The loads and stores of one grid step, in terms of the step's blocks. -/
module

public import proofs.«01_k».proof.Proof.Ret.Start
public import proofs.«01_k».proof.Proof.Ret.Chunk

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (c : Dev nD) (t : Fin cfg0.N)
  (arg2 : Memref sig .tc .smem S8 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x512 .f32) (harg5 : arg5.IsWhole)
  (arg6 : Memref sig .tc .vmem S512x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S1x512 .f32) (harg9 : arg9.IsWhole)
  (arg10 : Memref sig .tc .vmem S512x512 .f32) (harg10 : arg10.IsWhole) (arg11 : Memref sig .tc .vmem S8x1x256x512 .bf16) (harg11 : arg11.IsWhole)
  (arg12 : Memref sig .tc .vmem S512x512 .f32) (harg12 : arg12.IsWhole) (arg14 : Memref sig .tc .vmem S1x512 .f32) (harg14 : arg14.IsWhole)
  (arg15 : Memref sig .tc .vmem S256x512 .f32) (harg15 : arg15.IsWhole)

variable (x0 : Vec F S8 .f32) (x1 : Vec F S512x256 .f32) (x2 : Vec F S512x256 .f32) (x3 : Vec F S512x512 .f32) (x4 : Vec F S512x512 .f32) (x5 : Vec F S512x128 .f32) (x6 : Vec F S512x128 .f32) (x7 : Vec F S1x512 .f32) (x8 : Vec F S512x512 .f32) (x9 : Vec F S8x1x256x512 .bf16) (x10 : Vec F S512x512 .f32)

/-- The step's blocks. -/
def insOf : Ins F := ⟨lgOf (grid0.coords t) x0, x7, x1, x2, x3, x4, x5, x6, x8, x9, x10⟩
/-- The same with every load written as a load. -/
def insRaw : Ins F := ⟨lgOf (grid0.coords t) x0, View.readAt (Elt F) arg9.view (Rect.unit (s := S1x512) ![0, 0] S1x512.size inb_S1x512_S1x512_0_0).toLoadRect (harg9.unread x7), x1, x2, x3, x4, x5, x6, x8, x9, x10⟩
def rowsRaw (m : ℕ) : Rows F where
  q := View.readAt (Elt F) arg3.view (Rect.unit (s := S512x256) ![64 * (7 - m), 0] S64x256.size (inbRow m)).toLoadRect (harg3.unread x1)
  k := View.readAt (Elt F) arg4.view (Rect.unit (s := S512x256) ![64 * (7 - m), 0] S64x256.size (inbRow m)).toLoadRect (harg4.unread x2)
  v := View.readAt (Elt F) arg5.view (Rect.unit (s := S512x512) ![64 * (7 - m), 0] S64x512.size (inbRow m)).toLoadRect (harg5.unread x3)
  g := View.readAt (Elt F) arg6.view (Rect.unit (s := S512x512) ![64 * (7 - m), 0] S64x512.size (inbRow m)).toLoadRect (harg6.unread x4)
  cs := View.readAt (Elt F) arg7.view (Rect.unit (s := S512x128) ![64 * (7 - m), 0] S64x128.size (inbRow m)).toLoadRect (harg7.unread x5)
  sn := View.readAt (Elt F) arg8.view (Rect.unit (s := S512x128) ![64 * (7 - m), 0] S64x128.size (inbRow m)).toLoadRect (harg8.unread x6)
  o := View.readAt (Elt F) arg10.view (Rect.unit (s := S512x512) ![64 * (7 - m), 0] S64x512.size (inbRow m)).toLoadRect (harg10.unread x8)
  st := View.readAt (Elt F) arg11.view (Rect.unit (s := S8x1x256x512) ![7 - m, 0, 0, 0] S1x1x256x512.size (inbState m)).toLoadRect (harg11.unread x9)
  dy := View.readAt (Elt F) arg12.view (Rect.unit (s := S512x512) ![64 * (7 - m), 0] S64x512.size (inbRow m)).toLoadRect (harg12.unread x10)

theorem insRaw_eq : insRaw t arg9 harg9 x0 x1 x2 x3 x4 x5 x6 x7 x8 x9 x10 = insOf t x0 x1 x2 x3 x4 x5 x6 x7 x8 x9 x10 := by
  have hw : View.readAt (Elt F) arg9.view (Rect.unit (s := S1x512) ![0, 0] S1x512.size inb_S1x512_S1x512_0_0).toLoadRect (harg9.unread x7) = x7 :=
    funext fun j => (harg9.readAt_unread x7 _ j).trans (congrArg x7 (Rect.emb_unit_full _ _))
  unfold insRaw insOf
  rw [hw]
theorem rowsRaw_eq (m : ℕ) : rowsRaw arg3 harg3 arg4 harg4 arg5 harg5 arg6 harg6 arg7 harg7 arg8 harg8 arg10 harg10 arg11 harg11 arg12 harg12 x1 x2 x3 x4 x5 x6 x8 x9 x10 m
    = (insOf t x0 x1 x2 x3 x4 x5 x6 x7 x8 x9 x10).rows (Ins.nth m) :=
  Rows.ext (readAt_band harg3 x1 m _) (readAt_band harg4 x2 m _) (readAt_band harg5 x3 m _) (readAt_band harg6 x4 m _) (readAt_band harg7 x5 m _)
    (readAt_band harg8 x6 m _) (readAt_band harg10 x8 m _) (readAt_state harg11 x9 m _) (readAt_band harg12 x10 m _)

def offN14 (m : ℕ) : Fin 3 → ℕ := k0_off14 (grid0.coords t) (BitVec.ofNat 32 (min m 7))
def offN17 (m : ℕ) : Fin 3 → ℕ := k0_off17 (grid0.coords t) (BitVec.ofNat 32 (min m 7))
theorem inbN14 (m : ℕ) : ∀ a, offN14 t m a + S1x64x512.size a ≤ S2x512x512.size a := k0_off14_inb (grid0.coords t) ⟨min m 7, by omega⟩
theorem inbN17 (m : ℕ) : ∀ a, offN17 t m a + S1x64x256.size a ≤ S2x512x256.size a := k0_off17_inb (grid0.coords t) ⟨min m 7, by omega⟩
theorem offN14_eq : ∀ m < 8, offN14 t m = ![(Ring.sl 2 t.val).val, 64 * (7 - m), 0]
  | 0, _ => co_row_14_0 t | 1, _ => co_row_14_1 t | 2, _ => co_row_14_2 t | 3, _ => co_row_14_3 t
  | 4, _ => co_row_14_4 t | 5, _ => co_row_14_5 t | 6, _ => co_row_14_6 t | 7, _ => co_row_14_7 t
theorem offN17_eq : ∀ m < 8, offN17 t m = ![(Ring.sl 2 t.val).val, 64 * (7 - m), 0]
  | 0, _ => co_row_17_0 t | 1, _ => co_row_17_1 t | 2, _ => co_row_17_2 t | 3, _ => co_row_17_3 t
  | 4, _ => co_row_17_4 t | 5, _ => co_row_17_5 t | 6, _ => co_row_17_6 t | 7, _ => co_row_17_7 t

/-- One more chunk of the accumulators. -/
theorem dsAt_step {D v v' : Vec F S256x512 .f32} (m : ℕ) (h : v' = (insRaw t arg9 harg9 x0 x1 x2 x3 x4 x5 x6 x7 x8 x9 x10).dsStep (rowsRaw arg3 harg3 arg4 harg4 arg5 harg5 arg6 harg6 arg7 harg7 arg8 harg8 arg10 harg10 arg11 harg11 arg12 harg12 x1 x2 x3 x4 x5 x6 x8 x9 x10 m) v) (e : v = (insOf t x0 x1 x2 x3 x4 x5 x6 x7 x8 x9 x10).dsAt D m) : v' = (insOf t x0 x1 x2 x3 x4 x5 x6 x7 x8 x9 x10).dsAt D (m + 1) := by
  rw [h, e, insRaw_eq, rowsRaw_eq t (x0 := x0) (x7 := x7)]; rfl
theorem gwAt_step {G v v' : Vec F S1x512 .f32} (m : ℕ) (h : v' = Ins.gwStep (rowsRaw arg3 harg3 arg4 harg4 arg5 harg5 arg6 harg6 arg7 harg7 arg8 harg8 arg10 harg10 arg11 harg11 arg12 harg12 x1 x2 x3 x4 x5 x6 x8 x9 x10 m) v) (e : v = (insOf t x0 x1 x2 x3 x4 x5 x6 x7 x8 x9 x10).gwAt G m) : v' = (insOf t x0 x1 x2 x3 x4 x5 x6 x7 x8 x9 x10).gwAt G (m + 1) := by
  rw [h, e, rowsRaw_eq t (x0 := x0) (x7 := x7)]; rfl
theorem readAt_whole15 (D : Vec F S256x512 .f32) : View.readAt (Elt F) arg15.view (Rect.unit (s := S256x512) ![0, 0] S256x512.size inb_S256x512_S256x512_0_0).toLoadRect (harg15.unread D) = D :=
  funext fun j => (harg15.readAt_unread D _ j).trans (congrArg D (Rect.emb_unit_full _ _))
theorem readAt_whole14 (G : Vec F S1x512 .f32) : View.readAt (Elt F) arg14.view (Rect.unit (s := S1x512) ![0, 0] S1x512.size inb_S1x512_S1x512_0_0).toLoadRect (harg14.unread G) = G :=
  funext fun j => (harg14.readAt_unread G _ j).trans (congrArg G (Rect.emb_unit_full _ _))

/-- Eight stores whose payloads are `w`'s. -/
theorem stores_eight {n : ℕ} (M : Memref sig .tc .vmem (⟨3, ![2, 512, n]⟩ : Shape) .bf16) (off : ℕ → Fin 3 → ℕ)
    (inb : ∀ m, ∀ a, off m a + (⟨3, ![1, 64, n]⟩ : Shape).size a ≤ (⟨3, ![2, 512, n]⟩ : Shape).size a)
    (f : M.view.ty.Contents (Elt F)) (w : ℕ → Vec F (⟨3, ![1, 64, n]⟩ : Shape) .bf16) {w0 w1 w2 w3 w4 w5 w6 w7 : Vec F (⟨3, ![1, 64, n]⟩ : Shape) .bf16}
    (h0 : w0 = w 0) (h1 : w1 = w 1) (h2 : w2 = w 2) (h3 : w3 = w 3) (h4 : w4 = w 4) (h5 : w5 = w 5) (h6 : w6 = w 6) (h7 : w7 = w 7) :
    (View.write (Elt F) (M.access (Rect.unit (s := (⟨3, ![2, 512, n]⟩ : Shape)) (off 7) (⟨3, ![1, 64, n]⟩ : Shape).size (inb 7))) (View.write (Elt F) (M.access (Rect.unit (s := (⟨3, ![2, 512, n]⟩ : Shape)) (off 6) (⟨3, ![1, 64, n]⟩ : Shape).size (inb 6))) (View.write (Elt F) (M.access (Rect.unit (s := (⟨3, ![2, 512, n]⟩ : Shape)) (off 5) (⟨3, ![1, 64, n]⟩ : Shape).size (inb 5))) (View.write (Elt F) (M.access (Rect.unit (s := (⟨3, ![2, 512, n]⟩ : Shape)) (off 4) (⟨3, ![1, 64, n]⟩ : Shape).size (inb 4))) (View.write (Elt F) (M.access (Rect.unit (s := (⟨3, ![2, 512, n]⟩ : Shape)) (off 3) (⟨3, ![1, 64, n]⟩ : Shape).size (inb 3))) (View.write (Elt F) (M.access (Rect.unit (s := (⟨3, ![2, 512, n]⟩ : Shape)) (off 2) (⟨3, ![1, 64, n]⟩ : Shape).size (inb 2))) (View.write (Elt F) (M.access (Rect.unit (s := (⟨3, ![2, 512, n]⟩ : Shape)) (off 1) (⟨3, ![1, 64, n]⟩ : Shape).size (inb 1))) (View.write (Elt F) (M.access (Rect.unit (s := (⟨3, ![2, 512, n]⟩ : Shape)) (off 0) (⟨3, ![1, 64, n]⟩ : Shape).size (inb 0))) f w0 Finset.univ) w1 Finset.univ) w2 Finset.univ) w3 Finset.univ) w4 Finset.univ) w5 Finset.univ) w6 Finset.univ) w7 Finset.univ)
      = stores M off inb f w 8 := by
  subst h0 h1 h2 h3 h4 h5 h6 h7; rfl

/-- The copied tile, from its stores. -/
theorem copied_A (M : Memref sig .tc .vmem S2x512x256 .bf16) {T f : M.view.ty.Contents (Elt F)} {w : ℕ → Vec F S1x64x256 .bf16} (h : T = stores M (offN17 t) (inbN17 t) f w 8) :
    (tileA M (Ring.sl 2 t.val)).view.read (Elt F) T = glue w := by
  subst h; funext j
  rw [read_tileA]
  exact (read_stores M _ (offN17 t) (offN17_eq t) (inbN17 t) f w (j 0) (j 1)).trans (congrArg (glue w) (by funext a; match a with | ⟨0, _⟩ => rfl | ⟨1, _⟩ => rfl))
theorem copied_B (M : Memref sig .tc .vmem S2x512x512 .bf16) {T f : M.view.ty.Contents (Elt F)} {w : ℕ → Vec F S1x64x512 .bf16} (h : T = stores M (offN14 t) (inbN14 t) f w 8) :
    (tileB M (Ring.sl 2 t.val)).view.read (Elt F) T = glue w := by
  subst h; funext j
  rw [read_tileB]
  exact (read_stores M _ (offN14 t) (offN14_eq t) (inbN14 t) f w (j 0) (j 1)).trans (congrArg (glue w) (by funext a; match a with | ⟨0, _⟩ => rfl | ⟨1, _⟩ => rfl))

end Cert.KernelIdeal.Ret

end
-- ==== Proof.Ret.Body.lean ====
/- One grid step up to its last branch: what it stores, copies out and accumulates. -/
module

public import proofs.«01_k».proof.Proof.Ret.Raw
public import proofs.«01_k».proof.Proof.Ret.Start
public import proofs.«01_k».proof.Proof.Ret.Chunk

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (c : Dev nD) (t : Fin cfg0.N)
  (arg2 : Memref sig .tc .smem S8 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x512 .f32) (harg5 : arg5.IsWhole)
  (arg6 : Memref sig .tc .vmem S512x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S1x512 .f32) (harg9 : arg9.IsWhole)
  (arg10 : Memref sig .tc .vmem S512x512 .f32) (harg10 : arg10.IsWhole) (arg11 : Memref sig .tc .vmem S8x1x256x512 .bf16) (harg11 : arg11.IsWhole)
  (arg12 : Memref sig .tc .vmem S512x512 .f32) (harg12 : arg12.IsWhole) (arg14 : Memref sig .tc .vmem S1x512 .f32) (harg14 : arg14.IsWhole)
  (arg15 : Memref sig .tc .vmem S256x512 .f32) (harg15 : arg15.IsWhole)

set_option maxHeartbeats 4000000 in
theorem body_run (W : Fin 128 → Out F) (x0 : Vec F S8 .f32) (x1 : Vec F S512x256 .f32) (x2 : Vec F S512x256 .f32) (x3 : Vec F S512x512 .f32) (x4 : Vec F S512x512 .f32) (x5 : Vec F S512x128 .f32) (x6 : Vec F S512x128 .f32) (x7 : Vec F S1x512 .f32) (x8 : Vec F S512x512 .f32) (x9 : Vec F S8x1x256x512 .bf16) (x10 : Vec F S512x512 .f32)
    (gw : Vec F S1x512 .f32) (ds : Vec F S256x512 .f32)
    (hW : W (Ring.bk 128 t.val) = (insOf t x0 x1 x2 x3 x4 x5 x6 x7 x8 x9 x10).out (if t.val % 16 = 0 then k0_pay1 else ds)) :
    ∀ (O : Waits sig Unit) (K : _ → sProp 𝕄),
      iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare x9 ∗ owns (c : Thread nD τ) arg12 fullShare x10
          ∗ owns (c : Thread nD τ) arg14 fullShare gw ∗ owns (c : Thread nD τ) arg15 fullShare ds
          ∗ slotBefore c t W ∗ ahead c (Ring.bk 128 t.val) ∗ owes (c : Thread nD τ) 0 O
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare x4 ∗ owns (c : Thread nD τ) arg7 fullShare x5 ∗ owns (c : Thread nD τ) arg8 fullShare x6 ∗ owns (c : Thread nD τ) arg9 fullShare x7
              ∗ owns (c : Thread nD τ) arg10 fullShare x8 ∗ owns (c : Thread nD τ) arg11 fullShare x9 ∗ owns (c : Thread nD τ) arg12 fullShare x10
              ∗ owns (c : Thread nD τ) arg14 fullShare ((insOf t x0 x1 x2 x3 x4 x5 x6 x7 x8 x9 x10).gwAt (if t.val % 16 = 0 then k0_pay2 else gw) 8)
              ∗ owns (c : Thread nD τ) arg15 fullShare ((insOf t x0 x1 x2 x3 x4 x5 x6 x7 x8 x9 x10).dsAt (if t.val % 16 = 0 then k0_pay1 else ds) 8)
              ∗ infl c W (Ring.sl 2 t.val) (Ring.bk 128 t.val) ∗ landed c t W ∗ (∃ O', owes (c : Thread nD τ) 0 O'))
            -∗ K ⟨stepWord (grid0.coords t), 127#32⟩))
        ⊢ wp frame (wpE (defs₀ (F := F)) Variants.none c none) Set.univ
            (k0_part50 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5) K := by
  intro O K
  rw [k0_part50_eq_skeleton]; unfold k0_part50_skel
  rw [wp_bind]
  iintro ⟨H0, H1, H2, H3, H4, H5, H6, H7, H8, H9, H10, Hg, Hs, HR, ⟨⟨%fa, HA⟩, ⟨%fb, HB⟩, ⟨%fc, HC⟩, ⟨%fd, HD⟩⟩, HW, Hk⟩
  iapply (start_run c t arg2 harg2 arg3 harg3 arg4 harg4 arg5 harg5 arg6 harg6 arg7 harg7 arg8 harg8 arg9 harg9 arg10 harg10 arg11 harg11 arg12 harg12 arg14 harg14 arg15 harg15 W x0 gw ds O _)
  isplitl [H0]; · iexact H0
  isplitl [Hg]; · iexact Hg
  isplitl [Hs]; · iexact Hs
  isplitl [HR]; · iexact HR
  isplitl [HW]; · iexact HW
  iintro ⟨H0, Hg, Hs, ⟨⟨Q1, ⟨%e1, T1⟩⟩, ⟨Q2, ⟨%e2, T2⟩⟩, ⟨Q3, ⟨%e3, T3⟩⟩, ⟨Q4, ⟨%e4, T4⟩⟩⟩, HL, ⟨%O', HW⟩⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases Hg with ⟨%fg, %hfg, Hg⟩
  icases Hs with ⟨%fs, %hfs, Hs⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg14.eq_unread hfg
  obtain rfl := harg15.eq_unread hfs
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
  have hcanon0 := ca_tileA_16 scQ t
  have hcanon1 := ca_tileA_16' scQ t
  have hcanon2 := ca_tileA_16 scK t
  have hcanon3 := ca_tileA_16' scK t
  have hcanon4 := ca_tileB_13 scV t
  have hcanon5 := ca_tileB_13' scV t
  have hcanon6 := ca_tileB_13 scG t
  have hcanon7 := ca_tileB_13' scG t
  sl_exec
  sl_step
  have d0 : body_run.sl.r_15 t arg15 harg15 ds = (insOf t x0 x1 x2 x3 x4 x5 x6 x7 x8 x9 x10).dsAt (if t.val % 16 = 0 then k0_pay1 else ds) 0 := readAt_whole15 arg15 harg15 _
  have d1 : body_run.sl.v355 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 1 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.r_15 t arg15 harg15 ds) (m := 0) (D := (if t.val % 16 = 0 then k0_pay1 else ds)) (h := by delta body_run.sl.v355; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d0)
  have d2 : body_run.sl.v543 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 2 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v355 t arg3 harg3 arg6 harg6 arg7 harg7 arg8 harg8 arg9 harg9 arg10 harg10 arg12 harg12 arg15 harg15 x0 x1 x4 x5 x6 x7 x8 x10 ds) (m := 1) (D := (if t.val % 16 = 0 then k0_pay1 else ds)) (h := by delta body_run.sl.v543; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d1)
  have d3 : body_run.sl.v731 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 3 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v543 t arg3 harg3 arg6 harg6 arg7 harg7 arg8 harg8 arg9 harg9 arg10 harg10 arg12 harg12 arg15 harg15 x0 x1 x4 x5 x6 x7 x8 x10 ds) (m := 2) (D := (if t.val % 16 = 0 then k0_pay1 else ds)) (h := by delta body_run.sl.v731; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d2)
  have d4 : body_run.sl.v919 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 4 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v731 t arg3 harg3 arg6 harg6 arg7 harg7 arg8 harg8 arg9 harg9 arg10 harg10 arg12 harg12 arg15 harg15 x0 x1 x4 x5 x6 x7 x8 x10 ds) (m := 3) (D := (if t.val % 16 = 0 then k0_pay1 else ds)) (h := by delta body_run.sl.v919; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d3)
  have d5 : body_run.sl.v1107 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 5 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v919 t arg3 harg3 arg6 harg6 arg7 harg7 arg8 harg8 arg9 harg9 arg10 harg10 arg12 harg12 arg15 harg15 x0 x1 x4 x5 x6 x7 x8 x10 ds) (m := 4) (D := (if t.val % 16 = 0 then k0_pay1 else ds)) (h := by delta body_run.sl.v1107; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d4)
  have d6 : body_run.sl.v1295 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 6 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v1107 t arg3 harg3 arg6 harg6 arg7 harg7 arg8 harg8 arg9 harg9 arg10 harg10 arg12 harg12 arg15 harg15 x0 x1 x4 x5 x6 x7 x8 x10 ds) (m := 5) (D := (if t.val % 16 = 0 then k0_pay1 else ds)) (h := by delta body_run.sl.v1295; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d5)
  have d7 : body_run.sl.v1483 t arg3 harg3 arg6 harg6 arg7 harg7 arg8 harg8 arg9 harg9 arg10 harg10 arg12 harg12 arg15 harg15 x0 x1 x4 x5 x6 x7 x8 x10 ds = (insOf t x0 x1 x2 x3 x4 x5 x6 x7 x8 x9 x10).dsAt (if t.val % 16 = 0 then k0_pay1 else ds) 7 := dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v1295 t arg3 harg3 arg6 harg6 arg7 harg7 arg8 harg8 arg9 harg9 arg10 harg10 arg12 harg12 arg15 harg15 x0 x1 x4 x5 x6 x7 x8 x10 ds) (m := 6) (D := (if t.val % 16 = 0 then k0_pay1 else ds)) (h := by delta body_run.sl.v1483; refine (View.readCov_full _ _ _ _ _).trans ?_; (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d6)
  have t1 : body_run.sl.T1_w31 c t arg4 harg4 arg5 harg5 arg6 harg6 arg7 harg7 arg8 harg8 arg9 harg9 arg10 harg10 arg11 harg11 arg12 harg12 x0 x2 x3 x4 x5 x6 x7 x8 x9 x10 e1 = stores scQ (offN17 t) (inbN17 t) e1 (fun m => (insOf t x0 x1 x2 x3 x4 x5 x6 x7 x8 x9 x10).dq ((insOf t x0 x1 x2 x3 x4 x5 x6 x7 x8 x9 x10).rows (Ins.nth m))) 8 := by
    delta body_run.sl.T1_w31 body_run.sl.T1_w27 body_run.sl.T1_w23 body_run.sl.T1_w19 body_run.sl.T1_w15 body_run.sl.T1_w11 body_run.sl.T1_w7 body_run.sl.T1_w3
    refine stores_eight scQ (offN17 t) (inbN17 t) e1 (fun m => (insOf t x0 x1 x2 x3 x4 x5 x6 x7 x8 x9 x10).dq ((insOf t x0 x1 x2 x3 x4 x5 x6 x7 x8 x9 x10).rows (Ins.nth m))) ?_ ?_ ?_ ?_ ?_ ?_ ?_ ?_
    all_goals beta_reduce
    all_goals rw [← rowsRaw_eq t arg3 harg3 arg4 harg4 arg5 harg5 arg6 harg6 arg7 harg7 arg8 harg8 arg10 harg10 arg11 harg11 arg12 harg12 x0 x1 x2 x3 x4 x5 x6 x7 x8 x9 x10, ← insRaw_eq t arg9 harg9 x0 x1 x2 x3 x4 x5 x6 x7 x8 x9 x10]
    all_goals ((try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251])
    all_goals first | done | rfl
  have t2 : body_run.sl.T2_w32 c t arg3 harg3 arg5 harg5 arg6 harg6 arg7 harg7 arg8 harg8 arg9 harg9 arg10 harg10 arg12 harg12 arg15 harg15 x0 x1 x3 x4 x5 x6 x7 x8 x10 ds e2 = stores scK (offN17 t) (inbN17 t) e2 (fun m => (insOf t x0 x1 x2 x3 x4 x5 x6 x7 x8 x9 x10).dk ((insOf t x0 x1 x2 x3 x4 x5 x6 x7 x8 x9 x10).rows (Ins.nth m)) ((insOf t x0 x1 x2 x3 x4 x5 x6 x7 x8 x9 x10).dsAt (if t.val % 16 = 0 then k0_pay1 else ds) m)) 8 := by
    delta body_run.sl.T2_w32 body_run.sl.T2_w28 body_run.sl.T2_w24 body_run.sl.T2_w20 body_run.sl.T2_w16 body_run.sl.T2_w12 body_run.sl.T2_w8 body_run.sl.T2_w4
    refine stores_eight scK (offN17 t) (inbN17 t) e2 (fun m => (insOf t x0 x1 x2 x3 x4 x5 x6 x7 x8 x9 x10).dk ((insOf t x0 x1 x2 x3 x4 x5 x6 x7 x8 x9 x10).rows (Ins.nth m)) ((insOf t x0 x1 x2 x3 x4 x5 x6 x7 x8 x9 x10).dsAt (if t.val % 16 = 0 then k0_pay1 else ds) m)) ?_ ?_ ?_ ?_ ?_ ?_ ?_ ?_
    all_goals beta_reduce
    all_goals first | rw [← d0] | rw [← d1] | rw [← d2] | rw [← d3] | rw [← d4] | rw [← d5] | rw [← d6] | rw [← d7]
    all_goals rw [← rowsRaw_eq t arg3 harg3 arg4 harg4 arg5 harg5 arg6 harg6 arg7 harg7 arg8 harg8 arg10 harg10 arg11 harg11 arg12 harg12 x0 x1 x2 x3 x4 x5 x6 x7 x8 x9 x10, ← insRaw_eq t arg9 harg9 x0 x1 x2 x3 x4 x5 x6 x7 x8 x9 x10]
    all_goals ((try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251])
    all_goals first | done | rfl
  have t3 : body_run.sl.T3_w30 c t arg3 harg3 arg4 harg4 arg6 harg6 arg7 harg7 arg8 harg8 arg9 harg9 arg10 harg10 arg12 harg12 arg15 harg15 x0 x1 x2 x4 x5 x6 x7 x8 x10 ds e3 = stores scV (offN14 t) (inbN14 t) e3 (fun m => (insOf t x0 x1 x2 x3 x4 x5 x6 x7 x8 x9 x10).dv ((insOf t x0 x1 x2 x3 x4 x5 x6 x7 x8 x9 x10).rows (Ins.nth m)) ((insOf t x0 x1 x2 x3 x4 x5 x6 x7 x8 x9 x10).dsAt (if t.val % 16 = 0 then k0_pay1 else ds) m)) 8 := by
    delta body_run.sl.T3_w30 body_run.sl.T3_w26 body_run.sl.T3_w22 body_run.sl.T3_w18 body_run.sl.T3_w14 body_run.sl.T3_w10 body_run.sl.T3_w6 body_run.sl.T3_w2
    refine stores_eight scV (offN14 t) (inbN14 t) e3 (fun m => (insOf t x0 x1 x2 x3 x4 x5 x6 x7 x8 x9 x10).dv ((insOf t x0 x1 x2 x3 x4 x5 x6 x7 x8 x9 x10).rows (Ins.nth m)) ((insOf t x0 x1 x2 x3 x4 x5 x6 x7 x8 x9 x10).dsAt (if t.val % 16 = 0 then k0_pay1 else ds) m)) ?_ ?_ ?_ ?_ ?_ ?_ ?_ ?_
    all_goals beta_reduce
    all_goals first | rw [← d0] | rw [← d1] | rw [← d2] | rw [← d3] | rw [← d4] | rw [← d5] | rw [← d6] | rw [← d7]
    all_goals rw [← rowsRaw_eq t arg3 harg3 arg4 harg4 arg5 harg5 arg6 harg6 arg7 harg7 arg8 harg8 arg10 harg10 arg11 harg11 arg12 harg12 x0 x1 x2 x3 x4 x5 x6 x7 x8 x9 x10, ← insRaw_eq t arg9 harg9 x0 x1 x2 x3 x4 x5 x6 x7 x8 x9 x10]
    all_goals ((try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251])
    all_goals first | done | rfl
  have t4 : body_run.sl.T4_w29 c t arg6 harg6 arg9 harg9 arg10 harg10 arg12 harg12 x4 x7 x8 x10 e4 = stores scG (offN14 t) (inbN14 t) e4 (fun m => (insOf t x0 x1 x2 x3 x4 x5 x6 x7 x8 x9 x10).dg ((insOf t x0 x1 x2 x3 x4 x5 x6 x7 x8 x9 x10).rows (Ins.nth m))) 8 := by
    delta body_run.sl.T4_w29 body_run.sl.T4_w25 body_run.sl.T4_w21 body_run.sl.T4_w17 body_run.sl.T4_w13 body_run.sl.T4_w9 body_run.sl.T4_w5 body_run.sl.T4_w1
    refine stores_eight scG (offN14 t) (inbN14 t) e4 (fun m => (insOf t x0 x1 x2 x3 x4 x5 x6 x7 x8 x9 x10).dg ((insOf t x0 x1 x2 x3 x4 x5 x6 x7 x8 x9 x10).rows (Ins.nth m))) ?_ ?_ ?_ ?_ ?_ ?_ ?_ ?_
    all_goals beta_reduce
    all_goals rw [← rowsRaw_eq t arg3 harg3 arg4 harg4 arg5 harg5 arg6 harg6 arg7 harg7 arg8 harg8 arg10 harg10 arg11 harg11 arg12 harg12 x0 x1 x2 x3 x4 x5 x6 x7 x8 x9 x10, ← insRaw_eq t arg9 harg9 x0 x1 x2 x3 x4 x5 x6 x7 x8 x9 x10]
    all_goals ((try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251])
    all_goals first | done | rfl
  have g0 : View.readAt (Elt F) arg14.view (Rect.unit (s := S1x512) ![0, 0] S1x512.size inb_S1x512_S1x512_0_0).toLoadRect (harg14.unread (if t.val % 16 = 0 then k0_pay2 else gw)) = (insOf t x0 x1 x2 x3 x4 x5 x6 x7 x8 x9 x10).gwAt (if t.val % 16 = 0 then k0_pay2 else gw) 0 := readAt_whole14 arg14 harg14 (if t.val % 16 = 0 then k0_pay2 else gw)
  have g1 : arg14.view.readCov (body_run.sl.Hg_1 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 1 := by
    refine gwAt_step t arg3 harg3 arg4 harg4 arg5 harg5 arg6 harg6 arg7 harg7 arg8 harg8 arg10 harg10 arg11 harg11 arg12 harg12 x0 x1 x2 x3 x4 x5 x6 x7 x8 x9 x10 (v := View.readAt (Elt F) arg14.view (Rect.unit (s := S1x512) ![0, 0] S1x512.size inb_S1x512_S1x512_0_0).toLoadRect (harg14.unread (if t.val % 16 = 0 then k0_pay2 else gw))) (m := 0) (G := (if t.val % 16 = 0 then k0_pay2 else gw)) ?_ g0
    delta body_run.sl.Hg_1; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g2 : arg14.view.readCov (body_run.sl.Hg_2 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 2 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_1 t arg6 harg6 arg10 harg10 arg12 harg12 arg14 harg14 x4 x8 x10 gw) (Rect.unit (s := S1x512) ![0, 0] S1x512.size inb_S1x512_S1x512_0_0).toLoadRect) (m := 1) (G := (if t.val % 16 = 0 then k0_pay2 else gw)) ?_ g1
    delta body_run.sl.Hg_2; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g3 : arg14.view.readCov (body_run.sl.Hg_3 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 3 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_2 t arg6 harg6 arg10 harg10 arg12 harg12 arg14 harg14 x4 x8 x10 gw) (Rect.unit (s := S1x512) ![0, 0] S1x512.size inb_S1x512_S1x512_0_0).toLoadRect) (m := 2) (G := (if t.val % 16 = 0 then k0_pay2 else gw)) ?_ g2
    delta body_run.sl.Hg_3; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g4 : arg14.view.readCov (body_run.sl.Hg_4 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 4 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_3 t arg6 harg6 arg10 harg10 arg12 harg12 arg14 harg14 x4 x8 x10 gw) (Rect.unit (s := S1x512) ![0, 0] S1x512.size inb_S1x512_S1x512_0_0).toLoadRect) (m := 3) (G := (if t.val % 16 = 0 then k0_pay2 else gw)) ?_ g3
    delta body_run.sl.Hg_4; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g5 : arg14.view.readCov (body_run.sl.Hg_5 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 5 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_4 t arg6 harg6 arg10 harg10 arg12 harg12 arg14 harg14 x4 x8 x10 gw) (Rect.unit (s := S1x512) ![0, 0] S1x512.size inb_S1x512_S1x512_0_0).toLoadRect) (m := 4) (G := (if t.val % 16 = 0 then k0_pay2 else gw)) ?_ g4
    delta body_run.sl.Hg_5; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g6 : arg14.view.readCov (body_run.sl.Hg_6 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 6 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_5 t arg6 harg6 arg10 harg10 arg12 harg12 arg14 harg14 x4 x8 x10 gw) (Rect.unit (s := S1x512) ![0, 0] S1x512.size inb_S1x512_S1x512_0_0).toLoadRect) (m := 5) (G := (if t.val % 16 = 0 then k0_pay2 else gw)) ?_ g5
    delta body_run.sl.Hg_6; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have g7 : arg14.view.readCov (body_run.sl.Hg_7 t arg6 harg6 arg10 harg10 arg12 harg12 arg14 harg14 x4 x8 x10 gw) (Rect.unit (s := S1x512) ![0, 0] S1x512.size inb_S1x512_S1x512_0_0).toLoadRect = (insOf t x0 x1 x2 x3 x4 x5 x6 x7 x8 x9 x10).gwAt (if t.val % 16 = 0 then k0_pay2 else gw) 7 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_6 t arg6 harg6 arg10 harg10 arg12 harg12 arg14 harg14 x4 x8 x10 gw) (Rect.unit (s := S1x512) ![0, 0] S1x512.size inb_S1x512_S1x512_0_0).toLoadRect) (m := 6) (G := (if t.val % 16 = 0 then k0_pay2 else gw)) ?_ g6
    delta body_run.sl.Hg_7; refine (View.readCov_full _ _ _ _ _).trans ?_
    delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  have tg : k0_pay240 (body_run.sl.r_146 arg10 harg10 x8) (body_run.sl.r_147 arg6 harg6 arg12 harg12 x4 x10) (body_run.sl.v1454 t arg6 harg6 arg10 harg10 arg12 harg12 arg14 harg14 x4 x8 x10 gw) = (insOf t x0 x1 x2 x3 x4 x5 x6 x7 x8 x9 x10).gwAt (if t.val % 16 = 0 then k0_pay2 else gw) 8 := by
    refine gwAt_step t arg3 harg3 arg4 harg4 arg5 harg5 arg6 harg6 arg7 harg7 arg8 harg8 arg10 harg10 arg11 harg11 arg12 harg12 x0 x1 x2 x3 x4 x5 x6 x7 x8 x9 x10 (v := arg14.view.readCov (body_run.sl.Hg_7 t arg6 harg6 arg10 harg10 arg12 harg12 arg14 harg14 x4 x8 x10 gw) (Rect.unit (s := S1x512) ![0, 0] S1x512.size inb_S1x512_S1x512_0_0).toLoadRect) (m := 7) (G := (if t.val % 16 = 0 then k0_pay2 else gw)) ?_ g7
    delta body_run.sl.v1454 body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154; dsimp only [rowsRaw, Ins.gwStep, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]
    first | done | rfl
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [Hg]
  · iexists _; isplitr; swap; · iexact Hg
    ipureintro; exact (View.read_writes_full _ _ _ _ _).trans tg
  isplitl [Hs]
  · iexists _; isplitr; swap; · iexact Hs
    ipureintro
    refine (View.read_writes_full _ _ _ _ _).trans ?_
    exact dsAt_step t arg3 harg3 arg4 harg4 arg5 harg5 arg6 harg6 arg7 harg7 arg8 harg8 arg9 harg9 arg10 harg10 arg11 harg11 arg12 harg12 x0 x1 x2 x3 x4 x5 x6 x7 x8 x9 x10 (v := body_run.sl.v1483 t arg3 harg3 arg6 harg6 arg7 harg7 arg8 harg8 arg9 harg9 arg10 harg10 arg12 harg12 arg15 harg15 x0 x1 x4 x5 x6 x7 x8 x10 ds) (m := 7) (D := (if t.val % 16 = 0 then k0_pay1 else ds)) (h := by (try delta body_run.sl.r body_run.sl.r_1 body_run.sl.r_2 body_run.sl.r_3 body_run.sl.r_4 body_run.sl.r_5 body_run.sl.r_6 body_run.sl.r_7 body_run.sl.r_8 body_run.sl.r_9 body_run.sl.r_10 body_run.sl.r_11 body_run.sl.r_12 body_run.sl.r_13 body_run.sl.r_14 body_run.sl.r_16 body_run.sl.r_17 body_run.sl.r_18 body_run.sl.r_19 body_run.sl.r_20 body_run.sl.r_21 body_run.sl.r_22 body_run.sl.r_23 body_run.sl.r_24 body_run.sl.r_25 body_run.sl.r_26 body_run.sl.r_27 body_run.sl.r_28 body_run.sl.r_29 body_run.sl.r_30 body_run.sl.r_31 body_run.sl.r_32 body_run.sl.r_33 body_run.sl.r_34 body_run.sl.r_35 body_run.sl.r_36 body_run.sl.r_37 body_run.sl.r_38 body_run.sl.r_39 body_run.sl.r_40 body_run.sl.r_41 body_run.sl.r_42 body_run.sl.r_43 body_run.sl.r_44 body_run.sl.r_45 body_run.sl.r_46 body_run.sl.r_47 body_run.sl.r_48 body_run.sl.r_49 body_run.sl.r_50 body_run.sl.r_51 body_run.sl.r_52 body_run.sl.r_53 body_run.sl.r_54 body_run.sl.r_55 body_run.sl.r_56 body_run.sl.r_57 body_run.sl.r_58 body_run.sl.r_59 body_run.sl.r_60 body_run.sl.r_61 body_run.sl.r_62 body_run.sl.r_63 body_run.sl.r_64 body_run.sl.r_65 body_run.sl.r_66 body_run.sl.r_67 body_run.sl.r_68 body_run.sl.r_69 body_run.sl.r_70 body_run.sl.r_71 body_run.sl.r_72 body_run.sl.r_73 body_run.sl.r_74 body_run.sl.r_75 body_run.sl.r_76 body_run.sl.r_77 body_run.sl.r_78 body_run.sl.r_79 body_run.sl.r_80 body_run.sl.r_81 body_run.sl.r_82 body_run.sl.r_83 body_run.sl.r_84 body_run.sl.r_85 body_run.sl.r_86 body_run.sl.r_87 body_run.sl.r_88 body_run.sl.r_89 body_run.sl.r_90 body_run.sl.r_91 body_run.sl.r_92 body_run.sl.r_93 body_run.sl.r_94 body_run.sl.r_95 body_run.sl.r_96 body_run.sl.r_97 body_run.sl.r_98 body_run.sl.r_99 body_run.sl.r_100 body_run.sl.r_101 body_run.sl.r_102 body_run.sl.r_103 body_run.sl.r_104 body_run.sl.r_105 body_run.sl.r_106 body_run.sl.r_107 body_run.sl.r_108 body_run.sl.r_109 body_run.sl.r_110 body_run.sl.r_111 body_run.sl.r_112 body_run.sl.r_113 body_run.sl.r_114 body_run.sl.r_115 body_run.sl.r_116 body_run.sl.r_117 body_run.sl.r_118 body_run.sl.r_119 body_run.sl.r_120 body_run.sl.r_121 body_run.sl.r_122 body_run.sl.r_123 body_run.sl.r_124 body_run.sl.r_125 body_run.sl.r_126 body_run.sl.r_127 body_run.sl.r_128 body_run.sl.r_129 body_run.sl.r_130 body_run.sl.r_131 body_run.sl.r_132 body_run.sl.r_133 body_run.sl.r_134 body_run.sl.r_135 body_run.sl.r_136 body_run.sl.r_137 body_run.sl.r_138 body_run.sl.r_139 body_run.sl.r_140 body_run.sl.r_141 body_run.sl.r_142 body_run.sl.r_143 body_run.sl.r_144 body_run.sl.r_145 body_run.sl.r_146 body_run.sl.r_147 body_run.sl.r_148 body_run.sl.r_149 body_run.sl.r_150 body_run.sl.r_151 body_run.sl.r_152 body_run.sl.r_153 body_run.sl.r_154); dsimp only [insRaw, rowsRaw, Ins.dsStep, Ins.dq, Ins.dk, Ins.dv, Ins.dg, Ins.dob, Ins.dox, Ins.qb, Ins.kb, Ins.kzb, Ins.sb, Ins.oh, Ins.dn, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251]; first | done | rfl) (e := d7)
  isplitl [Q1 Q2 Q3 Q4]
  · isplitl [Q1]
    · iexists _, _; isplitr; swap; · iexact Q1
      ipureintro; exact (View.read_writes_whole _ _ _).trans ((copied_A t scQ t1).trans (congrArg Out.q hW).symm)
    isplitl [Q2]
    · iexists _, _; isplitr; swap; · iexact Q2
      ipureintro; exact (View.read_writes_whole _ _ _).trans ((copied_A t scK t2).trans (congrArg Out.k hW).symm)
    isplitl [Q3]
    · iexists _, _; isplitr; swap; · iexact Q3
      ipureintro; exact (View.read_writes_whole _ _ _).trans ((copied_B t scV t3).trans (congrArg Out.v hW).symm)
    iexists _, _; isplitr; swap; · iexact Q4
    ipureintro; exact (View.read_writes_whole _ _ _).trans ((copied_B t scG t4).trans (congrArg Out.g hW).symm)
  isplitl [HL]; · iexact HL
  iexists _; iexact HW

end Cert.KernelIdeal.Ret

end
-- ==== Proof.Ret.Step.lean ====
/- One grid step: all but the last keep their copies in flight, the last waits for its own and for the step's before. -/
module

public import proofs.«01_k».proof.Proof.Ret.Body

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (c : Dev nD) (t : Fin cfg0.N)
  (arg2 : Memref sig .tc .smem S8 .f32) (harg2 : arg2.IsWhole) (arg3 : Memref sig .tc .vmem S512x256 .f32) (harg3 : arg3.IsWhole)
  (arg4 : Memref sig .tc .vmem S512x256 .f32) (harg4 : arg4.IsWhole) (arg5 : Memref sig .tc .vmem S512x512 .f32) (harg5 : arg5.IsWhole)
  (arg6 : Memref sig .tc .vmem S512x512 .f32) (harg6 : arg6.IsWhole) (arg7 : Memref sig .tc .vmem S512x128 .f32) (harg7 : arg7.IsWhole)
  (arg8 : Memref sig .tc .vmem S512x128 .f32) (harg8 : arg8.IsWhole) (arg9 : Memref sig .tc .vmem S1x512 .f32) (harg9 : arg9.IsWhole)
  (arg10 : Memref sig .tc .vmem S512x512 .f32) (harg10 : arg10.IsWhole) (arg11 : Memref sig .tc .vmem S8x1x256x512 .bf16) (harg11 : arg11.IsWhole)
  (arg12 : Memref sig .tc .vmem S512x512 .f32) (harg12 : arg12.IsWhole) (arg14 : Memref sig .tc .vmem S1x512 .f32) (harg14 : arg14.IsWhole)
  (arg15 : Memref sig .tc .vmem S256x512 .f32) (harg15 : arg15.IsWhole)

set_option maxHeartbeats 1000000 in
theorem step_run (W : Fin 128 → Out F) (x0 : Vec F S8 .f32) (x1 : Vec F S512x256 .f32) (x2 : Vec F S512x256 .f32) (x3 : Vec F S512x512 .f32) (x4 : Vec F S512x512 .f32) (x5 : Vec F S512x128 .f32) (x6 : Vec F S512x128 .f32) (x7 : Vec F S1x512 .f32) (x8 : Vec F S512x512 .f32) (x9 : Vec F S8x1x256x512 .bf16) (x10 : Vec F S512x512 .f32)
    (gw : Vec F S1x512 .f32) (ds : Vec F S256x512 .f32)
    (hd : t.val ≠ 127) (hW : W (Ring.bk 128 t.val) = (insOf t x0 x1 x2 x3 x4 x5 x6 x7 x8 x9 x10).out (if t.val % 16 = 0 then k0_pay1 else ds)) :
    ∀ (O : Waits sig Unit) (K : _ → sProp 𝕄),
      iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare x9 ∗ owns (c : Thread nD τ) arg12 fullShare x10
          ∗ owns (c : Thread nD τ) arg14 fullShare gw ∗ owns (c : Thread nD τ) arg15 fullShare ds
          ∗ slotBefore c t W ∗ ahead c (Ring.bk 128 t.val) ∗ owes (c : Thread nD τ) 0 O
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare x4 ∗ owns (c : Thread nD τ) arg7 fullShare x5 ∗ owns (c : Thread nD τ) arg8 fullShare x6 ∗ owns (c : Thread nD τ) arg9 fullShare x7
              ∗ owns (c : Thread nD τ) arg10 fullShare x8 ∗ owns (c : Thread nD τ) arg11 fullShare x9 ∗ owns (c : Thread nD τ) arg12 fullShare x10
              ∗ owns (c : Thread nD τ) arg14 fullShare ((insOf t x0 x1 x2 x3 x4 x5 x6 x7 x8 x9 x10).gwAt (if t.val % 16 = 0 then k0_pay2 else gw) 8)
              ∗ owns (c : Thread nD τ) arg15 fullShare ((insOf t x0 x1 x2 x3 x4 x5 x6 x7 x8 x9 x10).dsAt (if t.val % 16 = 0 then k0_pay1 else ds) 8)
              ∗ infl c W (Ring.sl 2 t.val) (Ring.bk 128 t.val) ∗ landed c t W ∗ (∃ O', owes (c : Thread nD τ) 0 O'))
            -∗ K ⟨⟩))
        ⊢ wp frame (wpE (defs₀ (F := F)) Variants.none c none) Set.univ
            (cc0_ret_bwd (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5) K := by
  intro O K
  haveI : Fact (¬k0_cond3 (grid0.coords t) = 1#1) := ⟨fun h => hd ((drains_iff t).mp h)⟩
  have hc : ¬k0_cond3 (grid0.coords t) = 1#1 := fun h => hd ((drains_iff t).mp h)
  simp only [cc0_ret_bwd_eq_skeleton]; unfold cc0_ret_bwd_skel
  rw [wp_bind]
  iintro ⟨H0, H1, H2, H3, H4, H5, H6, H7, H8, H9, H10, Hg, Hs, HR, HA, HW, Hk⟩
  iapply (body_run c t arg2 harg2 arg3 harg3 arg4 harg4 arg5 harg5 arg6 harg6 arg7 harg7 arg8 harg8 arg9 harg9 arg10 harg10 arg11 harg11 arg12 harg12 arg14 harg14 arg15 harg15 W x0 x1 x2 x3 x4 x5 x6 x7 x8 x9 x10 gw ds hW O _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hg]; · iexact Hg
  isplitl [Hs]; · iexact Hs
  isplitl [HR]; · iexact HR
  isplitl [HA]; · iexact HA
  isplitl [HW]; · iexact HW
  iintro ⟨H0, H1, H2, H3, H4, H5, H6, H7, H8, H9, H10, Hg, Hs, HI, HL, HW⟩
  sl_exec (disch := first | sl_exact hc)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hg]; · iexact Hg
  isplitl [Hs]; · iexact Hs
  isplitl [HI]; · iexact HI
  isplitl [HL]; · iexact HL
  iexact HW

/-! The index arithmetic between the last step's waits touches no memory. -/

theorem part4_run (a : BitVec 32) (K : _ → sProp 𝕄) : iprop(∀ r, K r) ⊢ wp frame (wpE (defs₀ (F := F)) Variants.none c none) Set.univ
    (k0_part4 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a) K := by
  simp only [k0_part4_eq_skeleton]
  iintro H
  sl_exec
  sl_step
  iapply H

theorem part5_run (a b d e : BitVec 32) (p q : BitVec 1) (K : _ → sProp 𝕄) : iprop(∀ r, K r) ⊢ wp frame (wpE (defs₀ (F := F)) Variants.none c none) Set.univ
    (k0_part5 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a b d e p q) K := by
  simp only [k0_part5_eq_skeleton]
  iintro H
  sl_exec
  sl_step
  iapply H

theorem part6_run (a b d : BitVec 32) (p : BitVec 1) (e : BitVec 32) (K : _ → sProp 𝕄) : iprop(∀ r, K r) ⊢ wp frame (wpE (defs₀ (F := F)) Variants.none c none) Set.univ
    (k0_part6 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a b d p e) K := by
  simp only [k0_part6_eq_skeleton]
  iintro H
  sl_exec
  sl_step
  iapply H

theorem part8_run (a b d e : BitVec 32) (K : _ → sProp 𝕄) : iprop(∀ r, K r) ⊢ wp frame (wpE (defs₀ (F := F)) Variants.none c none) Set.univ
    (k0_part8 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a b d e) K := by
  simp only [k0_part8_eq_skeleton]
  iintro H
  sl_exec
  sl_step
  iapply H

theorem part9_run (a b d : BitVec 32) (p : BitVec 1) (K : _ → sProp 𝕄) : iprop(∀ r, K r) ⊢ wp frame (wpE (defs₀ (F := F)) Variants.none c none) Set.univ
    (k0_part9 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a b d p) K := by
  simp only [k0_part9_eq_skeleton]
  iintro H
  sl_exec
  sl_step
  iapply H

theorem part10_run (a b d e : BitVec 32) (p q : BitVec 1) (K : _ → sProp 𝕄) : iprop(∀ r, K r) ⊢ wp frame (wpE (defs₀ (F := F)) Variants.none c none) Set.univ
    (k0_part10 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a b d e p q) K := by
  simp only [k0_part10_eq_skeleton]
  iintro H
  sl_exec
  sl_step
  iapply H

/-- The last step's waits for the copies of the step before. -/
theorem part7_run (W : Fin 128 → Out F) (h3 : k0_cond3 (grid0.coords t) = 1#1) (a b d : BitVec 32) (O : Waits sig Unit) (K : _ → sProp 𝕄) :
    iprop(infl c W (Ring.sl 2 (t.val + 1)) (Ring.bk 128 (t.val - 1)) ∗ owes (c : Thread nD τ) 0 O
      ∗ (∀ r, iprop(behind c W (Ring.bk 128 (t.val - 1)) ∗ free c (Ring.sl 2 (t.val + 1)) ∗ (∃ O', owes (c : Thread nD τ) 0 O')) -∗ K r))
    ⊢ wp frame (wpE (defs₀ (F := F)) Variants.none c none) Set.univ
    (k0_part7 (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5 a h3 b d) K := by
  haveI : Fact (k0_cond3 (grid0.coords t) = 1#1) := ⟨h3⟩
  simp only [k0_part7_eq_skeleton]
  iintro ⟨⟨⟨%f5, %e5, %w5, HF5⟩, ⟨%f6, %e6, %w6, HF6⟩, ⟨%f7, %e7, %w7, HF7⟩, ⟨%f8, %e8, %w8, HF8⟩⟩, HW, H⟩
  sl_exec (disch := first | sl_exact h3)
  sl_step
  iapply H
  isplitl [HF5_dst HF6_dst HF7_dst HF8_dst]
  · isplitl [HF5_dst]
    · iexists _; isplitr; · ipureintro; exact w5
      iexact HF5_dst
    isplitl [HF6_dst]
    · iexists _; isplitr; · ipureintro; exact w6
      iexact HF6_dst
    isplitl [HF7_dst]
    · iexists _; isplitr; · ipureintro; exact w7
      iexact HF7_dst
    iexists _; isplitr; · ipureintro; exact w8
    iexact HF8_dst
  isplitl [HF5 HF6 HF7 HF8 HF5_src HF6_src HF7_src HF8_src]
  · isplitl [HF5 HF5_src]
    · isplitl [HF5]; · iexact HF5
      iexists _; iexact HF5_src
    isplitl [HF6 HF6_src]
    · isplitl [HF6]; · iexact HF6
      iexists _; iexact HF6_src
    isplitl [HF7 HF7_src]
    · isplitl [HF7]; · iexact HF7
      iexists _; iexact HF7_src
    isplitl [HF8]; · iexact HF8
    iexists _; iexact HF8_src
  iexists _; iexact HW

set_option maxHeartbeats 1000000 in
theorem last_run (W : Fin 128 → Out F) (x0 : Vec F S8 .f32) (x1 : Vec F S512x256 .f32) (x2 : Vec F S512x256 .f32) (x3 : Vec F S512x512 .f32) (x4 : Vec F S512x512 .f32) (x5 : Vec F S512x128 .f32) (x6 : Vec F S512x128 .f32) (x7 : Vec F S1x512 .f32) (x8 : Vec F S512x512 .f32) (x9 : Vec F S8x1x256x512 .bf16) (x10 : Vec F S512x512 .f32)
    (gw : Vec F S1x512 .f32) (ds : Vec F S256x512 .f32)
    (hd : t.val = 127) (hW : W (Ring.bk 128 t.val) = (insOf t x0 x1 x2 x3 x4 x5 x6 x7 x8 x9 x10).out (if t.val % 16 = 0 then k0_pay1 else ds)) :
    ∀ (O : Waits sig Unit) (K : _ → sProp 𝕄),
      iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare x9 ∗ owns (c : Thread nD τ) arg12 fullShare x10
          ∗ owns (c : Thread nD τ) arg14 fullShare gw ∗ owns (c : Thread nD τ) arg15 fullShare ds
          ∗ slotBefore c t W ∗ infl c W (Ring.sl 2 (t.val + 1)) (Ring.bk 128 (t.val - 1)) ∗ ahead c (Ring.bk 128 t.val) ∗ owes (c : Thread nD τ) 0 O
          ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare x4 ∗ owns (c : Thread nD τ) arg7 fullShare x5 ∗ owns (c : Thread nD τ) arg8 fullShare x6 ∗ owns (c : Thread nD τ) arg9 fullShare x7
              ∗ owns (c : Thread nD τ) arg10 fullShare x8 ∗ owns (c : Thread nD τ) arg11 fullShare x9 ∗ owns (c : Thread nD τ) arg12 fullShare x10
              ∗ owns (c : Thread nD τ) arg14 fullShare ((insOf t x0 x1 x2 x3 x4 x5 x6 x7 x8 x9 x10).gwAt (if t.val % 16 = 0 then k0_pay2 else gw) 8)
              ∗ owns (c : Thread nD τ) arg15 fullShare ((insOf t x0 x1 x2 x3 x4 x5 x6 x7 x8 x9 x10).dsAt (if t.val % 16 = 0 then k0_pay1 else ds) 8)
              ∗ behind c W (Ring.bk 128 t.val) ∗ behind c W (Ring.bk 128 (t.val - 1)) ∗ free c (Ring.sl 2 t.val) ∗ free c (Ring.sl 2 (t.val + 1)) ∗ landed c t W ∗ (∃ O', owes (c : Thread nD τ) 0 O'))
            -∗ K ⟨⟩))
        ⊢ wp frame (wpE (defs₀ (F := F)) Variants.none c none) Set.univ
            (cc0_ret_bwd (grid0.coords t) arg2 harg2 arg3 harg3 arg4 harg4 arg5 harg5 arg6 harg6 arg7 harg7 arg8 harg8 arg9 harg9 arg10 harg10 arg11 harg11 arg12 harg12 dpM (Memref.isWhole_whole _) arg14 harg14 arg15 harg15 scQ (Memref.isWhole_whole _) scK (Memref.isWhole_whole _) scV (Memref.isWhole_whole _) scG (Memref.isWhole_whole _) cc0_scratch5) K := by
  intro O K
  have hc : k0_cond3 (grid0.coords t) = 1#1 := (drains_iff t).mpr hd
  haveI : Fact (k0_cond3 (grid0.coords t) = 1#1) := ⟨hc⟩
  simp only [cc0_ret_bwd_eq_skeleton]; unfold cc0_ret_bwd_skel
  rw [wp_bind]
  iintro ⟨H0, H1, H2, H3, H4, H5, H6, H7, H8, H9, H10, Hg, Hs, HR, HP, HA, HW, Hk⟩
  iapply (body_run c t arg2 harg2 arg3 harg3 arg4 harg4 arg5 harg5 arg6 harg6 arg7 harg7 arg8 harg8 arg9 harg9 arg10 harg10 arg11 harg11 arg12 harg12 arg14 harg14 arg15 harg15 W x0 x1 x2 x3 x4 x5 x6 x7 x8 x9 x10 gw ds hW O _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hg]; · iexact Hg
  isplitl [Hs]; · iexact Hs
  isplitl [HR]; · iexact HR
  isplitl [HA]; · iexact HA
  isplitl [HW]; · iexact HW
  iintro ⟨H0, H1, H2, H3, H4, H5, H6, H7, H8, H9, H10, Hg, Hs, HI, HL, ⟨%O', HW⟩⟩
  simp only [dif_pos hc]
  rw [wp_bind]
  iapply (part4_run c t arg2 harg2 arg3 harg3 arg4 harg4 arg5 harg5 arg6 harg6 arg7 harg7 arg8 harg8 arg9 harg9 arg10 harg10 arg11 harg11 arg12 harg12 arg14 harg14 arg15 harg15)
  iintro %r4
  rw [wp_bind]
  iapply (part5_run c t arg2 harg2 arg3 harg3 arg4 harg4 arg5 harg5 arg6 harg6 arg7 harg7 arg8 harg8 arg9 harg9 arg10 harg10 arg11 harg11 arg12 harg12 arg14 harg14 arg15 harg15)
  iintro %r5
  rw [wp_bind]
  iapply (part6_run c t arg2 harg2 arg3 harg3 arg4 harg4 arg5 harg5 arg6 harg6 arg7 harg7 arg8 harg8 arg9 harg9 arg10 harg10 arg11 harg11 arg12 harg12 arg14 harg14 arg15 harg15)
  iintro %r6
  rw [wp_bind]
  iapply (part7_run c t arg2 harg2 arg3 harg3 arg4 harg4 arg5 harg5 arg6 harg6 arg7 harg7 arg8 harg8 arg9 harg9 arg10 harg10 arg11 harg11 arg12 harg12 arg14 harg14 arg15 harg15 W hc _ _ _ O' _)
  isplitl [HP]; · iexact HP
  isplitl [HW]; · iexact HW
  iintro %r7 ⟨HC, HB, ⟨%O'', HW⟩⟩
  rw [wp_bind]
  iapply (part8_run c t arg2 harg2 arg3 harg3 arg4 harg4 arg5 harg5 arg6 harg6 arg7 harg7 arg8 harg8 arg9 harg9 arg10 harg10 arg11 harg11 arg12 harg12 arg14 harg14 arg15 harg15)
  iintro %r8
  rw [wp_bind]
  iapply (part9_run c t arg2 harg2 arg3 harg3 arg4 harg4 arg5 harg5 arg6 harg6 arg7 harg7 arg8 harg8 arg9 harg9 arg10 harg10 arg11 harg11 arg12 harg12 arg14 harg14 arg15 harg15)
  iintro %r9
  rw [wp_bind]
  iapply (part10_run c t arg2 harg2 arg3 harg3 arg4 harg4 arg5 harg5 arg6 harg6 arg7 harg7 arg8 harg8 arg9 harg9 arg10 harg10 arg11 harg11 arg12 harg12 arg14 harg14 arg15 harg15)
  iintro %r10
  icases HI with ⟨⟨%f1, %e1, %w1, HF1⟩, ⟨%f2, %e2, %w2, HF2⟩, ⟨%f3, %e3, %w3, HF3⟩, ⟨%f4, %e4, %w4, HF4⟩⟩
  sl_exec (disch := first | sl_exact hc)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hg]; · iexact Hg
  isplitl [Hs]; · iexact Hs
  isplitl [HF1_dst HF2_dst HF3_dst HF4_dst]
  · isplitl [HF1_dst]
    · iexists _; isplitr; · ipureintro; exact w1
      iexact HF1_dst
    isplitl [HF2_dst]
    · iexists _; isplitr; · ipureintro; exact w2
      iexact HF2_dst
    isplitl [HF3_dst]
    · iexists _; isplitr; · ipureintro; exact w3
      iexact HF3_dst
    iexists _; isplitr; · ipureintro; exact w4
    iexact HF4_dst
  isplitl [HC]; · iexact HC
  isplitl [HF1 HF2 HF3 HF4 HF1_src HF2_src HF3_src HF4_src]
  · isplitl [HF1 HF1_src]
    · isplitl [HF1]; · iexact HF1
      iexists _; iexact HF1_src
    isplitl [HF2 HF2_src]
    · isplitl [HF2]; · iexact HF2
      iexists _; iexact HF2_src
    isplitl [HF3 HF3_src]
    · isplitl [HF3]; · iexact HF3
      iexists _; iexact HF3_src
    isplitl [HF4]; · iexact HF4
    iexists _; iexact HF4_src
  isplitl [HB]; · iexact HB
  isplitl [HL]; · iexact HL
  iexists _; iexact HW

end Cert.KernelIdeal.Ret

end
-- ==== Proof.Ret.Kit.lean ====
/- The data of the pipeline: what each step reads, carries, leaves and copies out. -/
module

public import proofs.«01_k».proof.Proof.Gen.KernelIdeal.Frame
public import proofs.«01_k».proof.Proof.Ret.Places
public import proofs.«01_k».proof.Proof.Ret.Step
public import Idealize.ShloMosaic.Lib.Pipeline.FrameBody
public import Idealize.ShloMosaic.Lib.Pipeline.FrameValue

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the steps carry and leave -/

/-- What step `t` reads. -/
def reads (c : Dev nD) (t : Fin cfg0.N) : Ins F := insOf t (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- The grid's step `n`. -/
abbrev stepAt (n : ℕ) : Fin cfg0.N := ⟨n % 128, Nat.lt_of_lt_of_eq (Nat.mod_lt _ (by decide)) N_0.symm⟩
theorem stepAt_val (t : Fin cfg0.N) : stepAt t.val = t := Fin.ext (Nat.mod_eq_of_lt (Nat.lt_of_lt_of_eq t.isLt N_0))

/-- The gradient of the state step `n` starts from: zero at a head's first step. -/
def dsB (c : Dev nD) : ℕ → Vec F S256x512 .f32
  | 0 => k0_pay1
  | n + 1 => if (n + 1) % 16 = 0 then k0_pay1 else (reads m c (stepAt n)).dsAt (dsB c n) 8
/-- The norm weight's gradient step `n` starts from: zero at a head's first step. -/
def gwB (c : Dev nD) : ℕ → Vec F S1x512 .f32
  | 0 => k0_pay2
  | n + 1 => if (n + 1) % 16 = 0 then k0_pay2 else (reads m c (stepAt n)).gwAt (gwB c n) 8
/-- The norm weight's gradient after step `t`. -/
def gwAfter (c : Dev nD) (t : Fin cfg0.N) : Vec F S1x512 .f32 := (reads m c t).gwAt (gwB m c t.val) 8
/-- What step `u` copies into its four boxes. -/
def wrote (c : Dev nD) (u : Fin 128) : Out F := (reads m c (stepAt u.val)).out (dsB m c u.val)

theorem dsB_reset (c : Dev nD) {n : ℕ} (h : n % 16 = 0) : dsB m c n = k0_pay1 := by
  cases n with
  | zero => rfl
  | succ n => unfold dsB; rw [if_pos h]
theorem dsB_next (c : Dev nD) (t : Fin cfg0.N) (h : (t.val + 1) % 16 ≠ 0) : dsB m c (t.val + 1) = (reads m c t).dsAt (dsB m c t.val) 8 := by
  rw [dsB, if_neg h, stepAt_val]
theorem gwB_reset (c : Dev nD) {n : ℕ} (h : n % 16 = 0) : gwB m c n = k0_pay2 := by
  cases n with
  | zero => rfl
  | succ n => unfold gwB; rw [if_pos h]
theorem gwB_next (c : Dev nD) (t : Fin cfg0.N) (h : (t.val + 1) % 16 ≠ 0) : gwB m c (t.val + 1) = gwAfter m c t := by
  rw [gwB, if_neg h, stepAt_val]; rfl
theorem wrote_at (c : Dev nD) (t : Fin cfg0.N) : wrote m c (Ring.bk 128 t.val) = (reads m c t).out (dsB m c t.val) := by
  have h : (Ring.bk 128 t.val).val = t.val := Ring.bk_val (Nat.lt_of_lt_of_eq t.isLt N_0)
  unfold wrote; rw [h, stepAt_val]

/-! ## The pipeline's data -/

/-- Before step `k`: the state's gradient where the step carries it on, the register, and the write ring. -/
def between (c : Dev nD) (k : ℕ) : sProp 𝕄 :=
  iprop((∃ d, ⌜k % 16 ≠ 0 → d = dsB m c k⌝ ∗ owns (c : Thread nD τ) scS fullShare d) ∗ (∃ r, prngReg c r) ∗ ring c (wrote m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => gwAfter m c t
  Φ t := between m c t.val
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = between m c t.val := by
  dsimp only [dats]; simp only [Fin.coe_castSucc]
theorem inv_succ (c : Dev nD) (t : Fin cfg0.N) : (dats m 0 c).Φ t.succ = between m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = gwAfter m c t := by dsimp only [dats]

/-! An input's staging buffer holds its block before every step. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)

/-- The norm weight's gradient as a step finds it, past a head's first step. -/
theorem before_11 (c : Dev nD) (t : Fin cfg0.N) (h : t.val % 16 ≠ 0) (d) : (dats m 0 c).before 11 t d = gwB m c t.val := by
  have h0 : t.val ≠ 0 := fun e => h (by rw [e])
  have hlt := Nat.lt_of_le_of_lt (Nat.sub_le t.val 1) t.isLt
  rw [(dats m 0 c).before_out_kept 11 rfl t h0 (Bool.eq_false_iff.mpr fun e => h (by have := (flush0_11 ⟨t.val - 1, hlt⟩).mp e; dsimp only at this; omega))
    (fun _ => rfl) (fun _ _ => rfl) d, after_11]
  have e := gwB_next m c ⟨t.val - 1, hlt⟩ (by dsimp only; rw [Nat.sub_add_cancel (Nat.one_le_iff_ne_zero.mpr h0)]; exact h)
  dsimp only at e
  rw [Nat.sub_add_cancel (Nat.one_le_iff_ne_zero.mpr h0)] at e
  exact e.symm

/-! ## The launch's hand-over -/

abbrev H0 : Finset (Ref sig .tc) := {}
theorem H0_sub : H0 ⊆ Pipeline.restRefs sig spec0 := by decide
abbrev R0 : Finset (Ref sig .tc) := {main_v23_0}
theorem R0_sub : R0 ⊆ Pipeline.restRefs sig spec0 \ H0 := by decide

/-- @main up to the region, under the copies' bookkeeping. -/
theorem main_to_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the buffers hold after the region: the copied result as the steps' boxes make it. -/
def leftBy (c : Dev nD) (b : Ref sig .tc) : Buf (Elt F) ((c : Thread nD τ).loc b) :=
  if h : b = main_v23_0 then h ▸ assembled (wrote m c) else V m c b
theorem leftBy_result (c : Dev nD) : leftBy m c main_v23_0 = assembled (wrote m c) := by
  unfold leftBy; rw [dif_pos rfl]

theorem handover (G : (c : Dev nD) → (b : Ref sig .tc) → Buf (Elt F) ((c : Thread nD τ).loc b)) (c : Dev nD) :
    (Pipeline.ΦDRG osem0 spec0 H0 R0 (V m) G c : sProp 𝕄)
      = iprop(((∃ d, owns (c : Thread nD τ) scS fullShare d)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f)
          ∗ (∃ f : Buf (Elt F) ((c : Thread nD τ).loc cc0_scratch4), ((c : Thread nD τ).loc cc0_scratch4) ↦{fullShare} f))
        ∗ (∃ r, prngReg c r)
        ∗ Pipeline.ownSems0 (Ix := Unit) (Name := ℕ) (U := Pipeline.UD sig nD τ) (Lvl := ℕ) (Val := Elt F) (τ := τ) osem0 c
        ∗ iprop(emp)
        ∗ ((c : Thread nD τ).loc main_v23_0) ↦{fullShare} (G c main_v23_0)) := by
  rw [Pipeline.ΦDRG_eq, scopedRest0_eq]
  unfold Pipeline.routed
  rw [BI.bigSep_eq_bigSepL_of_eq (S := H0) [] (by decide) (by decide), BI.bigSep_eq_bigSepL_of_eq (S := R0) [main_v23_0] (by decide) (by decide)]
  simp only [owns_whole]; rfl

theorem hin (c : Dev nD) : Pipeline.ΦDRG osem0 spec0 H0 R0 (V m) (V m) c ⊢ (dats m 0 c).Φ 0 := by
  rw [handover, show (dats m 0 c).Φ 0 = between m c 0 from rfl]
  unfold between
  iintro ⟨⟨⟨%d, HS⟩, H1, H2, H3, H4⟩, Hg, HC, -, HD⟩
  isplitl [HS]
  · iexists d; isplitr; · ipureintro; exact fun h => absurd rfl h
    iexact HS
  isplitl [Hg]; · iexact Hg
  iapply (ring_in c (wrote m c) (V m c main_v23_0))
  unfold handed
  isplitl [H1]; · iexact H1
  isplitl [H2]; · iexact H2
  isplitl [H3]; · iexact H3
  isplitl [H4]; · iexact H4
  isplitl [HC]; · iexact HC
  iexact HD

theorem hout (c : Dev nD) : (dats m 0 c).Φ (Fin.last cfg0.N) ⊢ Pipeline.ΦDRG osem0 spec0 H0 R0 (V m) (leftBy m) c := by
  rw [handover, show (dats m 0 c).Φ (Fin.last cfg0.N) = between m c grid0.N from rfl, show grid0.N = 128 by rw [N_0], leftBy_result]
  unfold between
  iintro ⟨⟨%d, -, HS⟩, Hg, HR⟩
  ihave HX := (ring_out c (wrote m c)) $$ HR
  unfold handed
  icases HX with ⟨H1, H2, H3, H4, HC, HD⟩
  isplitl [HS H1 H2 H3 H4]
  · isplitl [HS]; · iexists d; iexact HS
    isplitl [H1]; · iexact H1
    isplitl [H2]; · iexact H2
    isplitl [H3]; · iexact H3
    iexact H4
  isplitl [Hg]; · iexact Hg
  isplitl [HC]; · iexact HC
  isplitr; · iempintro
  iexact HD

/-! ## The body's triple, window by window -/

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t))

end Cert.KernelIdeal.Ret

end
-- ==== Proof.Ret.Frame.lean ====
/- The body's triple at every step, the launch, and the frame of the program over any float values. -/
module

public import proofs.«01_k».proof.Proof.Ret.Kit
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The ring opened at a step, and closed after it -/

theorem ring_step (c : Dev nD) (t : Fin cfg0.N) (W : Fin 128 → Out F) (ht : t.val ≠ 127) :
    ∃ R : sProp 𝕄, (ring c W t.val ⊢ iprop(slotBefore c t W ∗ ahead c (Ring.bk 128 t.val) ∗ R))
      ∧ (iprop(R ∗ infl c W (Ring.sl 2 t.val) (Ring.bk 128 t.val) ∗ landed c t W) ⊢ ring c W (t.val + 1)) := by
  have hN : t.val < 128 := Nat.lt_of_lt_of_eq t.isLt N_0
  unfold ring slotBefore landed
  rw [Ring.AtBΦ_lt _ _ _ _ _ t.val hN, Ring.AtBΦ_lt _ _ _ _ _ (t.val + 1) (by omega)]
  rcases Nat.lt_or_ge t.val 2 with h | h
  · rw [if_neg (by omega), if_neg (by omega)]
    rcases Nat.eq_zero_or_pos t.val with h0 | h0
    · rw [Ring.AtB2_zero' _ _ _ _ _ t.val h0, Ring.AtB22_next_zero' _ _ _ _ t.val h0]
      refine ⟨iprop(bigSep (Ring.aheadSet (t.val + 1)) (ahead c) ∗ free c (Ring.sl 2 (t.val + 1))), ?_, ?_⟩
      · iintro ⟨⟨HA, HS⟩, HF, HG⟩
        isplitl [HF]; · iexact HF
        isplitl [HA]; · iexact HA
        isplitl [HS]; · iexact HS
        iexact HG
      · iintro ⟨⟨HS, HG⟩, HI, -⟩
        isplitl [HS]; · iexact HS
        isplitl [HG]; · iexact HG
        iexact HI
    · have h1 : t.val = 1 := by omega
      rw [Ring.AtB22_one' _ _ _ _ t.val h1 (by omega), Ring.AtB22_next_one' _ _ _ _ t.val h1]
      refine ⟨iprop(bigSep (Ring.aheadSet (t.val + 1)) (ahead c) ∗ infl c W (Ring.sl 2 (t.val + 1)) (Ring.bk 128 (t.val - 1))), ?_, ?_⟩
      · iintro ⟨⟨HA, HS⟩, HF, HG⟩
        isplitl [HF]; · iexact HF
        isplitl [HA]; · iexact HA
        isplitl [HS]; · iexact HS
        iexact HG
      · iintro ⟨⟨HS, HG⟩, HI, -⟩
        isplitl [HS]; · iexact HS
        isplitl [HG]; · iexact HG
        iexact HI
  · rw [if_pos h, if_pos h, Ring.AtB22_here _ _ _ _ t.val h (by omega), Ring.AtB22_next _ _ _ _ t.val h (by omega)]
    refine ⟨iprop(bigSep (Ring.aheadSet (t.val + 1)) (ahead c) ∗ bigSep (Ring.behindSet 2 t.val) (behind c W) ∗ infl c W (Ring.sl 2 (t.val + 1)) (Ring.bk 128 (t.val - 1))), ?_, ?_⟩
    · iintro ⟨⟨HA, HS⟩, HB, HF, HG⟩
      isplitl [HF]; · iexact HF
      isplitl [HA]; · iexact HA
      isplitl [HS]; · iexact HS
      isplitl [HB]; · iexact HB
      iexact HG
    · iintro ⟨⟨HS, HB, HG⟩, HI, HL⟩
      isplitl [HS]; · iexact HS
      isplitl [HB HL]
      · isplitl [HL]; · iexact HL
        iexact HB
      isplitl [HG]; · iexact HG
      iexact HI

theorem ring_last (c : Dev nD) (t : Fin cfg0.N) (W : Fin 128 → Out F) (ht : t.val = 127) :
    ∃ R : sProp 𝕄, (ring c W t.val ⊢ iprop(slotBefore c t W ∗ infl c W (Ring.sl 2 (t.val + 1)) (Ring.bk 128 (t.val - 1)) ∗ ahead c (Ring.bk 128 t.val) ∗ R))
      ∧ (iprop(R ∗ behind c W (Ring.bk 128 t.val) ∗ behind c W (Ring.bk 128 (t.val - 1)) ∗ free c (Ring.sl 2 t.val) ∗ free c (Ring.sl 2 (t.val + 1)) ∗ landed c t W)
          ⊢ ring c W (t.val + 1)) := by
  have h : 2 ≤ t.val := by omega
  unfold ring slotBefore landed
  rw [if_pos h, if_pos h, Ring.AtBΦ_lt _ _ _ _ _ t.val (by omega), Ring.AtB22_here_last _ _ _ _ t.val h (by omega),
    Ring.AtBΦ_end _ _ _ _ _ (t.val + 1) (by omega), Ring.AtB22_drained _ _ t.val h (by omega)]
  refine ⟨bigSep (Ring.behindSet 2 t.val) (behind c W), ?_, ?_⟩
  · iintro ⟨HA, HB, HF, HG⟩
    isplitl [HF]; · iexact HF
    isplitl [HG]; · iexact HG
    isplitl [HA]; · iexact HA
    iexact HB
  · iintro ⟨HB, H1, H2, F1, F2, HL⟩
    isplitl [HB H1 H2 HL]
    · isplitl [H1]; · iexact H1
      isplitl [HL]; · iexact HL
      isplitl [H2]; · iexact H2
      iexact HB
    isplitl [F1]; · iexact F1
    iexact F2

/-! ## The body's triple -/

set_option maxHeartbeats 1600000 in
theorem step_sound (c : Dev nD) (t : Fin cfg0.N) (ht : t.val ≠ 127) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10, after_11]
  rw [inv_castSucc m c t, inv_succ m c t]
  unfold Dat.owesAt Pipeline.owesWithin
  rw [show (dats m 0 c).owed t.castSucc = 0 from rfl, show (dats m 0 c).owed t.succ = 0 from rfl]
  unfold between
  obtain ⟨R, hopen, hclose⟩ := ring_step c t (wrote m c) ht
  iintro ⟨⟨⟨%ds, %hds, HS⟩, Hg, HR⟩, ⟨%O, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have eds : (if t.val % 16 = 0 then k0_pay1 else ds) = dsB m c t.val := by
    split
    · next h => exact (dsB_reset m c h).symm
    · next h => exact hds h
  have egw : (if t.val % 16 = 0 then k0_pay2 else (dats m 0 c).before 11 t d11) = gwB m c t.val := by
    split
    · next h => exact (gwB_reset m c h).symm
    · next h => exact before_11 m c t h d11
  have hW : wrote m c (Ring.bk 128 t.val) = (insOf t (iblk m c 0 t) (iblk m c 1 t) (iblk m c 2 t) (iblk m c 3 t) (iblk m c 4 t) (iblk m c 5 t) (iblk m c 6 t) (iblk m c 7 t) (iblk m c 8 t) (iblk m c 9 t) (iblk m c 10 t)).out (if t.val % 16 = 0 then k0_pay1 else ds) := by
    rw [eds]; exact wrote_at m c t
  ihave HX := hopen $$ HR
  icases HX with ⟨HB, HA, HQ⟩
  iapply (step_run c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scS (Memref.isWhole_whole _) (wrote m c) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ds ht hW O _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [HB]; · iexact HB
  isplitl [HA]; · iexact HA
  isplitl [HW]; · iexact HW
  rw [eds, egw]
  iintro ⟨H0, H1, H2, H3, H4, H5, H6, H7, H8, H9, H10, H11, HS, HI, HL, ⟨%O', HW⟩⟩
  isplitl [HS Hg HQ HI HL]
  · isplitl [HS]
    · iexists _; isplitr; swap; · iexact HS
      ipureintro; exact fun h => (dsB_next m c t h).symm
    isplitl [Hg]; · iexact Hg
    iapply hclose
    isplitl [HQ]; · iexact HQ
    isplitl [HI]; · iexact HI
    iexact HL
  isplitl [HW]
  · iexists O'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1600000 in
theorem last_sound (c : Dev nD) (t : Fin cfg0.N) (ht : t.val = 127) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [after_0, after_1, after_2, after_3, after_4, after_5, after_6, after_7, after_8, after_9, after_10, after_11]
  rw [inv_castSucc m c t, inv_succ m c t]
  unfold Dat.owesAt Pipeline.owesWithin
  rw [show (dats m 0 c).owed t.castSucc = 0 from rfl, show (dats m 0 c).owed t.succ = 0 from rfl]
  unfold between
  obtain ⟨R, hopen, hclose⟩ := ring_last c t (wrote m c) ht
  iintro ⟨⟨⟨%ds, %hds, HS⟩, Hg, HR⟩, ⟨%O, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have eds : (if t.val % 16 = 0 then k0_pay1 else ds) = dsB m c t.val := by
    split
    · next h => exact (dsB_reset m c h).symm
    · next h => exact hds h
  have egw : (if t.val % 16 = 0 then k0_pay2 else (dats m 0 c).before 11 t d11) = gwB m c t.val := by
    split
    · next h => exact (gwB_reset m c h).symm
    · next h => exact before_11 m c t h d11
  have hW : wrote m c (Ring.bk 128 t.val) = (insOf t (iblk m c 0 t) (iblk m c 1 t) (iblk m c 2 t) (iblk m c 3 t) (iblk m c 4 t) (iblk m c 5 t) (iblk m c 6 t) (iblk m c 7 t) (iblk m c 8 t) (iblk m c 9 t) (iblk m c 10 t)).out (if t.val % 16 = 0 then k0_pay1 else ds) := by
    rw [eds]; exact wrote_at m c t
  ihave HX := hopen $$ HR
  icases HX with ⟨HB, HN, HA, HQ⟩
  iapply (last_run c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scS (Memref.isWhole_whole _) (wrote m c) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ds ht hW O _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [HB]; · iexact HB
  isplitl [HN]; · iexact HN
  isplitl [HA]; · iexact HA
  isplitl [HW]; · iexact HW
  rw [eds, egw]
  iintro ⟨H0, H1, H2, H3, H4, H5, H6, H7, H8, H9, H10, H11, HS, HO, HP, F1, F2, HL, ⟨%O', HW⟩⟩
  isplitl [HS Hg HQ HO HP F1 F2 HL]
  · isplitl [HS]
    · iexists _; isplitr; swap; · iexact HS
      ipureintro; exact fun h => (dsB_next m c t h).symm
    isplitl [Hg]; · iexact Hg
    iapply hclose
    isplitl [HQ]; · iexact HQ
    isplitl [HO]; · iexact HO
    isplitl [HP]; · iexact HP
    isplitl [F1]; · iexact F1
    isplitl [F2]; · iexact F2
    iexact HL
  isplitl [HW]
  · iexists O'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  by_cases ht : t.val = 127
  · exact triple_restated (last_sound m c t ht) rfl .rfl fun _ => .rfl
  · exact triple_restated (step_sound m c t ht) rfl .rfl fun _ => .rfl

/-! ## The run -/

set_option backward.isDefEq.respectTransparency.types false in
/-- Every execution ends, with the pipeline's arrays as the steps leave them, the copied result assembled from what each
    step wrote, and every counter at zero. -/
theorem run : θ_run defs (onTc (τ := τ) (main (F := F))) (s₀ m ρ)
    (fun r => Pipeline.FramePostRG cfgs (dats m) 0 R0 (V m) (leftBy m) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := main_to_region m Variants.none) (hA := A_eq m) (G := leftBy m) (hin := hin m) (hout := hout m)

/-- What a run leaves: the arguments as launched, the copied result, the norm weight's gradient's array, the counters. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v23_0) = assembled (wrote m c)
      ∧ r.2.mem ((c.tc : Thread nD τ).loc main_v23_1) = (dats m 0 c).arrAt 11 cfg0.N)
      ∧ r.2.sem = fun _ => 0) :=
  (θ_run defs _ _).mono (fun r h => ⟨fun c =>
    ⟨((h.1.1 c).1 4).trans (((dats m 0 c).arrAt_in 4 rfl _).trans ((A_eq m c 4).trans (V_main_arg0 m c))),
      ((h.1.1 c).1 7).trans (((dats m 0 c).arrAt_in 7 rfl _).trans ((A_eq m c 7).trans (V_main_arg1 m c))),
      ((h.1.1 c).1 8).trans (((dats m 0 c).arrAt_in 8 rfl _).trans ((A_eq m c 8).trans (V_main_arg2 m c))),
      ((h.1.1 c).1 9).trans (((dats m 0 c).arrAt_in 9 rfl _).trans ((A_eq m c 9).trans (V_main_arg3 m c))),
      ((h.1.1 c).1 10).trans (((dats m 0 c).arrAt_in 10 rfl _).trans ((A_eq m c 10).trans (V_main_arg4 m c))),
      (h.1.2 c main_v23_0 (by decide)).trans (leftBy_result m c), (h.1.1 c).1 11⟩, h.2⟩) (run m ρ)

/-- The frame: the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1, (h.1 c).2.1, (h.1 c).2.2.1, (h.1 c).2.2.2.1, (h.1 c).2.2.2.2.1⟩, h.2⟩) (run_main m ρ)

end Cert.KernelIdeal.Ret

end
-- ==== Proof.Frames.lean ====
/- The frames of the three programs. -/
module

public import proofs.«01_k».proof.Defs
public import proofs.«01_k».proof.Proof.Gen.Kernel
public import proofs.«01_k».proof.Proof.Gen.ReferenceIdeal.Run
public import proofs.«01_k».proof.Proof.Ret.Frame

@[expose] public section

set_option maxRecDepth 16384

noncomputable section

namespace Cert.Proof

open Idealize.ShloMosaic Idealize.SL.Sem

set_option maxHeartbeats 8000000 in
/-- The two programs' bodies have one text … -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact rfl
  | ⟨n + 1, h⟩, _ => exact absurd h (by omega)

set_option maxHeartbeats 8000000 in
/-- … and so do their host programs. -/
theorem main_eq {F : FTy → Type} [FloatOps F] : Cert.Kernel.main (F := F) = Cert.KernelIdeal.main (F := F) := by
  unfold Cert.Kernel.main Cert.KernelIdeal.main
  rfl

theorem defs_eq {F : FTy → Type} [FloatOps F] : Cert.Kernel.defs (F := F) = Cert.KernelIdeal.defs (F := F) :=
  congrArg (Pipeline.defs (Cert.KernelIdeal.pcfgs (F := F))) bodies_eq

set_option maxHeartbeats 2000000 in
/-- So the kernel's run is that of its ideal reading, at the machine's floats. -/
theorem frame_kernel : Cert.quiescent_Kernel := by
  intro m ρ _
  have h := Cert.KernelIdeal.Ret.frame (F := Bits) m ρ
  rw [← defs_eq, ← main_eq] at h
  exact h

theorem frame_kernelIdeal : Cert.quiescent_KernelIdeal := fun m ρ _ => Cert.KernelIdeal.Ret.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

end Cert.Proof

end
-- ==== Proof.Val.LoopRun.lean ====
/- The reference's loop, trip by trip: every value of one trip and the results, in terms of the step of the loop's state. -/
module

public import proofs.«01_k».proof.Proof.Gen.ReferenceIdeal.Run
public import proofs.«01_k».proof.Proof.Gen.ReferenceIdeal.Step

@[expose] public section

noncomputable section

namespace Cert.ReferenceIdeal.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v207_6) = s.main_v207_6
  f_7 : V0 (Proc.devRef .tc main_v207_7) = s.main_v207_7
  f_8 : V0 (Proc.devRef .tc main_v207_8) = s.main_v207_8
  f_9 : V0 (Proc.devRef .tc main_v207_9) = s.main_v207_9
  f_0 : V0 (Proc.devRef .tc main_v207_0) = s.main_v207_0
  f_1 : V0 (Proc.devRef .tc main_v207_1) = s.main_v207_1
  f_2 : V0 (Proc.devRef .tc main_v207_2) = s.main_v207_2
  f_3 : V0 (Proc.devRef .tc main_v207_3) = s.main_v207_3
  f_4 : V0 (Proc.devRef .tc main_v207_4) = s.main_v207_4
  n_5 : V0 (Proc.devRef .tc main_v207_5) = constantI S_ 32 (BitVec.ofNat 32 j)

variable {V0 s j}

set_option maxRecDepth 8192 in
theorem al_0 (h : Holds V0 s j) : (constantI S_ 32 128#32 : (Proc.devRef .tc main_while0b_c_67 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 128#32) (V0 (Proc.devRef .tc main_v207_5)) : (Proc.devRef .tc main_while0b_v448 : DevRef τ sig).ty.Contents (Elt F)) = Cert.ReferenceIdeal.Step.b1 j s := by
  unfold Cert.ReferenceIdeal.Step.b1
  rw [← al_0 h, h.n_5]
  try rfl
set_option maxRecDepth 8192 in
theorem al_2 (h : Holds V0 s j) : (constantI S_ 32 1#32 : (Proc.devRef .tc main_while0b_c_68 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v449 V0 : (Proc.devRef .tc main_while0b_v449 : DevRef τ sig).ty.Contents (Elt F)) = Cert.ReferenceIdeal.Step.b3 j s := by
  unfold res_main_while0b_v449 Cert.ReferenceIdeal.Step.b3
  rw [← al_1 h, ← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x256x512 (V0 (Proc.devRef .tc main_v207_0)) (fun k => (((![res_main_while0b_v449 V0, constantI S_ 32 0#32, constantI S_ 32 0#32, constantI S_ 32 0#32] : Fin 4 → (⟨S_, .i32⟩ : BufTy).Contents (Elt F))) k (Shape.Idx.first h_S_)).toInt) sliceFits_S128x8x256x512_S1x8x256x512 : (Proc.devRef .tc main_while0b_call2_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v450 V0 : (Proc.devRef .tc main_while0b_v450 : DevRef τ sig).ty.Contents (Elt F)) = Cert.ReferenceIdeal.Step.b8 j s := by
  unfold res_main_while0b_v450 Cert.ReferenceIdeal.Step.b8
  rw [← al_7 h]
  try rfl
set_option maxRecDepth 8192 in
theorem al_9 (h : Holds V0 s j) : (constantI S_ 32 0#32 : (Proc.devRef .tc main_while0b_call3_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call3_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x64x8x256 (V0 (Proc.devRef .tc main_v207_1)) (fun k => (((![res_main_while0b_v449 V0, constantI S_ 32 0#32, constantI S_ 32 0#32, constantI S_ 32 0#32] : Fin 4 → (⟨S_, .i32⟩ : BufTy).Contents (Elt F))) k (Shape.Idx.first h_S_)).toInt) sliceFits_S128x64x8x256_S1x64x8x256 : (Proc.devRef .tc main_while0b_call3_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v451 V0 : (Proc.devRef .tc main_while0b_v451 : DevRef τ sig).ty.Contents (Elt F)) = Cert.ReferenceIdeal.Step.b13 j s := by
  unfold res_main_while0b_v451 Cert.ReferenceIdeal.Step.b13
  rw [← al_12 h]
  try rfl
set_option maxRecDepth 8192 in
theorem al_14 (h : Holds V0 s j) : (constantI S_ 32 0#32 : (Proc.devRef .tc main_while0b_call4_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x64x8x256 (V0 (Proc.devRef .tc main_v207_2)) (fun k => (((![res_main_while0b_v449 V0, constantI S_ 32 0#32, constantI S_ 32 0#32, constantI S_ 32 0#32] : Fin 4 → (⟨S_, .i32⟩ : BufTy).Contents (Elt F))) k (Shape.Idx.first h_S_)).toInt) sliceFits_S128x64x8x256_S1x64x8x256 : (Proc.devRef .tc main_while0b_call4_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v452 V0 : (Proc.devRef .tc main_while0b_v452 : DevRef τ sig).ty.Contents (Elt F)) = Cert.ReferenceIdeal.Step.b18 j s := by
  unfold res_main_while0b_v452 Cert.ReferenceIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x64x8x512 (V0 (Proc.devRef .tc main_v207_3)) (fun k => (((![res_main_while0b_v449 V0, constantI S_ 32 0#32, constantI S_ 32 0#32, constantI S_ 32 0#32] : Fin 4 → (⟨S_, .i32⟩ : BufTy).Contents (Elt F))) k (Shape.Idx.first h_S_)).toInt) sliceFits_S128x64x8x512_S1x64x8x512 : (Proc.devRef .tc main_while0b_call5_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v453 V0 : (Proc.devRef .tc main_while0b_v453 : DevRef τ sig).ty.Contents (Elt F)) = Cert.ReferenceIdeal.Step.b23 j s := by
  unfold res_main_while0b_v453 Cert.ReferenceIdeal.Step.b23
  rw [← al_22 h]
  try rfl
set_option maxRecDepth 8192 in
theorem al_24 (h : Holds V0 s j) : (constantI S_ 32 0#32 : (Proc.devRef .tc main_while0b_call6_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call6_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x64x8x512 (V0 (Proc.devRef .tc main_v207_4)) (fun k => (((![res_main_while0b_v449 V0, constantI S_ 32 0#32, constantI S_ 32 0#32, constantI S_ 32 0#32] : Fin 4 → (⟨S_, .i32⟩ : BufTy).Contents (Elt F))) k (Shape.Idx.first h_S_)).toInt) sliceFits_S128x64x8x512_S1x64x8x512 : (Proc.devRef .tc main_while0b_call6_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v454 V0 : (Proc.devRef .tc main_while0b_v454 : DevRef τ sig).ty.Contents (Elt F)) = Cert.ReferenceIdeal.Step.b28 j s := by
  unfold res_main_while0b_v454 Cert.ReferenceIdeal.Step.b28
  rw [← al_27 h]
  try rfl
set_option maxRecDepth 8192 in
theorem al_29 (h : Holds V0 s j) : (sitofp .f32 (iotaInDim S8 32 0) : (Proc.devRef .tc main_while0b_v455 : DevRef τ sig).ty.Contents (Elt F)) = Cert.ReferenceIdeal.Step.b29 j s := by
  unfold Cert.ReferenceIdeal.Step.b29
  rfl
set_option maxRecDepth 8192 in
theorem al_30 (h : Holds V0 s j) : (constant S_ .f32 0xC0A00000#32 : (Proc.devRef .tc main_while0b_cst_69 : DevRef τ sig).ty.Contents (Elt F)) = Cert.ReferenceIdeal.Step.b30 j s := by
  unfold Cert.ReferenceIdeal.Step.b30
  rfl
set_option maxRecDepth 8192 in
theorem al_31 (h : Holds V0 s j) : (broadcastInDim S8 ![] bcast_S_S8 (constant S_ .f32 0xC0A00000#32) : (Proc.devRef .tc main_while0b_v456 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (subf (broadcastInDim S8 ![] bcast_S_S8 (constant S_ .f32 0xC0A00000#32)) (sitofp .f32 (iotaInDim S8 32 0)) : (Proc.devRef .tc main_while0b_v457 : DevRef τ sig).ty.Contents (Elt F)) = Cert.ReferenceIdeal.Step.b32 j s := by
  unfold Cert.ReferenceIdeal.Step.b32
  rw [← al_31 h, ← al_29 h]
  try rfl
set_option maxRecDepth 8192 in
theorem al_33 (h : Holds V0 s j) : (constant S_ .f32 0x3F317218#32 : (Proc.devRef .tc main_while0b_cst_70 : DevRef τ sig).ty.Contents (Elt F)) = Cert.ReferenceIdeal.Step.b33 j s := by
  unfold Cert.ReferenceIdeal.Step.b33
  rfl
set_option maxRecDepth 8192 in
theorem al_34 (h : Holds V0 s j) : (broadcastInDim S8 ![] bcast_S_S8 (constant S_ .f32 0x3F317218#32) : (Proc.devRef .tc main_while0b_v458 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (mulf (broadcastInDim S8 ![] bcast_S_S8 (constant S_ .f32 0x3F317218#32)) (subf (broadcastInDim S8 ![] bcast_S_S8 (constant S_ .f32 0xC0A00000#32)) (sitofp .f32 (iotaInDim S8 32 0))) : (Proc.devRef .tc main_while0b_v459 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (Host.exp (mulf (broadcastInDim S8 ![] bcast_S_S8 (constant S_ .f32 0x3F317218#32)) (subf (broadcastInDim S8 ![] bcast_S_S8 (constant S_ .f32 0xC0A00000#32)) (sitofp .f32 (iotaInDim S8 32 0)))) : (Proc.devRef .tc main_while0b_v460 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))) : (Proc.devRef .tc main_while0b_v461 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (res_main_while0b_v462 V0 : (Proc.devRef .tc main_while0b_v462 : DevRef τ sig).ty.Contents (Elt F)) = Cert.ReferenceIdeal.Step.b38 j s := by
  unfold res_main_while0b_v462 Cert.ReferenceIdeal.Step.b38
  rw [← al_37 h]
  try rfl
set_option maxRecDepth 8192 in
theorem al_39 (h : Holds V0 s j) : (res_main_while0b_v463 V0 : (Proc.devRef .tc main_while0b_v463 : DevRef τ sig).ty.Contents (Elt F)) = Cert.ReferenceIdeal.Step.b39 j s := by
  unfold res_main_while0b_v463 Cert.ReferenceIdeal.Step.b39
  rfl
set_option maxRecDepth 8192 in
theorem al_40 (h : Holds V0 s j) : (broadcastInDim S64x1 ![0] bcast_S64_S64x1_0 (res_main_while0b_v463 V0) : (Proc.devRef .tc main_while0b_v464 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S1x64 ![1] bcast_S64_S1x64_1 (res_main_while0b_v463 V0) : (Proc.devRef .tc main_while0b_v465 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (broadcastInDim S64x64 ![0, 1] bcast_S64x1_S64x64_0_1 (broadcastInDim S64x1 ![0] bcast_S64_S64x1_0 (res_main_while0b_v463 V0)) : (Proc.devRef .tc main_while0b_v466 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (broadcastInDim S64x64 ![0, 1] bcast_S1x64_S64x64_0_1 (broadcastInDim S1x64 ![1] bcast_S64_S1x64_1 (res_main_while0b_v463 V0)) : (Proc.devRef .tc main_while0b_v467 : DevRef τ sig).ty.Contents (Elt F)) = Cert.ReferenceIdeal.Step.b43 j s := by
  unfold Cert.ReferenceIdeal.Step.b43
  rw [← al_41 h]
  try rfl
set_option maxRecDepth 8192 in
theorem al_44 (h : Holds V0 s j) : (subf (broadcastInDim S64x64 ![0, 1] bcast_S64x1_S64x64_0_1 (broadcastInDim S64x1 ![0] bcast_S64_S64x1_0 (res_main_while0b_v463 V0))) (broadcastInDim S64x64 ![0, 1] bcast_S1x64_S64x64_0_1 (broadcastInDim S1x64 ![1] bcast_S64_S1x64_1 (res_main_while0b_v463 V0))) : (Proc.devRef .tc main_while0b_v468 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (Host.absf (subf (broadcastInDim S64x64 ![0, 1] bcast_S64x1_S64x64_0_1 (broadcastInDim S64x1 ![0] bcast_S64_S64x1_0 (res_main_while0b_v463 V0))) (broadcastInDim S64x64 ![0, 1] bcast_S1x64_S64x64_0_1 (broadcastInDim S1x64 ![1] bcast_S64_S1x64_1 (res_main_while0b_v463 V0)))) : (Proc.devRef .tc main_while0b_v469 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v463 V0))) (broadcastInDim S64x64 ![0, 1] bcast_S1x64_S64x64_0_1 (broadcastInDim S1x64 ![1] bcast_S64_S1x64_1 (res_main_while0b_v463 V0))))) : (Proc.devRef .tc main_while0b_v470 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (broadcastInDim S8x1x1 ![0] bcast_S8_S8x1x1_0 (res_main_while0b_v462 V0) : (Proc.devRef .tc main_while0b_v471 : DevRef τ sig).ty.Contents (Elt F)) = Cert.ReferenceIdeal.Step.b47 j s := by
  unfold Cert.ReferenceIdeal.Step.b47
  rw [← al_38 h]
  try rfl
set_option maxRecDepth 8192 in
theorem al_48 (h : Holds V0 s j) : (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v463 V0))) (broadcastInDim S64x64 ![0, 1] bcast_S1x64_S64x64_0_1 (broadcastInDim S1x64 ![1] bcast_S64_S1x64_1 (res_main_while0b_v463 V0)))))) : (Proc.devRef .tc main_while0b_v472 : DevRef τ sig).ty.Contents (Elt F)) = Cert.ReferenceIdeal.Step.b48 j s := by
  unfold Cert.ReferenceIdeal.Step.b48
  rw [← al_46 h]
  try rfl
set_option maxRecDepth 8192 in
theorem al_49 (h : Holds V0 s j) : (broadcastInDim S8x64x64 ![0, 1, 2] bcast_S8x1x1_S8x64x64_0_1_2 (broadcastInDim S8x1x1 ![0] bcast_S8_S8x1x1_0 (res_main_while0b_v462 V0)) : (Proc.devRef .tc main_while0b_v473 : DevRef τ sig).ty.Contents (Elt F)) = Cert.ReferenceIdeal.Step.b49 j s := by
  unfold Cert.ReferenceIdeal.Step.b49
  rw [← al_47 h]
  try rfl
set_option maxRecDepth 8192 in
theorem al_50 (h : Holds V0 s j) : (mulf (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (res_main_while0b_v463 V0))) (broadcastInDim S64x64 ![0, 1] bcast_S1x64_S64x64_0_1 (broadcastInDim S1x64 ![1] bcast_S64_S1x64_1 (res_main_while0b_v463 V0))))))) (broadcastInDim S8x64x64 ![0, 1, 2] bcast_S8x1x1_S8x64x64_0_1_2 (broadcastInDim S8x1x1 ![0] bcast_S8_S8x1x1_0 (res_main_while0b_v462 V0))) : (Proc.devRef .tc main_while0b_v474 : DevRef τ sig).ty.Contents (Elt F)) = Cert.ReferenceIdeal.Step.b50 j s := by
  unfold Cert.ReferenceIdeal.Step.b50
  rw [← al_48 h, ← al_49 h]
  try rfl
set_option maxRecDepth 8192 in
theorem al_51 (h : Holds V0 s j) : (res_main_while0b_v475 V0 : (Proc.devRef .tc main_while0b_v475 : DevRef τ sig).ty.Contents (Elt F)) = Cert.ReferenceIdeal.Step.b51 j s := by
  unfold res_main_while0b_v475 Cert.ReferenceIdeal.Step.b51
  rw [← al_50 h]
  try rfl
set_option maxRecDepth 8192 in
theorem al_52 (h : Holds V0 s j) : (broadcastInDim S64x1 ![0] bcast_S64_S64x1_0 (res_main_while0b_v463 V0) : (Proc.devRef .tc main_while0b_v476 : DevRef τ sig).ty.Contents (Elt F)) = Cert.ReferenceIdeal.Step.b52 j s := by
  unfold Cert.ReferenceIdeal.Step.b52
  rw [← al_39 h]
  try rfl
set_option maxRecDepth 8192 in
theorem al_53 (h : Holds V0 s j) : (constant S_ .f32 0x3F800000#32 : (Proc.devRef .tc main_while0b_cst_71 : DevRef τ sig).ty.Contents (Elt F)) = Cert.ReferenceIdeal.Step.b53 j s := by
  unfold Cert.ReferenceIdeal.Step.b53
  rfl
set_option maxRecDepth 8192 in
theorem al_54 (h : Holds V0 s j) : (broadcastInDim S64x1 ![] bcast_S_S64x1 (constant S_ .f32 0x3F800000#32) : (Proc.devRef .tc main_while0b_v477 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (addf (broadcastInDim S64x1 ![0] bcast_S64_S64x1_0 (res_main_while0b_v463 V0)) (broadcastInDim S64x1 ![] bcast_S_S64x1 (constant S_ .f32 0x3F800000#32)) : (Proc.devRef .tc main_while0b_v478 : DevRef τ sig).ty.Contents (Elt F)) = Cert.ReferenceIdeal.Step.b55 j s := by
  unfold Cert.ReferenceIdeal.Step.b55
  rw [← al_52 h, ← al_54 h]
  try rfl
set_option maxRecDepth 8192 in
theorem al_56 (h : Holds V0 s j) : (broadcastInDim S1x8 ![1] bcast_S8_S1x8_1 (res_main_while0b_v462 V0) : (Proc.devRef .tc main_while0b_v479 : DevRef τ sig).ty.Contents (Elt F)) = Cert.ReferenceIdeal.Step.b56 j s := by
  unfold Cert.ReferenceIdeal.Step.b56
  rw [← al_38 h]
  try rfl
set_option maxRecDepth 8192 in
theorem al_57 (h : Holds V0 s j) : (broadcastInDim S64x8 ![0, 1] bcast_S64x1_S64x8_0_1 (addf (broadcastInDim S64x1 ![0] bcast_S64_S64x1_0 (res_main_while0b_v463 V0)) (broadcastInDim S64x1 ![] bcast_S_S64x1 (constant S_ .f32 0x3F800000#32))) : (Proc.devRef .tc main_while0b_v480 : DevRef τ sig).ty.Contents (Elt F)) = Cert.ReferenceIdeal.Step.b57 j s := by
  unfold Cert.ReferenceIdeal.Step.b57
  rw [← al_55 h]
  try rfl
set_option maxRecDepth 8192 in
theorem al_58 (h : Holds V0 s j) : (broadcastInDim S64x8 ![0, 1] bcast_S1x8_S64x8_0_1 (broadcastInDim S1x8 ![1] bcast_S8_S1x8_1 (res_main_while0b_v462 V0)) : (Proc.devRef .tc main_while0b_v481 : DevRef τ sig).ty.Contents (Elt F)) = Cert.ReferenceIdeal.Step.b58 j s := by
  unfold Cert.ReferenceIdeal.Step.b58
  rw [← al_56 h]
  try rfl
set_option maxRecDepth 8192 in
theorem al_59 (h : Holds V0 s j) : (mulf (broadcastInDim S64x8 ![0, 1] bcast_S64x1_S64x8_0_1 (addf (broadcastInDim S64x1 ![0] bcast_S64_S64x1_0 (res_main_while0b_v463 V0)) (broadcastInDim S64x1 ![] bcast_S_S64x1 (constant S_ .f32 0x3F800000#32)))) (broadcastInDim S64x8 ![0, 1] bcast_S1x8_S64x8_0_1 (broadcastInDim S1x8 ![1] bcast_S8_S1x8_1 (res_main_while0b_v462 V0))) : (Proc.devRef .tc main_while0b_v482 : DevRef τ sig).ty.Contents (Elt F)) = Cert.ReferenceIdeal.Step.b59 j s := by
  unfold Cert.ReferenceIdeal.Step.b59
  rw [← al_57 h, ← al_58 h]
  try rfl
set_option maxRecDepth 8192 in
theorem al_60 (h : Holds V0 s j) : (Host.exp (mulf (broadcastInDim S64x8 ![0, 1] bcast_S64x1_S64x8_0_1 (addf (broadcastInDim S64x1 ![0] bcast_S64_S64x1_0 (res_main_while0b_v463 V0)) (broadcastInDim S64x1 ![] bcast_S_S64x1 (constant S_ .f32 0x3F800000#32)))) (broadcastInDim S64x8 ![0, 1] bcast_S1x8_S64x8_0_1 (broadcastInDim S1x8 ![1] bcast_S8_S1x8_1 (res_main_while0b_v462 V0)))) : (Proc.devRef .tc main_while0b_v483 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (constant S_ .f32 0x427C0000#32 : (Proc.devRef .tc main_while0b_cst_72 : DevRef τ sig).ty.Contents (Elt F)) = Cert.ReferenceIdeal.Step.b61 j s := by
  unfold Cert.ReferenceIdeal.Step.b61
  rfl
set_option maxRecDepth 8192 in
theorem al_62 (h : Holds V0 s j) : (broadcastInDim S64 ![] bcast_S_S64 (constant S_ .f32 0x427C0000#32) : (Proc.devRef .tc main_while0b_v484 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (subf (broadcastInDim S64 ![] bcast_S_S64 (constant S_ .f32 0x427C0000#32)) (res_main_while0b_v463 V0) : (Proc.devRef .tc main_while0b_v485 : DevRef τ sig).ty.Contents (Elt F)) = Cert.ReferenceIdeal.Step.b63 j s := by
  unfold Cert.ReferenceIdeal.Step.b63
  rw [← al_62 h, ← al_39 h]
  try rfl
set_option maxRecDepth 8192 in
theorem al_64 (h : Holds V0 s j) : (broadcastInDim S64x1 ![0] bcast_S64_S64x1_0 (subf (broadcastInDim S64 ![] bcast_S_S64 (constant S_ .f32 0x427C0000#32)) (res_main_while0b_v463 V0)) : (Proc.devRef .tc main_while0b_v486 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (broadcastInDim S1x8 ![1] bcast_S8_S1x8_1 (res_main_while0b_v462 V0) : (Proc.devRef .tc main_while0b_v487 : DevRef τ sig).ty.Contents (Elt F)) = Cert.ReferenceIdeal.Step.b65 j s := by
  unfold Cert.ReferenceIdeal.Step.b65
  rw [← al_38 h]
  try rfl
set_option maxRecDepth 8192 in
theorem al_66 (h : Holds V0 s j) : (broadcastInDim S64x8 ![0, 1] bcast_S64x1_S64x8_0_1 (broadcastInDim S64x1 ![0] bcast_S64_S64x1_0 (subf (broadcastInDim S64 ![] bcast_S_S64 (constant S_ .f32 0x427C0000#32)) (res_main_while0b_v463 V0))) : (Proc.devRef .tc main_while0b_v488 : DevRef τ sig).ty.Contents (Elt F)) = Cert.ReferenceIdeal.Step.b66 j s := by
  unfold Cert.ReferenceIdeal.Step.b66
  rw [← al_64 h]
  try rfl
set_option maxRecDepth 8192 in
theorem al_67 (h : Holds V0 s j) : (broadcastInDim S64x8 ![0, 1] bcast_S1x8_S64x8_0_1 (broadcastInDim S1x8 ![1] bcast_S8_S1x8_1 (res_main_while0b_v462 V0)) : (Proc.devRef .tc main_while0b_v489 : DevRef τ sig).ty.Contents (Elt F)) = Cert.ReferenceIdeal.Step.b67 j s := by
  unfold Cert.ReferenceIdeal.Step.b67
  rw [← al_65 h]
  try rfl
set_option maxRecDepth 8192 in
theorem al_68 (h : Holds V0 s j) : (mulf (broadcastInDim S64x8 ![0, 1] bcast_S64x1_S64x8_0_1 (broadcastInDim S64x1 ![0] bcast_S64_S64x1_0 (subf (broadcastInDim S64 ![] bcast_S_S64 (constant S_ .f32 0x427C0000#32)) (res_main_while0b_v463 V0)))) (broadcastInDim S64x8 ![0, 1] bcast_S1x8_S64x8_0_1 (broadcastInDim S1x8 ![1] bcast_S8_S1x8_1 (res_main_while0b_v462 V0))) : (Proc.devRef .tc main_while0b_v490 : DevRef τ sig).ty.Contents (Elt F)) = Cert.ReferenceIdeal.Step.b68 j s := by
  unfold Cert.ReferenceIdeal.Step.b68
  rw [← al_66 h, ← al_67 h]
  try rfl
set_option maxRecDepth 8192 in
theorem al_69 (h : Holds V0 s j) : (Host.exp (mulf (broadcastInDim S64x8 ![0, 1] bcast_S64x1_S64x8_0_1 (broadcastInDim S64x1 ![0] bcast_S64_S64x1_0 (subf (broadcastInDim S64 ![] bcast_S_S64 (constant S_ .f32 0x427C0000#32)) (res_main_while0b_v463 V0)))) (broadcastInDim S64x8 ![0, 1] bcast_S1x8_S64x8_0_1 (broadcastInDim S1x8 ![1] bcast_S8_S1x8_1 (res_main_while0b_v462 V0)))) : (Proc.devRef .tc main_while0b_v491 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (constant S_ .f32 0x42800000#32 : (Proc.devRef .tc main_while0b_cst_73 : DevRef τ sig).ty.Contents (Elt F)) = Cert.ReferenceIdeal.Step.b70 j s := by
  unfold Cert.ReferenceIdeal.Step.b70
  rfl
set_option maxRecDepth 8192 in
theorem al_71 (h : Holds V0 s j) : (broadcastInDim S8 ![] bcast_S_S8 (constant S_ .f32 0x42800000#32) : (Proc.devRef .tc main_while0b_v492 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (mulf (broadcastInDim S8 ![] bcast_S_S8 (constant S_ .f32 0x42800000#32)) (res_main_while0b_v462 V0) : (Proc.devRef .tc main_while0b_v493 : DevRef τ sig).ty.Contents (Elt F)) = Cert.ReferenceIdeal.Step.b72 j s := by
  unfold Cert.ReferenceIdeal.Step.b72
  rw [← al_71 h, ← al_38 h]
  try rfl
set_option maxRecDepth 8192 in
theorem al_73 (h : Holds V0 s j) : (Host.exp (mulf (broadcastInDim S8 ![] bcast_S_S8 (constant S_ .f32 0x42800000#32)) (res_main_while0b_v462 V0)) : (Proc.devRef .tc main_while0b_v494 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (Host.dotGeneral dot_S64x8x256_S64x8x256_S8x64x64_2_2_0_0_1_1 none (res_main_while0b_v451 V0) (res_main_while0b_v452 V0) : (Proc.devRef .tc main_while0b_v495 : DevRef τ sig).ty.Contents (Elt F)) = Cert.ReferenceIdeal.Step.b74 j s := by
  unfold Cert.ReferenceIdeal.Step.b74
  rw [← al_13 h, ← al_18 h]
  try rfl
set_option maxRecDepth 8192 in
theorem al_75 (h : Holds V0 s j) : (res_main_while0b_v496 V0 : (Proc.devRef .tc main_while0b_v496 : DevRef τ sig).ty.Contents (Elt F)) = Cert.ReferenceIdeal.Step.b75 j s := by
  unfold res_main_while0b_v496 Cert.ReferenceIdeal.Step.b75
  rw [← al_74 h, ← al_51 h]
  try rfl
set_option maxRecDepth 8192 in
theorem al_76 (h : Holds V0 s j) : (Host.dotGeneral dot_S64x8x512_S8x64x64_S8x512x64_0_2_2_1_1_0 none (res_main_while0b_v453 V0) (res_main_while0b_v496 V0) : (Proc.devRef .tc main_while0b_v497 : DevRef τ sig).ty.Contents (Elt F)) = Cert.ReferenceIdeal.Step.b76 j s := by
  unfold Cert.ReferenceIdeal.Step.b76
  rw [← al_23 h, ← al_75 h]
  try rfl
set_option maxRecDepth 8192 in
theorem al_77 (h : Holds V0 s j) : (transpose S64x8x512 [2, 0, 1] (Host.dotGeneral dot_S64x8x512_S8x64x64_S8x512x64_0_2_2_1_1_0 none (res_main_while0b_v453 V0) (res_main_while0b_v496 V0)) transposes_S8x512x64_S64x8x512_2_0_1 : (Proc.devRef .tc main_while0b_v498 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (Host.dotGeneral dot_S8x256x512_S64x8x256_S8x512x64_1_2_2_0_0_1 none (res_main_while0b_v450 V0) (res_main_while0b_v451 V0) : (Proc.devRef .tc main_while0b_v499 : DevRef τ sig).ty.Contents (Elt F)) = Cert.ReferenceIdeal.Step.b78 j s := by
  unfold Cert.ReferenceIdeal.Step.b78
  rw [← al_8 h, ← al_13 h]
  try rfl
set_option maxRecDepth 8192 in
theorem al_79 (h : Holds V0 s j) : (transpose S64x8x512 [2, 0, 1] (Host.dotGeneral dot_S8x256x512_S64x8x256_S8x512x64_1_2_2_0_0_1 none (res_main_while0b_v450 V0) (res_main_while0b_v451 V0)) transposes_S8x512x64_S64x8x512_2_0_1 : (Proc.devRef .tc main_while0b_v500 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (res_main_while0b_v501 V0 : (Proc.devRef .tc main_while0b_v501 : DevRef τ sig).ty.Contents (Elt F)) = Cert.ReferenceIdeal.Step.b80 j s := by
  unfold res_main_while0b_v501 Cert.ReferenceIdeal.Step.b80
  rw [← al_60 h]
  try rfl
set_option maxRecDepth 8192 in
theorem al_81 (h : Holds V0 s j) : (broadcastInDim S64x8x512 ![0, 1, 2] bcast_S64x8x1_S64x8x512_0_1_2 (res_main_while0b_v501 V0) : (Proc.devRef .tc main_while0b_v502 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (mulf (transpose S64x8x512 [2, 0, 1] (Host.dotGeneral dot_S8x256x512_S64x8x256_S8x512x64_1_2_2_0_0_1 none (res_main_while0b_v450 V0) (res_main_while0b_v451 V0)) transposes_S8x512x64_S64x8x512_2_0_1) (broadcastInDim S64x8x512 ![0, 1, 2] bcast_S64x8x1_S64x8x512_0_1_2 (res_main_while0b_v501 V0)) : (Proc.devRef .tc main_while0b_v503 : DevRef τ sig).ty.Contents (Elt F)) = Cert.ReferenceIdeal.Step.b82 j s := by
  unfold Cert.ReferenceIdeal.Step.b82
  rw [← al_79 h, ← al_81 h]
  try rfl
set_option maxRecDepth 8192 in
theorem al_83 (h : Holds V0 s j) : (res_main_while0b_v504 V0 : (Proc.devRef .tc main_while0b_v504 : DevRef τ sig).ty.Contents (Elt F)) = Cert.ReferenceIdeal.Step.b83 j s := by
  unfold res_main_while0b_v504 Cert.ReferenceIdeal.Step.b83
  rw [← al_73 h]
  try rfl
set_option maxRecDepth 8192 in
theorem al_84 (h : Holds V0 s j) : (broadcastInDim S8x256x512 ![0, 1, 2] bcast_S8x1x1_S8x256x512_0_1_2 (res_main_while0b_v504 V0) : (Proc.devRef .tc main_while0b_v505 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (mulf (res_main_while0b_v450 V0) (broadcastInDim S8x256x512 ![0, 1, 2] bcast_S8x1x1_S8x256x512_0_1_2 (res_main_while0b_v504 V0)) : (Proc.devRef .tc main_while0b_v506 : DevRef τ sig).ty.Contents (Elt F)) = Cert.ReferenceIdeal.Step.b85 j s := by
  unfold Cert.ReferenceIdeal.Step.b85
  rw [← al_8 h, ← al_84 h]
  try rfl
set_option maxRecDepth 8192 in
theorem al_86 (h : Holds V0 s j) : (res_main_while0b_v507 V0 : (Proc.devRef .tc main_while0b_v507 : DevRef τ sig).ty.Contents (Elt F)) = Cert.ReferenceIdeal.Step.b86 j s := by
  unfold res_main_while0b_v507 Cert.ReferenceIdeal.Step.b86
  rw [← al_69 h]
  try rfl
set_option maxRecDepth 8192 in
theorem al_87 (h : Holds V0 s j) : (broadcastInDim S64x8x256 ![0, 1, 2] bcast_S64x8x1_S64x8x256_0_1_2 (res_main_while0b_v507 V0) : (Proc.devRef .tc main_while0b_v508 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (res_main_while0b_v509 V0 : (Proc.devRef .tc main_while0b_v509 : DevRef τ sig).ty.Contents (Elt F)) = Cert.ReferenceIdeal.Step.b88 j s := by
  unfold res_main_while0b_v509 Cert.ReferenceIdeal.Step.b88
  rw [← al_18 h, ← al_87 h]
  try rfl
set_option maxRecDepth 8192 in
theorem al_89 (h : Holds V0 s j) : (Host.dotGeneral dot_S64x8x256_S64x8x512_S8x256x512_0_0_2_2_1_1 none (res_main_while0b_v509 V0) (res_main_while0b_v453 V0) : (Proc.devRef .tc main_while0b_v510 : DevRef τ sig).ty.Contents (Elt F)) = Cert.ReferenceIdeal.Step.b89 j s := by
  unfold Cert.ReferenceIdeal.Step.b89
  rw [← al_88 h, ← al_23 h]
  try rfl
set_option maxRecDepth 8192 in
theorem al_90 (h : Holds V0 s j) : (addf (mulf (res_main_while0b_v450 V0) (broadcastInDim S8x256x512 ![0, 1, 2] bcast_S8x1x1_S8x256x512_0_1_2 (res_main_while0b_v504 V0))) (Host.dotGeneral dot_S64x8x256_S64x8x512_S8x256x512_0_0_2_2_1_1 none (res_main_while0b_v509 V0) (res_main_while0b_v453 V0)) : (Proc.devRef .tc main_while0b_v511 : DevRef τ sig).ty.Contents (Elt F)) = Cert.ReferenceIdeal.Step.b90 j s := by
  unfold Cert.ReferenceIdeal.Step.b90
  rw [← al_85 h, ← al_89 h]
  try rfl
set_option maxRecDepth 8192 in
theorem al_91 (h : Holds V0 s j) : (addf (transpose S64x8x512 [2, 0, 1] (Host.dotGeneral dot_S64x8x512_S8x64x64_S8x512x64_0_2_2_1_1_0 none (res_main_while0b_v453 V0) (res_main_while0b_v496 V0)) transposes_S8x512x64_S64x8x512_2_0_1) (mulf (transpose S64x8x512 [2, 0, 1] (Host.dotGeneral dot_S8x256x512_S64x8x256_S8x512x64_1_2_2_0_0_1 none (res_main_while0b_v450 V0) (res_main_while0b_v451 V0)) transposes_S8x512x64_S64x8x512_2_0_1) (broadcastInDim S64x8x512 ![0, 1, 2] bcast_S64x8x1_S64x8x512_0_1_2 (res_main_while0b_v501 V0))) : (Proc.devRef .tc main_while0b_v512 : DevRef τ sig).ty.Contents (Elt F)) = Cert.ReferenceIdeal.Step.b91 j s := by
  unfold Cert.ReferenceIdeal.Step.b91
  rw [← al_77 h, ← al_82 h]
  try rfl
set_option maxRecDepth 8192 in
theorem al_92 (h : Holds V0 s j) : (Host.dotGeneral dot_S8x256x512_S64x8x256_S8x512x64_1_2_2_0_0_1 none (V0 (Proc.devRef .tc main_v207_6)) (res_main_while0b_v509 V0) : (Proc.devRef .tc main_while0b_v513 : DevRef τ sig).ty.Contents (Elt F)) = Cert.ReferenceIdeal.Step.b92 j s := by
  unfold Cert.ReferenceIdeal.Step.b92
  rw [← al_88 h, h.f_6]
  try rfl
set_option maxRecDepth 8192 in
theorem al_93 (h : Holds V0 s j) : (transpose S64x8x512 [2, 0, 1] (Host.dotGeneral dot_S8x256x512_S64x8x256_S8x512x64_1_2_2_0_0_1 none (V0 (Proc.devRef .tc main_v207_6)) (res_main_while0b_v509 V0)) transposes_S8x512x64_S64x8x512_2_0_1 : (Proc.devRef .tc main_while0b_v514 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (Host.dotGeneral dot_S8x256x512_S64x8x512_S8x256x64_2_2_1_0_0_1 none (V0 (Proc.devRef .tc main_v207_6)) (res_main_while0b_v453 V0) : (Proc.devRef .tc main_while0b_v515 : DevRef τ sig).ty.Contents (Elt F)) = Cert.ReferenceIdeal.Step.b94 j s := by
  unfold Cert.ReferenceIdeal.Step.b94
  rw [← al_23 h, h.f_6]
  try rfl
set_option maxRecDepth 8192 in
theorem al_95 (h : Holds V0 s j) : (transpose S64x8x256 [2, 0, 1] (Host.dotGeneral dot_S8x256x512_S64x8x512_S8x256x64_2_2_1_0_0_1 none (V0 (Proc.devRef .tc main_v207_6)) (res_main_while0b_v453 V0)) transposes_S8x256x64_S64x8x256_2_0_1 : (Proc.devRef .tc main_while0b_v516 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (broadcastInDim S64x8x256 ![0, 1, 2] bcast_S64x8x1_S64x8x256_0_1_2 (res_main_while0b_v507 V0) : (Proc.devRef .tc main_while0b_v517 : DevRef τ sig).ty.Contents (Elt F)) = Cert.ReferenceIdeal.Step.b96 j s := by
  unfold Cert.ReferenceIdeal.Step.b96
  rw [← al_86 h]
  try rfl
set_option maxRecDepth 8192 in
theorem al_97 (h : Holds V0 s j) : (mulf (transpose S64x8x256 [2, 0, 1] (Host.dotGeneral dot_S8x256x512_S64x8x512_S8x256x64_2_2_1_0_0_1 none (V0 (Proc.devRef .tc main_v207_6)) (res_main_while0b_v453 V0)) transposes_S8x256x64_S64x8x256_2_0_1) (broadcastInDim S64x8x256 ![0, 1, 2] bcast_S64x8x1_S64x8x256_0_1_2 (res_main_while0b_v507 V0)) : (Proc.devRef .tc main_while0b_v518 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (broadcastInDim S8x256x512 ![0, 1, 2] bcast_S8x1x1_S8x256x512_0_1_2 (res_main_while0b_v504 V0) : (Proc.devRef .tc main_while0b_v519 : DevRef τ sig).ty.Contents (Elt F)) = Cert.ReferenceIdeal.Step.b98 j s := by
  unfold Cert.ReferenceIdeal.Step.b98
  rw [← al_83 h]
  try rfl
set_option maxRecDepth 8192 in
theorem al_99 (h : Holds V0 s j) : (mulf (V0 (Proc.devRef .tc main_v207_6)) (broadcastInDim S8x256x512 ![0, 1, 2] bcast_S8x1x1_S8x256x512_0_1_2 (res_main_while0b_v504 V0)) : (Proc.devRef .tc main_while0b_v520 : DevRef τ sig).ty.Contents (Elt F)) = Cert.ReferenceIdeal.Step.b99 j s := by
  unfold Cert.ReferenceIdeal.Step.b99
  rw [← al_98 h, h.f_6]
  try rfl
set_option maxRecDepth 8192 in
theorem al_100 (h : Holds V0 s j) : (broadcastInDim S64x8x512 ![0, 1, 2] bcast_S64x8x1_S64x8x512_0_1_2 (res_main_while0b_v501 V0) : (Proc.devRef .tc main_while0b_v521 : DevRef τ sig).ty.Contents (Elt F)) = Cert.ReferenceIdeal.Step.b100 j s := by
  unfold Cert.ReferenceIdeal.Step.b100
  rw [← al_80 h]
  try rfl
set_option maxRecDepth 8192 in
theorem al_101 (h : Holds V0 s j) : (mulf (res_main_while0b_v454 V0) (broadcastInDim S64x8x512 ![0, 1, 2] bcast_S64x8x1_S64x8x512_0_1_2 (res_main_while0b_v501 V0)) : (Proc.devRef .tc main_while0b_v522 : DevRef τ sig).ty.Contents (Elt F)) = Cert.ReferenceIdeal.Step.b101 j s := by
  unfold Cert.ReferenceIdeal.Step.b101
  rw [← al_28 h, ← al_100 h]
  try rfl
set_option maxRecDepth 8192 in
theorem al_102 (h : Holds V0 s j) : (res_main_while0b_v523 V0 : (Proc.devRef .tc main_while0b_v523 : DevRef τ sig).ty.Contents (Elt F)) = Cert.ReferenceIdeal.Step.b102 j s := by
  unfold res_main_while0b_v523 Cert.ReferenceIdeal.Step.b102
  rw [← al_101 h]
  try rfl
set_option maxRecDepth 8192 in
theorem al_103 (h : Holds V0 s j) : (Host.dotGeneral dot_S8x512x64_S8x256x512_S8x64x256_1_2_2_1_0_0 none (res_main_while0b_v523 V0) (res_main_while0b_v450 V0) : (Proc.devRef .tc main_while0b_v524 : DevRef τ sig).ty.Contents (Elt F)) = Cert.ReferenceIdeal.Step.b103 j s := by
  unfold Cert.ReferenceIdeal.Step.b103
  rw [← al_102 h, ← al_8 h]
  try rfl
set_option maxRecDepth 8192 in
theorem al_104 (h : Holds V0 s j) : (transpose S64x8x256 [1, 0, 2] (Host.dotGeneral dot_S8x512x64_S8x256x512_S8x64x256_1_2_2_1_0_0 none (res_main_while0b_v523 V0) (res_main_while0b_v450 V0)) transposes_S8x64x256_S64x8x256_1_0_2 : (Proc.devRef .tc main_while0b_v525 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (Host.dotGeneral dot_S8x512x64_S64x8x256_S8x512x256_2_0_1_2_0_1 none (res_main_while0b_v523 V0) (res_main_while0b_v451 V0) : (Proc.devRef .tc main_while0b_v526 : DevRef τ sig).ty.Contents (Elt F)) = Cert.ReferenceIdeal.Step.b105 j s := by
  unfold Cert.ReferenceIdeal.Step.b105
  rw [← al_102 h, ← al_13 h]
  try rfl
set_option maxRecDepth 8192 in
theorem al_106 (h : Holds V0 s j) : (transpose S8x256x512 [0, 2, 1] (Host.dotGeneral dot_S8x512x64_S64x8x256_S8x512x256_2_0_1_2_0_1 none (res_main_while0b_v523 V0) (res_main_while0b_v451 V0)) transposes_S8x512x256_S8x256x512_0_2_1 : (Proc.devRef .tc main_while0b_v527 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (addf (mulf (V0 (Proc.devRef .tc main_v207_6)) (broadcastInDim S8x256x512 ![0, 1, 2] bcast_S8x1x1_S8x256x512_0_1_2 (res_main_while0b_v504 V0))) (transpose S8x256x512 [0, 2, 1] (Host.dotGeneral dot_S8x512x64_S64x8x256_S8x512x256_2_0_1_2_0_1 none (res_main_while0b_v523 V0) (res_main_while0b_v451 V0)) transposes_S8x512x256_S8x256x512_0_2_1) : (Proc.devRef .tc main_while0b_v528 : DevRef τ sig).ty.Contents (Elt F)) = Cert.ReferenceIdeal.Step.b107 j s := by
  unfold Cert.ReferenceIdeal.Step.b107
  rw [← al_99 h, ← al_106 h]
  try rfl
set_option maxRecDepth 8192 in
theorem al_108 (h : Holds V0 s j) : (res_main_while0b_v529 V0 : (Proc.devRef .tc main_while0b_v529 : DevRef τ sig).ty.Contents (Elt F)) = Cert.ReferenceIdeal.Step.b108 j s := by
  unfold res_main_while0b_v529 Cert.ReferenceIdeal.Step.b108
  rw [← al_28 h]
  try rfl
set_option maxRecDepth 8192 in
theorem al_109 (h : Holds V0 s j) : (Host.dotGeneral dot_S8x512x64_S64x8x512_S8x64x64_1_2_2_0_0_1 none (res_main_while0b_v529 V0) (res_main_while0b_v453 V0) : (Proc.devRef .tc main_while0b_v530 : DevRef τ sig).ty.Contents (Elt F)) = Cert.ReferenceIdeal.Step.b109 j s := by
  unfold Cert.ReferenceIdeal.Step.b109
  rw [← al_108 h, ← al_23 h]
  try rfl
set_option maxRecDepth 8192 in
theorem al_110 (h : Holds V0 s j) : (Host.dotGeneral dot_S8x512x64_S8x64x64_S8x512x64_2_1_1_2_0_0 none (res_main_while0b_v529 V0) (res_main_while0b_v496 V0) : (Proc.devRef .tc main_while0b_v531 : DevRef τ sig).ty.Contents (Elt F)) = Cert.ReferenceIdeal.Step.b110 j s := by
  unfold Cert.ReferenceIdeal.Step.b110
  rw [← al_108 h, ← al_75 h]
  try rfl
set_option maxRecDepth 8192 in
theorem al_111 (h : Holds V0 s j) : (transpose S64x8x512 [2, 0, 1] (Host.dotGeneral dot_S8x512x64_S8x64x64_S8x512x64_2_1_1_2_0_0 none (res_main_while0b_v529 V0) (res_main_while0b_v496 V0)) transposes_S8x512x64_S64x8x512_2_0_1 : (Proc.devRef .tc main_while0b_v532 : DevRef τ sig).ty.Contents (Elt F)) = Cert.ReferenceIdeal.Step.b111 j s := by
  unfold Cert.ReferenceIdeal.Step.b111
  rw [← al_110 h]
  try rfl
set_option maxRecDepth 8192 in
theorem al_112 (h : Holds V0 s j) : (addf (transpose S64x8x512 [2, 0, 1] (Host.dotGeneral dot_S8x256x512_S64x8x256_S8x512x64_1_2_2_0_0_1 none (V0 (Proc.devRef .tc main_v207_6)) (res_main_while0b_v509 V0)) transposes_S8x512x64_S64x8x512_2_0_1) (transpose S64x8x512 [2, 0, 1] (Host.dotGeneral dot_S8x512x64_S8x64x64_S8x512x64_2_1_1_2_0_0 none (res_main_while0b_v529 V0) (res_main_while0b_v496 V0)) transposes_S8x512x64_S64x8x512_2_0_1) : (Proc.devRef .tc main_while0b_v533 : DevRef τ sig).ty.Contents (Elt F)) = Cert.ReferenceIdeal.Step.b112 j s := by
  unfold Cert.ReferenceIdeal.Step.b112
  rw [← al_93 h, ← al_111 h]
  try rfl
set_option maxRecDepth 8192 in
theorem al_113 (h : Holds V0 s j) : (res_main_while0b_v534 V0 : (Proc.devRef .tc main_while0b_v534 : DevRef τ sig).ty.Contents (Elt F)) = Cert.ReferenceIdeal.Step.b113 j s := by
  unfold res_main_while0b_v534 Cert.ReferenceIdeal.Step.b113
  rw [← al_109 h, ← al_51 h]
  try rfl
set_option maxRecDepth 8192 in
theorem al_114 (h : Holds V0 s j) : (Host.dotGeneral dot_S8x64x64_S64x8x256_S8x64x256_1_0_2_2_0_1 none (res_main_while0b_v534 V0) (res_main_while0b_v451 V0) : (Proc.devRef .tc main_while0b_v535 : DevRef τ sig).ty.Contents (Elt F)) = Cert.ReferenceIdeal.Step.b114 j s := by
  unfold Cert.ReferenceIdeal.Step.b114
  rw [← al_113 h, ← al_13 h]
  try rfl
set_option maxRecDepth 8192 in
theorem al_115 (h : Holds V0 s j) : (transpose S64x8x256 [1, 0, 2] (Host.dotGeneral dot_S8x64x64_S64x8x256_S8x64x256_1_0_2_2_0_1 none (res_main_while0b_v534 V0) (res_main_while0b_v451 V0)) transposes_S8x64x256_S64x8x256_1_0_2 : (Proc.devRef .tc main_while0b_v536 : DevRef τ sig).ty.Contents (Elt F)) = Cert.ReferenceIdeal.Step.b115 j s := by
  unfold Cert.ReferenceIdeal.Step.b115
  rw [← al_114 h]
  try rfl
set_option maxRecDepth 8192 in
theorem al_116 (h : Holds V0 s j) : (addf (mulf (transpose S64x8x256 [2, 0, 1] (Host.dotGeneral dot_S8x256x512_S64x8x512_S8x256x64_2_2_1_0_0_1 none (V0 (Proc.devRef .tc main_v207_6)) (res_main_while0b_v453 V0)) transposes_S8x256x64_S64x8x256_2_0_1) (broadcastInDim S64x8x256 ![0, 1, 2] bcast_S64x8x1_S64x8x256_0_1_2 (res_main_while0b_v507 V0))) (transpose S64x8x256 [1, 0, 2] (Host.dotGeneral dot_S8x64x64_S64x8x256_S8x64x256_1_0_2_2_0_1 none (res_main_while0b_v534 V0) (res_main_while0b_v451 V0)) transposes_S8x64x256_S64x8x256_1_0_2) : (Proc.devRef .tc main_while0b_v537 : DevRef τ sig).ty.Contents (Elt F)) = Cert.ReferenceIdeal.Step.b116 j s := by
  unfold Cert.ReferenceIdeal.Step.b116
  rw [← al_97 h, ← al_115 h]
  try rfl
set_option maxRecDepth 8192 in
theorem al_117 (h : Holds V0 s j) : (Host.dotGeneral dot_S8x64x64_S64x8x256_S8x64x256_2_0_1_2_0_1 none (res_main_while0b_v534 V0) (res_main_while0b_v452 V0) : (Proc.devRef .tc main_while0b_v538 : DevRef τ sig).ty.Contents (Elt F)) = Cert.ReferenceIdeal.Step.b117 j s := by
  unfold Cert.ReferenceIdeal.Step.b117
  rw [← al_113 h, ← al_18 h]
  try rfl
set_option maxRecDepth 8192 in
theorem al_118 (h : Holds V0 s j) : (transpose S64x8x256 [1, 0, 2] (Host.dotGeneral dot_S8x64x64_S64x8x256_S8x64x256_2_0_1_2_0_1 none (res_main_while0b_v534 V0) (res_main_while0b_v452 V0)) transposes_S8x64x256_S64x8x256_1_0_2 : (Proc.devRef .tc main_while0b_v539 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (addf (transpose S64x8x256 [1, 0, 2] (Host.dotGeneral dot_S8x512x64_S8x256x512_S8x64x256_1_2_2_1_0_0 none (res_main_while0b_v523 V0) (res_main_while0b_v450 V0)) transposes_S8x64x256_S64x8x256_1_0_2) (transpose S64x8x256 [1, 0, 2] (Host.dotGeneral dot_S8x64x64_S64x8x256_S8x64x256_2_0_1_2_0_1 none (res_main_while0b_v534 V0) (res_main_while0b_v452 V0)) transposes_S8x64x256_S64x8x256_1_0_2) : (Proc.devRef .tc main_while0b_v540 : DevRef τ sig).ty.Contents (Elt F)) = Cert.ReferenceIdeal.Step.b119 j s := by
  unfold Cert.ReferenceIdeal.Step.b119
  rw [← al_104 h, ← al_118 h]
  try rfl
set_option maxRecDepth 8192 in
theorem al_120 (h : Holds V0 s j) : (broadcastInDim S1x64x8x256 ![1, 2, 3] bcast_S64x8x256_S1x64x8x256_1_2_3 (addf (transpose S64x8x256 [1, 0, 2] (Host.dotGeneral dot_S8x512x64_S8x256x512_S8x64x256_1_2_2_1_0_0 none (res_main_while0b_v523 V0) (res_main_while0b_v450 V0)) transposes_S8x64x256_S64x8x256_1_0_2) (transpose S64x8x256 [1, 0, 2] (Host.dotGeneral dot_S8x64x64_S64x8x256_S8x64x256_2_0_1_2_0_1 none (res_main_while0b_v534 V0) (res_main_while0b_v452 V0)) transposes_S8x64x256_S64x8x256_1_0_2)) : (Proc.devRef .tc main_while0b_call7_v0 : DevRef τ sig).ty.Contents (Elt F)) = Cert.ReferenceIdeal.Step.b120 j s := by
  unfold Cert.ReferenceIdeal.Step.b120
  rw [← al_119 h]
  try rfl
set_option maxRecDepth 8192 in
theorem al_121 (h : Holds V0 s j) : (constantI S_ 32 0#32 : (Proc.devRef .tc main_while0b_call7_c : DevRef τ sig).ty.Contents (Elt F)) = Cert.ReferenceIdeal.Step.b121 j s := by
  unfold Cert.ReferenceIdeal.Step.b121
  rfl
set_option maxRecDepth 8192 in
theorem al_122 (h : Holds V0 s j) : (constantI S_ 32 0#32 : (Proc.devRef .tc main_while0b_call7_c_0 : DevRef τ sig).ty.Contents (Elt F)) = Cert.ReferenceIdeal.Step.b122 j s := by
  unfold Cert.ReferenceIdeal.Step.b122
  rfl
set_option maxRecDepth 8192 in
theorem al_123 (h : Holds V0 s j) : (constantI S_ 32 0#32 : (Proc.devRef .tc main_while0b_call7_c_1 : DevRef τ sig).ty.Contents (Elt F)) = Cert.ReferenceIdeal.Step.b123 j s := by
  unfold Cert.ReferenceIdeal.Step.b123
  rfl
set_option maxRecDepth 8192 in
theorem al_124 (h : Holds V0 s j) : (Host.dynamicUpdateSlice (V0 (Proc.devRef .tc main_v207_7)) (broadcastInDim S1x64x8x256 ![1, 2, 3] bcast_S64x8x256_S1x64x8x256_1_2_3 (addf (transpose S64x8x256 [1, 0, 2] (Host.dotGeneral dot_S8x512x64_S8x256x512_S8x64x256_1_2_2_1_0_0 none (res_main_while0b_v523 V0) (res_main_while0b_v450 V0)) transposes_S8x64x256_S64x8x256_1_0_2) (transpose S64x8x256 [1, 0, 2] (Host.dotGeneral dot_S8x64x64_S64x8x256_S8x64x256_2_0_1_2_0_1 none (res_main_while0b_v534 V0) (res_main_while0b_v452 V0)) transposes_S8x64x256_S64x8x256_1_0_2))) (fun k => (((![res_main_while0b_v449 V0, constantI S_ 32 0#32, constantI S_ 32 0#32, constantI S_ 32 0#32] : Fin 4 → (⟨S_, .i32⟩ : BufTy).Contents (Elt F))) k (Shape.Idx.first h_S_)).toInt) updateFits_S128x64x8x256_S1x64x8x256 : (Proc.devRef .tc main_while0b_v541 : DevRef τ sig).ty.Contents (Elt F)) = Cert.ReferenceIdeal.Step.b124 j s := by
  unfold Cert.ReferenceIdeal.Step.b124
  rw [← al_120 h, ← al_3 h, ← al_121 h, ← al_122 h, ← al_123 h, h.f_7]
  try rfl
set_option maxRecDepth 8192 in
theorem al_125 (h : Holds V0 s j) : (broadcastInDim S1x64x8x256 ![1, 2, 3] bcast_S64x8x256_S1x64x8x256_1_2_3 (addf (mulf (transpose S64x8x256 [2, 0, 1] (Host.dotGeneral dot_S8x256x512_S64x8x512_S8x256x64_2_2_1_0_0_1 none (V0 (Proc.devRef .tc main_v207_6)) (res_main_while0b_v453 V0)) transposes_S8x256x64_S64x8x256_2_0_1) (broadcastInDim S64x8x256 ![0, 1, 2] bcast_S64x8x1_S64x8x256_0_1_2 (res_main_while0b_v507 V0))) (transpose S64x8x256 [1, 0, 2] (Host.dotGeneral dot_S8x64x64_S64x8x256_S8x64x256_1_0_2_2_0_1 none (res_main_while0b_v534 V0) (res_main_while0b_v451 V0)) transposes_S8x64x256_S64x8x256_1_0_2)) : (Proc.devRef .tc main_while0b_call8_v0 : DevRef τ sig).ty.Contents (Elt F)) = Cert.ReferenceIdeal.Step.b125 j s := by
  unfold Cert.ReferenceIdeal.Step.b125
  rw [← al_116 h]
  try rfl
set_option maxRecDepth 8192 in
theorem al_126 (h : Holds V0 s j) : (constantI S_ 32 0#32 : (Proc.devRef .tc main_while0b_call8_c : DevRef τ sig).ty.Contents (Elt F)) = Cert.ReferenceIdeal.Step.b126 j s := by
  unfold Cert.ReferenceIdeal.Step.b126
  rfl
set_option maxRecDepth 8192 in
theorem al_127 (h : Holds V0 s j) : (constantI S_ 32 0#32 : (Proc.devRef .tc main_while0b_call8_c_0 : DevRef τ sig).ty.Contents (Elt F)) = Cert.ReferenceIdeal.Step.b127 j s := by
  unfold Cert.ReferenceIdeal.Step.b127
  rfl
set_option maxRecDepth 8192 in
theorem al_128 (h : Holds V0 s j) : (constantI S_ 32 0#32 : (Proc.devRef .tc main_while0b_call8_c_1 : DevRef τ sig).ty.Contents (Elt F)) = Cert.ReferenceIdeal.Step.b128 j s := by
  unfold Cert.ReferenceIdeal.Step.b128
  rfl
set_option maxRecDepth 8192 in
theorem al_129 (h : Holds V0 s j) : (Host.dynamicUpdateSlice (V0 (Proc.devRef .tc main_v207_8)) (broadcastInDim S1x64x8x256 ![1, 2, 3] bcast_S64x8x256_S1x64x8x256_1_2_3 (addf (mulf (transpose S64x8x256 [2, 0, 1] (Host.dotGeneral dot_S8x256x512_S64x8x512_S8x256x64_2_2_1_0_0_1 none (V0 (Proc.devRef .tc main_v207_6)) (res_main_while0b_v453 V0)) transposes_S8x256x64_S64x8x256_2_0_1) (broadcastInDim S64x8x256 ![0, 1, 2] bcast_S64x8x1_S64x8x256_0_1_2 (res_main_while0b_v507 V0))) (transpose S64x8x256 [1, 0, 2] (Host.dotGeneral dot_S8x64x64_S64x8x256_S8x64x256_1_0_2_2_0_1 none (res_main_while0b_v534 V0) (res_main_while0b_v451 V0)) transposes_S8x64x256_S64x8x256_1_0_2))) (fun k => (((![res_main_while0b_v449 V0, constantI S_ 32 0#32, constantI S_ 32 0#32, constantI S_ 32 0#32] : Fin 4 → (⟨S_, .i32⟩ : BufTy).Contents (Elt F))) k (Shape.Idx.first h_S_)).toInt) updateFits_S128x64x8x256_S1x64x8x256 : (Proc.devRef .tc main_while0b_v542 : DevRef τ sig).ty.Contents (Elt F)) = Cert.ReferenceIdeal.Step.b129 j s := by
  unfold Cert.ReferenceIdeal.Step.b129
  rw [← al_125 h, ← al_3 h, ← al_126 h, ← al_127 h, ← al_128 h, h.f_8]
  try rfl
set_option maxRecDepth 8192 in
theorem al_130 (h : Holds V0 s j) : (broadcastInDim S1x64x8x512 ![1, 2, 3] bcast_S64x8x512_S1x64x8x512_1_2_3 (addf (transpose S64x8x512 [2, 0, 1] (Host.dotGeneral dot_S8x256x512_S64x8x256_S8x512x64_1_2_2_0_0_1 none (V0 (Proc.devRef .tc main_v207_6)) (res_main_while0b_v509 V0)) transposes_S8x512x64_S64x8x512_2_0_1) (transpose S64x8x512 [2, 0, 1] (Host.dotGeneral dot_S8x512x64_S8x64x64_S8x512x64_2_1_1_2_0_0 none (res_main_while0b_v529 V0) (res_main_while0b_v496 V0)) transposes_S8x512x64_S64x8x512_2_0_1)) : (Proc.devRef .tc main_while0b_call9_v0 : DevRef τ sig).ty.Contents (Elt F)) = Cert.ReferenceIdeal.Step.b130 j s := by
  unfold Cert.ReferenceIdeal.Step.b130
  rw [← al_112 h]
  try rfl
set_option maxRecDepth 8192 in
theorem al_131 (h : Holds V0 s j) : (constantI S_ 32 0#32 : (Proc.devRef .tc main_while0b_call9_c : DevRef τ sig).ty.Contents (Elt F)) = Cert.ReferenceIdeal.Step.b131 j s := by
  unfold Cert.ReferenceIdeal.Step.b131
  rfl
set_option maxRecDepth 8192 in
theorem al_132 (h : Holds V0 s j) : (constantI S_ 32 0#32 : (Proc.devRef .tc main_while0b_call9_c_0 : DevRef τ sig).ty.Contents (Elt F)) = Cert.ReferenceIdeal.Step.b132 j s := by
  unfold Cert.ReferenceIdeal.Step.b132
  rfl
set_option maxRecDepth 8192 in
theorem al_133 (h : Holds V0 s j) : (constantI S_ 32 0#32 : (Proc.devRef .tc main_while0b_call9_c_1 : DevRef τ sig).ty.Contents (Elt F)) = Cert.ReferenceIdeal.Step.b133 j s := by
  unfold Cert.ReferenceIdeal.Step.b133
  rfl
set_option maxRecDepth 8192 in
theorem al_134 (h : Holds V0 s j) : (Host.dynamicUpdateSlice (V0 (Proc.devRef .tc main_v207_9)) (broadcastInDim S1x64x8x512 ![1, 2, 3] bcast_S64x8x512_S1x64x8x512_1_2_3 (addf (transpose S64x8x512 [2, 0, 1] (Host.dotGeneral dot_S8x256x512_S64x8x256_S8x512x64_1_2_2_0_0_1 none (V0 (Proc.devRef .tc main_v207_6)) (res_main_while0b_v509 V0)) transposes_S8x512x64_S64x8x512_2_0_1) (transpose S64x8x512 [2, 0, 1] (Host.dotGeneral dot_S8x512x64_S8x64x64_S8x512x64_2_1_1_2_0_0 none (res_main_while0b_v529 V0) (res_main_while0b_v496 V0)) transposes_S8x512x64_S64x8x512_2_0_1))) (fun k => (((![res_main_while0b_v449 V0, constantI S_ 32 0#32, constantI S_ 32 0#32, constantI S_ 32 0#32] : Fin 4 → (⟨S_, .i32⟩ : BufTy).Contents (Elt F))) k (Shape.Idx.first h_S_)).toInt) updateFits_S128x64x8x512_S1x64x8x512 : (Proc.devRef .tc main_while0b_v543 : DevRef τ sig).ty.Contents (Elt F)) = Cert.ReferenceIdeal.Step.b134 j s := by
  unfold Cert.ReferenceIdeal.Step.b134
  rw [← al_130 h, ← al_3 h, ← al_131 h, ← al_132 h, ← al_133 h, h.f_9]
  try rfl

/-! One trip's step of the carried values is `step`, field by field; a counter steps to the next number. -/

theorem step_6 (h : Holds V0 s j) : step_main_v207_6 V0 = (step j s).main_v207_6 := by
  unfold step_main_v207_6 Cert.ReferenceIdeal.Step.step
  exact al_107 h
theorem step_7 (h : Holds V0 s j) : step_main_v207_7 V0 = (step j s).main_v207_7 := by
  unfold step_main_v207_7 Cert.ReferenceIdeal.Step.step
  exact al_124 h
theorem step_8 (h : Holds V0 s j) : step_main_v207_8 V0 = (step j s).main_v207_8 := by
  unfold step_main_v207_8 Cert.ReferenceIdeal.Step.step
  exact al_129 h
theorem step_9 (h : Holds V0 s j) : step_main_v207_9 V0 = (step j s).main_v207_9 := by
  unfold step_main_v207_9 Cert.ReferenceIdeal.Step.step
  exact al_134 h
theorem step_5 (h : Holds V0 s j) : step_main_v207_5 V0 = constantI S_ 32 (BitVec.ofNat 32 (j + 1)) := by
  unfold step_main_v207_5
  rw [h.n_5]
  funext i
  show BitVec.ofNat 32 j + 1#32 = BitVec.ofNat 32 (j + 1)
  simp only [BitVec.ofNat_add]

set_option maxRecDepth 8192 in
theorem out_main_v447_holds (h : Holds V0 s j) {x_main_arg0 : (⟨S8192x12288, .f32⟩ : BufTy).Contents (Elt F)} (h_main_arg0 : V0 (Proc.devRef .tc main_arg0) = x_main_arg0) {x_main_arg1 : (⟨S1x4096, .f32⟩ : BufTy).Contents (Elt F)} (h_main_arg1 : V0 (Proc.devRef .tc main_arg1) = x_main_arg1) {x_main_arg2 : (⟨S8192x4096, .f32⟩ : BufTy).Contents (Elt F)} (h_main_arg2 : V0 (Proc.devRef .tc main_arg2) = x_main_arg2) {x_main_arg4 : (⟨S8192x4096, .f32⟩ : BufTy).Contents (Elt F)} (h_main_arg4 : V0 (Proc.devRef .tc main_arg4) = x_main_arg4) : out_main_v447 V0 = Cert.ReferenceIdeal.Step.R_main_v447 s x_main_arg0 x_main_arg1 x_main_arg2 x_main_arg4 := by
  unfold out_main_v447 Cert.ReferenceIdeal.Step.R_main_v447
  rw [h.f_7, h.f_8, h.f_9, h_main_arg0, h_main_arg1, h_main_arg2, h_main_arg4]
  try rfl

set_option maxRecDepth 8192 in
theorem out_main_v310_holds (h : Holds V0 s j) {x_main_arg0 : (⟨S8192x12288, .f32⟩ : BufTy).Contents (Elt F)} (h_main_arg0 : V0 (Proc.devRef .tc main_arg0) = x_main_arg0) {x_main_arg2 : (⟨S8192x4096, .f32⟩ : BufTy).Contents (Elt F)} (h_main_arg2 : V0 (Proc.devRef .tc main_arg2) = x_main_arg2) {x_main_arg4 : (⟨S8192x4096, .f32⟩ : BufTy).Contents (Elt F)} (h_main_arg4 : V0 (Proc.devRef .tc main_arg4) = x_main_arg4) : out_main_v310 V0 = Cert.ReferenceIdeal.Step.R_main_v310 s x_main_arg0 x_main_arg2 x_main_arg4 := by
  unfold out_main_v310 Cert.ReferenceIdeal.Step.R_main_v310
  rw [h_main_arg0, h_main_arg2, h_main_arg4]
  try rfl

/-- One trip keeps the valuation holding: `step` of the state, the same set-up values, the next number. -/
theorem holds_step (h : Holds V0 s j) : Holds (STEP V0) (step j s) (j + 1) where
  f_6 := (STEP_main_v207_6 V0).trans (step_6 h)
  f_7 := (STEP_main_v207_7 V0).trans (step_7 h)
  f_8 := (STEP_main_v207_8 V0).trans (step_8 h)
  f_9 := (STEP_main_v207_9 V0).trans (step_9 h)
  n_5 := (STEP_main_v207_5 V0).trans (step_5 h)
  f_0 := (STEP_main_v207_0 V0).trans h.f_0
  f_1 := (STEP_main_v207_1 V0).trans h.f_1
  f_2 := (STEP_main_v207_2 V0).trans h.f_2
  f_3 := (STEP_main_v207_3 V0).trans h.f_3
  f_4 := (STEP_main_v207_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v447) = Cert.ReferenceIdeal.Step.R_main_v447 (it c 128) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v310) = Cert.ReferenceIdeal.Step.R_main_v310 (it c 128) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 128
    ⟨(h c).1.trans (out_main_v447_holds hk (iter_main_arg0 m c 128) (iter_main_arg1 m c 128) (iter_main_arg2 m c 128) (iter_main_arg4 m c 128)), (h c).2.1.trans (out_main_v310_holds hk (iter_main_arg0 m c 128) (iter_main_arg2 m c 128) (iter_main_arg4 m c 128)), (h c).2.2.1, (h c).2.2.2.1, (h c).2.2.2.2.1, (h c).2.2.2.2.2.1, (h c).2.2.2.2.2.2⟩) (Value.run m ρ)

end Cert.ReferenceIdeal.LoopRun

end
-- ==== Proof.Val.Finite.lean ====
/- The precondition: gradient, weights and gate are real numbers. -/
module

public import proofs.«01_k».proof.Pre_finite_gradient_and_gate
public import Idealize.ShloMosaic.Lib.Pointwise

@[expose] public section

noncomputable section

namespace Cert.Pre_finite_gradient_and_gate

open Idealize.ShloMosaic

instance facts : Cert.Pre_finite_gradient_and_gate.Facts where
  bcast_S_S8192x4096 := by decide
  bcast_S_S1x4096 := by decide
  slices_S8192x12288_S8192x4096_0_8192 := by decide

/-- A number whose absolute value is below infinity is real. -/
theorem real_of_abs (x : EReal) (h : Ideal.cmp CmpFPredicate.olt (FloatOps.hostAbsf (F := Ideal) (φ := FTy.f32) x : EReal) (Ideal.ofBits FTy.f32 0x7F800000#32) = 1#1) :
    ∃ a : ℝ, x = (a : EReal) := by
  have htop : Ideal.ofBits FTy.f32 0x7F800000#32 = ⊤ := by simp [Ideal.ofBits, Ideal.ieee]
  rw [htop] at h
  induction x with
  | coe a => exact ⟨a, rfl⟩
  | top => exact absurd h (by simp [Ideal.cmp, FloatOps.hostAbsf, Ideal.hostUnary])
  | bot => exact absurd h (by simp [Ideal.cmp, FloatOps.hostAbsf, Ideal.hostUnary])

variable (p : FVec Ideal S8192x12288 .f32) (w : FVec Ideal S1x4096 .f32) (o : FVec Ideal S8192x4096 .f32)
  (st : FVec Ideal S128x8x256x512 .bf16) (y : FVec Ideal S8192x4096 .f32)

theorem real_y (h : (fn (F := Ideal) p w o st y).1 = fun _ => 1#1) (r : Fin 8192) (e : Fin 4096) : ∃ a : ℝ, y (ix2 r e) = (a : EReal) :=
  real_of_abs _ (congrFun h (ix2 r e))
theorem real_w (h : (fn (F := Ideal) p w o st y).2.1 = fun _ => 1#1) (e : Fin 4096) : ∃ a : ℝ, w (ix2 0 e) = (a : EReal) :=
  real_of_abs _ (congrFun h (ix2 0 e))
theorem real_g (h : (fn (F := Ideal) p w o st y).2.2 = fun _ => 1#1) (r : Fin 8192) (e : Fin 4096) (C : Fin 12288) (hC : C.val = 8192 + e.val) :
    ∃ a : ℝ, p (ix2 r C) = (a : EReal) := by
  have e1 : (fn (F := Ideal) p w o st y).2.2 (ix2 r e) = Ideal.cmp CmpFPredicate.olt (FloatOps.hostAbsf (F := Ideal) (φ := FTy.f32) (p (ix2 r C)) : EReal) (Ideal.ofBits FTy.f32 0x7F800000#32) := by
    have eC : C = ⟨8192 + e.val, by omega⟩ := Fin.ext hC
    rw [eC]
    unfold fn
    pointwise
  exact real_of_abs _ (e1.symm.trans (congrFun h (ix2 r e)))

end Cert.Pre_finite_gradient_and_gate

end
-- ==== Proof.Val.Spec.lean ====
/- The retention backward pass of one head over one chunk, in extended reals: what both programs compute. -/
module

public import Idealize.ShloMosaic.PureOps.Ideal

@[expose] public section

noncomputable section

namespace Cert.Ret

open Idealize.ShloMosaic
open scoped BigOperators

/-- The rotation of one row: its two halves turned by the row's angles. -/
def rot (x : Fin 256 → EReal) (c s : Fin 128 → EReal) (d : Fin 256) : EReal :=
  if h : d.val < 128 then x d * c ⟨d.val, h⟩ - x ⟨128 + d.val, by omega⟩ * s ⟨d.val, h⟩
  else x ⟨d.val - 128, by omega⟩ * s ⟨d.val - 128, by omega⟩ + x d * c ⟨d.val - 128, by omega⟩

/-- Its transpose, the rotation back. -/
def unrot (y : Fin 256 → EReal) (c s : Fin 128 → EReal) (d : Fin 256) : EReal :=
  if h : d.val < 128 then y d * c ⟨d.val, h⟩ + y ⟨128 + d.val, by omega⟩ * s ⟨d.val, h⟩
  else y d * c ⟨d.val - 128, by omega⟩ - y ⟨d.val - 128, by omega⟩ * s ⟨d.val - 128, by omega⟩

/-- What one chunk of one head reads: its decays, its rotated queries and scaled keys, its values, the state before it and
    the gradient of its output. -/
@[ext] structure Chunk where
  dmat : Fin 64 → Fin 64 → EReal
  xi : Fin 64 → EReal
  zeta : Fin 64 → EReal
  cd : EReal
  q : Fin 64 → Fin 256 → EReal
  k : Fin 64 → Fin 256 → EReal
  v : Fin 64 → Fin 512 → EReal
  st : Fin 256 → Fin 512 → EReal
  g : Fin 64 → Fin 512 → EReal

namespace Chunk
variable (C : Chunk) (D : Fin 256 → Fin 512 → EReal)

/-- The gradients of queries, keys and values, D being the gradient of the state after the chunk. -/
def dq (l : Fin 64) (d : Fin 256) : EReal :=
  ∑ m, (∑ u, C.g l u * C.v m u) * C.dmat l m * C.k m d + ∑ u, C.g l u * C.xi l * C.st d u
def dk (m : Fin 64) (d : Fin 256) : EReal :=
  ∑ l, (∑ u, C.g l u * C.v m u) * C.dmat l m * C.q l d + (∑ u, C.v m u * D d u) * C.zeta m
def dv (m : Fin 64) (u : Fin 512) : EReal :=
  ∑ l, (∑ d, C.q l d * C.k m d) * C.dmat l m * C.g l u + ∑ d, C.k m d * C.zeta m * D d u
/-- The gradient of the state before it. -/
def ds (d : Fin 256) (u : Fin 512) : EReal := D d u * C.cd + ∑ l, C.q l d * (C.g l u * C.xi l)

end Chunk

/-- 512 as a float constant, and the norm's ε. -/
def c512 : EReal := Ideal.ofBits FTy.f32 1140850688#32
def eps : EReal := Ideal.ofBits FTy.f32 925353388#32
def half : EReal := Ideal.ofBits FTy.f32 1056964608#32

/-- One row of one head: the centred output, the reciprocal of its standard deviation, the normalised output. -/
def xc (o : Fin 512 → EReal) (u : Fin 512) : EReal := o u - Ideal.div (∑ x, o x) c512
def rs (o : Fin 512 → EReal) : EReal := Ideal.rsqrt (Ideal.div (∑ x, xc o x * xc o x) c512 + eps)
def oh (o : Fin 512 → EReal) (u : Fin 512) : EReal := xc o u * rs o
/-- The logistic function by the hyperbolic tangent. -/
def sg (g : EReal) : EReal := half * (Ideal.tanh (half * g) + 1)
/-- The gradient that reaches the norm's result. -/
def dn (g y : Fin 512 → EReal) (u : Fin 512) : EReal := y u * (g u * sg (g u))
/-- The gradient of the retention's output. -/
def dout (o g y w : Fin 512 → EReal) (u : Fin 512) : EReal :=
  rs o * (dn g y u * w u - Ideal.div (∑ x, dn g y x * w x) c512 - oh o u * Ideal.div (∑ x, dn g y x * w x * oh o x) c512)
/-- The gradient of the gate. -/
def dgate (o g y w : Fin 512 → EReal) (u : Fin 512) : EReal :=
  y u * (oh o u * w u) * (sg (g u) * (1 + g u * (1 - sg (g u))))

end Cert.Ret

end
-- ==== Proof.Val.Data.lean ====
/- The problem's arrays read by plain indices, the chunk each trip of the loop takes of them, and the recursion of the
   state's gradient over the trips. -/
module

public import proofs.«01_k».proof.Proof.Val.Spec

@[expose] public section

noncomputable section

namespace Cert.Ret

open Idealize.ShloMosaic
open scoped BigOperators

/-- A whole number as a float. -/
def num (n : ℕ) : EReal := (FloatOps.sitofp (F := Ideal) FTy.f32 (BitVec.ofNat 32 n) : Ideal FTy.f32)
/-- The angle of row r at frequency e. -/
def angle (r : Fin 8192) (e : Fin 128) : EReal :=
  num r * Ideal.pow (Ideal.ofBits FTy.f32 1176256512#32) (Ideal.div (-num e) (Ideal.ofBits FTy.f32 1124073472#32))
def cosT (r : Fin 8192) (e : Fin 128) : EReal := Ideal.cos (angle r e)
def sinT (r : Fin 8192) (e : Fin 128) : EReal := Ideal.sin (angle r e)
/-- The logarithm of head h's decay. -/
def lgT (h : ℕ) : EReal :=
  Ideal.log1p (-Ideal.exp (Ideal.ofBits FTy.f32 1060205080#32 * (Ideal.ofBits FTy.f32 3231711232#32 - num h)))
/-- The scale of the keys. -/
def kappa : EReal := Ideal.ofBits FTy.f32 1031798784#32

/-- The projection, the norm's weights, the retention's output, the states before the chunks, the incoming gradient. -/
structure Data where
  p : Fin 8192 → Fin 12288 → EReal
  w : Fin 4096 → EReal
  o : Fin 8192 → Fin 4096 → EReal
  st : Fin 128 → Fin 8 → Fin 256 → Fin 512 → EReal
  y : Fin 8192 → Fin 4096 → EReal

/-- Row l of chunk c. -/
def rowOf (c : Fin 128) (l : Fin 64) : Fin 8192 := ⟨c.val * 64 + l.val, by omega⟩
/-- Column u of head h. -/
def colOf (h : Fin 8) (u : Fin 512) : Fin 4096 := ⟨h.val * 512 + u.val, by omega⟩

namespace Data
variable (A : Data) (h : Fin 8)

/-- Queries, keys, values and gate of row r and head h, as the projection gives them, and the norm's arrays there. -/
def qRow (r : Fin 8192) (d : Fin 256) : EReal := A.p r ⟨h.val * 256 + d.val, by omega⟩
def kRow (r : Fin 8192) (d : Fin 256) : EReal := A.p r ⟨2048 + (h.val * 256 + d.val), by omega⟩
def vRow (r : Fin 8192) (u : Fin 512) : EReal := A.p r ⟨4096 + (h.val * 512 + u.val), by omega⟩
def gRow (r : Fin 8192) (u : Fin 512) : EReal := A.p r ⟨8192 + (h.val * 512 + u.val), by omega⟩
def oRow (r : Fin 8192) (u : Fin 512) : EReal := A.o r (colOf h u)
def yRow (r : Fin 8192) (u : Fin 512) : EReal := A.y r (colOf h u)
def wRow (u : Fin 512) : EReal := A.w (colOf h u)
/-- The gradient of the retention's output in row r. -/
def doRow (r : Fin 8192) (u : Fin 512) : EReal := dout (A.oRow h r) (A.gRow h r) (A.yRow h r) (A.wRow h) u

/-- The chunk c of head h. -/
def chunk (c : Fin 128) : Chunk where
  dmat l m := Ideal.exp ((FloatOps.absf (F := Ideal) (φ := FTy.f32) (num l - num m) : EReal) * lgT h)
  xi l := Ideal.exp ((num l + 1) * lgT h)
  zeta l := Ideal.exp ((Ideal.ofBits FTy.f32 1115422720#32 - num l) * lgT h)
  cd := Ideal.exp (Ideal.ofBits FTy.f32 1115684864#32 * lgT h)
  q l := rot (A.qRow h (rowOf c l)) (cosT (rowOf c l)) (sinT (rowOf c l))
  k l d := rot (A.kRow h (rowOf c l)) (cosT (rowOf c l)) (sinT (rowOf c l)) d * kappa
  v l := A.vRow h (rowOf c l)
  st := A.st c h
  g l := A.doRow h (rowOf c l)

/-- Chunks are taken from the last to the first. -/
def trip (j : ℕ) : Chunk := A.chunk h ⟨127 - j, by omega⟩

/-- The gradient of the state after the chunk trip j takes. -/
def ds : ℕ → Fin 256 → Fin 512 → EReal
  | 0 => fun _ _ => 0
  | j + 1 => (A.trip h j).ds (ds j)

/-- The gradients of head h's queries, keys and values in row l of chunk c, before they are rotated back. -/
def dq (c : Fin 128) (l : Fin 64) (d : Fin 256) : EReal := (A.chunk h c).dq l d
def dk (c : Fin 128) (l : Fin 64) (d : Fin 256) : EReal := (A.chunk h c).dk (A.ds h (127 - c.val)) l d
def dv (c : Fin 128) (l : Fin 64) (u : Fin 512) : EReal := (A.chunk h c).dv (A.ds h (127 - c.val)) l u

end Data

end Cert.Ret

end
-- ==== Proof.Val.KData.lean ====
/- What each step of the kernel's grid reads, in terms of the problem's arrays. -/
module

public import proofs.«01_k».proof.Proof.Ret.Kit
public import proofs.«01_k».proof.Proof.Val.Data
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Ret

open Idealize.ShloMosaic Idealize.ShloMosaic.TcCoe Cert.KernelIdeal Cert.KernelIdeal.Gen
open scoped BigOperators
open Cert.Ret

variable (m : (ℓ : Loc nD τ sig) → Buf (Elt Ideal) ℓ) (c : Dev nD)

/-- The problem's arrays by plain indices. -/
def dataK : Data where
  p r e := m ((c : Thread nD τ).loc main_arg0) (ix2 r e)
  w e := m ((c : Thread nD τ).loc main_arg1) (ix2 0 e)
  o r e := m ((c : Thread nD τ).loc main_arg2) (ix2 r e)
  st k h d u := m ((c : Thread nD τ).loc main_arg3) (ix4 k h d u)
  y r e := m ((c : Thread nD τ).loc main_arg4) (ix2 r e)

/-- The i-th step of head h. -/
def T (h : Fin 8) (i : Fin 16) : Fin cfg0.N := ⟨16 * h.val + i.val, Nat.lt_of_lt_of_eq (show 16 * h.val + i.val < 128 by omega) N_0.symm⟩
/-- Row r of that step's blocks, in the arrays. -/
def rowT (i : Fin 16) (r : Fin 512) : Fin 8192 := ⟨(15 - i.val) * 512 + r.val, by omega⟩

theorem index_1 : ∀ (h : Fin 8) (i : Fin 16), (cfg0.win 1).index (T h i) = ![15 - i.val, h.val] := by decide +kernel
theorem index_2 : ∀ (h : Fin 8) (i : Fin 16), (cfg0.win 2).index (T h i) = ![15 - i.val, 8 + h.val] := by decide +kernel
theorem index_3 : ∀ (h : Fin 8) (i : Fin 16), (cfg0.win 3).index (T h i) = ![15 - i.val, 8 + h.val] := by decide +kernel
theorem index_4 : ∀ (h : Fin 8) (i : Fin 16), (cfg0.win 4).index (T h i) = ![15 - i.val, 16 + h.val] := by decide +kernel
theorem index_5 : ∀ (h : Fin 8) (i : Fin 16), (cfg0.win 5).index (T h i) = ![15 - i.val, 0] := by decide +kernel
theorem index_6 : ∀ (h : Fin 8) (i : Fin 16), (cfg0.win 6).index (T h i) = ![15 - i.val, 0] := by decide +kernel
theorem index_7 : ∀ (h : Fin 8) (i : Fin 16), (cfg0.win 7).index (T h i) = ![0, h.val] := by decide +kernel
theorem index_8 : ∀ (h : Fin 8) (i : Fin 16), (cfg0.win 8).index (T h i) = ![15 - i.val, h.val] := by decide +kernel
theorem index_9 : ∀ (h : Fin 8) (i : Fin 16), (cfg0.win 9).index (T h i) = ![15 - i.val, h.val, 0, 0] := by decide +kernel
theorem index_10 : ∀ (h : Fin 8) (i : Fin 16), (cfg0.win 10).index (T h i) = ![15 - i.val, h.val] := by decide +kernel
theorem index_0 : ∀ (h : Fin 8) (i : Fin 16), (cfg0.win 0).index (T h i) = ![0] := by decide +kernel

variable (h : Fin 8) (i : Fin 16)

theorem q_block (r : Fin 512) (d : Fin 256) : (reads m c (T h i)).q (ix2 r d) = (dataK m c).qRow h (rowT i r) d := by
  show iblk m c 1 (T h i) (ix2 r d) = m ((c : Thread nD τ).loc main_arg0) (ix2 (rowT i r) ⟨h.val * 256 + d.val, _⟩)
  rw [← V_main_arg0 m c]
  blk_ext [iblk, V, index_1 h i, rowT]
theorem k_block (r : Fin 512) (d : Fin 256) : (reads m c (T h i)).k (ix2 r d) = (dataK m c).kRow h (rowT i r) d := by
  show iblk m c 2 (T h i) (ix2 r d) = m ((c : Thread nD τ).loc main_arg0) (ix2 (rowT i r) ⟨2048 + (h.val * 256 + d.val), _⟩)
  rw [← V_main_arg0 m c]
  blk_ext [iblk, V, index_2 h i, rowT]
theorem v_block (r : Fin 512) (d : Fin 512) : (reads m c (T h i)).v (ix2 r d) = (dataK m c).vRow h (rowT i r) d := by
  show iblk m c 3 (T h i) (ix2 r d) = m ((c : Thread nD τ).loc main_arg0) (ix2 (rowT i r) ⟨4096 + (h.val * 512 + d.val), _⟩)
  rw [← V_main_arg0 m c]
  blk_ext [iblk, V, index_3 h i, rowT]
theorem g_block (r : Fin 512) (d : Fin 512) : (reads m c (T h i)).g (ix2 r d) = (dataK m c).gRow h (rowT i r) d := by
  show iblk m c 4 (T h i) (ix2 r d) = m ((c : Thread nD τ).loc main_arg0) (ix2 (rowT i r) ⟨8192 + (h.val * 512 + d.val), _⟩)
  rw [← V_main_arg0 m c]
  blk_ext [iblk, V, index_4 h i, rowT]
theorem w_block (d : Fin 512) : (reads m c (T h i)).w (ix2 0 d) = (dataK m c).wRow h d := by
  show iblk m c 7 (T h i) (ix2 0 d) = m ((c : Thread nD τ).loc main_arg1) (ix2 0 (colOf h d))
  rw [← V_main_arg1 m c]
  blk_ext [iblk, V, index_7 h i, colOf]
theorem o_block (r : Fin 512) (d : Fin 512) : (reads m c (T h i)).o (ix2 r d) = (dataK m c).oRow h (rowT i r) d := by
  show iblk m c 8 (T h i) (ix2 r d) = m ((c : Thread nD τ).loc main_arg2) (ix2 (rowT i r) (colOf h d))
  rw [← V_main_arg2 m c]
  blk_ext [iblk, V, index_8 h i, rowT, colOf]
theorem st_block (k : Fin 8) (d : Fin 256) (u : Fin 512) : (reads m c (T h i)).st (ix4 k 0 d u) = (dataK m c).st ⟨(15 - i.val) * 8 + k.val, by omega⟩ h d u := by
  show iblk m c 9 (T h i) (ix4 k 0 d u) = m ((c : Thread nD τ).loc main_arg3) (ix4 ⟨(15 - i.val) * 8 + k.val, _⟩ h d u)
  rw [← V_main_arg3 m c]
  blk_ext [iblk, V, index_9 h i]
theorem dy_block (r : Fin 512) (d : Fin 512) : (reads m c (T h i)).dy (ix2 r d) = (dataK m c).yRow h (rowT i r) d := by
  show iblk m c 10 (T h i) (ix2 r d) = m ((c : Thread nD τ).loc main_arg4) (ix2 (rowT i r) (colOf h d))
  rw [← V_main_arg4 m c]
  blk_ext [iblk, V, index_10 h i, rowT, colOf]

/-- The tables the kernel's host computes. -/
theorem cos_entry (r : Fin 8192) (e : Fin 128) : V m c main_v13 (ix2 r e) = cosT r e := by
  entry_read
  unfold cosT angle num
  pointwise
theorem sin_entry (r : Fin 8192) (e : Fin 128) : V m c main_v14 (ix2 r e) = sinT r e := by
  entry_read
  unfold sinT angle num
  pointwise
theorem lg_entry (k : Fin 8) : V m c main_v22 (ix1 k) = lgT k.val := by
  entry_read
  unfold lgT num
  pointwise

theorem cos_block (r : Fin 512) (e : Fin 128) : (reads m c (T h i)).cs (ix2 r e) = cosT (rowT i r) e := by
  rw [← cos_entry m c]
  show iblk m c 5 (T h i) (ix2 r e) = _
  blk_ext [iblk, index_5 h i, rowT]
theorem sin_block (r : Fin 512) (e : Fin 128) : (reads m c (T h i)).sn (ix2 r e) = sinT (rowT i r) e := by
  rw [← sin_entry m c]
  show iblk m c 6 (T h i) (ix2 r e) = _
  blk_ext [iblk, index_6 h i, rowT]
theorem off_lg : ∀ (h : Fin 8) (i : Fin 16), k0_off9 (grid0.coords (T h i)) 0 = h.val := by decide +kernel
theorem lg_block : (reads m c (T h i)).lg = lgT h.val := by
  rw [← lg_entry m c]
  show iblk m c 0 (T h i) ((Rect.unit (s := S8) (k0_off9 (grid0.coords (T h i))) S1.size _).toLoadRect.idx _) = _
  have e : ((Rect.unit (s := S8) (k0_off9 (grid0.coords (T h i))) S1.size (k0_off9_inb _)).toLoadRect.idx (Shape.Idx.first (numel1_S1.symm ▸ Nat.one_pos))) = ix1 h := by
    refine funext fun a => Fin.ext ?_
    match a with
    | ⟨0, _⟩ =>
      show k0_off9 (grid0.coords (T h i)) 0 + 1 * 0 = h.val
      rw [off_lg]; rfl
  rw [e]
  blk_ext [iblk, index_0 h i]

end Cert.KernelIdeal.Ret

end
-- ==== Proof.Val.Kern.lean ====
/- The kernel's chunk, read at an index. -/
module

public import proofs.«01_k».proof.Proof.Ret.Chunk
public import proofs.«01_k».proof.Proof.Val.Spec
public import Idealize.ShloMosaic.Lib.Pointwise

@[expose] public section

set_option maxRecDepth 16384

noncomputable section

namespace Cert.KernelIdeal.Ret

open Idealize.ShloMosaic Cert.KernelIdeal Cert.KernelIdeal.Gen
open scoped BigOperators
open Cert.Ret

theorem upper (d : Fin 256) (h : ¬d.val < 128) (p : 128 + (d.val - 128) < 256) : (⟨128 + (d.val - 128), p⟩ : Fin 256) = d :=
  Fin.ext (by show 128 + (d.val - 128) = d.val; omega)

variable (X : Ins Ideal) (R : Rows Ideal) (D : Vec Ideal S256x512 .f32)

theorem oh_apply (l : Fin 64) (u : Fin 512) :
    Ins.oh R (ix2 l u) = Cert.Ret.oh (fun x => R.o (ix2 l x)) u := by
  unfold Cert.Ret.oh rs xc c512 eps
  pointwise [Ins.oh, k0_pay235, k0_pay234, k0_pay233]
theorem rs_apply (l : Fin 64) :
    k0_pay234 R.o (ix2 l 0) = rs (fun x => R.o (ix2 l x)) := by
  unfold rs xc c512 eps
  pointwise [k0_pay234, k0_pay233]
theorem dn_apply (l : Fin 64) (u : Fin 512) :
    Ins.dn R (ix2 l u) = Cert.Ret.dn (fun x => R.g (ix2 l x)) (fun x => R.dy (ix2 l x)) u := by
  unfold Cert.Ret.dn sg half
  pointwise [Ins.dn, k0_pay237, k0_pay236]
theorem dob_apply (l : Fin 64) (u : Fin 512) :
    Ins.dob X R (ix2 l u) = dout (fun x => R.o (ix2 l x)) (fun x => R.g (ix2 l x)) (fun x => R.dy (ix2 l x)) (fun x => X.w (ix2 0 x)) u := by
  unfold dout
  simp only [← oh_apply, ← dn_apply, ← rs_apply]
  unfold c512
  pointwise [Ins.dob, k0_pay242, k0_pay241]
theorem dg_apply (l : Fin 64) (u : Fin 512) :
    Ins.dg X R (ix3 0 l u) = dgate (fun x => R.o (ix2 l x)) (fun x => R.g (ix2 l x)) (fun x => R.dy (ix2 l x)) (fun x => X.w (ix2 0 x)) u := by
  unfold dgate sg half
  simp only [← oh_apply]
  pointwise [Ins.oh, Ins.dg, k0_pay239, k0_pay238, k0_pay236]

/-- The chunk as the kernel reads it. -/
def chunkOf : Chunk where
  dmat l m := k0_pay3 X.lg (ix2 l m)
  xi l := Ideal.exp ((FloatOps.sitofp (F := Ideal) FTy.f32 (BitVec.ofNat 32 l.val) + 1) * X.lg)
  zeta l := k0_pay6 X.lg (ix2 l 0)
  cd := Ideal.exp (Ideal.ofBits FTy.f32 1115684864#32 * X.lg)
  q l d := Ins.qb R (ix2 l d)
  k l d := Ins.kb R (ix2 l d)
  v l u := R.v (ix2 l u)
  st d u := R.st (ix4 0 0 d u)
  g l u := Ins.dob X R (ix2 l u)

theorem qb_apply (l : Fin 64) (d : Fin 256) :
    Ins.qb R (ix2 l d) = rot (fun e => R.q (ix2 l e)) (fun e => R.cs (ix2 l e)) (fun e => R.sn (ix2 l e)) d := by
  unfold rot
  pointwise [Ins.qb, k0_pay228, k0_pay225, k0_pay226]
  split
  · rfl
  · rename_i h
    simp only [upper d h]

theorem kb_apply (l : Fin 64) (d : Fin 256) :
    Ins.kb R (ix2 l d) = rot (fun e => R.k (ix2 l e)) (fun e => R.cs (ix2 l e)) (fun e => R.sn (ix2 l e)) d * Ideal.ofBits .f32 1031798784#32 := by
  unfold rot
  pointwise [Ins.kb, k0_pay229, k0_pay227, k0_pay225, k0_pay226]
  split
  · rfl
  · rename_i h
    simp only [upper d h]

theorem kzb_apply (l : Fin 64) (d : Fin 256) :
    Ins.kzb X R (ix2 l d) = Ins.kb R (ix2 l d) * k0_pay6 X.lg (ix2 l 0) := by
  pointwise [Ins.kzb, Ins.kb, k0_pay229, k0_pay230, k0_pay227, k0_pay225, k0_pay226]

theorem sb_apply (l m : Fin 64) :
    Ins.sb X R (ix2 l m) = (∑ d, Ins.qb R (ix2 l d) * Ins.kb R (ix2 m d)) * k0_pay3 X.lg (ix2 l m) := by
  pointwise [Ins.sb, k0_pay232]

theorem dox_apply (l : Fin 64) (u : Fin 512) :
    Ins.dox X R (ix2 l u) = (chunkOf X R).g l u * (chunkOf X R).xi l := by
  unfold chunkOf
  pointwise [Ins.dox, Ins.dob, k0_pay242, k0_pay243, k0_pay241, k0_pay5, k0_pay4]

theorem dq_apply (l : Fin 64) (d : Fin 256) :
    Ins.dq X R (ix3 0 l d) = unrot ((chunkOf X R).dq l) (fun e => R.cs (ix2 l e)) (fun e => R.sn (ix2 l e)) d := by
  unfold unrot Chunk.dq
  simp only [← dox_apply]
  unfold chunkOf
  pointwise [Ins.dq, k0_pay250, k0_pay249, k0_pay246, k0_pay225, k0_pay226, k0_pay231]
  split
  · rfl
  · rename_i h
    simp only [upper d h]
theorem dk_apply (l : Fin 64) (d : Fin 256) :
    Ins.dk X R D (ix3 0 l d) = unrot (fun e => (chunkOf X R).dk (fun a u => D (ix2 a u)) l e * Ideal.ofBits .f32 1031798784#32) (fun e => R.cs (ix2 l e)) (fun e => R.sn (ix2 l e)) d := by
  unfold unrot Chunk.dk chunkOf
  pointwise [Ins.dk, k0_pay251, k0_pay247, k0_pay246, k0_pay225, k0_pay226, k0_pay231, k0_pay244]
  split
  · rfl
  · rename_i h
    simp only [upper d h]
theorem dv_apply (l : Fin 64) (d : Fin 512) :
    Ins.dv X R D (ix3 0 l d) = (chunkOf X R).dv (fun a u => D (ix2 a u)) l d := by
  unfold Chunk.dv chunkOf
  simp only [← sb_apply, ← kzb_apply]
  pointwise [Ins.dv, k0_pay245, k0_pay244]
theorem ds_apply (l : Fin 256) (d : Fin 512) :
    Ins.dsStep X R D (ix2 l d) = (chunkOf X R).ds (fun a u => D (ix2 a u)) l d := by
  unfold Chunk.ds
  simp only [← dox_apply]
  unfold chunkOf
  pointwise [Ins.dsStep, k0_pay248, k0_pay8, k0_pay7]
theorem gw_apply (G : Vec Ideal S1x512 .f32) (d : Fin 512) :
    Ins.gwStep R G (ix2 0 d) = G (ix2 0 d) + ∑ x, Ins.dn R (ix2 x d) * Ins.oh R (ix2 x d) := by
  pointwise [Ins.gwStep, k0_pay240]

end Cert.KernelIdeal.Ret

end
-- ==== Proof.Val.KLoop.lean ====
/- What the kernel writes into the projection's gradient, in terms of the problem's arrays. -/
module

public import proofs.«01_k».proof.Proof.Val.KData
public import proofs.«01_k».proof.Proof.Val.Kern

@[expose] public section

set_option maxRecDepth 16384

noncomputable section

namespace Cert.KernelIdeal.Ret

open Idealize.ShloMosaic Idealize.ShloMosaic.TcCoe Cert.KernelIdeal Cert.KernelIdeal.Gen
open scoped BigOperators
open Cert.Ret

variable (m : (ℓ : Loc nD τ sig) → Buf (Elt Ideal) ℓ) (c : Dev nD)

/-- The chunk the n-th trip of step i takes. -/
def chunkAt (i : Fin 16) (n : ℕ) : Fin 128 := ⟨127 - (8 * i.val + n), by omega⟩

theorem row_eq (i : Fin 16) (n : ℕ) (hn : n < 8) (l : Fin 64) (hp) :
    rowT i ⟨64 * (Ins.nth n).val + l.val, hp⟩ = rowOf (chunkAt i n) l := by
  apply Fin.ext
  show (15 - i.val) * 512 + (64 * (7 - n) + l.val) = (127 - (8 * i.val + n)) * 64 + l.val
  have := i.isLt
  omega
theorem state_eq (i : Fin 16) (n : ℕ) (hn : n < 8) (hp) : (⟨(15 - i.val) * 8 + (Ins.nth n).val, hp⟩ : Fin 128) = chunkAt i n := by
  apply Fin.ext
  show (15 - i.val) * 8 + (7 - n) = 127 - (8 * i.val + n)
  have := i.isLt
  omega

section
variable (h : Fin 8) (i : Fin 16) (n : ℕ) (hn : n < 8)

/-- The rows of step i's n-th trip. -/
abbrev rowsAt : Rows Ideal := (reads m c (T h i)).rows (Ins.nth n)

include hn
theorem q_row (l : Fin 64) : (fun e => (rowsAt m c h i n).q (ix2 l e)) = (dataK m c).qRow h (rowOf (chunkAt i n) l) :=
  funext fun e => (q_block m c h i _ e).trans (congrArg (fun r => (dataK m c).qRow h r e) (row_eq i n hn l _))
theorem k_row (l : Fin 64) : (fun e => (rowsAt m c h i n).k (ix2 l e)) = (dataK m c).kRow h (rowOf (chunkAt i n) l) :=
  funext fun e => (k_block m c h i _ e).trans (congrArg (fun r => (dataK m c).kRow h r e) (row_eq i n hn l _))
theorem v_row (l : Fin 64) : (fun e => (rowsAt m c h i n).v (ix2 l e)) = (dataK m c).vRow h (rowOf (chunkAt i n) l) :=
  funext fun e => (v_block m c h i _ e).trans (congrArg (fun r => (dataK m c).vRow h r e) (row_eq i n hn l _))
theorem g_row (l : Fin 64) : (fun e => (rowsAt m c h i n).g (ix2 l e)) = (dataK m c).gRow h (rowOf (chunkAt i n) l) :=
  funext fun e => (g_block m c h i _ e).trans (congrArg (fun r => (dataK m c).gRow h r e) (row_eq i n hn l _))
theorem o_row (l : Fin 64) : (fun e => (rowsAt m c h i n).o (ix2 l e)) = (dataK m c).oRow h (rowOf (chunkAt i n) l) :=
  funext fun e => (o_block m c h i _ e).trans (congrArg (fun r => (dataK m c).oRow h r e) (row_eq i n hn l _))
theorem dy_row (l : Fin 64) : (fun e => (rowsAt m c h i n).dy (ix2 l e)) = (dataK m c).yRow h (rowOf (chunkAt i n) l) :=
  funext fun e => (dy_block m c h i _ e).trans (congrArg (fun r => (dataK m c).yRow h r e) (row_eq i n hn l _))
theorem cos_row (l : Fin 64) : (fun e => (rowsAt m c h i n).cs (ix2 l e)) = cosT (rowOf (chunkAt i n) l) :=
  funext fun e => (cos_block m c h i _ e).trans (congrArg (fun r => cosT r e) (row_eq i n hn l _))
theorem sin_row (l : Fin 64) : (fun e => (rowsAt m c h i n).sn (ix2 l e)) = sinT (rowOf (chunkAt i n) l) :=
  funext fun e => (sin_block m c h i _ e).trans (congrArg (fun r => sinT r e) (row_eq i n hn l _))
theorem st_row : (fun d u => (rowsAt m c h i n).st (ix4 0 0 d u)) = (dataK m c).st (chunkAt i n) h :=
  funext fun d => funext fun u => (st_block m c h i (Ins.nth n) d u).trans (by rw [state_eq i n hn])
omit hn
theorem w_row : (fun e => (reads m c (T h i)).w (ix2 0 e)) = (dataK m c).wRow h := funext fun e => w_block m c h i e

theorem dmat_apply (g : Elt Ideal .f32) (l k : Fin 64) :
    k0_pay3 (F := Ideal) g (ix2 l k) = Ideal.exp ((FloatOps.absf (F := Ideal) (φ := FTy.f32) (num l - num k) : EReal) * g) := by
  unfold num
  pointwise [k0_pay3]
theorem zeta_apply (g : Elt Ideal .f32) (l : Fin 64) :
    k0_pay6 (F := Ideal) g (ix2 l 0) = Ideal.exp ((Ideal.ofBits FTy.f32 1115422720#32 - num l) * g) := by
  unfold num
  pointwise [k0_pay6, k0_pay4]

include hn
/-- The kernel's chunk is the problem's. -/
theorem chunk_eq : chunkOf (reads m c (T h i)) (rowsAt m c h i n) = (dataK m c).chunk h (chunkAt i n) := by
  apply Chunk.ext
  · funext l k
    show k0_pay3 (F := Ideal) _ (ix2 l k) = _
    rw [dmat_apply, lg_block]; rfl
  · funext l
    show Ideal.exp (_ * (reads m c (T h i)).lg) = _
    rw [lg_block]; rfl
  · funext l
    show k0_pay6 (F := Ideal) _ (ix2 l 0) = _
    rw [zeta_apply, lg_block]; rfl
  · show Ideal.exp (_ * (reads m c (T h i)).lg) = _
    rw [lg_block]; rfl
  · funext l d
    show Ins.qb _ (ix2 l d) = _
    rw [qb_apply, q_row m c h i n hn l, cos_row m c h i n hn l, sin_row m c h i n hn l]; rfl
  · funext l d
    show Ins.kb _ (ix2 l d) = _
    rw [kb_apply, k_row m c h i n hn l, cos_row m c h i n hn l, sin_row m c h i n hn l]; rfl
  · funext l
    exact v_row m c h i n hn l
  · exact st_row m c h i n hn
  · funext l u
    show Ins.dob _ _ (ix2 l u) = _
    rw [dob_apply, o_row m c h i n hn l, g_row m c h i n hn l, dy_row m c h i n hn l, w_row]; rfl
end

/-- The state's gradient after n chunks of step i. -/
theorem dsAt_eq (h : Fin 8) (i : Fin 16) (D : Vec Ideal S256x512 .f32) (hD : (fun a u => D (ix2 a u)) = (dataK m c).ds h (8 * i.val)) :
    ∀ n ≤ 8, (fun a u => (reads m c (T h i)).dsAt D n (ix2 a u)) = (dataK m c).ds h (8 * i.val + n)
  | 0, _ => hD
  | n + 1, hn => by
    funext a u
    show Ins.dsStep (F := Ideal) (reads m c (T h i)) (rowsAt m c h i n) _ (ix2 a u) = ((dataK m c).trip h (8 * i.val + n)).ds ((dataK m c).ds h (8 * i.val + n)) a u
    rw [ds_apply, dsAt_eq h i D hD n (by omega)]
    exact congrArg (fun C : Chunk => C.ds ((dataK m c).ds h (8 * i.val + n)) a u) (chunk_eq m c h i n (by omega))

theorem pay1_apply (a : Fin 256) (u : Fin 512) : k0_pay1 (F := Ideal) (ix2 a u) = 0 := by
  pointwise [k0_pay1]

theorem T_val (h : Fin 8) (i : Fin 16) : (T h i).val = 16 * h.val + i.val := rfl
theorem dsB_eq (h : Fin 8) : ∀ k (hk : k < 16), (fun a u => dsB m c (16 * h.val + k) (ix2 a u)) = (dataK m c).ds h (8 * k)
  | 0, _ => by
    rw [dsB_reset m c (by omega)]
    funext a u
    exact pay1_apply a u
  | k + 1, hk => by
    have e := dsB_next m c (T h ⟨k, by omega⟩) (by rw [T_val]; show (16 * h.val + k + 1) % 16 ≠ 0; omega)
    have e' : dsB m c (16 * h.val + (k + 1)) = (reads m c (T h ⟨k, by omega⟩)).dsAt (dsB m c (16 * h.val + k)) 8 := e
    rw [e']
    exact dsAt_eq m c h ⟨k, by omega⟩ _ (dsB_eq h k (by omega)) 8 le_rfl

/-! ## The pieces -/

theorem glue_at {w : ℕ} (f : ℕ → Vec Ideal (⟨3, ![1, 64, w]⟩ : Shape) .bf16) (n : ℕ) (hn : n < 8) (l : Fin 64) (x : Fin w) (hp) :
    glue f (ix2 ⟨64 * (7 - n) + l.val, hp⟩ x) = f n (ix3 0 l x) := by
  show f (7 - (64 * (7 - n) + l.val) / 64) (ix3 0 ⟨(64 * (7 - n) + l.val) % 64, _⟩ x) = _
  have e1 : 7 - (64 * (7 - n) + l.val) / 64 = n := by omega
  have e2 : (⟨(64 * (7 - n) + l.val) % 64, Nat.mod_lt _ (by decide)⟩ : Fin 64) = l := Fin.ext (by show (64 * (7 - n) + l.val) % 64 = l.val; omega)
  rw [e1, e2]

section
variable (X : Ins Ideal) (D : Vec Ideal S256x512 .f32) (n : ℕ) (hn : n < 8) (l : Fin 64)
include hn
theorem out_q_apply (x : Fin 256) (hp) : (X.out D).q (ix2 ⟨64 * (7 - n) + l.val, hp⟩ x) = Ins.dq X (X.rows (Ins.nth n)) (ix3 0 l x) :=
  glue_at (fun n => Ins.dq X (X.rows (Ins.nth n))) n hn l x hp
theorem out_k_apply (x : Fin 256) (hp) : (X.out D).k (ix2 ⟨64 * (7 - n) + l.val, hp⟩ x) = Ins.dk X (X.rows (Ins.nth n)) (X.dsAt D n) (ix3 0 l x) :=
  glue_at (fun n => Ins.dk X (X.rows (Ins.nth n)) (X.dsAt D n)) n hn l x hp
theorem out_v_apply (x : Fin 512) (hp) : (X.out D).v (ix2 ⟨64 * (7 - n) + l.val, hp⟩ x) = Ins.dv X (X.rows (Ins.nth n)) (X.dsAt D n) (ix3 0 l x) :=
  glue_at (fun n => Ins.dv X (X.rows (Ins.nth n)) (X.dsAt D n)) n hn l x hp
theorem out_g_apply (x : Fin 512) (hp) : (X.out D).g (ix2 ⟨64 * (7 - n) + l.val, hp⟩ x) = Ins.dg X (X.rows (Ins.nth n)) (ix3 0 l x) :=
  glue_at (fun n => Ins.dg X (X.rows (Ins.nth n))) n hn l x hp
end

/-- The step a chunk of head h is taken in. -/
def iOf (k : Fin 128) : Fin 16 := ⟨15 - k.val / 8, by omega⟩
def nOf (k : Fin 128) : ℕ := 7 - k.val % 8
theorem nOf_lt (k : Fin 128) : nOf k < 8 := by unfold nOf; omega
theorem chunkAt_of (k : Fin 128) : chunkAt (iOf k) (nOf k) = k := by
  apply Fin.ext
  show 127 - (8 * (15 - k.val / 8) + (7 - k.val % 8)) = k.val
  omega
theorem trips_of (k : Fin 128) : 8 * (iOf k).val + nOf k = 127 - k.val := by
  show 8 * (15 - k.val / 8) + (7 - k.val % 8) = _
  omega
/-- The number of step i of head h. -/
def uOf (h : Fin 8) (k : Fin 128) : Fin 128 := ⟨16 * h.val + (iOf k).val, by omega⟩
theorem wrote_of (h : Fin 8) (k : Fin 128) : wrote m c (uOf h k) = (reads m c (T h (iOf k))).out (dsB m c (16 * h.val + (iOf k).val)) := by
  have e : stepAt (uOf h k).val = T h (iOf k) := stepAt_val (T h (iOf k))
  unfold wrote
  rw [e]; rfl
theorem carried (h : Fin 8) (k : Fin 128) :
    (fun a u => (reads m c (T h (iOf k))).dsAt (dsB m c (16 * h.val + (iOf k).val)) (nOf k) (ix2 a u)) = (dataK m c).ds h (127 - k.val) := by
  rw [dsAt_eq m c h (iOf k) _ (dsB_eq m c h (iOf k).val (iOf k).isLt) (nOf k) (nOf_lt k).le, trips_of]

/-- The row of a step's block a chunk's row stands in. -/
def yOf (k : Fin 128) (l : Fin 64) : Fin 512 := ⟨64 * (7 - nOf k) + l.val, by omega⟩

section
variable (h : Fin 8) (k : Fin 128) (l : Fin 64)

theorem arr_q (d : Fin 256) (C : Fin 12288) (hC : C.val = h.val * 256 + d.val) :
    assembled (wrote m c) (ix2 (rowOf k l) C) = unrot ((dataK m c).dq h k l) (cosT (rowOf k l)) (sinT (rowOf k l)) d := by
  rw [assembled_q (wrote m c) (uOf h k) _ (ix2 (yOf k l) d) ?_ ?_, wrote_of]
  · refine (out_q_apply _ _ (nOf k) (nOf_lt k) l d _).trans ?_
    rw [dq_apply, chunk_eq m c h (iOf k) (nOf k) (nOf_lt k), cos_row m c h (iOf k) (nOf k) (nOf_lt k) l, sin_row m c h (iOf k) (nOf k) (nOf_lt k) l, chunkAt_of]
    rfl
  all_goals simp [offA, uOf, iOf, yOf, nOf, rowOf, ix2]; omega
theorem arr_k (d : Fin 256) (C : Fin 12288) (hC : C.val = 2048 + (h.val * 256 + d.val)) :
    assembled (wrote m c) (ix2 (rowOf k l) C) = unrot (fun e => (dataK m c).dk h k l e * kappa) (cosT (rowOf k l)) (sinT (rowOf k l)) d := by
  rw [assembled_k (wrote m c) (uOf h k) _ (ix2 (yOf k l) d) ?_ ?_, wrote_of]
  · refine (out_k_apply _ _ (nOf k) (nOf_lt k) l d _).trans ?_
    rw [dk_apply, chunk_eq m c h (iOf k) (nOf k) (nOf_lt k), cos_row m c h (iOf k) (nOf k) (nOf_lt k) l, sin_row m c h (iOf k) (nOf k) (nOf_lt k) l, chunkAt_of, carried]
    rfl
  all_goals simp [offA, uOf, iOf, yOf, nOf, rowOf, ix2]; omega
theorem arr_v (u : Fin 512) (C : Fin 12288) (hC : C.val = 4096 + (h.val * 512 + u.val)) :
    assembled (wrote m c) (ix2 (rowOf k l) C) = (dataK m c).dv h k l u := by
  rw [assembled_v (wrote m c) (uOf h k) _ (ix2 (yOf k l) u) ?_ ?_, wrote_of]
  · refine (out_v_apply _ _ (nOf k) (nOf_lt k) l u _).trans ?_
    rw [dv_apply, chunk_eq m c h (iOf k) (nOf k) (nOf_lt k), chunkAt_of, carried]
    rfl
  all_goals simp [offB, uOf, iOf, yOf, nOf, rowOf, ix2]; omega
theorem arr_g (u : Fin 512) (C : Fin 12288) (hC : C.val = 8192 + (h.val * 512 + u.val)) :
    assembled (wrote m c) (ix2 (rowOf k l) C)
      = dgate ((dataK m c).oRow h (rowOf k l)) ((dataK m c).gRow h (rowOf k l)) ((dataK m c).yRow h (rowOf k l)) ((dataK m c).wRow h) u := by
  rw [assembled_g (wrote m c) (uOf h k) _ (ix2 (yOf k l) u) ?_ ?_, wrote_of]
  · refine (out_g_apply _ _ (nOf k) (nOf_lt k) l u _).trans ?_
    rw [dg_apply, o_row m c h (iOf k) (nOf k) (nOf_lt k) l, g_row m c h (iOf k) (nOf k) (nOf_lt k) l, dy_row m c h (iOf k) (nOf k) (nOf_lt k) l, w_row, chunkAt_of]
  all_goals simp [offB, uOf, iOf, yOf, nOf, rowOf, ix2]; omega
end

end Cert.KernelIdeal.Ret

end
-- ==== Proof.Val.KNorm.lean ====
/- The kernel's gradient of the norm's weights, in terms of the problem's arrays. -/
module

public import proofs.«01_k».proof.Proof.Val.KLoop

@[expose] public section

set_option maxRecDepth 16384

noncomputable section

namespace Cert.Ret

open scoped BigOperators

/-- A sum over the rows, chunk by chunk from the last to the first. -/
theorem sum_rows (f : Fin 8192 → EReal) : ∑ j ∈ Finset.range 128, ∑ x : Fin 64, f (rowOf ⟨127 - j, by omega⟩ x) = ∑ r, f r := by
  rw [Finset.sum_range, ← Equiv.sum_comp Fin.revPerm, ← (finProdFinEquiv (m := 128) (n := 64)).sum_comp f, Fintype.sum_prod_type]
  refine Finset.sum_congr rfl fun k _ => Finset.sum_congr rfl fun l _ => congrArg f (Fin.ext ?_)
  show (127 - (Fin.rev k).val) * 64 + l.val = l.val + 64 * k.val
  have := k.isLt
  rw [Fin.val_rev]
  omega

end Cert.Ret

namespace Cert.KernelIdeal.Ret

open Idealize.ShloMosaic Idealize.ShloMosaic.TcCoe Cert.KernelIdeal Cert.KernelIdeal.Gen
open scoped BigOperators
open Cert.Ret

variable (m : (ℓ : Loc nD τ sig) → Buf (Elt Ideal) ℓ) (c : Dev nD)

/-- What row r adds to the gradient of the weight of head h's column u. -/
def term (h : Fin 8) (u : Fin 512) (r : Fin 8192) : EReal := dn ((dataK m c).gRow h r) ((dataK m c).yRow h r) u * oh ((dataK m c).oRow h r) u

/-- The gradient after n chunks of step i. -/
theorem gwAt_eq (h : Fin 8) (u : Fin 512) (i : Fin 16) (G : Vec Ideal S1x512 .f32)
    (hG : G (ix2 0 u) = ∑ j ∈ Finset.range (8 * i.val), ∑ x : Fin 64, term m c h u (rowOf ⟨127 - j, by omega⟩ x)) :
    ∀ n ≤ 8, (reads m c (T h i)).gwAt G n (ix2 0 u) = ∑ j ∈ Finset.range (8 * i.val + n), ∑ x : Fin 64, term m c h u (rowOf ⟨127 - j, by omega⟩ x)
  | 0, _ => hG
  | n + 1, hn => by
    rw [← Nat.add_assoc, Finset.sum_range_succ, ← gwAt_eq h u i G hG n (by omega)]
    show Ins.gwStep (F := Ideal) (rowsAt m c h i n) _ (ix2 0 u) = _
    rw [gw_apply]
    refine congrArg (fun s : EReal => (reads m c (T h i)).gwAt G n (ix2 0 u) + s) (Finset.sum_congr rfl fun x _ => ?_)
    rw [dn_apply, oh_apply, g_row m c h i n (by omega) x, dy_row m c h i n (by omega) x, o_row m c h i n (by omega) x]
    rfl

theorem pay2_apply (u : Fin 512) : k0_pay2 (F := Ideal) (ix2 0 u) = 0 := by
  pointwise [k0_pay2]

theorem gwB_eq (h : Fin 8) (u : Fin 512) : ∀ k (hk : k < 16),
    gwB m c (16 * h.val + k) (ix2 0 u) = ∑ j ∈ Finset.range (8 * k), ∑ x : Fin 64, term m c h u (rowOf ⟨127 - j, by omega⟩ x)
  | 0, _ => by
    rw [gwB_reset m c (by omega), pay2_apply]
    simp
  | k + 1, hk => by
    have e := gwB_next m c (T h ⟨k, by omega⟩) (by rw [T_val]; show (16 * h.val + k + 1) % 16 ≠ 0; omega)
    have e' : gwB m c (16 * h.val + (k + 1)) = (reads m c (T h ⟨k, by omega⟩)).gwAt (gwB m c (16 * h.val + k)) 8 := e
    rw [e']
    exact gwAt_eq m c h u ⟨k, by omega⟩ _ (gwB_eq h u k (by omega)) 8 le_rfl

/-- After a head's last step all rows have been summed. -/
theorem gwAfter_last (h : Fin 8) (u : Fin 512) : gwAfter m c (T h 15) (ix2 0 u) = ∑ r, term m c h u r := by
  rw [← sum_rows]
  exact gwAt_eq m c h u 15 _ (gwB_eq m c h u 15 (by decide)) 8 le_rfl

theorem index_11 : ∀ (h : Fin 8) (i : Fin 16), (cfg0.win 11).index (T h i) = ![0, h.val] := by decide +kernel

/-- The gradient of the norm's weights, as an array. -/
def sums : (⟨2, ![1, 4096]⟩ : Shape).Idx → EReal := fun i =>
  ∑ r, term m c ⟨(i 1).val / 512, by have : (i 1).val < 4096 := (i 1).isLt; omega⟩ ⟨(i 1).val % 512, Nat.mod_lt _ (by decide)⟩ r

theorem sums_at (h : Fin 8) (u : Fin 512) (i : (⟨2, ![1, 4096]⟩ : Shape).Idx) (hi : (i 1).val = h.val * 512 + u.val) :
    sums m c i = ∑ r, term m c h u r := by
  have e1 : (⟨(i 1).val / 512, by have : (i 1).val < 4096 := (i 1).isLt; omega⟩ : Fin 8) = h := Fin.ext (by show (i 1).val / 512 = h.val; omega)
  have e2 : (⟨(i 1).val % 512, Nat.mod_lt _ (by decide)⟩ : Fin 512) = u := Fin.ext (by show (i 1).val % 512 = u.val; omega)
  unfold sums
  rw [e1, e2]

theorem arr_gw : (dats m 0 c).arrAt 11 cfg0.N = sums m c := by
  refine (dats m 0 c).arrAt_eq_of_covers 11 _ (by decide +kernel) fun t hf y => ?_
  have ht : t.val % 16 = 15 := (flush0_11 t).mp hf
  have htl : t.val < 128 := Nat.lt_of_lt_of_eq t.isLt N_0
  obtain ⟨h, rfl⟩ : ∃ h : Fin 8, t = T h 15 := ⟨⟨t.val / 16, by omega⟩, Fin.ext (by show t.val = 16 * (t.val / 16) + 15; omega)⟩
  blk_simp
  rw [after_11]
  have hy0 : (y 0).val < 1 := (y 0).isLt
  have hy1 : (y 1).val < 512 := (y 1).isLt
  have e : y = ix2 (0 : Fin 1) (⟨(y 1).val, hy1⟩ : Fin 512) := by
    funext a
    apply Fin.ext
    match a with
    | ⟨0, _⟩ => show (y 0).val = 0; omega
    | ⟨1, _⟩ => rfl
  refine Eq.trans ?_ (sums_at m c h ⟨(y 1).val, hy1⟩ _ ?_).symm
  · rw [← gwAfter_last]
    exact congrArg (gwAfter m c (T h 15)) e
  · blk_simp [index_11 h 15]

end Cert.KernelIdeal.Ret

end
-- ==== Proof.Val.Slices.lean ====
/- A dynamic slice or update of one leading entry of an array of rank four. -/
module

public import Idealize.ShloMosaic.Lib.Pointwise

@[expose] public section

noncomputable section

namespace Cert.Ret

open Idealize.ShloMosaic

variable {α : Type} {N n1 n2 n3 : ℕ}

theorem slice_at (x : (⟨4, ![N, n1, n2, n3]⟩ : Shape).Idx → α) (start : Fin 4 → Int) (c : Fin N)
    (h0 : start 0 = c.val) (h1 : start 1 = 0) (h2 : start 2 = 0) (h3 : start 3 = 0)
    (h : (⟨4, ![N, n1, n2, n3]⟩ : Shape).Slices (fun _ => 0) (⟨4, ![1, n1, n2, n3]⟩ : Shape)) (i1 : Fin n1) (i2 : Fin n2) (i3 : Fin n3) :
    Host.dynamicSlice (⟨4, ![1, n1, n2, n3]⟩ : Shape) x start h (ix4 0 i1 i2 i3) = x (ix4 c i1 i2 i3) := by
  rw [Host.dynamicSlice_apply]
  refine congrArg x (funext fun a => Fin.ext ?_)
  have hc := c.isLt
  match a with
  | ⟨0, _⟩ => exact congrArg (· + 0) (Host.clampedStart_of_le h.1 start 0 c.val h0 (by show c.val + 1 ≤ N; omega))
  | ⟨1, _⟩ => exact (congrArg (· + i1.val) (Host.clampedStart_of_le h.1 start 1 0 h1 (by show 0 + n1 ≤ n1; omega))).trans (Nat.zero_add _)
  | ⟨2, _⟩ => exact (congrArg (· + i2.val) (Host.clampedStart_of_le h.1 start 2 0 h2 (by show 0 + n2 ≤ n2; omega))).trans (Nat.zero_add _)
  | ⟨3, _⟩ => exact (congrArg (· + i3.val) (Host.clampedStart_of_le h.1 start 3 0 h3 (by show 0 + n3 ≤ n3; omega))).trans (Nat.zero_add _)

theorem update_at (x : (⟨4, ![N, n1, n2, n3]⟩ : Shape).Idx → α) (upd : (⟨4, ![1, n1, n2, n3]⟩ : Shape).Idx → α) (start : Fin 4 → Int) (c : Fin N)
    (h0 : start 0 = c.val) (h1 : start 1 = 0) (h2 : start 2 = 0) (h3 : start 3 = 0)
    (h : (⟨4, ![N, n1, n2, n3]⟩ : Shape).Slices (fun _ => 0) (⟨4, ![1, n1, n2, n3]⟩ : Shape)) (n : Fin N) (i1 : Fin n1) (i2 : Fin n2) (i3 : Fin n3) :
    Host.dynamicUpdateSlice x upd start h (ix4 n i1 i2 i3) = if n = c then upd (ix4 0 i1 i2 i3) else x (ix4 n i1 i2 i3) := by
  have hc := c.isLt
  have e0 := Host.clampedStart_of_le (t := (⟨4, ![1, n1, n2, n3]⟩ : Shape)) (s := (⟨4, ![N, n1, n2, n3]⟩ : Shape)) h.1 start 0 c.val h0 (by show c.val + 1 ≤ N; omega)
  have e1 := Host.clampedStart_of_le (t := (⟨4, ![1, n1, n2, n3]⟩ : Shape)) (s := (⟨4, ![N, n1, n2, n3]⟩ : Shape)) h.1 start 1 0 h1 (by show 0 + n1 ≤ n1; omega)
  have e2 := Host.clampedStart_of_le (t := (⟨4, ![1, n1, n2, n3]⟩ : Shape)) (s := (⟨4, ![N, n1, n2, n3]⟩ : Shape)) h.1 start 2 0 h2 (by show 0 + n2 ≤ n2; omega)
  have e3 := Host.clampedStart_of_le (t := (⟨4, ![1, n1, n2, n3]⟩ : Shape)) (s := (⟨4, ![N, n1, n2, n3]⟩ : Shape)) h.1 start 3 0 h3 (by show 0 + n3 ≤ n3; omega)
  rw [Host.dynamicUpdateSlice_apply]
  by_cases hn : n = c
  · rw [if_pos hn, dif_pos]
    · refine congrArg upd (funext fun a => Fin.ext ?_)
      match a with
      | ⟨0, _⟩ => exact (congrArg (n.val - ·) e0).trans (by rw [hn]; exact Nat.sub_self _)
      | ⟨1, _⟩ => exact (congrArg (i1.val - ·) e1)
      | ⟨2, _⟩ => exact (congrArg (i2.val - ·) e2)
      | ⟨3, _⟩ => exact (congrArg (i3.val - ·) e3)
    · intro a
      match a with
      | ⟨0, _⟩ => exact ⟨e0.trans_le (le_of_eq (congrArg Fin.val hn.symm)), (by show n.val < c.val + 1; rw [hn]; omega : n.val < c.val + 1).trans_eq (congrArg (· + 1) e0.symm)⟩
      | ⟨1, _⟩ => exact ⟨e1.trans_le (Nat.zero_le _), (by have := i1.isLt; omega : i1.val < 0 + n1).trans_eq (congrArg (· + n1) e1.symm)⟩
      | ⟨2, _⟩ => exact ⟨e2.trans_le (Nat.zero_le _), (by have := i2.isLt; omega : i2.val < 0 + n2).trans_eq (congrArg (· + n2) e2.symm)⟩
      | ⟨3, _⟩ => exact ⟨e3.trans_le (Nat.zero_le _), (by have := i3.isLt; omega : i3.val < 0 + n3).trans_eq (congrArg (· + n3) e3.symm)⟩
  · rw [if_neg hn, dif_neg]
    intro hin
    have h' := hin 0
    have a1 : c.val ≤ n.val := e0.symm.trans_le h'.1
    have a2 : n.val < c.val + 1 := h'.2.trans_eq (congrArg (· + 1) e0)
    exact hn (Fin.ext (by omega))

end Cert.Ret

end
-- ==== Proof.Val.Trip.lean ====
/- One trip of the reference's loop, read at an index. -/
module

public import proofs.«01_k».proof.Proof.Gen.ReferenceIdeal.Step
public import proofs.«01_k».proof.Proof.Val.Spec
public import proofs.«01_k».proof.Proof.Val.Slices
public import Idealize.ShloMosaic.Lib.Pointwise

@[expose] public section

set_option maxRecDepth 16384

noncomputable section

namespace Cert.ReferenceIdeal.Step

open Idealize.ShloMosaic Cert.ReferenceIdeal Cert.ReferenceIdeal.Step
open scoped BigOperators
open Cert.Ret
open Cert.ReferenceIdeal.Gen

/-- The chunk trip j takes. -/
def at_ (j : ℕ) : Fin 128 := ⟨127 - j, by omega⟩

variable (j : ℕ) (hj : j < 128) (s : State Ideal)

include hj in
theorem b3_toInt : (b3 j s (Shape.Idx.first h_S_)).toInt = ((at_ j).val : Int) := by
  have e : b3 j s (Shape.Idx.first h_S_) = BitVec.ofNat 32 (127 - j) := by
    show 128#32 - BitVec.ofNat 32 j - 1#32 = BitVec.ofNat 32 (127 - j)
    apply BitVec.eq_of_toNat_eq
    simp only [BitVec.toNat_sub, BitVec.toNat_ofNat]
    omega
  rw [e]
  have : (BitVec.ofNat 32 (127 - j)).toInt = ((127 - j : ℕ) : Int) := by
    rw [BitVec.toInt_eq_toNat_of_lt (by simp only [BitVec.toNat_ofNat]; omega)]
    simp only [BitVec.toNat_ofNat]; omega
  exact this

/-- The start of a slice, from its four words. -/
def start (a b c d : (⟨S_, .i32⟩ : BufTy).Contents (Elt Ideal)) : Fin 4 → Int :=
  fun k => (((![a, b, c, d] : Fin 4 → (⟨S_, .i32⟩ : BufTy).Contents (Elt Ideal))) k (Shape.Idx.first h_S_)).toInt

theorem zero_toInt : (0#32).toInt = 0 := by decide

include hj in
theorem b8_apply (h : Fin 8) (d : Fin 256) (u : Fin 512) : b8 j s (ix3 h d u) = s.main_v207_0 (ix4 (at_ j) h d u) := by
  refine Eq.trans (b := b7 j s (ix4 0 h d u)) ?_ (slice_at s.main_v207_0 (start (b3 j s) (b4 j s) (b5 j s) (b6 j s)) (at_ j) (b3_toInt j hj s) zero_toInt zero_toInt zero_toInt sliceFits_S128x8x256x512_S1x8x256x512 h d u)
  pointwise [b8]
include hj in
theorem b13_apply (l : Fin 64) (h : Fin 8) (d : Fin 256) : b13 j s (ix3 l h d) = s.main_v207_1 (ix4 (at_ j) l h d) := by
  refine Eq.trans (b := b12 j s (ix4 0 l h d)) ?_ (slice_at s.main_v207_1 (start (b3 j s) (b9 j s) (b10 j s) (b11 j s)) (at_ j) (b3_toInt j hj s) zero_toInt zero_toInt zero_toInt sliceFits_S128x64x8x256_S1x64x8x256 l h d)
  pointwise [b13]
include hj in
theorem b18_apply (l : Fin 64) (h : Fin 8) (d : Fin 256) : b18 j s (ix3 l h d) = s.main_v207_2 (ix4 (at_ j) l h d) := by
  refine Eq.trans (b := b17 j s (ix4 0 l h d)) ?_ (slice_at s.main_v207_2 (start (b3 j s) (b14 j s) (b15 j s) (b16 j s)) (at_ j) (b3_toInt j hj s) zero_toInt zero_toInt zero_toInt sliceFits_S128x64x8x256_S1x64x8x256 l h d)
  pointwise [b18]
include hj in
theorem b23_apply (l : Fin 64) (h : Fin 8) (d : Fin 512) : b23 j s (ix3 l h d) = s.main_v207_3 (ix4 (at_ j) l h d) := by
  refine Eq.trans (b := b22 j s (ix4 0 l h d)) ?_ (slice_at s.main_v207_3 (start (b3 j s) (b19 j s) (b20 j s) (b21 j s)) (at_ j) (b3_toInt j hj s) zero_toInt zero_toInt zero_toInt sliceFits_S128x64x8x512_S1x64x8x512 l h d)
  pointwise [b23]
include hj in
theorem b28_apply (l : Fin 64) (h : Fin 8) (d : Fin 512) : b28 j s (ix3 l h d) = s.main_v207_4 (ix4 (at_ j) l h d) := by
  refine Eq.trans (b := b27 j s (ix4 0 l h d)) ?_ (slice_at s.main_v207_4 (start (b3 j s) (b24 j s) (b25 j s) (b26 j s)) (at_ j) (b3_toInt j hj s) zero_toInt zero_toInt zero_toInt sliceFits_S128x64x8x512_S1x64x8x512 l h d)
  pointwise [b28]

/-- The chunk trip j works on, of head h. -/
def chunkOf (h : Fin 8) : Chunk where
  dmat l m := b51 j s (ix3 h l m)
  xi l := b60 j s (ix2 l h)
  zeta l := b69 j s (ix2 l h)
  cd := b73 j s (ix1 h)
  q l d := b13 j s (ix3 l h d)
  k l d := b18 j s (ix3 l h d)
  v l u := b23 j s (ix3 l h u)
  st d u := b8 j s (ix3 h d u)
  g l u := b28 j s (ix3 l h u)

theorem b119_apply (l : Fin 64) (h : Fin 8) (d : Fin 256) : b119 j s (ix3 l h d) = (chunkOf j s h).dq l d := by
  unfold Chunk.dq chunkOf
  pointwise [b119, b118, b117, b113, b109, b108, b104, b103, b102, b101, b100, b80]
  exact add_comm _ _
theorem b116_apply (l : Fin 64) (h : Fin 8) (d : Fin 256) : b116 j s (ix3 l h d) = (chunkOf j s h).dk (fun a u => s.main_v207_6 (ix3 h a u)) l d := by
  unfold Chunk.dk chunkOf
  pointwise [b116, b115, b114, b113, b109, b108, b97, b96, b95, b94, b86]
  refine (add_comm _ _).trans (congrArg₂ (· + ·) rfl (congrArg (· * _) ?_))
  exact Finset.sum_congr rfl fun _ _ => mul_comm _ _
theorem b112_apply (l : Fin 64) (h : Fin 8) (d : Fin 512) : b112 j s (ix3 l h d) = (chunkOf j s h).dv (fun a u => s.main_v207_6 (ix3 h a u)) l d := by
  unfold Chunk.dv chunkOf
  pointwise [b112, b111, b110, b108, b93, b92, b88, b87, b86, b75, b74]
  refine (add_comm _ _).trans (congrArg₂ (· + ·) ?_ ?_)
  · exact Finset.sum_congr rfl fun _ _ => mul_comm _ _
  · exact Finset.sum_congr rfl fun _ _ => mul_comm _ _
theorem b107_apply (h : Fin 8) (d : Fin 256) (u : Fin 512) : b107 j s (ix3 h d u) = (chunkOf j s h).ds (fun a u => s.main_v207_6 (ix3 h a u)) d u := by
  unfold Chunk.ds chunkOf
  pointwise [b107, b106, b105, b102, b101, b100, b99, b98, b83, b80]
  refine congrArg₂ (· + ·) rfl (Finset.sum_congr rfl fun _ _ => mul_comm _ _)

include hj in
theorem b124_apply (n : Fin 128) (l : Fin 64) (h : Fin 8) (d : Fin 256) :
    b124 j s (ix4 n l h d) = if n = at_ j then (chunkOf j s h).dq l d else s.main_v207_7 (ix4 n l h d) := by
  refine (update_at _ _ (start (b3 j s) (b121 j s) (b122 j s) (b123 j s)) (at_ j) (b3_toInt j hj s) zero_toInt zero_toInt zero_toInt updateFits_S128x64x8x256_S1x64x8x256 n l h d).trans ?_
  refine congrArg (fun z => if n = at_ j then z else _) ?_
  rw [← b119_apply]
  pointwise [b120]
include hj in
theorem b129_apply (n : Fin 128) (l : Fin 64) (h : Fin 8) (d : Fin 256) :
    b129 j s (ix4 n l h d) = if n = at_ j then (chunkOf j s h).dk (fun a u => s.main_v207_6 (ix3 h a u)) l d else s.main_v207_8 (ix4 n l h d) := by
  refine (update_at _ _ (start (b3 j s) (b126 j s) (b127 j s) (b128 j s)) (at_ j) (b3_toInt j hj s) zero_toInt zero_toInt zero_toInt updateFits_S128x64x8x256_S1x64x8x256 n l h d).trans ?_
  refine congrArg (fun z => if n = at_ j then z else _) ?_
  rw [← b116_apply]
  pointwise [b125]
include hj in
theorem b134_apply (n : Fin 128) (l : Fin 64) (h : Fin 8) (d : Fin 512) :
    b134 j s (ix4 n l h d) = if n = at_ j then (chunkOf j s h).dv (fun a u => s.main_v207_6 (ix3 h a u)) l d else s.main_v207_9 (ix4 n l h d) := by
  refine (update_at _ _ (start (b3 j s) (b131 j s) (b132 j s) (b133 j s)) (at_ j) (b3_toInt j hj s) zero_toInt zero_toInt zero_toInt updateFits_S128x64x8x512_S1x64x8x512 n l h d).trans ?_
  refine congrArg (fun z => if n = at_ j then z else _) ?_
  rw [← b112_apply]
  pointwise [b130]

end Cert.ReferenceIdeal.Step

end
-- ==== Proof.Val.Loop.lean ====
/- The reference's loop, in the plain form of its data: what its state holds after n trips. -/
module

public import proofs.«01_k».proof.Proof.Val.Trip
public import proofs.«01_k».proof.Proof.Val.Data

@[expose] public section

set_option maxRecDepth 16384

noncomputable section

namespace Cert.ReferenceIdeal.Step

open Idealize.ShloMosaic Cert.ReferenceIdeal Cert.ReferenceIdeal.Step
open scoped BigOperators
open Cert.Ret
open Cert.ReferenceIdeal.Gen

variable (p : (⟨S8192x12288, .f32⟩ : BufTy).Contents (Elt Ideal)) (w : (⟨S1x4096, .f32⟩ : BufTy).Contents (Elt Ideal))
  (o : (⟨S8192x4096, .f32⟩ : BufTy).Contents (Elt Ideal)) (st : (⟨S128x8x256x512, .bf16⟩ : BufTy).Contents (Elt Ideal))
  (y : (⟨S8192x4096, .f32⟩ : BufTy).Contents (Elt Ideal))

/-- The arrays by plain indices. -/
def dataOf : Data where
  p r c := p (ix2 r c)
  w c := w (ix2 0 c)
  o r c := o (ix2 r c)
  st c h d u := st (ix4 c h d u)
  y r c := y (ix2 r c)

theorem cos_apply (r : Fin 8192) (e : Fin 128) : K_main_v18 (F := Ideal) (ix2 r e) = cosT r e := by
  unfold cosT angle num
  pointwise [K_main_v18, K_main_v17, K_main_v16, K_main_v15, K_main_v14, K_main_v13, K_main_v12, K_main_v11, K_main_v10, K_main_v9, K_main_v8, K_main_v7, K_main_v6, K_main_v4, K_main_cst, K_main_cst_0]
theorem sin_apply (r : Fin 8192) (e : Fin 128) : K_main_v20 (F := Ideal) (ix2 r e) = sinT r e := by
  unfold sinT angle num
  pointwise [K_main_v20, K_main_v17, K_main_v16, K_main_v15, K_main_v14, K_main_v13, K_main_v12, K_main_v11, K_main_v10, K_main_v9, K_main_v8, K_main_v7, K_main_v6, K_main_v4, K_main_cst, K_main_cst_0]

theorem st_apply (c : Fin 128) (h : Fin 8) (d : Fin 256) (u : Fin 512) :
    A_main_v199 p w o st y (ix4 c h d u) = (dataOf p w o st y).st c h d u := by
  unfold dataOf
  pointwise [A_main_v199]
theorem q_apply (c : Fin 128) (l : Fin 64) (h : Fin 8) (d : Fin 256) :
    A_main_v200 p w o st y (ix4 c l h d) = ((dataOf p w o st y).chunk h c).q l d := by
  show _ = rot ((dataOf p w o st y).qRow h (rowOf c l)) (cosT (rowOf c l)) (sinT (rowOf c l)) d
  simp only [rot, ← cos_apply, ← sin_apply]
  unfold Data.qRow dataOf rowOf
  pointwise [A_main_v200, A_main_v34, A_main_v33, A_main_v28, A_main_v25, A_main_v27, A_main_v30, A_main_v32, A_main_v22, A_main_v23, A_main_v5, A_main_v0, K_main_v24, K_main_v26, K_main_v29, K_main_v31, K_main_v19, K_main_v21]
  by_cases h1 : d.val < 128
  · simp only [h1, dite_true]
  · have e : 128 + (d.val - 128) = d.val := by omega
    simp only [h1, dite_false, e]
theorem k_apply (c : Fin 128) (l : Fin 64) (h : Fin 8) (d : Fin 256) :
    A_main_v201 p w o st y (ix4 c l h d) = ((dataOf p w o st y).chunk h c).k l d := by
  show _ = rot ((dataOf p w o st y).kRow h (rowOf c l)) (cosT (rowOf c l)) (sinT (rowOf c l)) d * kappa
  simp only [rot, ← cos_apply, ← sin_apply]
  unfold Data.kRow dataOf rowOf kappa
  pointwise [A_main_v201, A_main_v66, A_main_v64, A_main_v63, A_main_v62, A_main_v60, A_main_v58, A_main_v57, A_main_v55, A_main_v53, A_main_v52, A_main_v35, A_main_v1,
    K_main_v54, K_main_v56, K_main_v59, K_main_v61, K_main_v65, K_main_v51, K_main_v49, K_main_cst_3]
  have e1 : K_main_v48 (F := Ideal) = K_main_v18 := rfl
  have e2 : K_main_v50 (F := Ideal) = K_main_v20 := rfl
  by_cases h1 : d.val < 128
  · simp only [h1, dite_true, e1, e2]
  · have e : 128 + (d.val - 128) = d.val := by omega
    simp only [h1, dite_false, e, e1, e2]
theorem v_apply (c : Fin 128) (l : Fin 64) (h : Fin 8) (u : Fin 512) :
    A_main_v202 p w o st y (ix4 c l h u) = ((dataOf p w o st y).chunk h c).v l u := by
  show _ = (dataOf p w o st y).vRow h (rowOf c l) u
  unfold Data.vRow dataOf rowOf
  pointwise [A_main_v202, A_main_v67, A_main_v2]
theorem do_apply (c : Fin 128) (l : Fin 64) (h : Fin 8) (u : Fin 512) :
    A_main_v203 p w o st y (ix4 c l h u) = A_main_v197 p w o st y (ix3 (rowOf c l) h u) := by
  unfold rowOf
  pointwise [A_main_v203]

/-- The gradient of the retention's output, as the reference makes it, in the plain form. -/
def DoAgrees : Prop := ∀ (r : Fin 8192) (h : Fin 8) (u : Fin 512),
  A_main_v197 p w o st y (ix3 r h u) = (dataOf p w o st y).doRow h r u

/-- The loop's constants are those it starts from. -/
structure Fixed (s : State Ideal) : Prop where
  a0 : s.main_v207_0 = A_main_v199 p w o st y
  a1 : s.main_v207_1 = A_main_v200 p w o st y
  a2 : s.main_v207_2 = A_main_v201 p w o st y
  a3 : s.main_v207_3 = A_main_v202 p w o st y
  a4 : s.main_v207_4 = A_main_v203 p w o st y

/-- The chunk a trip takes is the one of the plain form. -/
theorem chunkOf_eq (hdo : DoAgrees p w o st y) (j : ℕ) (hj : j < 128) (s : State Ideal) (f : Fixed p w o st y s) (h : Fin 8) :
    chunkOf j s h = (dataOf p w o st y).trip h j := by
  refine Chunk.ext ?_ ?_ ?_ ?_ ?_ ?_ ?_ ?_ ?_
  · funext l m
    show b51 j s (ix3 h l m) = Ideal.exp ((FloatOps.absf (F := Ideal) (φ := FTy.f32) (num l - num m) : EReal) * lgT h)
    unfold lgT num
    pointwise [b51, b50, b49, b48, b47, b46, b45, b44, b43, b42, b41, b40, b39, b38, b37, b36, b35, b34, b33, b32, b31, b30, b29]
  · funext l
    show b60 j s (ix2 l h) = Ideal.exp ((num l + 1) * lgT h)
    unfold lgT num
    pointwise [b60, b59, b58, b57, b56, b55, b54, b53, b52, b40, b39, b38, b37, b36, b35, b34, b33, b32, b31, b30, b29]
  · funext l
    show b69 j s (ix2 l h) = Ideal.exp ((Ideal.ofBits FTy.f32 1115422720#32 - num l) * lgT h)
    unfold lgT num
    pointwise [b69, b68, b67, b66, b65, b64, b63, b62, b61, b40, b39, b38, b37, b36, b35, b34, b33, b32, b31, b30, b29]
  · show b73 j s (ix1 h) = Ideal.exp (Ideal.ofBits FTy.f32 1115684864#32 * lgT h)
    unfold lgT num
    pointwise [b73, b72, b71, b70, b40, b39, b38, b37, b36, b35, b34, b33, b32, b31, b30, b29]
  · funext l d
    exact (b13_apply j hj s l h d).trans ((congrFun f.a1 _).trans (q_apply p w o st y _ l h d))
  · funext l d
    exact (b18_apply j hj s l h d).trans ((congrFun f.a2 _).trans (k_apply p w o st y _ l h d))
  · funext l u
    exact (b23_apply j hj s l h u).trans ((congrFun f.a3 _).trans (v_apply p w o st y _ l h u))
  · funext d u
    exact (b8_apply j hj s h d u).trans ((congrFun f.a0 _).trans (st_apply p w o st y _ h d u))
  · funext l u
    exact (b28_apply j hj s l h u).trans ((congrFun f.a4 _).trans ((do_apply p w o st y _ l h u).trans (hdo _ h u)))

/-- What the state holds after n trips. -/
structure After (n : ℕ) (s : State Ideal) : Prop where
  fixed : Fixed p w o st y s
  d6 : ∀ (h : Fin 8) (d : Fin 256) (u : Fin 512), s.main_v207_6 (ix3 h d u) = (dataOf p w o st y).ds h n d u
  d7 : ∀ (c : Fin 128) (l : Fin 64) (h : Fin 8) (d : Fin 256), 127 - c.val < n →
    s.main_v207_7 (ix4 c l h d) = (dataOf p w o st y).dq h c l d
  d8 : ∀ (c : Fin 128) (l : Fin 64) (h : Fin 8) (d : Fin 256), 127 - c.val < n →
    s.main_v207_8 (ix4 c l h d) = (dataOf p w o st y).dk h c l d
  d9 : ∀ (c : Fin 128) (l : Fin 64) (h : Fin 8) (u : Fin 512), 127 - c.val < n →
    s.main_v207_9 (ix4 c l h u) = (dataOf p w o st y).dv h c l u

theorem after_init : After p w o st y 0 (init p w o st y) where
  fixed := ⟨rfl, rfl, rfl, rfl, rfl⟩
  d6 h d u := by
    show K_main_v198 (F := Ideal) (ix3 h d u) = 0
    pointwise [K_main_v198, K_main_cst_24]
  d7 c l h d hn := absurd hn (Nat.not_lt_zero _)
  d8 c l h d hn := absurd hn (Nat.not_lt_zero _)
  d9 c l h d hn := absurd hn (Nat.not_lt_zero _)

theorem at_of {j : ℕ} (hj : j < 128) {c : Fin 128} (hn : 127 - c.val < j + 1) : c = at_ j ∨ 127 - c.val < j := by
  rcases Nat.lt_succ_iff_lt_or_eq.mp hn with h | h
  · exact Or.inr h
  · left; apply Fin.ext; show c.val = 127 - j; omega

theorem after_step (hdo : DoAgrees p w o st y) (j : ℕ) (hj : j < 128) (s : State Ideal) (a : After p w o st y j s) :
    After p w o st y (j + 1) (step j s) := by
  have ec : ∀ h : Fin 8, chunkOf j s h = (dataOf p w o st y).chunk h (at_ j) :=
    fun h => chunkOf_eq p w o st y hdo j hj s a.fixed h
  have ed : ∀ h : Fin 8, (fun (d : Fin 256) (u : Fin 512) => s.main_v207_6 (ix3 h d u)) = (dataOf p w o st y).ds h j :=
    fun h => funext fun d => funext fun u => a.d6 h d u
  have ej : 127 - (at_ j).val = j := by show 127 - (127 - j) = j; omega
  refine ⟨⟨a.fixed.a0, a.fixed.a1, a.fixed.a2, a.fixed.a3, a.fixed.a4⟩, ?_, ?_, ?_, ?_⟩
  · intro h d u
    rw [step_main_v207_6, b107_apply, ec h, ed h]; rfl
  · intro c l h d hn
    rw [step_main_v207_7, b124_apply j hj]
    rcases at_of hj hn with e | e
    · rw [if_pos e, ec h, e]; rfl
    · have ne : c ≠ at_ j := fun e' => by rw [e', ej] at e; exact lt_irrefl _ e
      rw [if_neg ne]; exact a.d7 c l h d e
  · intro c l h d hn
    rw [step_main_v207_8, b129_apply j hj]
    rcases at_of hj hn with e | e
    · rw [if_pos e, ec h, ed h, e]; show _ = (Chunk.dk _ (Data.ds _ h (127 - (at_ j).val)) l d); rw [ej]
    · have ne : c ≠ at_ j := fun e' => by rw [e', ej] at e; exact lt_irrefl _ e
      rw [if_neg ne]; exact a.d8 c l h d e
  · intro c l h d hn
    rw [step_main_v207_9, b134_apply j hj]
    rcases at_of hj hn with e | e
    · rw [if_pos e, ec h, ed h, e]; show _ = (Chunk.dv _ (Data.ds _ h (127 - (at_ j).val)) l d); rw [ej]
    · have ne : c ≠ at_ j := fun e' => by rw [e', ej] at e; exact lt_irrefl _ e
      rw [if_neg ne]; exact a.d9 c l h d e

/-- The loop's states: 128 trips from the first. -/
def states : ℕ → State Ideal
  | 0 => init p w o st y
  | n + 1 => step n (states n)

theorem after_states (hdo : DoAgrees p w o st y) : ∀ n, n ≤ 128 → After p w o st y n (states p w o st y n)
  | 0, _ => after_init p w o st y
  | n + 1, h => after_step p w o st y hdo n (by omega) _ (after_states hdo n (by omega))

end Cert.ReferenceIdeal.Step

end
-- ==== Proof.Val.Norm.lean ====
/- The group norm and the gate, one row of one head: the two ways of writing their gradients agree. The gradient that comes
   in, the weights and the gate are finite; the retention's output may be infinite, and then the norm's scale is 0. -/
module

public import proofs.«01_k».proof.Proof.Val.Spec
public import Mathlib.Analysis.SpecialFunctions.Trigonometric.DerivHyp

@[expose] public section

noncomputable section

namespace Cert.Ret

open Idealize.ShloMosaic
open scoped BigOperators

/-! ### The constants -/

theorem c512_eq : c512 = ((512 : ℝ) : EReal) := by
  unfold c512; simp [Ideal.ofBits, Ideal.ieee, -EReal.coe_mul]; norm_num
theorem half_eq : half = ((1 / 2 : ℝ) : EReal) := by
  unfold half; simp [Ideal.ofBits, Ideal.ieee, -EReal.coe_mul]; norm_num
theorem eps_eq : ∃ e : ℝ, 0 < e ∧ eps = (e : EReal) := by
  unfold eps
  refine ⟨10995116 * 2 ^ (-40 : ℤ), by positivity, ?_⟩
  simp [Ideal.ofBits, Ideal.ieee, -EReal.coe_mul]; try norm_num
def mhalf : EReal := Ideal.ofBits FTy.f32 3204448256#32
def two : EReal := Ideal.ofBits FTy.f32 1073741824#32
theorem mhalf_eq : mhalf = ((-(1 / 2) : ℝ) : EReal) := by
  unfold mhalf; simp [Ideal.ofBits, Ideal.ieee, -EReal.coe_mul]; try norm_num
theorem two_eq : two = ((2 : ℝ) : EReal) := by
  unfold two; simp [Ideal.ofBits, Ideal.ieee, -EReal.coe_mul]; try norm_num

/-! ### Sums of extended reals -/

theorem coe_sum {n : ℕ} (f : Fin n → ℝ) : ((∑ x, f x : ℝ) : EReal) = ∑ x, (f x : EReal) :=
  map_sum (⟨⟨Real.toEReal, rfl⟩, EReal.coe_add⟩ : ℝ →+ EReal) f _

theorem sum_ne_bot {n : ℕ} (f : Fin n → EReal) (s : Finset (Fin n)) (h : ∀ x ∈ s, f x ≠ ⊥) : ∑ x ∈ s, f x ≠ ⊥ := by
  induction s using Finset.induction_on with
  | empty => simp
  | insert a s ha ih =>
    rw [Finset.sum_insert ha, Ne, EReal.add_eq_bot_iff, not_or]
    exact ⟨h a (Finset.mem_insert_self _ _), ih fun x hx => h x (Finset.mem_insert_of_mem hx)⟩

theorem sum_top {n : ℕ} (f : Fin n → EReal) (u : Fin n) (hu : f u = ⊤) (h : ∀ x, f x ≠ ⊥) : ∑ x, f x = ⊤ := by
  rw [← Finset.add_sum_erase _ _ (Finset.mem_univ u), hu]
  exact EReal.top_add_of_ne_bot (sum_ne_bot f _ fun x _ => h x)

theorem sum_bot {n : ℕ} (f : Fin n → EReal) (u : Fin n) (hu : f u = ⊥) : ∑ x, f x = ⊥ := by
  rw [← Finset.add_sum_erase _ _ (Finset.mem_univ u), hu, EReal.bot_add]

theorem div_c512 (x : EReal) : Ideal.div x c512 = x * ((1 / 512 : ℝ) : EReal) := by
  rw [c512_eq, Ideal.div_coe (by norm_num)]

/-! ### The centred row -/

/-- The variance with its ε. -/
def var (o : Fin 512 → EReal) : EReal := Ideal.div (∑ x, xc o x * xc o x) c512 + eps

/-- An infinite entry makes every centred entry infinite. -/
theorem xc_inf (o : Fin 512 → EReal) (h : ∃ u, o u = ⊤ ∨ o u = ⊥) (x : Fin 512) : xc o x = ⊤ ∨ xc o x = ⊥ := by
  unfold xc
  rw [div_c512]
  by_cases hb : ∃ u, o u = ⊥
  · obtain ⟨u, hu⟩ := hb
    rw [sum_bot o u hu, EReal.bot_mul_coe_of_pos (by norm_num), sub_eq_add_neg, EReal.neg_bot]
    by_cases hx : o x = ⊥
    · right; rw [hx, EReal.bot_add]
    · left; exact EReal.add_top_of_ne_bot hx
  · obtain ⟨u, hu⟩ := h
    have hu' : o u = ⊤ := hu.resolve_right fun e => hb ⟨u, e⟩
    rw [sum_top o u hu' fun x e => hb ⟨x, e⟩, EReal.top_mul_coe_of_pos (by norm_num), sub_eq_add_neg, EReal.neg_top]
    right; exact EReal.add_bot _

theorem sq_inf {x : EReal} (h : x = ⊤ ∨ x = ⊥) : x * x = ⊤ := by
  rcases h with h | h <;> rw [h]
  · exact EReal.top_mul_top
  · exact EReal.bot_mul_bot

theorem var_inf (o : Fin 512 → EReal) (h : ∃ u, o u = ⊤ ∨ o u = ⊥) : var o = ⊤ := by
  unfold var
  obtain ⟨e, _, he⟩ := eps_eq
  rw [sum_top _ 0 (sq_inf (xc_inf o h 0)) fun x e => by rw [sq_inf (xc_inf o h x)] at e; exact absurd e (by simp),
    div_c512, EReal.top_mul_coe_of_pos (by norm_num), he, EReal.top_add_coe]

theorem rs_inf (o : Fin 512 → EReal) (h : ∃ u, o u = ⊤ ∨ o u = ⊥) : rs o = 0 := by
  show Ideal.rsqrt (var o) = 0
  rw [var_inf o h]; rfl

theorem oh_inf (o : Fin 512 → EReal) (h : ∃ u, o u = ⊤ ∨ o u = ⊥) (u : Fin 512) : oh o u = 0 := by
  unfold oh; rw [rs_inf o h, mul_zero]

/-- Either every entry of a row is real or one is infinite. -/
theorem row_cases (o : Fin 512 → EReal) : (∃ o' : Fin 512 → ℝ, o = fun x => (o' x : EReal)) ∨ ∃ u, o u = ⊤ ∨ o u = ⊥ := by
  by_cases h : ∃ u, o u = ⊤ ∨ o u = ⊥
  · exact Or.inr h
  · left
    refine ⟨fun x => (o x).toReal, funext fun x => (EReal.coe_toReal ?_ ?_).symm⟩
    · exact fun e => h ⟨x, Or.inl e⟩
    · exact fun e => h ⟨x, Or.inr e⟩

/-! ### Real rows -/

section Real
variable (o : Fin 512 → ℝ)

def xr (u : Fin 512) : ℝ := o u - (∑ x, o x) * (1 / 512)
theorem xc_coe (u : Fin 512) : xc (fun x => (o x : EReal)) u = ((xr o u : ℝ) : EReal) := by
  unfold xc xr
  rw [div_c512, ← coe_sum, ← EReal.coe_mul, ← EReal.coe_sub]
theorem sum_xr : ∑ u, xr o u = 0 := by
  unfold xr
  rw [Finset.sum_sub_distrib, Finset.sum_const, Finset.card_univ, Fintype.card_fin, nsmul_eq_mul]
  push_cast; ring

/-- The variance and the scale of a real row: positive reals, the scale's square times the variance being 1. -/
theorem scale_coe : ∃ v ρ : ℝ, 0 < v ∧ ρ * ρ * v = 1 ∧ var (fun x => (o x : EReal)) = (v : EReal)
    ∧ rs (fun x => (o x : EReal)) = (ρ : EReal) := by
  obtain ⟨e, he, e1⟩ := eps_eq
  have ev : var (fun x => (o x : EReal)) = (((∑ x, xr o x * xr o x) * (1 / 512) + e : ℝ) : EReal) := by
    unfold var
    rw [div_c512, e1, EReal.coe_add, EReal.coe_mul, coe_sum]
    refine congrArg (· + _) (congrArg (· * _) (Finset.sum_congr rfl fun x _ => ?_))
    rw [xc_coe, EReal.coe_mul]
  have hv : 0 < (∑ x, xr o x * xr o x) * (1 / 512) + e := by
    have : 0 ≤ ∑ x, xr o x * xr o x := Finset.sum_nonneg fun x _ => mul_self_nonneg _
    positivity
  refine ⟨_, (Real.sqrt ((∑ x, xr o x * xr o x) * (1 / 512) + e))⁻¹, hv, ?_, ev, ?_⟩
  · have h2 := Real.mul_self_sqrt hv.le
    have h3 : Real.sqrt ((∑ x, xr o x * xr o x) * (1 / 512) + e) ≠ 0 := (Real.sqrt_pos.mpr hv).ne'
    rw [← mul_inv, h2, inv_mul_cancel₀ hv.ne']
  · show Ideal.rsqrt (var _) = _
    rw [ev, Ideal.rsqrt_coe, if_neg (not_lt.mpr hv.le), if_neg hv.ne']

end Real

/-! ### The gate -/

/-- The logistic function by the exponential. -/
def sl (g : EReal) : EReal := Ideal.div 1 (1 + Ideal.exp (-g))
def slr (g : ℝ) : ℝ := 1 / (1 + Real.exp (-g))

theorem sl_coe (g : ℝ) : sl (g : EReal) = ((slr g : ℝ) : EReal) := by
  unfold sl slr
  have h : (1 + Real.exp (-g) : ℝ) ≠ 0 := by positivity
  rw [← EReal.coe_neg, Ideal.exp_coe, ← EReal.coe_one, ← EReal.coe_add, Ideal.div_coe h, ← EReal.coe_mul, one_mul]

theorem sg_coe (g : ℝ) : sg (g : EReal) = ((slr g : ℝ) : EReal) := by
  unfold sg slr
  rw [half_eq, ← EReal.coe_mul, Ideal.tanh_coe, ← EReal.coe_one, ← EReal.coe_add, ← EReal.coe_mul]
  refine congrArg _ ?_
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  rw [Real.tanh_eq_sinh_div_cosh, Real.sinh_eq, Real.cosh_eq, h1]
  have p1 := Real.exp_pos (1 / 2 * g)
  have p2 := Real.exp_pos (-(1 / 2 * g))
  generalize Real.exp (1 / 2 * g) = a at *
  generalize Real.exp (-(1 / 2 * g)) = b at *
  have : a + b ≠ 0 := by positivity
  have : 1 + b * b ≠ 0 := by positivity
  field_simp
  linear_combination (2 * b) * h2

/-- The product of the gate's value, the gradient and the weight. -/
def ga (g y w : Fin 512 → EReal) (u : Fin 512) : EReal := g u * sl (g u) * y u * w u
/-- The reference's gradient of the variance and of the row. -/
def refS (o a : Fin 512 → EReal) : EReal := (∑ x, xc o x * a x) * (mhalf * Ideal.div (rs o) (var o))
def refDo (o a : Fin 512 → EReal) (u : Fin 512) : EReal :=
  a u * rs o + Ideal.div (refS o a) c512 * (two * xc o u)
    + Ideal.div (∑ x, -(a x * rs o) + ∑ x, -(Ideal.div (refS o a) c512 * (two * xc o x))) c512

/-- Every entry is real. -/
def Fin' (f : Fin 512 → EReal) : Prop := ∃ f' : Fin 512 → ℝ, f = fun x => (f' x : EReal)

theorem refDo_eq (o g y w : Fin 512 → EReal) (hg : Fin' g) (hy : Fin' y) (hw : Fin' w) (u : Fin 512) :
    refDo o (ga g y w) u = dout o g y w u := by
  obtain ⟨g, rfl⟩ := hg
  obtain ⟨y, rfl⟩ := hy
  obtain ⟨w, rfl⟩ := hw
  obtain ⟨a, ha⟩ : ∃ a : Fin 512 → ℝ, ∀ x, a x = g x * slr (g x) * y x * w x := ⟨_, fun _ => rfl⟩
  have ea : ga (fun x => (g x : EReal)) (fun x => (y x : EReal)) (fun x => (w x : EReal)) = fun x => (a x : EReal) := by
    funext x; unfold ga; rw [ha, sl_coe, EReal.coe_mul, EReal.coe_mul, EReal.coe_mul]
  have eb : ∀ x, dn (fun x => (g x : EReal)) (fun x => (y x : EReal)) x * (w x : EReal) = (a x : EReal) := by
    intro x; unfold dn
    rw [ha, sg_coe, ← EReal.coe_mul, ← EReal.coe_mul, ← EReal.coe_mul]
    refine congrArg _ ?_; ring
  unfold dout
  simp only [eb]
  rw [ea]
  rcases row_cases o with ⟨o, rfl⟩ | h
  · obtain ⟨v, ρ, hv, hρ, ev, er⟩ := scale_coe o
    have hS : refS (fun x => (o x : EReal)) (fun x => (a x : EReal))
        = (((∑ x, xr o x * a x) * (-(1 / 2) * (ρ * (1 / v))) : ℝ) : EReal) := by
      unfold refS
      rw [ev, er, mhalf_eq, Ideal.div_coe hv.ne', EReal.coe_mul, EReal.coe_mul, EReal.coe_mul, coe_sum]
      refine congrArg (· * _) (Finset.sum_congr rfl fun x _ => ?_)
      rw [xc_coe, EReal.coe_mul]
    unfold refDo
    rw [hS]
    generalize hk : (∑ x, xr o x * a x) * (-(1 / 2) * (ρ * (1 / v))) = k
    simp only [oh, xc_coe, er, two_eq, div_c512, ← EReal.coe_mul, ← EReal.coe_neg, ← coe_sum, ← EReal.coe_add, ← EReal.coe_sub]
    refine congrArg _ ?_
    have e1 : ∑ x, -(a x * ρ) = -(∑ x, a x) * ρ := by rw [Finset.sum_neg_distrib, ← Finset.sum_mul]; ring
    have e2 : ∑ x, -(k * (1 / 512) * (2 * xr o x)) = 0 := by
      rw [Finset.sum_neg_distrib, ← Finset.mul_sum, ← Finset.mul_sum, sum_xr]; ring
    have e3 : ∑ x, a x * (xr o x * ρ) = (∑ x, xr o x * a x) * ρ := by
      rw [Finset.sum_mul]; exact Finset.sum_congr rfl fun x _ => by ring
    have e4 : 1 / v = ρ * ρ := by field_simp; linarith
    rw [e1, e2, e3, ← hk, e4]
    ring
  · have e0 := rs_inf o h
    have hS : refS o (fun x => (a x : EReal)) = 0 := by
      unfold refS
      rw [e0, var_inf o h]
      have : Ideal.div 0 (⊤ : EReal) = 0 := by simp [Ideal.div]
      rw [this, mul_zero, mul_zero]
    unfold refDo
    rw [hS, e0, div_c512, zero_mul, zero_mul, mul_zero, zero_mul]
    simp [div_c512]

/-- The gate's gradient, as the reference writes it. -/
theorem dgate_eq (o g y w : Fin 512 → EReal) (hg : Fin' g) (hy : Fin' y) (hw : Fin' w) (u : Fin 512) :
    y u * (oh o u * w u) * sl (g u) + g u * (y u * (oh o u * w u)) * (sl (g u) * (1 - sl (g u))) = dgate o g y w u := by
  obtain ⟨g, rfl⟩ := hg
  obtain ⟨y, rfl⟩ := hy
  obtain ⟨w, rfl⟩ := hw
  have ho : ∃ n : ℝ, oh o u = (n : EReal) := by
    rcases row_cases o with ⟨o, rfl⟩ | h
    · obtain ⟨v, ρ, hv, hρ, ev, er⟩ := scale_coe o
      exact ⟨xr o u * ρ, by unfold oh; rw [er, xc_coe, EReal.coe_mul]⟩
    · exact ⟨0, by rw [oh_inf o h]; rfl⟩
  obtain ⟨n, hn⟩ := ho
  unfold dgate
  rw [hn, sl_coe, sg_coe]
  simp only [← EReal.coe_one, ← EReal.coe_mul, ← EReal.coe_add, ← EReal.coe_sub]
  refine congrArg _ ?_
  ring

/-- The gradient that reaches the norm, with the other logistic function. -/
theorem dn_eq (g y : Fin 512 → EReal) (hg : Fin' g) (u : Fin 512) : g u * sl (g u) * y u = dn g y u := by
  obtain ⟨g, rfl⟩ := hg
  unfold dn
  rw [sl_coe, sg_coe]
  exact mul_comm _ _

end Cert.Ret

end
-- ==== Proof.Val.RefDo.lean ====
/- The reference's gradient of the retention's output, in the plain form of its data. -/
module

public import proofs.«01_k».proof.Proof.Val.Loop
public import proofs.«01_k».proof.Proof.Val.Norm

@[expose] public section

set_option maxRecDepth 16384

noncomputable section

namespace Cert.ReferenceIdeal.Step

open Idealize.ShloMosaic Cert.ReferenceIdeal Cert.ReferenceIdeal.Step
open scoped BigOperators
open Cert.Ret
open Cert.ReferenceIdeal.Gen

variable (p : (⟨S8192x12288, .f32⟩ : BufTy).Contents (Elt Ideal)) (w : (⟨S1x4096, .f32⟩ : BufTy).Contents (Elt Ideal))
  (o : (⟨S8192x4096, .f32⟩ : BufTy).Contents (Elt Ideal)) (st : (⟨S128x8x256x512, .bf16⟩ : BufTy).Contents (Elt Ideal))
  (y : (⟨S8192x4096, .f32⟩ : BufTy).Contents (Elt Ideal))

theorem v178_apply (r : Fin 8192) (h : Fin 8) (u : Fin 512) : A_main_v178 p w o st y (ix3 r h u)
    = ga ((dataOf p w o st y).gRow h r) ((dataOf p w o st y).yRow h r) ((dataOf p w o st y).wRow h) u * rs ((dataOf p w o st y).oRow h r) := by
  unfold ga sl rs xc c512 eps Data.gRow Data.yRow Data.wRow Data.oRow colOf dataOf
  pointwise [A_main_v178, A_main_v177, A_main_v173, A_main_v172, A_main_v171, A_main_v165, A_main_v163_0, A_main_v163_2, A_main_v71, A_main_call0_v3, A_main_call0_v1, A_main_call0_v0, K_main_call0_v2, K_main_call0_v4, K_main_call0_cst, K_main_call0_cst_0, A_main_v154, A_main_v153, A_main_v149, A_main_v147, A_main_v146, A_main_v143, A_main_v142, A_main_v141, A_main_v140, A_main_v138, A_main_v137, A_main_v136, K_main_v139, K_main_v148, K_main_v152, K_main_cst_9, K_main_cst_10, K_main_cst_12, K_main_cst_13, K_main_cst_14]

theorem v179_apply (r : Fin 8192) (h : Fin 8) (x : Fin 1) : A_main_v179 p w o st y (ix3 r h x)
    = refS ((dataOf p w o st y).oRow h r) (ga ((dataOf p w o st y).gRow h r) ((dataOf p w o st y).yRow h r) ((dataOf p w o st y).wRow h)) := by
  obtain rfl : x = 0 := Subsingleton.elim _ _
  unfold refS ga sl rs var xc c512 eps mhalf Data.gRow Data.yRow Data.wRow Data.oRow colOf dataOf
  pointwise [A_main_v179, A_main_v157, K_main_v156, K_main_cst_15, A_main_v176, A_main_v175, A_main_v174, K_main_cst_17, A_main_v155, A_main_v151, A_main_v150, A_main_v173, A_main_v172, A_main_v171, A_main_v165, A_main_v163_0, A_main_v163_2, A_main_v71, A_main_call0_v3, A_main_call0_v1, A_main_call0_v0, K_main_call0_v2, K_main_call0_v4, K_main_call0_cst, K_main_call0_cst_0, A_main_v154, A_main_v153, A_main_v149, A_main_v147, A_main_v146, A_main_v143, A_main_v142, A_main_v141, A_main_v140, A_main_v138, A_main_v137, A_main_v136, K_main_v139, K_main_v148, K_main_v152, K_main_cst_9, K_main_cst_10, K_main_cst_12, K_main_cst_13, K_main_cst_14]

theorem v145_apply (r : Fin 8192) (h : Fin 8) (u : Fin 512) : A_main_v145 p w o st y (ix3 r h u)
    = two * xc ((dataOf p w o st y).oRow h r) u := by
  unfold xc c512 two Data.oRow colOf dataOf
  pointwise [A_main_v145, K_main_v144, K_main_cst_11, A_main_v142, A_main_v141, A_main_v140, A_main_v138, A_main_v137, A_main_v136, K_main_v139, K_main_cst_9, K_main_cst_10]

/-- The gate, the incoming gradient and the weights of every row and head are real. -/
structure _root_.Cert.Ret.Data.Real (A : Data) : Prop where
  g : ∀ h r, Fin' (A.gRow h r)
  y : ∀ h r, Fin' (A.yRow h r)
  w : ∀ h, Fin' (A.wRow h)

theorem do_agrees (hr : (dataOf p w o st y).Real) : DoAgrees p w o st y := by
  intro r h u
  unfold Data.doRow
  rw [← refDo_eq _ _ _ _ (hr.g h r) (hr.y h r) (hr.w h) u]
  unfold refDo
  pointwise [A_main_v197, A_main_v196, A_main_v195, A_main_v194, A_main_v192, A_main_v191, A_main_v190, A_main_v189, A_main_v188, A_main_v187, A_main_v186, A_main_v185, A_main_v184, A_main_v182, A_main_v181, A_main_v180, K_main_v183, K_main_v193, K_main_cst_19, K_main_cst_22, K_main_cst_20, K_main_cst_23, K_main_cst_21, K_main_cst_18]
  simp only [v178_apply, v179_apply, v145_apply, Fin.sum_univ_one, c512]

end Cert.ReferenceIdeal.Step

end
-- ==== Proof.Val.RefOut.lean ====
/- The reference's results in the plain form of its data. -/
module

public import proofs.«01_k».proof.Proof.Val.RefDo

@[expose] public section

set_option maxRecDepth 16384

noncomputable section

namespace Cert.ReferenceIdeal.Step

open Idealize.ShloMosaic Cert.ReferenceIdeal Cert.ReferenceIdeal.Step
open scoped BigOperators
open Cert.Ret
open Cert.ReferenceIdeal.Gen

variable (p : (⟨S8192x12288, .f32⟩ : BufTy).Contents (Elt Ideal)) (w : (⟨S1x4096, .f32⟩ : BufTy).Contents (Elt Ideal))
  (o : (⟨S8192x4096, .f32⟩ : BufTy).Contents (Elt Ideal)) (st : (⟨S128x8x256x512, .bf16⟩ : BufTy).Contents (Elt Ideal))
  (y : (⟨S8192x4096, .f32⟩ : BufTy).Contents (Elt Ideal))

section Pieces
variable (s : State Ideal) (c : Fin 128) (l : Fin 64) (h : Fin 8)

theorem out_q (d : Fin 256) (C : Fin 12288) (hC : C.val = h.val * 256 + d.val) :
    R_main_v447 s p w o y (ix2 (rowOf c l) C)
      = unrot (fun e => s.main_v207_7 (ix4 c l h e)) (cosT (rowOf c l)) (sinT (rowOf c l)) d := by
  unfold unrot cosT sinT angle num rowOf
  pointwise [R_main_v447]
  have e1 : C.val < 2048 := by omega
  have e2 : C.val / 256 = h.val := by omega
  have e3 : C.val % 256 = d.val := by omega
  rw [dif_pos e1]
  simp only [e2, e3, Fin.eta]
  have hc : c.val * 64 + l.val < 8192 := by omega
  have hh : h.val < 8 := h.isLt
  have hd : d.val - 128 < 128 := by omega
  by_cases h1 : d.val < 128
  · have h2 : ¬ 128 ≤ d.val := by omega
    simp only [h1, h2, hc, hh, and_true, true_and, and_false, false_and, dite_true, dite_false, zero_add]
    exact add_comm _ _
  · have h2 : 128 ≤ d.val := by omega
    have e : 128 + (d.val - 128) = d.val := by omega
    simp only [h1, h2, hc, hh, hd, e, Fin.eta, and_true, true_and, and_false, false_and, dite_true, dite_false, add_zero, sub_eq_add_neg, EReal.neg_mul]

theorem out_k (d : Fin 256) (C : Fin 12288) (hC : C.val = 2048 + (h.val * 256 + d.val)) :
    R_main_v447 s p w o y (ix2 (rowOf c l) C)
      = unrot (fun e => s.main_v207_8 (ix4 c l h e) * kappa) (cosT (rowOf c l)) (sinT (rowOf c l)) d := by
  unfold unrot cosT sinT angle num rowOf kappa
  pointwise [R_main_v447]
  have e1 : ¬ C.val < 2048 := by omega
  have e1' : C.val - 2048 < 2048 := by omega
  have e2 : (C.val - 2048) / 256 = h.val := by omega
  have e3 : (C.val - 2048) % 256 = d.val := by omega
  rw [dif_neg e1, dif_pos e1']
  simp only [e2, e3, Fin.eta]
  have hc : c.val * 64 + l.val < 8192 := by omega
  have hh : h.val < 8 := h.isLt
  have hd : d.val - 128 < 128 := by omega
  by_cases h1 : d.val < 128
  · have h2 : ¬ 128 ≤ d.val := by omega
    simp only [h1, h2, hc, hh, and_true, true_and, and_false, false_and, dite_true, dite_false, zero_add]
    exact add_comm _ _
  · have h2 : 128 ≤ d.val := by omega
    have e : 128 + (d.val - 128) = d.val := by omega
    simp only [h1, h2, hc, hh, hd, e, Fin.eta, and_true, true_and, and_false, false_and, dite_true, dite_false, add_zero, sub_eq_add_neg, EReal.neg_mul]

theorem out_v (u : Fin 512) (C : Fin 12288) (hC : C.val = 4096 + (h.val * 512 + u.val)) :
    R_main_v447 s p w o y (ix2 (rowOf c l) C) = s.main_v207_9 (ix4 c l h u) := by
  unfold rowOf
  pointwise [R_main_v447]
  have e1 : ¬ C.val < 2048 := by omega
  have e1' : ¬ C.val - 2048 < 2048 := by omega
  have e1'' : C.val - 2048 - 2048 < 4096 := by omega
  have e2 : (C.val - 2048 - 2048) / 512 = h.val := by omega
  have e3 : (C.val - 2048 - 2048) % 512 = u.val := by omega
  rw [dif_neg e1, dif_neg e1', dif_pos e1'']
  exact congrArg₂ (fun a b => s.main_v207_9 (ix4 c l a b)) (Fin.ext e2) (Fin.ext e3)

theorem out_g (hr : (dataOf p w o st y).Real) (u : Fin 512) (C : Fin 12288) (hC : C.val = 8192 + (h.val * 512 + u.val)) :
    R_main_v447 s p w o y (ix2 (rowOf c l) C)
      = dgate ((dataOf p w o st y).oRow h (rowOf c l)) ((dataOf p w o st y).gRow h (rowOf c l))
          ((dataOf p w o st y).yRow h (rowOf c l)) ((dataOf p w o st y).wRow h) u := by
  rw [← dgate_eq _ _ _ _ (hr.g h _) (hr.y h _) (hr.w h) u]
  unfold sl oh rs xc c512 eps Data.gRow Data.yRow Data.wRow Data.oRow colOf dataOf rowOf
  pointwise [R_main_v447]
  have e1 : ¬ C.val < 2048 := by omega
  have e1' : ¬ C.val - 2048 < 2048 := by omega
  have e1'' : ¬ C.val - 2048 - 2048 < 4096 := by omega
  have e4 : C.val - 2048 - 2048 - 4096 = h.val * 512 + u.val := by omega
  have e5 : (h.val * 512 + u.val) / 512 = h.val := by omega
  have e6 : (h.val * 512 + u.val) % 512 = u.val := by omega
  rw [dif_neg e1, dif_neg e1', dif_neg e1'']
  simp only [e4, e5, e6]

theorem out_gw (hr : (dataOf p w o st y).Real) (u : Fin 512) :
    R_main_v310 s p o y (ix2 0 (colOf h u))
      = ∑ r, dn ((dataOf p w o st y).gRow h r) ((dataOf p w o st y).yRow h r) u * oh ((dataOf p w o st y).oRow h r) u := by
  have e : ∀ r, dn ((dataOf p w o st y).gRow h r) ((dataOf p w o st y).yRow h r) u * oh ((dataOf p w o st y).oRow h r) u
      = oh ((dataOf p w o st y).oRow h r) u * ((dataOf p w o st y).gRow h r u * sl ((dataOf p w o st y).gRow h r u) * (dataOf p w o st y).yRow h r u) :=
    fun r => by rw [dn_eq _ _ (hr.g h r), mul_comm]
  simp only [e]
  unfold sl oh rs xc c512 eps Data.gRow Data.yRow Data.oRow colOf dataOf
  pointwise [R_main_v310]
end Pieces

end Cert.ReferenceIdeal.Step

end
-- ==== Proof.Join.lean ====
/- The kernel's two results are the reference's. -/
module

public import proofs.«01_k».proof.Proof.Frames
public import proofs.«01_k».proof.Proof.Val.LoopRun
public import proofs.«01_k».proof.Proof.Val.Finite
public import proofs.«01_k».proof.Proof.Val.KNorm
public import proofs.«01_k».proof.Proof.Val.RefOut

@[expose] public section

set_option maxRecDepth 16384

noncomputable section

namespace Cert.Proof

open Idealize.ShloMosaic Idealize.SL.Sem
open Cert.Ret Cert.KernelIdeal.Ret
open Cert.ReferenceIdeal.Step (dataOf states after_states out_q out_k out_v out_g out_gw do_agrees R_main_v447 R_main_v310)

section
variable (m : (ℓ : Loc Cert.KernelIdeal.nD Cert.KernelIdeal.τ Cert.KernelIdeal.sig) → Buf (Elt Ideal) ℓ) (c : Dev Cert.KernelIdeal.nD)
  (p : (⟨Cert.ReferenceIdeal.S8192x12288, .f32⟩ : BufTy).Contents (Elt Ideal)) (w : (⟨Cert.ReferenceIdeal.S1x4096, .f32⟩ : BufTy).Contents (Elt Ideal))
  (o : (⟨Cert.ReferenceIdeal.S8192x4096, .f32⟩ : BufTy).Contents (Elt Ideal)) (st : (⟨Cert.ReferenceIdeal.S128x8x256x512, .bf16⟩ : BufTy).Contents (Elt Ideal))
  (y : (⟨Cert.ReferenceIdeal.S8192x4096, .f32⟩ : BufTy).Contents (Elt Ideal))

/-- Under the precondition the arrays that meet in the gate's gradient are real. -/
theorem real_of_pre (h1 : (Cert.Pre_finite_gradient_and_gate.fn (F := Ideal) p w o st y).1 = fun _ => 1#1)
    (h2 : (Cert.Pre_finite_gradient_and_gate.fn (F := Ideal) p w o st y).2.1 = fun _ => 1#1)
    (h3 : (Cert.Pre_finite_gradient_and_gate.fn (F := Ideal) p w o st y).2.2 = fun _ => 1#1) : (dataOf p w o st y).Real where
  g h r := by
    have e : ∀ x : Fin 512, ∃ a : ℝ, (dataOf p w o st y).gRow h r x = (a : EReal) := fun x =>
      Cert.Pre_finite_gradient_and_gate.real_g p w o st y h3 r (colOf h x) _ rfl
    choose a ha using e
    exact ⟨a, funext ha⟩
  y h r := by
    have e : ∀ x : Fin 512, ∃ a : ℝ, (dataOf p w o st y).yRow h r x = (a : EReal) := fun x =>
      Cert.Pre_finite_gradient_and_gate.real_y p w o st y h1 r (colOf h x)
    choose a ha using e
    exact ⟨a, funext ha⟩
  w h := by
    have e : ∀ x : Fin 512, ∃ a : ℝ, (dataOf p w o st y).wRow h x = (a : EReal) := fun x =>
      Cert.Pre_finite_gradient_and_gate.real_w p w o st y h2 (colOf h x)
    choose a ha using e
    exact ⟨a, funext ha⟩

/-- Every row is some chunk's. -/
theorem row_of (r : Fin 8192) : ∃ (k : Fin 128) (l : Fin 64), r = rowOf k l :=
  ⟨⟨r.val / 64, by omega⟩, ⟨r.val % 64, Nat.mod_lt _ (by decide)⟩, Fin.ext (by show r.val = r.val / 64 * 64 + r.val % 64; omega)⟩

variable (hd : dataK m c = dataOf p w o st y) (hr : (dataOf p w o st y).Real)
include hd hr

/-- The projection's gradient. -/
theorem proj_eq : (assembled (wrote m c) : Cert.KernelIdeal.S8192x12288.Idx → EReal) = R_main_v447 (states p w o st y 128) p w o y := by
  funext i
  obtain ⟨k, l, hrow⟩ := row_of (i 0)
  have hC : (i 1).val < 12288 := (i 1).isLt
  have hA := after_states p w o st y (do_agrees p w o st y hr) 128 le_rfl
  have hk : 127 - k.val < 128 := by omega
  have ei : i = ix2 (rowOf k l) (i 1) := by
    funext a
    match a with
    | ⟨0, _⟩ => exact hrow
    | ⟨1, _⟩ => rfl
  rw [ei]
  rcases Nat.lt_or_ge (i 1).val 2048 with h1 | h1
  · have e : (i 1).val = (⟨(i 1).val / 256, by omega⟩ : Fin 8).val * 256 + (⟨(i 1).val % 256, Nat.mod_lt _ (by decide)⟩ : Fin 256).val := by
      show (i 1).val = (i 1).val / 256 * 256 + (i 1).val % 256; omega
    refine (arr_q m c _ k l _ _ e).trans (Eq.trans ?_ (out_q p w o y _ k l _ _ _ e).symm)
    rw [hd]
    exact congrArg (fun f => unrot f _ _ _) (funext fun x => (hA.d7 k l _ x hk).symm)
  rcases Nat.lt_or_ge (i 1).val 4096 with h2 | h2
  · have e : (i 1).val = 2048 + ((⟨((i 1).val - 2048) / 256, by omega⟩ : Fin 8).val * 256 + (⟨((i 1).val - 2048) % 256, Nat.mod_lt _ (by decide)⟩ : Fin 256).val) := by
      show (i 1).val = 2048 + (((i 1).val - 2048) / 256 * 256 + ((i 1).val - 2048) % 256); omega
    refine (arr_k m c _ k l _ _ e).trans (Eq.trans ?_ (out_k p w o y _ k l _ _ _ e).symm)
    rw [hd]
    exact congrArg (fun f => unrot f _ _ _) (funext fun x => congrArg (fun s : EReal => s * kappa) (hA.d8 k l _ x hk).symm)
  rcases Nat.lt_or_ge (i 1).val 8192 with h3 | h3
  · have e : (i 1).val = 4096 + ((⟨((i 1).val - 4096) / 512, by omega⟩ : Fin 8).val * 512 + (⟨((i 1).val - 4096) % 512, Nat.mod_lt _ (by decide)⟩ : Fin 512).val) := by
      show (i 1).val = 4096 + (((i 1).val - 4096) / 512 * 512 + ((i 1).val - 4096) % 512); omega
    refine (arr_v m c _ k l _ _ e).trans (Eq.trans ?_ (out_v p w o y _ k l _ _ _ e).symm)
    rw [hd]
    exact (hA.d9 k l _ _ hk).symm
  · have e : (i 1).val = 8192 + ((⟨((i 1).val - 8192) / 512, by omega⟩ : Fin 8).val * 512 + (⟨((i 1).val - 8192) % 512, Nat.mod_lt _ (by decide)⟩ : Fin 512).val) := by
      show (i 1).val = 8192 + (((i 1).val - 8192) / 512 * 512 + ((i 1).val - 8192) % 512); omega
    refine (arr_g m c _ k l _ _ e).trans (Eq.trans ?_ (out_g p w o st y _ k l _ hr _ _ e).symm)
    rw [hd]

/-- The norm weights' gradient. -/
theorem norm_eq : (sums m c : Cert.KernelIdeal.S1x4096.Idx → EReal) = R_main_v310 (states p w o st y 128) p o y := by
  funext i
  have hC : (i 1).val < 4096 := (i 1).isLt
  have h0 : (i 0).val < 1 := (i 0).isLt
  have e : (i 1).val = (⟨(i 1).val / 512, by omega⟩ : Fin 8).val * 512 + (⟨(i 1).val % 512, Nat.mod_lt _ (by decide)⟩ : Fin 512).val := by
    show (i 1).val = (i 1).val / 512 * 512 + (i 1).val % 512; omega
  have ei : i = ix2 (0 : Fin 1) (colOf ⟨(i 1).val / 512, by omega⟩ ⟨(i 1).val % 512, Nat.mod_lt _ (by decide)⟩) := by
    funext a
    apply Fin.ext
    match a with
    | ⟨0, _⟩ => show (i 0).val = 0; omega
    | ⟨1, _⟩ => exact e
  refine (sums_at m c _ _ i e).trans (Eq.trans ?_ (congrArg _ ei).symm)
  refine Eq.trans ?_ (out_gw p w o st y _ _ hr _).symm
  unfold term
  rw [hd]

end

/-! ## The claims -/

theorem frame_kernelIdeal_pre : Cert.quiescent_KernelIdeal_pre_finite_gradient_and_gate := fun m ρ _ => Cert.KernelIdeal.Ret.frame m ρ

theorem frame_reference_pre : Cert.quiescent_ReferenceIdeal_pre_finite_gradient_and_gate := fun m ρ _ => frame_reference m ρ trivial

/-- Both programs compute the same two gradients. -/
theorem same_gradients : Cert.algebraic_KernelIdeal_ReferenceIdeal_pre_finite_gradient_and_gate := by
  intro m g m' g' hpre hag
  refine ⟨fun c => assembled (wrote m c), fun c => sums m c, ?_, ?_⟩
  · refine (θ_run Cert.KernelIdeal.defs _ _).mono (fun r h c => ?_) (Cert.KernelIdeal.Ret.run_main (F := Ideal) m g)
    obtain ⟨h0, h1, h2, h3, h4, h5, h6⟩ := h.1 c
    exact ⟨h5, h6.trans (arr_gw m c), h0, h1, h2, h3, h4⟩
  · refine (θ_run Cert.ReferenceIdeal.defs _ _).mono (fun r h c => ?_)
      (Cert.ReferenceIdeal.LoopRun.run_iter (F := Ideal) m' g'
        (fun c => states (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)))
        (fun _ => rfl) (fun _ _ => rfl))
    obtain ⟨e0, e1, e2, e3, e4⟩ := hag c
    obtain ⟨p1, p2, p3⟩ := hpre c
    obtain ⟨h0, h1, h2⟩ := h c
    have hr := real_of_pre _ _ _ _ _ p1 p2 p3
    refine ⟨h0.trans ?_, h1.trans ?_, h2⟩
    · rw [e0, e1, e2, e3, e4]
      exact (proj_eq m c _ _ _ _ _ rfl hr).symm
    · rw [e0, e1, e2, e3, e4]
      exact (norm_eq m c _ _ _ _ _ rfl hr).symm

end Cert.Proof

end
-- ==== Proof.Mlp.Run.lean ====
/- The two launches of the multiplication kernel on the squared-relu path, run one after the other: what every
   unscoped buffer holds when the program returns. -/
module

public import proofs.«01_k».proof.Proof.Gen.MlpIdeal.Frame

@[expose] public section

set_option maxRecDepth 16384

noncomputable section

namespace Cert.MlpIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end, with every unscoped buffer at what the fold over its segments leaves and every
    semaphore counter at zero. -/
theorem run_buffers : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c b hb => h c b hb, funext fun g => hz g (.inr (no_unscoped g.2))⟩)

/-- The result and the arguments when the program returns. -/
theorem run_result : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h.1 c _ (mem_uc main_v6 (by decide))).trans (W3_arr m ρ c 3),
     (h.1 c _ (mem_uc main_arg0 (by decide))).trans (W3_main_arg0 m ρ c),
     (h.1 c _ (mem_uc main_arg1 (by decide))).trans (W3_main_arg1 m ρ c),
     (h.1 c _ (mem_uc main_arg2 (by decide))).trans (W3_main_arg2 m ρ c),
     (h.1 c _ (mem_uc main_arg3 (by decide))).trans (W3_main_arg3 m ρ c)⟩) (run_buffers m ρ)

end Cert.MlpIdeal.Val

end
-- ==== Proof.Mlp.Kern.lean ====
/- The arrays the two launches write, entry by entry. -/
module

public import proofs.«01_k».proof.Proof.Gen.MlpIdeal.Frame
public import Idealize.ShloMosaic.Lib.Pipeline.ValueKit

@[expose] public section

set_option maxRecDepth 16384

noncomputable section

namespace Cert.MlpIdeal.Val

open Idealize.ShloMosaic Idealize.ShloMosaic.TcCoe Idealize.ShloMosaic.Tactic
open Idealize.SL Idealize.SL.Sem
open Cert.MlpIdeal.Gen

variable (m : (ℓ : Loc nD τ sig) → Buf (Elt Ideal) ℓ) (ρ : Dev nD → PrngReg)

/-- Where a point's blocks lie in the first launch: a block row of the left operand, one of the right operand, and
    the block they meet at. -/
theorem index0 : ∀ t : Fin cfg0.N, win0_0.index t = ![(grid0.coords t 0).val, 0] ∧ win0_1.index t = ![(grid0.coords t 1).val, 0]
    ∧ win0_3.index t = ![(grid0.coords t 0).val, (grid0.coords t 1).val] :=
  (by decide +kernel : ∀ t : Fin grid0.N, _)

/-- The same of the second launch, whose third operand is cut as its result is. -/
theorem index1 : ∀ t : Fin cfg1.N, win1_0.index t = ![(grid1.coords t 0).val, 0] ∧ win1_1.index t = ![(grid1.coords t 1).val, 0]
    ∧ win1_2.index t = ![(grid1.coords t 0).val, (grid1.coords t 1).val]
    ∧ win1_3.index t = ![(grid1.coords t 0).val, (grid1.coords t 1).val] :=
  (by decide +kernel : ∀ t : Fin grid1.N, _)

/-- The activation before its square: the positive part of the product of the rows of `x` and the rows of `w`. -/
def act (x : FVec Ideal S8192x2048 .bf16) (w : FVec Ideal S8192x2048 .bf16) : FVec Ideal S8192x8192 .bf16 :=
  fun i => max (∑ k : Fin 2048, (x (ix2 (i 0) k) * w (ix2 (i 1) k) : EReal)) 0

/-- The gradient of the squared activation: the product of the rows of `d` and the rows of `w`, times twice `a`. -/
def back (d : FVec Ideal S8192x2048 .bf16) (w : FVec Ideal S8192x2048 .bf16) (a : FVec Ideal S8192x8192 .bf16) :
    FVec Ideal S8192x8192 .bf16 :=
  fun i => (∑ k : Fin 2048, (d (ix2 (i 0) k) * w (ix2 (i 1) k) : EReal)) * (2 * a i)

/-- The constant the second launch doubles the activation by. -/
theorem two_eq : Ideal.ofBits .f32 0x40000000#32 = 2 := by
  rw [show (2 : EReal) = ((2 : ℝ) : EReal) by norm_cast]
  simp [Ideal.ofBits, Ideal.ieee, -EReal.coe_mul]
  norm_num

/-- What the first launch leaves in its second result. -/
theorem act_array (c : Dev nD) : (dat0 (V1 m ρ) c).arrAt 3 cfg0.N = act (V1 m ρ c main_v3) (V1 m ρ c main_v1) := by
  refine (dat0 (V1 m ρ) c).arrAt_eq_of_covers 3 _ (by decide +kernel) fun t hf y => ?_
  blk_simp
  rw [after0_3]
  frame_out
  pointwise [k0_pay3, k0_pay1, act]
  blk_point [iblk0, index0 t]

/-- What the second launch leaves in its result. -/
theorem back_array (c : Dev nD) : (dat1 (V2 m ρ) c).arrAt 3 cfg1.N
    = back (V2 m ρ c main_v4) (V2 m ρ c main_v2) (V2 m ρ c (Pipeline.arrRef spec1 2)) := by
  refine (dat1 (V2 m ρ) c).arrAt_eq_of_covers 3 _ (by decide +kernel) fun t hf y => ?_
  blk_simp
  rw [after1_3]
  frame_out
  pointwise [k1_pay1, back]
  rw [two_eq]
  blk_point [iblk1, index1 t]

end Cert.MlpIdeal.Val

end
-- ==== Proof.Mlp.Ref.lean ====
/- The problem's lines for the same gradient: what the run of the host operations leaves. -/
module

public import proofs.«01_k».proof.Proof.Gen.MlpReferenceIdeal
public import Idealize.ShloMosaic.Lib.Claim
public import Idealize.ShloMosaic.Lib.Pipeline.ValueKit

@[expose] public section

set_option maxRecDepth 16384

noncomputable section

namespace Cert.MlpReferenceIdeal.Val

open Idealize.ShloMosaic Idealize.ShloMosaic.TcCoe Idealize.ShloMosaic.Tactic
open Idealize.SL Idealize.SL.Sem
open Cert.MlpReferenceIdeal

attribute [local instance] Cert.MlpReferenceIdeal.Gen.facts

variable (m : (ℓ : Loc nD τ sig) → Buf (Elt Ideal) ℓ) (ρ : Dev nD → PrngReg)

/-- The gradient before the squared activation, from the four arguments: with `p` the product and `h` its positive
    part, where `p` is positive the two halves of the derivative of `h * h`, and zero elsewhere. -/
def grad (u : FVec Ideal S8192x2048 .f32) (wu : FVec Ideal S2048x8192 .f32) (wd : FVec Ideal S8192x2048 .f32)
    (ct : FVec Ideal S8192x2048 .f32) : FVec Ideal S8192x8192 .bf16 := fun i =>
  let p : EReal := ∑ k : Fin 2048, (u (ix2 (i 0) k) * wu (ix2 k (i 1)) : EReal)
  let t : EReal := ∑ k : Fin 2048, (ct (ix2 (i 0) k) * wd (ix2 (i 1) k) : EReal)
  if 0 < p then max p 0 * t + t * max p 0 else 0

/-- The run of the lines: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v15) = grad (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  funext i
  simp only [StableHlo.TRef.toBuf, StableHlo.TRef.ofBuf, cast_eq]
  pointwise! [grad]

/-- The lines run to the end, with the arguments as they were and every semaphore counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run_result m ρ)

end Cert.MlpReferenceIdeal.Val

end
-- ==== Proof.Mlp.Join.lean ====
/- The squared-relu path: its frames, and the gradient of the two launches against that of the problem's lines. -/
module

public import proofs.«01_k».proof.Defs
public import proofs.«01_k».proof.Proof.Gen.Mlp.Frame
public import proofs.«01_k».proof.Proof.Mlp.Run
public import proofs.«01_k».proof.Proof.Mlp.Kern
public import proofs.«01_k».proof.Proof.Mlp.Ref

@[expose] public section

set_option maxRecDepth 16384

noncomputable section

namespace Cert.MlpIdeal.Val

open Idealize.ShloMosaic Idealize.ShloMosaic.TcCoe Idealize.ShloMosaic.Tactic
open Idealize.SL Idealize.SL.Sem
open Cert.MlpIdeal.Gen

variable (m : (ℓ : Loc nD τ sig) → Buf (Elt Ideal) ℓ) (ρ : Dev nD → PrngReg)

/-- The left operand of the first launch is the first argument. -/
theorem left0 (c : Dev nD) : V1 m ρ c main_v3 = m ((c : Thread nD τ).loc main_arg0) := by
  unfold_abbrev_sides
  after_results
  rfl

/-- Its right operand is the second argument, transposed. -/
theorem right0 (c : Dev nD) (r : Fin 8192) (k : Fin 2048) :
    V1 m ρ c main_v1 (ix2 r k) = m ((c : Thread nD τ).loc main_arg1) (ix2 k r) := by
  unfold_abbrev_sides
  after_results
  pointwise

/-- The left operand of the second launch is the last argument. -/
theorem left1 (c : Dev nD) : V2 m ρ c main_v4 = m ((c : Thread nD τ).loc main_arg3) := by
  refine (W2_of m ρ c main_v4 (by decide +kernel)).trans ?_
  unfold_abbrev_sides
  after_results
  rfl

/-- Its right operand is the third argument. -/
theorem right1 (c : Dev nD) : V2 m ρ c main_v2 = m ((c : Thread nD τ).loc main_arg2) := by
  refine (W2_of m ρ c main_v2 (by decide +kernel)).trans ?_
  unfold_abbrev_sides
  after_results
  rfl

/-- Its third operand is what the first launch left. -/
theorem third1 (c : Dev nD) : V2 m ρ c (Pipeline.arrRef spec1 2) = act (V1 m ρ c main_v3) (V1 m ρ c main_v1) :=
  (W2_arr m ρ c 3).trans (act_array m ρ c)

/-- A sum of two equal extended reals is twice the one. -/
theorem add_self (a : EReal) : a + a = 2 * a := by
  induction a with
  | bot => rw [EReal.mul_bot_of_pos (by norm_num)]; rfl
  | top => rw [EReal.mul_top_of_pos (by norm_num)]; rfl
  | coe x => rw [show (2 : EReal) = ((2 : ℝ) : EReal) by norm_cast, ← EReal.coe_add, ← EReal.coe_mul, two_mul]

/-- Twice the positive part times `t` is the derivative of the squared positive part along `t`. -/
theorem square_back (p t : EReal) : t * (2 * max p 0) = if 0 < p then max p 0 * t + t * max p 0 else 0 := by
  split
  · rw [mul_comm (max p 0) t, add_self, mul_left_comm]
  · rename_i h
    rw [max_eq_right (not_lt.mp h), mul_zero, mul_zero]

/-- The two launches leave the gradient of the problem's lines. -/
theorem result (c : Dev nD) : (dat1 (V2 m ρ) c).arrAt 3 cfg1.N
    = Cert.MlpReferenceIdeal.Val.grad (m ((c : Thread nD τ).loc main_arg0)) (m ((c : Thread nD τ).loc main_arg1))
        (m ((c : Thread nD τ).loc main_arg2)) (m ((c : Thread nD τ).loc main_arg3)) := by
  rw [back_array, third1, left1, right1, left0]
  funext i
  have e : ∀ k : Fin 2048, V1 m ρ c main_v1 (ix2 (i 1) k) = m ((c : Thread nD τ).loc main_arg1) (ix2 k (i 1)) :=
    fun k => right0 m ρ c (i 1) k
  refine (square_back _ _).trans ?_
  simp only [e]
  rfl

end Cert.MlpIdeal.Val

namespace Cert.Proof

open Idealize.ShloMosaic Idealize.SL.Sem

theorem frame_mlp : Cert.quiescent_Mlp (hMlp := Cert.Mlp.Gen.facts) := fun m ρ _ => Cert.Mlp.Gen.frame m ρ

theorem frame_mlpIdeal : Cert.quiescent_MlpIdeal (hMlpIdeal := Cert.MlpIdeal.Gen.facts) :=
  fun m ρ _ => Cert.MlpIdeal.Gen.frame m ρ

theorem frame_mlpReference : Cert.quiescent_MlpReferenceIdeal (hMlpReferenceIdeal := Cert.MlpReferenceIdeal.Gen.facts) :=
  fun m ρ _ => Cert.MlpReferenceIdeal.Val.frame m ρ

/-- The gradient before the squared relu is that of the problem's lines, whatever the arguments. -/
theorem same_mlp : Cert.algebraic_MlpIdeal_MlpReferenceIdeal (hMlpIdeal := Cert.MlpIdeal.Gen.facts)
    (hMlpReferenceIdeal := Cert.MlpReferenceIdeal.Gen.facts) := by
  intro m g m' g' _ hagree
  refine ⟨_, Cert.MlpIdeal.Val.run_result m g, ?_⟩
  refine (θ_run _ _ _).mono (fun r h c => ⟨(h c).1.trans ?_, (h c).2⟩) (Cert.MlpReferenceIdeal.Val.run_result m' g')
  rw [Cert.MlpIdeal.Val.result, (hagree c).1, (hagree c).2.1, (hagree c).2.2.1, (hagree c).2.2.2]

end Cert.Proof

end
-- ==== Proof.Products.Down.lean ====
/- The product of the last layer's second matrix: its blocks' sums over the runs of the grid, against the problem's
   line. -/
module

public import proofs.«01_k».proof.Defs
public import proofs.«01_k».proof.Proof.Gen.Down.Frame
public import proofs.«01_k».proof.Proof.Gen.DownIdeal.Frame
public import proofs.«01_k».proof.Proof.Gen.DownReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DownIdeal.Val

open Idealize.ShloMosaic Idealize.ShloMosaic.TcCoe Idealize.ShloMosaic.Tactic
open Idealize.SL Idealize.SL.Sem
open Cert.DownIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- The product. -/
def prod (x : FVec Ideal S8192x8192 .bf16) (w : FVec Ideal S8192x2048 .bf16) : FVec Ideal S8192x2048 .f32 :=
  fun i => ∑ k : Fin 8192, (x (ix2 (i 0) k) * w (ix2 k (i 1)) : EReal)

/-- An entry of the product. -/
theorem prod_apply (x : FVec Ideal S8192x8192 .bf16) (w : FVec Ideal S8192x2048 .bf16) (i : S8192x2048.Idx) :
    prod x w i = ∑ k : Fin 8192, (x (ix2 (i 0) k) * w (ix2 k (i 1)) : EReal) := rfl

/-- What a run's first point stores: the part of the product over its stretch of the contraction. -/
theorem part_first (x : Vec Ideal S1024x2048 .bf16) (w : Vec Ideal S2048x1024 .bf16) (j : S1024x1024.Idx) :
    k0_pay2 (F := Ideal) x w j = ∑ k : Fin 2048, (x (ix2 (j 0) k) * w (ix2 k (j 1)) : EReal) := by
  pointwise [k0_pay2, k0_pay1]

/-- What a later point stores: what was there, and its part. -/
theorem part_later (x : Vec Ideal S1024x2048 .bf16) (w : Vec Ideal S2048x1024 .bf16) (a : Vec Ideal S1024x1024 .f32)
    (j : S1024x1024.Idx) :
    k0_pay3 (F := Ideal) x w a j = a j + ∑ k : Fin 2048, (x (ix2 (j 0) k) * w (ix2 k (j 1)) : EReal) := by
  pointwise [k0_pay3, k0_pay1]

/-- The scratch after a run's first point. -/
theorem scratch_first (c : Dev nD) (t : Fin cfg0.N) (h : t.val % 4 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 4 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  by_cases h3 : t.val % 4 = 3
  · rw [outsAt0_C m c t h (by omega) h3]
    frame_out
    rw [read_unread_whole]
  · rw [outsAt0_B m c t h (by omega) h3]
    frame_out
    rw [read_unread_whole]

/-- The result's block after a run's last point is the scratch. -/
theorem block_last (c : Dev nD) (t : Fin cfg0.N) (h : t.val % 4 = 3) (j : S1024x1024.Idx) :
    (outsAt0 m c t.val t.isLt).1 j = (outsAt0 m c t.val t.isLt).2 j := by
  rw [scratch_later m c t (by omega) j, outsAt0_C m c t (by omega) (by omega) h]
  frame_out
  rw [read_unread_whole]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 4 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.DownIdeal.Val

namespace Cert.DownReferenceIdeal.Val

open Idealize.ShloMosaic Idealize.ShloMosaic.TcCoe Idealize.ShloMosaic.Tactic
open Idealize.SL Idealize.SL.Sem
open Cert.DownReferenceIdeal

attribute [local instance] Cert.DownReferenceIdeal.Gen.facts

variable (m : (ℓ : Loc nD τ sig) → Buf (Elt Ideal) ℓ) (ρ : Dev nD → PrngReg)

/-- The run of the line: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.DownIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DownIdeal.Val.prod]

end Cert.DownReferenceIdeal.Val

namespace Cert.Proof

open Idealize.ShloMosaic Idealize.SL.Sem

theorem frame_down : Cert.quiescent_Down (hDown := Cert.Down.Gen.facts) := fun m ρ _ => Cert.Down.Gen.frame m ρ

theorem frame_downIdeal : Cert.quiescent_DownIdeal (hDownIdeal := Cert.DownIdeal.Gen.facts) :=
  fun m ρ _ => Cert.DownIdeal.Gen.frame m ρ

theorem frame_downReference : Cert.quiescent_DownReferenceIdeal (hDownReferenceIdeal := Cert.DownReferenceIdeal.Gen.facts) :=
  fun m ρ _ => (θ_run _ _ _).mono (fun r h => ⟨fun c => (h c).2, sem_eq_zero_of_no_sems (by decide) r.2⟩)
    (Cert.DownReferenceIdeal.Val.run_result m ρ)

/-- The launch's product is the line's, whatever the arguments. -/
theorem same_down : Cert.algebraic_DownIdeal_DownReferenceIdeal (hDownIdeal := Cert.DownIdeal.Gen.facts)
    (hDownReferenceIdeal := Cert.DownReferenceIdeal.Gen.facts) := by
  intro m g m' g' _ hagree
  refine ⟨_, Cert.DownIdeal.Val.run_result m g, ?_⟩
  refine (θ_run _ _ _).mono (fun r h c => ⟨(h c).1.trans ?_, (h c).2⟩) (Cert.DownReferenceIdeal.Val.run_result m' g')
  rw [(hagree c).1, (hagree c).2]

end Cert.Proof

end
-- ==== Proof.Products.Gdown.lean ====
/- The gradient of the last layer's second matrix: its blocks' sums over the runs of the grid, against the problem's
   lines. -/
module

public import proofs.«01_k».proof.Defs
public import proofs.«01_k».proof.Proof.Gen.Gdown.Frame
public import proofs.«01_k».proof.Proof.Gen.GdownIdeal.Frame
public import proofs.«01_k».proof.Proof.Gen.GdownReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GdownIdeal.Val

open Idealize.ShloMosaic Idealize.ShloMosaic.TcCoe Idealize.ShloMosaic.Tactic
open Idealize.SL Idealize.SL.Sem
open Cert.GdownIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The product, along the rows of both. -/
def prod (x : FVec Ideal S8192x8192 .bf16) (w : FVec Ideal S8192x2048 .bf16) : FVec Ideal S8192x2048 .f32 :=
  fun i => ∑ k : Fin 8192, (x (ix2 k (i 0)) * w (ix2 k (i 1)) : EReal)

/-- An entry of the product. -/
theorem prod_apply (x : FVec Ideal S8192x8192 .bf16) (w : FVec Ideal S8192x2048 .bf16) (i : S8192x2048.Idx) :
    prod x w i = ∑ k : Fin 8192, (x (ix2 k (i 0)) * w (ix2 k (i 1)) : EReal) := rfl

/-- What a run's first point stores: the part of the product over its stretch of the contraction. -/
theorem part_first (x : Vec Ideal S4096x1024 .bf16) (w : Vec Ideal S4096x1024 .bf16) (j : S1024x1024.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x1024 .bf16) (w : Vec Ideal S4096x1024 .bf16) (a : Vec Ideal S1024x1024 .f32)
    (j : S1024x1024.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1024x1024.Idx) :
    (outsAt0 m c t.val t.isLt).1 j = (outsAt0 m c t.val t.isLt).2 j := by
  rw [scratch_later m c t (by omega) j, outsAt0_B m c t (by omega) (by omega) h]
  frame_out
  rw [read_unread_whole]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.GdownIdeal.Val

namespace Cert.GdownReferenceIdeal.Val

open Idealize.ShloMosaic Idealize.ShloMosaic.TcCoe Idealize.ShloMosaic.Tactic
open Idealize.SL Idealize.SL.Sem
open Cert.GdownReferenceIdeal

attribute [local instance] Cert.GdownReferenceIdeal.Gen.facts

variable (m : (ℓ : Loc nD τ sig) → Buf (Elt Ideal) ℓ) (ρ : Dev nD → PrngReg)

/-- The run of the lines: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v1)
        = Cert.GdownIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GdownIdeal.Val.prod]

end Cert.GdownReferenceIdeal.Val

namespace Cert.Proof

open Idealize.ShloMosaic Idealize.SL.Sem

theorem frame_gdown : Cert.quiescent_Gdown (hGdown := Cert.Gdown.Gen.facts) := fun m ρ _ => Cert.Gdown.Gen.frame m ρ

theorem frame_gdownIdeal : Cert.quiescent_GdownIdeal (hGdownIdeal := Cert.GdownIdeal.Gen.facts) :=
  fun m ρ _ => Cert.GdownIdeal.Gen.frame m ρ

theorem frame_gdownReference : Cert.quiescent_GdownReferenceIdeal (hGdownReferenceIdeal := Cert.GdownReferenceIdeal.Gen.facts) :=
  fun m ρ _ => (θ_run _ _ _).mono (fun r h => ⟨fun c => (h c).2, sem_eq_zero_of_no_sems (by decide) r.2⟩)
    (Cert.GdownReferenceIdeal.Val.run_result m ρ)

/-- The launch's product is the lines', whatever the arguments. -/
theorem same_gdown : Cert.algebraic_GdownIdeal_GdownReferenceIdeal (hGdownIdeal := Cert.GdownIdeal.Gen.facts)
    (hGdownReferenceIdeal := Cert.GdownReferenceIdeal.Gen.facts) := by
  intro m g m' g' _ hagree
  refine ⟨_, Cert.GdownIdeal.Val.run_result m g, ?_⟩
  refine (θ_run _ _ _).mono (fun r h c => ⟨(h c).1.trans ?_, (h c).2⟩) (Cert.GdownReferenceIdeal.Val.run_result m' g')
  rw [(hagree c).1, (hagree c).2]

end Cert.Proof

end
-- ==== Proof.Products.Du.lean ====
/- The gradient of the last layer's squared-relu path before its first matrix: its blocks' sums over the runs of the
   grid, against the problem's line. -/
module

public import proofs.«01_k».proof.Defs
public import proofs.«01_k».proof.Proof.Gen.Du.Frame
public import proofs.«01_k».proof.Proof.Gen.DuIdeal.Frame
public import proofs.«01_k».proof.Proof.Gen.DuReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DuIdeal.Val

open Idealize.ShloMosaic Idealize.ShloMosaic.TcCoe Idealize.ShloMosaic.Tactic
open Idealize.SL Idealize.SL.Sem
open Cert.DuIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The product. -/
def prod (x : FVec Ideal S8192x8192 .bf16) (w : FVec Ideal S8192x2048 .bf16) : FVec Ideal S8192x2048 .f32 :=
  fun i => ∑ k : Fin 8192, (x (ix2 (i 0) k) * w (ix2 k (i 1)) : EReal)

/-- An entry of the product. -/
theorem prod_apply (x : FVec Ideal S8192x8192 .bf16) (w : FVec Ideal S8192x2048 .bf16) (i : S8192x2048.Idx) :
    prod x w i = ∑ k : Fin 8192, (x (ix2 (i 0) k) * w (ix2 k (i 1)) : EReal) := rfl

/-- What a run's first point stores: the part of the product over its stretch of the contraction. -/
theorem part_first (x : Vec Ideal S1024x4096 .bf16) (w : Vec Ideal S4096x1024 .bf16) (j : S1024x1024.Idx) :
    k0_pay2 (F := Ideal) x w j = ∑ k : Fin 4096, (x (ix2 (j 0) k) * w (ix2 k (j 1)) : EReal) := by
  pointwise [k0_pay2, k0_pay1]

/-- What a later point stores: what was there, and its part. -/
theorem part_later (x : Vec Ideal S1024x4096 .bf16) (w : Vec Ideal S4096x1024 .bf16) (a : Vec Ideal S1024x1024 .f32)
    (j : S1024x1024.Idx) :
    k0_pay3 (F := Ideal) x w a j = a j + ∑ k : Fin 4096, (x (ix2 (j 0) k) * w (ix2 k (j 1)) : EReal) := by
  pointwise [k0_pay3, k0_pay1]

/-- The scratch after a run's first point. -/
theorem scratch_first (c : Dev nD) (t : Fin cfg0.N) (h : t.val % 2 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1024x1024.Idx) :
    (outsAt0 m c t.val t.isLt).1 j = (outsAt0 m c t.val t.isLt).2 j := by
  rw [scratch_later m c t (by omega) j, outsAt0_B m c t (by omega) (by omega) h]
  frame_out
  rw [read_unread_whole]

/-- What the launch leaves in its result. -/
theorem array (c : Dev nD) : (dats m 0 c).arrAt 2 cfg0.N = prod (V m c main_v0) (V m c main_v2) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument, transposed. -/
theorem right (c : Dev nD) (k : Fin 8192) (r : Fin 2048) :
    V m c main_v2 (ix2 k r) = m ((c : Thread nD τ).loc main_arg1) (ix2 r k) := by
  unfold_abbrev_sides
  after_results
  pointwise

/-- The product with the second matrix transposed. -/
def grad (x : FVec Ideal S8192x8192 .f32) (w : FVec Ideal S2048x8192 .f32) : FVec Ideal S8192x2048 .f32 :=
  fun i => ∑ k : Fin 8192, (x (ix2 (i 0) k) * w (ix2 (i 1) k) : EReal)

/-- The launch's product is that of the arguments. -/
theorem result (c : Dev nD) : prod (V m c main_v0) (V m c main_v2)
    = grad (m ((c : Thread nD τ).loc main_arg0)) (m ((c : Thread nD τ).loc main_arg1)) := by
  rw [left]
  funext i
  have e : ∀ k : Fin 8192, V m c main_v2 (ix2 k (i 1)) = m ((c : Thread nD τ).loc main_arg1) (ix2 (i 1) k) :=
    fun k => right m c k (i 1)
  rw [prod_apply]
  simp only [e]
  rfl

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (result m c)), h.2 c⟩)
    (θ_run_and (run_main m ρ) (unchanged m ρ))

end Cert.DuIdeal.Val

namespace Cert.DuReferenceIdeal.Val

open Idealize.ShloMosaic Idealize.ShloMosaic.TcCoe Idealize.ShloMosaic.Tactic
open Idealize.SL Idealize.SL.Sem
open Cert.DuReferenceIdeal

attribute [local instance] Cert.DuReferenceIdeal.Gen.facts

variable (m : (ℓ : Loc nD τ sig) → Buf (Elt Ideal) ℓ) (ρ : Dev nD → PrngReg)

/-- The run of the line: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.DuIdeal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DuIdeal.Val.grad]

end Cert.DuReferenceIdeal.Val

namespace Cert.Proof

open Idealize.ShloMosaic Idealize.SL.Sem

theorem frame_du : Cert.quiescent_Du (hDu := Cert.Du.Gen.facts) := fun m ρ _ => Cert.Du.Gen.frame m ρ

theorem frame_duIdeal : Cert.quiescent_DuIdeal (hDuIdeal := Cert.DuIdeal.Gen.facts) :=
  fun m ρ _ => Cert.DuIdeal.Gen.frame m ρ

theorem frame_duReference : Cert.quiescent_DuReferenceIdeal (hDuReferenceIdeal := Cert.DuReferenceIdeal.Gen.facts) :=
  fun m ρ _ => (θ_run _ _ _).mono (fun r h => ⟨fun c => (h c).2, sem_eq_zero_of_no_sems (by decide) r.2⟩)
    (Cert.DuReferenceIdeal.Val.run_result m ρ)

/-- The launch's product is the line's, whatever the arguments. -/
theorem same_du : Cert.algebraic_DuIdeal_DuReferenceIdeal (hDuIdeal := Cert.DuIdeal.Gen.facts)
    (hDuReferenceIdeal := Cert.DuReferenceIdeal.Gen.facts) := by
  intro m g m' g' _ hagree
  refine ⟨_, Cert.DuIdeal.Val.run_result m g, ?_⟩
  refine (θ_run _ _ _).mono (fun r h c => ⟨(h c).1.trans ?_, (h c).2⟩) (Cert.DuReferenceIdeal.Val.run_result m' g')
  rw [(hagree c).1, (hagree c).2]

end Cert.Proof

end
-- ==== Proof.Products.Gup.lean ====
/- The gradient of the last layer's first matrix: its blocks' sums over the runs of the grid, against the problem's
   lines. -/
module

public import proofs.«01_k».proof.Defs
public import proofs.«01_k».proof.Proof.Gen.Gup.Frame
public import proofs.«01_k».proof.Proof.Gen.GupIdeal.Frame
public import proofs.«01_k».proof.Proof.Gen.GupReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GupIdeal.Val

open Idealize.ShloMosaic Idealize.ShloMosaic.TcCoe Idealize.ShloMosaic.Tactic
open Idealize.SL Idealize.SL.Sem
open Cert.GupIdeal.Gen

variable (m : (ℓ : Loc nD τ sig) → Buf (Elt Ideal) ℓ) (ρ : Dev nD → PrngReg)

/-- Where a point's blocks lie: the last coordinate walks the contraction, and the result lies by blocks of columns. -/
theorem index : ∀ t : Fin cfg0.N, win0_0.index t = ![t.val % 2, t.val / 16] ∧ win0_1.index t = ![t.val % 2, t.val / 2 % 8]
    ∧ win0_2.index t = ![t.val / 2 % 8, t.val / 16, 0] :=
  (by decide +kernel : ∀ t : Fin grid0.N, _)

/-- The product, along the rows of both, by blocks of 1024 columns. -/
def prod (x : FVec Ideal S8192x2048 .bf16) (w : FVec Ideal S8192x8192 .bf16) : FVec Ideal S8x2048x1024 .f32 :=
  fun i => ∑ k : Fin 8192, (x (ix2 k (i 1)) * w (ix2 k ⟨(i 0).val * 1024 + (i 2).val, by
    have h0 : (i 0).val < 8 := (i 0).isLt
    have h2 : (i 2).val < 1024 := (i 2).isLt
    show (i 0).val * 1024 + (i 2).val < 8192
    omega⟩) : EReal)

/-- An entry of the product. -/
theorem prod_apply (x : FVec Ideal S8192x2048 .bf16) (w : FVec Ideal S8192x8192 .bf16) (i : S8x2048x1024.Idx)
    (r : Fin 8192) (hr : r.val = (i 0).val * 1024 + (i 2).val) :
    prod x w i = ∑ k : Fin 8192, (x (ix2 k (i 1)) * w (ix2 k r) : EReal) := by
  obtain ⟨r, h⟩ := r
  subst hr
  rfl

/-- What a run's first point stores: the part of the product over its stretch of the contraction. -/
theorem part_first (x : Vec Ideal S4096x1024 .bf16) (w : Vec Ideal S4096x1024 .bf16) (j : S1024x1024.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x1024 .bf16) (w : Vec Ideal S4096x1024 .bf16) (a : Vec Ideal S1024x1024 .f32)
    (j : S1024x1024.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1x1024x1024.Idx) :
    (outsAt0 m c t.val t.isLt).1 j = (outsAt0 m c t.val t.isLt).2 (ix2 (j 1) (j 2)) := by
  rw [scratch_later m c t (by omega) (ix2 (j 1) (j 2)), outsAt0_B m c t (by omega) (by omega) h]
  frame_out
  rw [read_unread_whole]
  pointwise [k0_pay4]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  unfold prod
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold V V0
  simp only [List.flatten_cons, List.flatten_nil, List.append_nil]
  after_results
  rfl

/-- The right operand is the second argument. -/
theorem right (c : Dev nD) : V m c main_v1 = m ((c : Thread nD τ).loc main_arg1) := by
  unfold V V0
  simp only [List.flatten_cons, List.flatten_nil, List.append_nil]
  after_results
  rfl

/-- The product along the rows of both. -/
def grad (x : FVec Ideal S8192x2048 .f32) (w : FVec Ideal S8192x8192 .f32) : FVec Ideal S2048x8192 .f32 :=
  fun i => ∑ k : Fin 8192, (x (ix2 k (i 0)) * w (ix2 k (i 1)) : EReal)

/-- What the lines after the launch leave: its result with the blocks of columns side by side. -/
theorem after_launch (c : Dev nD) :
    Pipeline.afterTail₀ cfgs (dats m) 0 (V0 m) [hostOps1] c main_v4
      = grad (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2)
      = prod (m ((c : Thread nD τ).loc main_arg0)) (m ((c : Thread nD τ).loc main_arg1)) :=
    (Pipeline.withArrays_arr (cfgs 0).spec (by decide +kernel) c _ _ 2).trans ((array m c).trans (by rw [left, right]))
  rw [e]
  funext i
  show shapeCast S2048x8192 (transpose S2048x8x1024 [1, 0, 2] (prod (m ((c : Thread nD τ).loc main_arg0))
    (m ((c : Thread nD τ).loc main_arg1))) transposes_S8x2048x1024_S2048x8x1024_1_0_2) shapeCasts_S2048x8x1024_S2048x8192 i = _
  pointwise
  exact prod_apply _ _ _ (i 1) (by
    show (i 1).val = (i 1).val / 1024 * 1024 + (i 1).val % 1024
    omega)

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).2 main_v4 (by decide +kernel)).trans (after_launch m c), h.2 c⟩)
    (θ_run_and (run_main m ρ) (unchanged m ρ))

end Cert.GupIdeal.Val

namespace Cert.GupReferenceIdeal.Val

open Idealize.ShloMosaic Idealize.ShloMosaic.TcCoe Idealize.ShloMosaic.Tactic
open Idealize.SL Idealize.SL.Sem
open Cert.GupReferenceIdeal

attribute [local instance] Cert.GupReferenceIdeal.Gen.facts

variable (m : (ℓ : Loc nD τ sig) → Buf (Elt Ideal) ℓ) (ρ : Dev nD → PrngReg)

/-- The run of the lines: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v1)
        = Cert.GupIdeal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GupIdeal.Val.grad]

end Cert.GupReferenceIdeal.Val

namespace Cert.Proof

open Idealize.ShloMosaic Idealize.SL.Sem

theorem frame_gup : Cert.quiescent_Gup (hGup := Cert.Gup.Gen.facts) := fun m ρ _ => Cert.Gup.Gen.frame m ρ

theorem frame_gupIdeal : Cert.quiescent_GupIdeal (hGupIdeal := Cert.GupIdeal.Gen.facts) :=
  fun m ρ _ => Cert.GupIdeal.Gen.frame m ρ

theorem frame_gupReference : Cert.quiescent_GupReferenceIdeal (hGupReferenceIdeal := Cert.GupReferenceIdeal.Gen.facts) :=
  fun m ρ _ => (θ_run _ _ _).mono (fun r h => ⟨fun c => (h c).2, sem_eq_zero_of_no_sems (by decide) r.2⟩)
    (Cert.GupReferenceIdeal.Val.run_result m ρ)

/-- The launch's product is the lines', whatever the arguments. -/
theorem same_gup : Cert.algebraic_GupIdeal_GupReferenceIdeal (hGupIdeal := Cert.GupIdeal.Gen.facts)
    (hGupReferenceIdeal := Cert.GupReferenceIdeal.Gen.facts) := by
  intro m g m' g' _ hagree
  refine ⟨_, Cert.GupIdeal.Val.run_result m g, ?_⟩
  refine (θ_run _ _ _).mono (fun r h c => ⟨(h c).1.trans ?_, (h c).2⟩) (Cert.GupReferenceIdeal.Val.run_result m' g')
  rw [(hagree c).1, (hagree c).2]

end Cert.Proof

end
-- ==== Proof.Products.DuRet.lean ====
/- The gradient of the retention's input through its projection: its blocks' sums over the runs of the grid, against
   the problem's line. -/
module

public import proofs.«01_k».proof.Defs
public import proofs.«01_k».proof.Proof.Gen.DuRet.Frame
public import proofs.«01_k».proof.Proof.Gen.DuRetIdeal.Frame
public import proofs.«01_k».proof.Proof.Gen.DuRetReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DuRetIdeal.Val

open Idealize.ShloMosaic Idealize.ShloMosaic.TcCoe Idealize.ShloMosaic.Tactic
open Idealize.SL Idealize.SL.Sem
open Cert.DuRetIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val / 6, t.val % 3] ∧ win0_1.index t = ![t.val % 3, t.val / 3 % 2]
    ∧ win0_2.index t = ![t.val / 6, t.val / 3 % 2] :=
  (by decide +kernel : ∀ t : Fin grid0.N, _)

/-- The product. -/
def prod (x : FVec Ideal S8192x12288 .bf16) (w : FVec Ideal S12288x2048 .bf16) : FVec Ideal S8192x2048 .f32 :=
  fun i => ∑ k : Fin 12288, (x (ix2 (i 0) k) * w (ix2 k (i 1)) : EReal)

/-- An entry of the product. -/
theorem prod_apply (x : FVec Ideal S8192x12288 .bf16) (w : FVec Ideal S12288x2048 .bf16) (i : S8192x2048.Idx) :
    prod x w i = ∑ k : Fin 12288, (x (ix2 (i 0) k) * w (ix2 k (i 1)) : EReal) := rfl

/-- What a run's first point stores: the part of the product over its stretch of the contraction. -/
theorem part_first (x : Vec Ideal S1024x4096 .bf16) (w : Vec Ideal S4096x1024 .bf16) (j : S1024x1024.Idx) :
    k0_pay2 (F := Ideal) x w j = ∑ k : Fin 4096, (x (ix2 (j 0) k) * w (ix2 k (j 1)) : EReal) := by
  pointwise [k0_pay2, k0_pay1]

/-- What a later point stores: what was there, and its part. -/
theorem part_later (x : Vec Ideal S1024x4096 .bf16) (w : Vec Ideal S4096x1024 .bf16) (a : Vec Ideal S1024x1024 .f32)
    (j : S1024x1024.Idx) :
    k0_pay3 (F := Ideal) x w a j = a j + ∑ k : Fin 4096, (x (ix2 (j 0) k) * w (ix2 k (j 1)) : EReal) := by
  pointwise [k0_pay3, k0_pay1]

/-- The scratch after a run's first point. -/
theorem scratch_first (c : Dev nD) (t : Fin cfg0.N) (h : t.val % 3 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 3 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  by_cases h3 : t.val % 3 = 2
  · rw [outsAt0_C m c t h (by omega) h3]
    frame_out
    rw [read_unread_whole]
  · rw [outsAt0_B m c t h (by omega) h3]
    frame_out
    rw [read_unread_whole]

/-- The result's block after a run's last point is the scratch. -/
theorem block_last (c : Dev nD) (t : Fin cfg0.N) (h : t.val % 3 = 2) (j : S1024x1024.Idx) :
    (outsAt0 m c t.val t.isLt).1 j = (outsAt0 m c t.val t.isLt).2 j := by
  rw [scratch_later m c t (by omega) j, outsAt0_C m c t (by omega) (by omega) h]
  frame_out
  rw [read_unread_whole]

/-- What the launch leaves in its result. -/
theorem array (c : Dev nD) : (dats m 0 c).arrAt 2 cfg0.N = prod (V m c main_v0) (V m c main_v2) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 3 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument, transposed. -/
theorem right (c : Dev nD) (k : Fin 12288) (r : Fin 2048) :
    V m c main_v2 (ix2 k r) = m ((c : Thread nD τ).loc main_arg1) (ix2 r k) := by
  unfold_abbrev_sides
  after_results
  pointwise

/-- The product with the projection's matrix transposed. -/
def grad (x : FVec Ideal S8192x12288 .f32) (w : FVec Ideal S2048x12288 .f32) : FVec Ideal S8192x2048 .f32 :=
  fun i => ∑ k : Fin 12288, (x (ix2 (i 0) k) * w (ix2 (i 1) k) : EReal)

/-- The launch's product is that of the arguments. -/
theorem result (c : Dev nD) : prod (V m c main_v0) (V m c main_v2)
    = grad (m ((c : Thread nD τ).loc main_arg0)) (m ((c : Thread nD τ).loc main_arg1)) := by
  rw [left]
  funext i
  have e : ∀ k : Fin 12288, V m c main_v2 (ix2 k (i 1)) = m ((c : Thread nD τ).loc main_arg1) (ix2 (i 1) k) :=
    fun k => right m c k (i 1)
  rw [prod_apply]
  simp only [e]
  rfl

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v3) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (result m c)), h.2 c⟩)
    (θ_run_and (run_main m ρ) (unchanged m ρ))

end Cert.DuRetIdeal.Val

namespace Cert.DuRetReferenceIdeal.Val

open Idealize.ShloMosaic Idealize.ShloMosaic.TcCoe Idealize.ShloMosaic.Tactic
open Idealize.SL Idealize.SL.Sem
open Cert.DuRetReferenceIdeal

attribute [local instance] Cert.DuRetReferenceIdeal.Gen.facts

variable (m : (ℓ : Loc nD τ sig) → Buf (Elt Ideal) ℓ) (ρ : Dev nD → PrngReg)

/-- The run of the line: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.DuRetIdeal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DuRetIdeal.Val.grad]

end Cert.DuRetReferenceIdeal.Val

namespace Cert.Proof

open Idealize.ShloMosaic Idealize.SL.Sem

theorem frame_duRet : Cert.quiescent_DuRet (hDuRet := Cert.DuRet.Gen.facts) := fun m ρ _ => Cert.DuRet.Gen.frame m ρ

theorem frame_duRetIdeal : Cert.quiescent_DuRetIdeal (hDuRetIdeal := Cert.DuRetIdeal.Gen.facts) :=
  fun m ρ _ => Cert.DuRetIdeal.Gen.frame m ρ

theorem frame_duRetReference : Cert.quiescent_DuRetReferenceIdeal (hDuRetReferenceIdeal := Cert.DuRetReferenceIdeal.Gen.facts) :=
  fun m ρ _ => (θ_run _ _ _).mono (fun r h => ⟨fun c => (h c).2, sem_eq_zero_of_no_sems (by decide) r.2⟩)
    (Cert.DuRetReferenceIdeal.Val.run_result m ρ)

/-- The launch's product is the line's, whatever the arguments. -/
theorem same_duRet : Cert.algebraic_DuRetIdeal_DuRetReferenceIdeal (hDuRetIdeal := Cert.DuRetIdeal.Gen.facts)
    (hDuRetReferenceIdeal := Cert.DuRetReferenceIdeal.Gen.facts) := by
  intro m g m' g' _ hagree
  refine ⟨_, Cert.DuRetIdeal.Val.run_result m g, ?_⟩
  refine (θ_run _ _ _).mono (fun r h c => ⟨(h c).1.trans ?_, (h c).2⟩) (Cert.DuRetReferenceIdeal.Val.run_result m' g')
  rw [(hagree c).1, (hagree c).2]

end Cert.Proof

end
-- ==== Proof.Products.GRetIn0.lean ====
/- The gradient of the first half of the rows of the retention's projection: its blocks' sums over the runs of the
   grid, against the problem's lines. -/
module

public import proofs.«01_k».proof.Defs
public import proofs.«01_k».proof.Proof.Gen.GRetIn0.Frame
public import proofs.«01_k».proof.Proof.Gen.GRetIn0Ideal.Frame
public import proofs.«01_k».proof.Proof.Gen.GRetIn0ReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GRetIn0Ideal.Val

open Idealize.ShloMosaic Idealize.ShloMosaic.TcCoe Idealize.ShloMosaic.Tactic
open Idealize.SL Idealize.SL.Sem
open Cert.GRetIn0Ideal.Gen

variable (m : (ℓ : Loc nD τ sig) → Buf (Elt Ideal) ℓ) (ρ : Dev nD → PrngReg)

/-- Where a point's blocks lie: the last coordinate walks the contraction, and the result lies by blocks of columns. -/
theorem index : ∀ t : Fin cfg0.N, win0_0.index t = ![t.val % 2, t.val / 16] ∧ win0_1.index t = ![t.val % 2, t.val / 2 % 8]
    ∧ win0_2.index t = ![t.val / 2 % 8, t.val / 16, 0] :=
  (by decide +kernel : ∀ t : Fin grid0.N, _)

/-- The column of the left operand that a row of the result is of. -/
abbrev col (r : Fin 1024) : Fin 2048 := ⟨r.val, by omega⟩

/-- The product, along the rows of both, by blocks of 1536 columns. -/
def prod (x : FVec Ideal S8192x2048 .bf16) (w : FVec Ideal S8192x12288 .bf16) : FVec Ideal S8x1024x1536 .f32 :=
  fun i => ∑ k : Fin 8192, (x (ix2 k (col (i 1))) * w (ix2 k ⟨(i 0).val * 1536 + (i 2).val, by
    have h0 : (i 0).val < 8 := (i 0).isLt
    have h2 : (i 2).val < 1536 := (i 2).isLt
    show (i 0).val * 1536 + (i 2).val < 12288
    omega⟩) : EReal)

/-- An entry of the product. -/
theorem prod_apply (x : FVec Ideal S8192x2048 .bf16) (w : FVec Ideal S8192x12288 .bf16) (i : S8x1024x1536.Idx)
    (r : Fin 12288) (hr : r.val = (i 0).val * 1536 + (i 2).val) :
    prod x w i = ∑ k : Fin 8192, (x (ix2 k (col (i 1))) * w (ix2 k r) : EReal) := by
  obtain ⟨r, h⟩ := r
  subst hr
  rfl

/-- What a run's first point stores: the part of the product over its stretch of the contraction. -/
theorem part_first (x : Vec Ideal S4096x512 .bf16) (w : Vec Ideal S4096x1536 .bf16) (j : S512x1536.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x512 .bf16) (w : Vec Ideal S4096x1536 .bf16) (a : Vec Ideal S512x1536 .f32)
    (j : S512x1536.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S512x1536.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S512x1536.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1x512x1536.Idx) :
    (outsAt0 m c t.val t.isLt).1 j = (outsAt0 m c t.val t.isLt).2 (ix2 (j 1) (j 2)) := by
  rw [scratch_later m c t (by omega) (ix2 (j 1) (j 2)), outsAt0_B m c t (by omega) (by omega) h]
  frame_out
  rw [read_unread_whole]
  pointwise [k0_pay4]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  unfold prod
  refine Fin.sum_mul_add_congr fun s k hl => ?_
  blk_point [iblk, index t, index ⟨_, Pipeline.run_point_lt_of_flush t ((flush0_2 t).mp hf) s⟩]
  blk_simp [index t]
  omega

/-- The left operand is the first argument. -/
theorem left (c : Dev nD) : V m c main_v0 = m ((c : Thread nD τ).loc main_arg0) := by
  unfold V V0
  simp only [List.flatten_cons, List.flatten_nil, List.append_nil]
  after_results
  rfl

/-- The right operand is the second argument. -/
theorem right (c : Dev nD) : V m c main_v1 = m ((c : Thread nD τ).loc main_arg1) := by
  unfold V V0
  simp only [List.flatten_cons, List.flatten_nil, List.append_nil]
  after_results
  rfl

/-- The product along the rows of both. -/
def grad (x : FVec Ideal S8192x2048 .f32) (w : FVec Ideal S8192x12288 .f32) : FVec Ideal S1024x12288 .f32 :=
  fun i => ∑ k : Fin 8192, (x (ix2 k (col (i 0))) * w (ix2 k (i 1)) : EReal)

/-- What the lines after the launch leave: its result with the blocks of columns side by side. -/
theorem after_launch (c : Dev nD) :
    Pipeline.afterTail₀ cfgs (dats m) 0 (V0 m) [hostOps1] c main_v4
      = grad (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2)
      = prod (m ((c : Thread nD τ).loc main_arg0)) (m ((c : Thread nD τ).loc main_arg1)) :=
    (Pipeline.withArrays_arr (cfgs 0).spec (by decide +kernel) c _ _ 2).trans ((array m c).trans (by rw [left, right]))
  rw [e]
  funext i
  show shapeCast S1024x12288 (transpose S1024x8x1536 [1, 0, 2] (prod (m ((c : Thread nD τ).loc main_arg0))
    (m ((c : Thread nD τ).loc main_arg1))) transposes_S8x1024x1536_S1024x8x1536_1_0_2) shapeCasts_S1024x8x1536_S1024x12288 i = _
  pointwise
  exact prod_apply _ _ _ (i 1) (by
    show (i 1).val = (i 1).val / 1536 * 1536 + (i 1).val % 1536
    omega)

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).2 main_v4 (by decide +kernel)).trans (after_launch m c), h.2 c⟩)
    (θ_run_and (run_main m ρ) (unchanged m ρ))

end Cert.GRetIn0Ideal.Val

namespace Cert.GRetIn0ReferenceIdeal.Val

open Idealize.ShloMosaic Idealize.ShloMosaic.TcCoe Idealize.ShloMosaic.Tactic
open Idealize.SL Idealize.SL.Sem
open Cert.GRetIn0ReferenceIdeal

attribute [local instance] Cert.GRetIn0ReferenceIdeal.Gen.facts

variable (m : (ℓ : Loc nD τ sig) → Buf (Elt Ideal) ℓ) (ρ : Dev nD → PrngReg)

/-- The run of the lines: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2)
        = Cert.GRetIn0Ideal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GRetIn0Ideal.Val.grad]

end Cert.GRetIn0ReferenceIdeal.Val

namespace Cert.Proof

open Idealize.ShloMosaic Idealize.SL.Sem

theorem frame_gRetIn0 : Cert.quiescent_GRetIn0 (hGRetIn0 := Cert.GRetIn0.Gen.facts) := fun m ρ _ => Cert.GRetIn0.Gen.frame m ρ

theorem frame_gRetIn0Ideal : Cert.quiescent_GRetIn0Ideal (hGRetIn0Ideal := Cert.GRetIn0Ideal.Gen.facts) :=
  fun m ρ _ => Cert.GRetIn0Ideal.Gen.frame m ρ

theorem frame_gRetIn0Reference : Cert.quiescent_GRetIn0ReferenceIdeal (hGRetIn0ReferenceIdeal := Cert.GRetIn0ReferenceIdeal.Gen.facts) :=
  fun m ρ _ => (θ_run _ _ _).mono (fun r h => ⟨fun c => (h c).2, sem_eq_zero_of_no_sems (by decide) r.2⟩)
    (Cert.GRetIn0ReferenceIdeal.Val.run_result m ρ)

/-- The launch's product is the lines', whatever the arguments. -/
theorem same_gRetIn0 : Cert.algebraic_GRetIn0Ideal_GRetIn0ReferenceIdeal (hGRetIn0Ideal := Cert.GRetIn0Ideal.Gen.facts)
    (hGRetIn0ReferenceIdeal := Cert.GRetIn0ReferenceIdeal.Gen.facts) := by
  intro m g m' g' _ hagree
  refine ⟨_, Cert.GRetIn0Ideal.Val.run_result m g, ?_⟩
  refine (θ_run _ _ _).mono (fun r h c => ⟨(h c).1.trans ?_, (h c).2⟩) (Cert.GRetIn0ReferenceIdeal.Val.run_result m' g')
  rw [(hagree c).1, (hagree c).2]

end Cert.Proof

end
-- ==== Proof.Products.GRetIn1.lean ====
/- The gradient of the last half of the rows of the retention's projection: its blocks' sums over the runs of the
   grid, against the problem's lines. -/
module

public import proofs.«01_k».proof.Defs
public import proofs.«01_k».proof.Proof.Gen.GRetIn1.Frame
public import proofs.«01_k».proof.Proof.Gen.GRetIn1Ideal.Frame
public import proofs.«01_k».proof.Proof.Gen.GRetIn1ReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GRetIn1Ideal.Val

open Idealize.ShloMosaic Idealize.ShloMosaic.TcCoe Idealize.ShloMosaic.Tactic
open Idealize.SL Idealize.SL.Sem
open Cert.GRetIn1Ideal.Gen

variable (m : (ℓ : Loc nD τ sig) → Buf (Elt Ideal) ℓ) (ρ : Dev nD → PrngReg)

/-- Where a point's blocks lie: the last coordinate walks the contraction, and the result lies by blocks of columns. -/
theorem index : ∀ t : Fin cfg0.N, win0_0.index t = ![t.val % 2, t.val / 16 + 2] ∧ win0_1.index t = ![t.val % 2, t.val / 2 % 8]
    ∧ win0_2.index t = ![t.val / 2 % 8, t.val / 16, 0] :=
  (by decide +kernel : ∀ t : Fin grid0.N, _)

/-- The column of the left operand that a row of the result is of. -/
abbrev col (r : Fin 1024) : Fin 2048 := ⟨1024 + r.val, by omega⟩

/-- The product, along the rows of both, by blocks of 1536 columns. -/
def prod (x : FVec Ideal S8192x2048 .bf16) (w : FVec Ideal S8192x12288 .bf16) : FVec Ideal S8x1024x1536 .f32 :=
  fun i => ∑ k : Fin 8192, (x (ix2 k (col (i 1))) * w (ix2 k ⟨(i 0).val * 1536 + (i 2).val, by
    have h0 : (i 0).val < 8 := (i 0).isLt
    have h2 : (i 2).val < 1536 := (i 2).isLt
    show (i 0).val * 1536 + (i 2).val < 12288
    omega⟩) : EReal)

/-- An entry of the product. -/
theorem prod_apply (x : FVec Ideal S8192x2048 .bf16) (w : FVec Ideal S8192x12288 .bf16) (i : S8x1024x1536.Idx)
    (r : Fin 12288) (hr : r.val = (i 0).val * 1536 + (i 2).val) :
    prod x w i = ∑ k : Fin 8192, (x (ix2 k (col (i 1))) * w (ix2 k r) : EReal) := by
  obtain ⟨r, h⟩ := r
  subst hr
  rfl

/-- What a run's first point stores: the part of the product over its stretch of the contraction. -/
theorem part_first (x : Vec Ideal S4096x512 .bf16) (w : Vec Ideal S4096x1536 .bf16) (j : S512x1536.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x512 .bf16) (w : Vec Ideal S4096x1536 .bf16) (a : Vec Ideal S512x1536 .f32)
    (j : S512x1536.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S512x1536.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S512x1536.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1x512x1536.Idx) :
    (outsAt0 m c t.val t.isLt).1 j = (outsAt0 m c t.val t.isLt).2 (ix2 (j 1) (j 2)) := by
  rw [scratch_later m c t (by omega) (ix2 (j 1) (j 2)), outsAt0_B m c t (by omega) (by omega) h]
  frame_out
  rw [read_unread_whole]
  pointwise [k0_pay4]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  unfold prod
  refine Fin.sum_mul_add_congr fun s k hl => ?_
  blk_point [iblk, index t, index ⟨_, Pipeline.run_point_lt_of_flush t ((flush0_2 t).mp hf) s⟩]
  blk_simp [index t]
  omega

/-- The left operand is the first argument. -/
theorem left (c : Dev nD) : V m c main_v0 = m ((c : Thread nD τ).loc main_arg0) := by
  unfold V V0
  simp only [List.flatten_cons, List.flatten_nil, List.append_nil]
  after_results
  rfl

/-- The right operand is the second argument. -/
theorem right (c : Dev nD) : V m c main_v1 = m ((c : Thread nD τ).loc main_arg1) := by
  unfold V V0
  simp only [List.flatten_cons, List.flatten_nil, List.append_nil]
  after_results
  rfl

/-- The product along the rows of both. -/
def grad (x : FVec Ideal S8192x2048 .f32) (w : FVec Ideal S8192x12288 .f32) : FVec Ideal S1024x12288 .f32 :=
  fun i => ∑ k : Fin 8192, (x (ix2 k (col (i 0))) * w (ix2 k (i 1)) : EReal)

/-- What the lines after the launch leave: its result with the blocks of columns side by side. -/
theorem after_launch (c : Dev nD) :
    Pipeline.afterTail₀ cfgs (dats m) 0 (V0 m) [hostOps1] c main_v4
      = grad (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2)
      = prod (m ((c : Thread nD τ).loc main_arg0)) (m ((c : Thread nD τ).loc main_arg1)) :=
    (Pipeline.withArrays_arr (cfgs 0).spec (by decide +kernel) c _ _ 2).trans ((array m c).trans (by rw [left, right]))
  rw [e]
  funext i
  show shapeCast S1024x12288 (transpose S1024x8x1536 [1, 0, 2] (prod (m ((c : Thread nD τ).loc main_arg0))
    (m ((c : Thread nD τ).loc main_arg1))) transposes_S8x1024x1536_S1024x8x1536_1_0_2) shapeCasts_S1024x8x1536_S1024x12288 i = _
  pointwise
  exact prod_apply _ _ _ (i 1) (by
    show (i 1).val = (i 1).val / 1536 * 1536 + (i 1).val % 1536
    omega)

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).2 main_v4 (by decide +kernel)).trans (after_launch m c), h.2 c⟩)
    (θ_run_and (run_main m ρ) (unchanged m ρ))

end Cert.GRetIn1Ideal.Val

namespace Cert.GRetIn1ReferenceIdeal.Val

open Idealize.ShloMosaic Idealize.ShloMosaic.TcCoe Idealize.ShloMosaic.Tactic
open Idealize.SL Idealize.SL.Sem
open Cert.GRetIn1ReferenceIdeal

attribute [local instance] Cert.GRetIn1ReferenceIdeal.Gen.facts

variable (m : (ℓ : Loc nD τ sig) → Buf (Elt Ideal) ℓ) (ρ : Dev nD → PrngReg)

/-- The run of the lines: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2)
        = Cert.GRetIn1Ideal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GRetIn1Ideal.Val.grad]
  exact Finset.sum_congr rfl fun _ _ => mul_comm _ _

end Cert.GRetIn1ReferenceIdeal.Val

namespace Cert.Proof

open Idealize.ShloMosaic Idealize.SL.Sem

theorem frame_gRetIn1 : Cert.quiescent_GRetIn1 (hGRetIn1 := Cert.GRetIn1.Gen.facts) := fun m ρ _ => Cert.GRetIn1.Gen.frame m ρ

theorem frame_gRetIn1Ideal : Cert.quiescent_GRetIn1Ideal (hGRetIn1Ideal := Cert.GRetIn1Ideal.Gen.facts) :=
  fun m ρ _ => Cert.GRetIn1Ideal.Gen.frame m ρ

theorem frame_gRetIn1Reference : Cert.quiescent_GRetIn1ReferenceIdeal (hGRetIn1ReferenceIdeal := Cert.GRetIn1ReferenceIdeal.Gen.facts) :=
  fun m ρ _ => (θ_run _ _ _).mono (fun r h => ⟨fun c => (h c).2, sem_eq_zero_of_no_sems (by decide) r.2⟩)
    (Cert.GRetIn1ReferenceIdeal.Val.run_result m ρ)

/-- The launch's product is the lines', whatever the arguments. -/
theorem same_gRetIn1 : Cert.algebraic_GRetIn1Ideal_GRetIn1ReferenceIdeal (hGRetIn1Ideal := Cert.GRetIn1Ideal.Gen.facts)
    (hGRetIn1ReferenceIdeal := Cert.GRetIn1ReferenceIdeal.Gen.facts) := by
  intro m g m' g' _ hagree
  refine ⟨_, Cert.GRetIn1Ideal.Val.run_result m g, ?_⟩
  refine (θ_run _ _ _).mono (fun r h c => ⟨(h c).1.trans ?_, (h c).2⟩) (Cert.GRetIn1ReferenceIdeal.Val.run_result m' g')
  rw [(hagree c).1, (hagree c).2]

end Cert.Proof

end
-- ==== Proof.Products.DuSsd.lean ====
/- The gradient of the state-space layer's input through its projection: its blocks' sums over the runs of the grid,
   against the problem's lines. -/
module

public import proofs.«01_k».proof.Defs
public import proofs.«01_k».proof.Proof.Gen.DuSsd.Frame
public import proofs.«01_k».proof.Proof.Gen.DuSsdIdeal.Frame
public import proofs.«01_k».proof.Proof.Gen.DuSsdReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DuSsdIdeal.Val

open Idealize.ShloMosaic Idealize.ShloMosaic.TcCoe Idealize.ShloMosaic.Tactic
open Idealize.SL Idealize.SL.Sem
open Cert.DuSsdIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val / 6, t.val % 3] ∧ win0_1.index t = ![t.val % 3, t.val / 3 % 2]
    ∧ win0_2.index t = ![t.val / 6, t.val / 3 % 2] :=
  (by decide +kernel : ∀ t : Fin grid0.N, _)

/-- The product. -/
def prod (x : FVec Ideal S8192x10368 .bf16) (w : FVec Ideal S10368x2048 .bf16) : FVec Ideal S8192x2048 .f32 :=
  fun i => ∑ k : Fin 10368, (x (ix2 (i 0) k) * w (ix2 k (i 1)) : EReal)

/-- An entry of the product. -/
theorem prod_apply (x : FVec Ideal S8192x10368 .bf16) (w : FVec Ideal S10368x2048 .bf16) (i : S8192x2048.Idx) :
    prod x w i = ∑ k : Fin 10368, (x (ix2 (i 0) k) * w (ix2 k (i 1)) : EReal) := rfl

/-- What a run's first point stores: the part of the product over its stretch of the contraction. -/
theorem part_first (x : Vec Ideal S1024x3456 .bf16) (w : Vec Ideal S3456x1024 .bf16) (j : S1024x1024.Idx) :
    k0_pay2 (F := Ideal) x w j = ∑ k : Fin 3456, (x (ix2 (j 0) k) * w (ix2 k (j 1)) : EReal) := by
  pointwise [k0_pay2, k0_pay1]

/-- What a later point stores: what was there, and its part. -/
theorem part_later (x : Vec Ideal S1024x3456 .bf16) (w : Vec Ideal S3456x1024 .bf16) (a : Vec Ideal S1024x1024 .f32)
    (j : S1024x1024.Idx) :
    k0_pay3 (F := Ideal) x w a j = a j + ∑ k : Fin 3456, (x (ix2 (j 0) k) * w (ix2 k (j 1)) : EReal) := by
  pointwise [k0_pay3, k0_pay1]

/-- The scratch after a run's first point. -/
theorem scratch_first (c : Dev nD) (t : Fin cfg0.N) (h : t.val % 3 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 3 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  by_cases h3 : t.val % 3 = 2
  · rw [outsAt0_C m c t h (by omega) h3]
    frame_out
    rw [read_unread_whole]
  · rw [outsAt0_B m c t h (by omega) h3]
    frame_out
    rw [read_unread_whole]

/-- The result's block after a run's last point is the scratch. -/
theorem block_last (c : Dev nD) (t : Fin cfg0.N) (h : t.val % 3 = 2) (j : S1024x1024.Idx) :
    (outsAt0 m c t.val t.isLt).1 j = (outsAt0 m c t.val t.isLt).2 j := by
  rw [scratch_later m c t (by omega) j, outsAt0_C m c t (by omega) (by omega) h]
  frame_out
  rw [read_unread_whole]

/-- What the launch leaves in its result. -/
theorem array (c : Dev nD) : (dats m 0 c).arrAt 2 cfg0.N = prod (V m c main_v3) (V m c main_v2) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 3 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v3 = m ((c : Thread nD τ).loc main_arg0) := by
  unfold V
  simp only [hostOps0, hostOps0_1, hostOps0_2, List.flatten_cons, List.flatten_nil, List.append_nil, List.cons_append,
    List.nil_append]
  after_results
  rfl

/-- The right operand's first rows are the second argument's columns. -/
theorem right_low (c : Dev nD) (k : Fin 10304) (r : Fin 2048) :
    V m c main_v2 (ix2 (Fin.castAdd 64 k) r) = m ((c : Thread nD τ).loc main_arg1) (ix2 r k) := by
  unfold V
  simp only [hostOps0, hostOps0_1, hostOps0_2, List.flatten_cons, List.flatten_nil, List.append_nil, List.cons_append,
    List.nil_append]
  after_results
  show pad S10368x2048 ![0, 0] ![64, 0] ![0, 0]
    (truncf (F := Ideal) .bf16 (transpose S10304x2048 [1, 0] (m ((c : Thread nD τ).loc main_arg1)) transposes_S2048x10304_S10304x2048_1_0)
      bitsLt_bf16_f32) (sitofp (F := Ideal) .bf16 (constantI S_ 32 0#32)) pads_S10304x2048_S10368x2048_0640_000 h_S_ _ = _
  pointwise
  rw [dif_pos (show (Fin.castAdd 64 k).val < 10304 from k.isLt)]
  rfl

/-- Its last rows are zero. -/
theorem right_high (c : Dev nD) (k : Fin 64) (r : Fin 2048) :
    V m c main_v2 (ix2 (Fin.natAdd 10304 k) r) = (0 : EReal) := by
  unfold V
  simp only [hostOps0, hostOps0_1, hostOps0_2, List.flatten_cons, List.flatten_nil, List.append_nil, List.cons_append,
    List.nil_append]
  after_results
  show pad S10368x2048 ![0, 0] ![64, 0] ![0, 0]
    (truncf (F := Ideal) .bf16 (transpose S10304x2048 [1, 0] (m ((c : Thread nD τ).loc main_arg1)) transposes_S2048x10304_S10304x2048_1_0)
      bitsLt_bf16_f32) (sitofp (F := Ideal) .bf16 (constantI S_ 32 0#32)) pads_S10304x2048_S10368x2048_0640_000 h_S_ _ = _
  pointwise
  rw [dif_neg (show ¬(Fin.natAdd 10304 k).val < 10304 from Nat.not_lt.mpr (Nat.le_add_right _ _))]
  show (((0#32 : BitVec 32).toInt : ℝ) : EReal) = 0
  simp

/-- The product with the projection's matrix transposed; the columns past the projection's are not read. -/
def grad (x : FVec Ideal S8192x10368 .f32) (w : FVec Ideal S2048x10304 .f32) : FVec Ideal S8192x2048 .f32 :=
  fun i => ∑ k : Fin 10304, (x (ix2 (i 0) (Fin.castAdd 64 k)) * w (ix2 (i 1) k) : EReal)

/-- The launch's product is that of the arguments. -/
theorem result (c : Dev nD) : prod (V m c main_v3) (V m c main_v2)
    = grad (m ((c : Thread nD τ).loc main_arg0)) (m ((c : Thread nD τ).loc main_arg1)) := by
  rw [left]
  funext i
  have e : ∀ k : Fin 10304, V m c main_v2 (ix2 (Fin.castAdd 64 k) (i 1)) = m ((c : Thread nD τ).loc main_arg1) (ix2 (i 1) k) :=
    fun k => right_low m c k (i 1)
  have z : ∀ k : Fin 64, V m c main_v2 (ix2 (Fin.natAdd 10304 k) (i 1)) = (0 : EReal) := fun k => right_high m c k (i 1)
  rw [prod_apply]
  refine (Fin.sum_univ_add (a := 10304) (b := 64) _).trans ?_
  simp only [e, z, mul_zero, Finset.sum_const_zero, add_zero]
  rfl

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (result m c)), h.2 c⟩)
    (θ_run_and (run_main m ρ) (unchanged m ρ))

end Cert.DuSsdIdeal.Val

namespace Cert.DuSsdReferenceIdeal.Val

open Idealize.ShloMosaic Idealize.ShloMosaic.TcCoe Idealize.ShloMosaic.Tactic
open Idealize.SL Idealize.SL.Sem
open Cert.DuSsdReferenceIdeal

attribute [local instance] Cert.DuSsdReferenceIdeal.Gen.facts

variable (m : (ℓ : Loc nD τ sig) → Buf (Elt Ideal) ℓ) (ρ : Dev nD → PrngReg)

/-- The run of the line: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v1)
        = Cert.DuSsdIdeal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DuSsdIdeal.Val.grad]

end Cert.DuSsdReferenceIdeal.Val

namespace Cert.Proof

open Idealize.ShloMosaic Idealize.SL.Sem

theorem frame_duSsd : Cert.quiescent_DuSsd (hDuSsd := Cert.DuSsd.Gen.facts) := fun m ρ _ => Cert.DuSsd.Gen.frame m ρ

theorem frame_duSsdIdeal : Cert.quiescent_DuSsdIdeal (hDuSsdIdeal := Cert.DuSsdIdeal.Gen.facts) :=
  fun m ρ _ => Cert.DuSsdIdeal.Gen.frame m ρ

theorem frame_duSsdReference : Cert.quiescent_DuSsdReferenceIdeal (hDuSsdReferenceIdeal := Cert.DuSsdReferenceIdeal.Gen.facts) :=
  fun m ρ _ => (θ_run _ _ _).mono (fun r h => ⟨fun c => (h c).2, sem_eq_zero_of_no_sems (by decide) r.2⟩)
    (Cert.DuSsdReferenceIdeal.Val.run_result m ρ)

/-- The launch's product is the line's, whatever the arguments. -/
theorem same_duSsd : Cert.algebraic_DuSsdIdeal_DuSsdReferenceIdeal (hDuSsdIdeal := Cert.DuSsdIdeal.Gen.facts)
    (hDuSsdReferenceIdeal := Cert.DuSsdReferenceIdeal.Gen.facts) := by
  intro m g m' g' _ hagree
  refine ⟨_, Cert.DuSsdIdeal.Val.run_result m g, ?_⟩
  refine (θ_run _ _ _).mono (fun r h c => ⟨(h c).1.trans ?_, (h c).2⟩) (Cert.DuSsdReferenceIdeal.Val.run_result m' g')
  rw [(hagree c).1, (hagree c).2]

end Cert.Proof

end
-- ==== Proof.Products.GSsdIn.lean ====
/- The gradient of the state-space layer's projection: its blocks' sums over the runs of the grid, against the problem's
   lines. -/
module

public import proofs.«01_k».proof.Defs
public import proofs.«01_k».proof.Proof.Gen.GSsdIn.Frame
public import proofs.«01_k».proof.Proof.Gen.GSsdInIdeal.Frame
public import proofs.«01_k».proof.Proof.Gen.GSsdInReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GSsdInIdeal.Val

open Idealize.ShloMosaic Idealize.ShloMosaic.TcCoe Idealize.ShloMosaic.Tactic
open Idealize.SL Idealize.SL.Sem
open Cert.GSsdInIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The product, along the rows of both. -/
def prod (x : FVec Ideal S8192x10368 .bf16) (w : FVec Ideal S8192x2048 .bf16) : FVec Ideal S10368x2048 .f32 :=
  fun i => ∑ k : Fin 8192, (x (ix2 k (i 0)) * w (ix2 k (i 1)) : EReal)

/-- An entry of the product. -/
theorem prod_apply (x : FVec Ideal S8192x10368 .bf16) (w : FVec Ideal S8192x2048 .bf16) (i : S10368x2048.Idx) :
    prod x w i = ∑ k : Fin 8192, (x (ix2 k (i 0)) * w (ix2 k (i 1)) : EReal) := rfl

/-- What a run's first point stores: the part of the product over its stretch of the contraction. -/
theorem part_first (x : Vec Ideal S2048x1152 .bf16) (w : Vec Ideal S2048x1024 .bf16) (j : S1152x1024.Idx) :
    k0_pay2 (F := Ideal) x w j = ∑ k : Fin 2048, (x (ix2 k (j 0)) * w (ix2 k (j 1)) : EReal) := by
  pointwise [k0_pay2, k0_pay1]

/-- What a later point stores: what was there, and its part. -/
theorem part_later (x : Vec Ideal S2048x1152 .bf16) (w : Vec Ideal S2048x1024 .bf16) (a : Vec Ideal S1152x1024 .f32)
    (j : S1152x1024.Idx) :
    k0_pay3 (F := Ideal) x w a j = a j + ∑ k : Fin 2048, (x (ix2 k (j 0)) * w (ix2 k (j 1)) : EReal) := by
  pointwise [k0_pay3, k0_pay1]

/-- The scratch after a run's first point. -/
theorem scratch_first (c : Dev nD) (t : Fin cfg0.N) (h : t.val % 4 = 0) (j : S1152x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 4 = 0) (j : S1152x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  by_cases h3 : t.val % 4 = 3
  · rw [outsAt0_C m c t h (by omega) h3]
    frame_out
    rw [read_unread_whole]
  · rw [outsAt0_B m c t h (by omega) h3]
    frame_out
    rw [read_unread_whole]

/-- The result's block after a run's last point is the scratch. -/
theorem block_last (c : Dev nD) (t : Fin cfg0.N) (h : t.val % 4 = 3) (j : S1152x1024.Idx) :
    (outsAt0 m c t.val t.isLt).1 j = (outsAt0 m c t.val t.isLt).2 j := by
  rw [scratch_later m c t (by omega) j, outsAt0_C m c t (by omega) (by omega) h]
  frame_out
  rw [read_unread_whole]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 4 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the second argument. -/
theorem left (c : Dev nD) : V m c main_v0 = m ((c : Thread nD τ).loc main_arg1) := by
  unfold V V0
  simp only [List.flatten_cons, List.flatten_nil, List.append_nil]
  after_results
  rfl

/-- The right operand is the first argument. -/
theorem right (c : Dev nD) : V m c main_v1 = m ((c : Thread nD τ).loc main_arg0) := by
  unfold V V0
  simp only [List.flatten_cons, List.flatten_nil, List.append_nil]
  after_results
  rfl

/-- The product along the rows of both; the columns past the projection's are not read. -/
def grad (u : FVec Ideal S8192x2048 .f32) (x : FVec Ideal S8192x10368 .f32) : FVec Ideal S2048x10304 .f32 :=
  fun i => ∑ k : Fin 8192, (x (ix2 k (Fin.castAdd 64 (i 1))) * u (ix2 k (i 0)) : EReal)

/-- What the lines after the launch leave: the rows of its result that the projection has, transposed. -/
theorem after_launch (c : Dev nD) :
    Pipeline.afterTail₀ cfgs (dats m) 0 (V0 m) [hostOps1] c main_v4
      = grad (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v2)
      = prod (m ((c : Thread nD τ).loc main_arg1)) (m ((c : Thread nD τ).loc main_arg0)) :=
    (Pipeline.withArrays_arr (cfgs 0).spec (by decide +kernel) c _ _ 2).trans ((array m c).trans (by rw [left, right]))
  rw [e]
  funext i
  pointwise [prod, grad]
  rfl

/-- The run: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).2 main_v4 (by decide +kernel)).trans (after_launch m c), h.2 c⟩)
    (θ_run_and (run_main m ρ) (unchanged m ρ))

end Cert.GSsdInIdeal.Val

namespace Cert.GSsdInReferenceIdeal.Val

open Idealize.ShloMosaic Idealize.ShloMosaic.TcCoe Idealize.ShloMosaic.Tactic
open Idealize.SL Idealize.SL.Sem
open Cert.GSsdInReferenceIdeal

attribute [local instance] Cert.GSsdInReferenceIdeal.Gen.facts

variable (m : (ℓ : Loc nD τ sig) → Buf (Elt Ideal) ℓ) (ρ : Dev nD → PrngReg)

/-- The run of the lines: the result is `grad` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2)
        = Cert.GSsdInIdeal.Val.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GSsdInIdeal.Val.grad]

end Cert.GSsdInReferenceIdeal.Val

namespace Cert.Proof

open Idealize.ShloMosaic Idealize.SL.Sem

theorem frame_gSsdIn : Cert.quiescent_GSsdIn (hGSsdIn := Cert.GSsdIn.Gen.facts) := fun m ρ _ => Cert.GSsdIn.Gen.frame m ρ

theorem frame_gSsdInIdeal : Cert.quiescent_GSsdInIdeal (hGSsdInIdeal := Cert.GSsdInIdeal.Gen.facts) :=
  fun m ρ _ => Cert.GSsdInIdeal.Gen.frame m ρ

theorem frame_gSsdInReference : Cert.quiescent_GSsdInReferenceIdeal (hGSsdInReferenceIdeal := Cert.GSsdInReferenceIdeal.Gen.facts) :=
  fun m ρ _ => (θ_run _ _ _).mono (fun r h => ⟨fun c => (h c).2, sem_eq_zero_of_no_sems (by decide) r.2⟩)
    (Cert.GSsdInReferenceIdeal.Val.run_result m ρ)

/-- The launch's product is the lines', whatever the arguments. -/
theorem same_gSsdIn : Cert.algebraic_GSsdInIdeal_GSsdInReferenceIdeal (hGSsdInIdeal := Cert.GSsdInIdeal.Gen.facts)
    (hGSsdInReferenceIdeal := Cert.GSsdInReferenceIdeal.Gen.facts) := by
  intro m g m' g' _ hagree
  refine ⟨_, Cert.GSsdInIdeal.Val.run_result m g, ?_⟩
  refine (θ_run _ _ _).mono (fun r h c => ⟨(h c).1.trans ?_, (h c).2⟩) (Cert.GSsdInReferenceIdeal.Val.run_result m' g')
  rw [(hagree c).1, (hagree c).2]

end Cert.Proof

end
-- ==== Proof.Products.DyRet.lean ====
/- The gradient of the retention's output before its matrix: the blocks of the product, against the problem's line. -/
module

public import proofs.«01_k».proof.Defs
public import proofs.«01_k».proof.Proof.Gen.DyRet.Frame
public import proofs.«01_k».proof.Proof.Gen.DyRetIdeal.Frame
public import proofs.«01_k».proof.Proof.Gen.DyRetReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DyRetIdeal.Val

open Idealize.ShloMosaic Idealize.ShloMosaic.TcCoe Idealize.ShloMosaic.Tactic
open Idealize.SL Idealize.SL.Sem
open Cert.DyRetIdeal.Gen

variable (m : (ℓ : Loc nD τ sig) → Buf (Elt Ideal) ℓ) (ρ : Dev nD → PrngReg)

/-- Where a point's blocks lie. -/
theorem index : ∀ t : Fin cfg0.N, win0_0.index t = ![t.val / 8, 0] ∧ win0_1.index t = ![t.val % 8, 0]
    ∧ win0_2.index t = ![t.val / 8, t.val % 8] :=
  (by decide +kernel : ∀ t : Fin grid0.N, _)

/-- The product. -/
def prod (x : FVec Ideal S8192x2048 .bf16) (w : FVec Ideal S4096x2048 .bf16) : FVec Ideal S8192x4096 .f32 :=
  fun i => ∑ k : Fin 2048, (x (ix2 (i 0) k) * w (ix2 (i 1) k) : EReal)

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2]
  frame_out
  pointwise [k0_pay1, prod]
  blk_point [iblk, index t]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.DyRetIdeal.Val

namespace Cert.DyRetReferenceIdeal.Val

open Idealize.ShloMosaic Idealize.ShloMosaic.TcCoe Idealize.ShloMosaic.Tactic
open Idealize.SL Idealize.SL.Sem
open Cert.DyRetReferenceIdeal

attribute [local instance] Cert.DyRetReferenceIdeal.Gen.facts

variable (m : (ℓ : Loc nD τ sig) → Buf (Elt Ideal) ℓ) (ρ : Dev nD → PrngReg)

/-- The run of the line: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.DyRetIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DyRetIdeal.Val.prod]

end Cert.DyRetReferenceIdeal.Val

namespace Cert.Proof

open Idealize.ShloMosaic Idealize.SL.Sem

theorem frame_dyRet : Cert.quiescent_DyRet (hDyRet := Cert.DyRet.Gen.facts) := fun m ρ _ => Cert.DyRet.Gen.frame m ρ

theorem frame_dyRetIdeal : Cert.quiescent_DyRetIdeal (hDyRetIdeal := Cert.DyRetIdeal.Gen.facts) :=
  fun m ρ _ => Cert.DyRetIdeal.Gen.frame m ρ

theorem frame_dyRetReference : Cert.quiescent_DyRetReferenceIdeal (hDyRetReferenceIdeal := Cert.DyRetReferenceIdeal.Gen.facts) :=
  fun m ρ _ => (θ_run _ _ _).mono (fun r h => ⟨fun c => (h c).2, sem_eq_zero_of_no_sems (by decide) r.2⟩)
    (Cert.DyRetReferenceIdeal.Val.run_result m ρ)

/-- The launch's product is the line's, whatever the arguments. -/
theorem same_dyRet : Cert.algebraic_DyRetIdeal_DyRetReferenceIdeal (hDyRetIdeal := Cert.DyRetIdeal.Gen.facts)
    (hDyRetReferenceIdeal := Cert.DyRetReferenceIdeal.Gen.facts) := by
  intro m g m' g' _ hagree
  refine ⟨_, Cert.DyRetIdeal.Val.run_result m g, ?_⟩
  refine (θ_run _ _ _).mono (fun r h c => ⟨(h c).1.trans ?_, (h c).2⟩) (Cert.DyRetReferenceIdeal.Val.run_result m' g')
  rw [(hagree c).1, (hagree c).2]

end Cert.Proof

end
-- ==== Proof.Products.GRetOut.lean ====
/- The gradient of the retention's output matrix: its blocks' sums over the runs of the grid, against the problem's
   lines. -/
module

public import proofs.«01_k».proof.Defs
public import proofs.«01_k».proof.Proof.Gen.GRetOut.Frame
public import proofs.«01_k».proof.Proof.Gen.GRetOutIdeal.Frame
public import proofs.«01_k».proof.Proof.Gen.GRetOutReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GRetOutIdeal.Val

open Idealize.ShloMosaic Idealize.ShloMosaic.TcCoe Idealize.ShloMosaic.Tactic
open Idealize.SL Idealize.SL.Sem
open Cert.GRetOutIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The product, along the rows of both. -/
def prod (x : FVec Ideal S8192x4096 .bf16) (w : FVec Ideal S8192x2048 .bf16) : FVec Ideal S4096x2048 .f32 :=
  fun i => ∑ k : Fin 8192, (x (ix2 k (i 0)) * w (ix2 k (i 1)) : EReal)

/-- An entry of the product. -/
theorem prod_apply (x : FVec Ideal S8192x4096 .bf16) (w : FVec Ideal S8192x2048 .bf16) (i : S4096x2048.Idx) :
    prod x w i = ∑ k : Fin 8192, (x (ix2 k (i 0)) * w (ix2 k (i 1)) : EReal) := rfl

/-- What a run's first point stores: the part of the product over its stretch of the contraction. -/
theorem part_first (x : Vec Ideal S4096x1024 .bf16) (w : Vec Ideal S4096x1024 .bf16) (j : S1024x1024.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x1024 .bf16) (w : Vec Ideal S4096x1024 .bf16) (a : Vec Ideal S1024x1024 .f32)
    (j : S1024x1024.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1024x1024.Idx) :
    (outsAt0 m c t.val t.isLt).1 j = (outsAt0 m c t.val t.isLt).2 j := by
  rw [scratch_later m c t (by omega) j, outsAt0_B m c t (by omega) (by omega) h]
  frame_out
  rw [read_unread_whole]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.GRetOutIdeal.Val

namespace Cert.GRetOutReferenceIdeal.Val

open Idealize.ShloMosaic Idealize.ShloMosaic.TcCoe Idealize.ShloMosaic.Tactic
open Idealize.SL Idealize.SL.Sem
open Cert.GRetOutReferenceIdeal

attribute [local instance] Cert.GRetOutReferenceIdeal.Gen.facts

variable (m : (ℓ : Loc nD τ sig) → Buf (Elt Ideal) ℓ) (ρ : Dev nD → PrngReg)

/-- The run of the lines: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v1)
        = Cert.GRetOutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GRetOutIdeal.Val.prod]

end Cert.GRetOutReferenceIdeal.Val

namespace Cert.Proof

open Idealize.ShloMosaic Idealize.SL.Sem

theorem frame_gRetOut : Cert.quiescent_GRetOut (hGRetOut := Cert.GRetOut.Gen.facts) := fun m ρ _ => Cert.GRetOut.Gen.frame m ρ

theorem frame_gRetOutIdeal : Cert.quiescent_GRetOutIdeal (hGRetOutIdeal := Cert.GRetOutIdeal.Gen.facts) :=
  fun m ρ _ => Cert.GRetOutIdeal.Gen.frame m ρ

theorem frame_gRetOutReference : Cert.quiescent_GRetOutReferenceIdeal (hGRetOutReferenceIdeal := Cert.GRetOutReferenceIdeal.Gen.facts) :=
  fun m ρ _ => (θ_run _ _ _).mono (fun r h => ⟨fun c => (h c).2, sem_eq_zero_of_no_sems (by decide) r.2⟩)
    (Cert.GRetOutReferenceIdeal.Val.run_result m ρ)

/-- The launch's product is the lines', whatever the arguments. -/
theorem same_gRetOut : Cert.algebraic_GRetOutIdeal_GRetOutReferenceIdeal (hGRetOutIdeal := Cert.GRetOutIdeal.Gen.facts)
    (hGRetOutReferenceIdeal := Cert.GRetOutReferenceIdeal.Gen.facts) := by
  intro m g m' g' _ hagree
  refine ⟨_, Cert.GRetOutIdeal.Val.run_result m g, ?_⟩
  refine (θ_run _ _ _).mono (fun r h c => ⟨(h c).1.trans ?_, (h c).2⟩) (Cert.GRetOutReferenceIdeal.Val.run_result m' g')
  rw [(hagree c).1, (hagree c).2]

end Cert.Proof

end
-- ==== Proof.Products.DySsd.lean ====
/- The gradient of the state-space layer's output before its matrix: the blocks of the product, against the problem's line. -/
module

public import proofs.«01_k».proof.Defs
public import proofs.«01_k».proof.Proof.Gen.DySsd.Frame
public import proofs.«01_k».proof.Proof.Gen.DySsdIdeal.Frame
public import proofs.«01_k».proof.Proof.Gen.DySsdReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.DySsdIdeal.Val

open Idealize.ShloMosaic Idealize.ShloMosaic.TcCoe Idealize.ShloMosaic.Tactic
open Idealize.SL Idealize.SL.Sem
open Cert.DySsdIdeal.Gen

variable (m : (ℓ : Loc nD τ sig) → Buf (Elt Ideal) ℓ) (ρ : Dev nD → PrngReg)

/-- Where a point's blocks lie. -/
theorem index : ∀ t : Fin cfg0.N, win0_0.index t = ![t.val / 8, 0] ∧ win0_1.index t = ![t.val % 8, 0]
    ∧ win0_2.index t = ![t.val / 8, t.val % 8] :=
  (by decide +kernel : ∀ t : Fin grid0.N, _)

/-- The product. -/
def prod (x : FVec Ideal S8192x2048 .bf16) (w : FVec Ideal S4096x2048 .bf16) : FVec Ideal S8192x4096 .f32 :=
  fun i => ∑ k : Fin 2048, (x (ix2 (i 0) k) * w (ix2 (i 1) k) : EReal)

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2]
  frame_out
  pointwise [k0_pay1, prod]
  blk_point [iblk, index t]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.DySsdIdeal.Val

namespace Cert.DySsdReferenceIdeal.Val

open Idealize.ShloMosaic Idealize.ShloMosaic.TcCoe Idealize.ShloMosaic.Tactic
open Idealize.SL Idealize.SL.Sem
open Cert.DySsdReferenceIdeal

attribute [local instance] Cert.DySsdReferenceIdeal.Gen.facts

variable (m : (ℓ : Loc nD τ sig) → Buf (Elt Ideal) ℓ) (ρ : Dev nD → PrngReg)

/-- The run of the line: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.DySsdIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.DySsdIdeal.Val.prod]

end Cert.DySsdReferenceIdeal.Val

namespace Cert.Proof

open Idealize.ShloMosaic Idealize.SL.Sem

theorem frame_dySsd : Cert.quiescent_DySsd (hDySsd := Cert.DySsd.Gen.facts) := fun m ρ _ => Cert.DySsd.Gen.frame m ρ

theorem frame_dySsdIdeal : Cert.quiescent_DySsdIdeal (hDySsdIdeal := Cert.DySsdIdeal.Gen.facts) :=
  fun m ρ _ => Cert.DySsdIdeal.Gen.frame m ρ

theorem frame_dySsdReference : Cert.quiescent_DySsdReferenceIdeal (hDySsdReferenceIdeal := Cert.DySsdReferenceIdeal.Gen.facts) :=
  fun m ρ _ => (θ_run _ _ _).mono (fun r h => ⟨fun c => (h c).2, sem_eq_zero_of_no_sems (by decide) r.2⟩)
    (Cert.DySsdReferenceIdeal.Val.run_result m ρ)

/-- The launch's product is the line's, whatever the arguments. -/
theorem same_dySsd : Cert.algebraic_DySsdIdeal_DySsdReferenceIdeal (hDySsdIdeal := Cert.DySsdIdeal.Gen.facts)
    (hDySsdReferenceIdeal := Cert.DySsdReferenceIdeal.Gen.facts) := by
  intro m g m' g' _ hagree
  refine ⟨_, Cert.DySsdIdeal.Val.run_result m g, ?_⟩
  refine (θ_run _ _ _).mono (fun r h c => ⟨(h c).1.trans ?_, (h c).2⟩) (Cert.DySsdReferenceIdeal.Val.run_result m' g')
  rw [(hagree c).1, (hagree c).2]

end Cert.Proof

end
-- ==== Proof.Products.GSsdOut.lean ====
/- The gradient of the state-space layer's output matrix: its blocks' sums over the runs of the grid, against the problem's
   lines. -/
module

public import proofs.«01_k».proof.Defs
public import proofs.«01_k».proof.Proof.Gen.GSsdOut.Frame
public import proofs.«01_k».proof.Proof.Gen.GSsdOutIdeal.Frame
public import proofs.«01_k».proof.Proof.Gen.GSsdOutReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.GSsdOutIdeal.Val

open Idealize.ShloMosaic Idealize.ShloMosaic.TcCoe Idealize.ShloMosaic.Tactic
open Idealize.SL Idealize.SL.Sem
open Cert.GSsdOutIdeal.Gen

variable (m : (ℓ : Loc nD τ sig) → Buf (Elt Ideal) ℓ) (ρ : Dev nD → PrngReg)

/-- Where a point's blocks lie: the last coordinate walks the contraction. -/
theorem index : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The product, along the rows of both. -/
def prod (x : FVec Ideal S8192x4096 .bf16) (w : FVec Ideal S8192x2048 .bf16) : FVec Ideal S4096x2048 .f32 :=
  fun i => ∑ k : Fin 8192, (x (ix2 k (i 0)) * w (ix2 k (i 1)) : EReal)

/-- An entry of the product. -/
theorem prod_apply (x : FVec Ideal S8192x4096 .bf16) (w : FVec Ideal S8192x2048 .bf16) (i : S4096x2048.Idx) :
    prod x w i = ∑ k : Fin 8192, (x (ix2 k (i 0)) * w (ix2 k (i 1)) : EReal) := rfl

/-- What a run's first point stores: the part of the product over its stretch of the contraction. -/
theorem part_first (x : Vec Ideal S4096x1024 .bf16) (w : Vec Ideal S4096x1024 .bf16) (j : S1024x1024.Idx) :
    k0_pay2 (F := Ideal) x w j = ∑ k : Fin 4096, (x (ix2 k (j 0)) * w (ix2 k (j 1)) : EReal) := by
  pointwise [k0_pay2, k0_pay1]

/-- What a later point stores: what was there, and its part. -/
theorem part_later (x : Vec Ideal S4096x1024 .bf16) (w : Vec Ideal S4096x1024 .bf16) (a : Vec Ideal S1024x1024 .f32)
    (j : S1024x1024.Idx) :
    k0_pay3 (F := Ideal) x w a j = a j + ∑ k : Fin 4096, (x (ix2 k (j 0)) * w (ix2 k (j 1)) : EReal) := by
  pointwise [k0_pay3, k0_pay1]

/-- The scratch after a run's first point. -/
theorem scratch_first (c : Dev nD) (t : Fin cfg0.N) (h : t.val % 2 = 0) (j : S1024x1024.Idx) :
    (outsAt0 m c t.val t.isLt).2 j = k0_pay2 (F := Ideal) (iblk m c 0 t) (iblk m c 1 t) j := by
  rw [outsAt0_A m c t h (by omega) (by omega)]
  frame_out

/-- The scratch after a later point. -/
theorem scratch_later (c : Dev nD) (t : Fin cfg0.N) (h : ¬t.val % 2 = 0) (j : S1024x1024.Idx) :
    (outsAt0 m c t.val t.isLt).2 j = k0_pay3 (F := Ideal) (iblk m c 0 t) (iblk m c 1 t)
      (outsAt0 m c (t.val - 1) (Nat.lt_of_le_of_lt (Nat.sub_le _ _) t.isLt)).2 j := by
  rw [outsAt0_B m c t h (by omega) (by omega)]
  frame_out
  rw [read_unread_whole]

/-- The result's block after a run's last point is the scratch. -/
theorem block_last (c : Dev nD) (t : Fin cfg0.N) (h : t.val % 2 = 1) (j : S1024x1024.Idx) :
    (outsAt0 m c t.val t.isLt).1 j = (outsAt0 m c t.val t.isLt).2 j := by
  rw [scratch_later m c t (by omega) j, outsAt0_B m c t (by omega) (by omega) h]
  frame_out
  rw [read_unread_whole]

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2, block_last m c t ((flush0_2 t).mp hf),
    Pipeline.eq_sum_fin_of_reset_step_apply_of_flush (fun n h => (outsAt0 m c n h).2) 2 (fun _ => 0) _
    (fun t h j => by rw [scratch_first m c t h j, part_first, zero_add])
    (fun t h j => by rw [scratch_later m c t h j, part_later])
    t ((flush0_2 t).mp hf) _, zero_add]
  rw [prod_apply]
  refine Fin.sum_mul_add_congr fun s k hl => ?_
  blk_point [iblk, index t, index ⟨_, Pipeline.run_point_lt_of_flush t ((flush0_2 t).mp hf) s⟩]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.GSsdOutIdeal.Val

namespace Cert.GSsdOutReferenceIdeal.Val

open Idealize.ShloMosaic Idealize.ShloMosaic.TcCoe Idealize.ShloMosaic.Tactic
open Idealize.SL Idealize.SL.Sem
open Cert.GSsdOutReferenceIdeal

attribute [local instance] Cert.GSsdOutReferenceIdeal.Gen.facts

variable (m : (ℓ : Loc nD τ sig) → Buf (Elt Ideal) ℓ) (ρ : Dev nD → PrngReg)

/-- The run of the lines: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v1)
        = Cert.GSsdOutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.GSsdOutIdeal.Val.prod]

end Cert.GSsdOutReferenceIdeal.Val

namespace Cert.Proof

open Idealize.ShloMosaic Idealize.SL.Sem

theorem frame_gSsdOut : Cert.quiescent_GSsdOut (hGSsdOut := Cert.GSsdOut.Gen.facts) := fun m ρ _ => Cert.GSsdOut.Gen.frame m ρ

theorem frame_gSsdOutIdeal : Cert.quiescent_GSsdOutIdeal (hGSsdOutIdeal := Cert.GSsdOutIdeal.Gen.facts) :=
  fun m ρ _ => Cert.GSsdOutIdeal.Gen.frame m ρ

theorem frame_gSsdOutReference : Cert.quiescent_GSsdOutReferenceIdeal (hGSsdOutReferenceIdeal := Cert.GSsdOutReferenceIdeal.Gen.facts) :=
  fun m ρ _ => (θ_run _ _ _).mono (fun r h => ⟨fun c => (h c).2, sem_eq_zero_of_no_sems (by decide) r.2⟩)
    (Cert.GSsdOutReferenceIdeal.Val.run_result m ρ)

/-- The launch's product is the lines', whatever the arguments. -/
theorem same_gSsdOut : Cert.algebraic_GSsdOutIdeal_GSsdOutReferenceIdeal (hGSsdOutIdeal := Cert.GSsdOutIdeal.Gen.facts)
    (hGSsdOutReferenceIdeal := Cert.GSsdOutReferenceIdeal.Gen.facts) := by
  intro m g m' g' _ hagree
  refine ⟨_, Cert.GSsdOutIdeal.Val.run_result m g, ?_⟩
  refine (θ_run _ _ _).mono (fun r h c => ⟨(h c).1.trans ?_, (h c).2⟩) (Cert.GSsdOutReferenceIdeal.Val.run_result m' g')
  rw [(hagree c).1, (hagree c).2]

end Cert.Proof

end
-- ==== Proof.Products.SsdIn.lean ====
/- The state-space layer's projection: the blocks of the product, against the problem's line. -/
module

public import proofs.«01_k».proof.Defs
public import proofs.«01_k».proof.Proof.Gen.SsdIn.Frame
public import proofs.«01_k».proof.Proof.Gen.SsdInIdeal.Frame
public import proofs.«01_k».proof.Proof.Gen.SsdInReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.SsdInIdeal.Val

open Idealize.ShloMosaic Idealize.ShloMosaic.TcCoe Idealize.ShloMosaic.Tactic
open Idealize.SL Idealize.SL.Sem
open Cert.SsdInIdeal.Gen

variable (m : (ℓ : Loc nD τ sig) → Buf (Elt Ideal) ℓ) (ρ : Dev nD → PrngReg)

/-- Where a point's blocks lie. -/
theorem index : ∀ t : Fin cfg0.N, win0_0.index t = ![t.val / 9, 0] ∧ win0_1.index t = ![t.val % 9, 0]
    ∧ win0_2.index t = ![t.val / 9, t.val % 9] :=
  (by decide +kernel : ∀ t : Fin grid0.N, _)

/-- The product. -/
def prod (x : FVec Ideal S8192x2048 .bf16) (w : FVec Ideal S10368x2048 .bf16) : FVec Ideal S8192x10368 .f32 :=
  fun i => ∑ k : Fin 2048, (x (ix2 (i 0) k) * w (ix2 (i 1) k) : EReal)

/-- What the launch leaves in its result. -/
theorem array (c : Dev nD) : (dats m 0 c).arrAt 2 cfg0.N = prod (V m c main_v3) (V m c main_v2) := by
  refine (dats m 0 c).arrAt_eq_of_covers 2 _ (by decide +kernel) fun t hf y => ?_
  blk_simp
  rw [after0_2]
  frame_out
  pointwise [k0_pay1, prod]
  blk_point [iblk, index t]

/-- The left operand is the first argument. -/
theorem left (c : Dev nD) : V m c main_v3 = m ((c : Thread nD τ).loc main_arg0) := by
  unfold V V0
  simp only [hostOps0, hostOps0_1, hostOps0_2, List.flatten_cons, List.flatten_nil, List.append_nil, List.cons_append,
    List.nil_append]
  after_results
  rfl

/-- The right operand's first rows are the second argument's columns. -/
theorem right (c : Dev nD) (r : Fin 10304) (k : Fin 2048) :
    V m c main_v2 (ix2 (Fin.castAdd 64 r) k) = m ((c : Thread nD τ).loc main_arg1) (ix2 k r) := by
  unfold V V0
  simp only [hostOps0, hostOps0_1, hostOps0_2, List.flatten_cons, List.flatten_nil, List.append_nil, List.cons_append,
    List.nil_append]
  after_results
  show pad S10368x2048 ![0, 0] ![64, 0] ![0, 0]
    (truncf (F := Ideal) .bf16 (transpose S10304x2048 [1, 0] (m ((c : Thread nD τ).loc main_arg1)) transposes_S2048x10304_S10304x2048_1_0)
      bitsLt_bf16_f32) (sitofp (F := Ideal) .bf16 (constantI S_ 32 0#32)) pads_S10304x2048_S10368x2048_0640_000 h_S_ _ = _
  pointwise
  rw [dif_pos (show (Fin.castAdd 64 r).val < 10304 from r.isLt)]
  rfl

/-- The product of the arguments. -/
def proj (x : FVec Ideal S8192x2048 .f32) (w : FVec Ideal S2048x10304 .f32) : FVec Ideal S8192x10304 .f32 :=
  fun i => ∑ k : Fin 2048, (x (ix2 (i 0) k) * w (ix2 k (i 1)) : EReal)

/-- What the line after the launch leaves: the columns of its result that the projection has. -/
theorem after_launch (c : Dev nD) :
    Pipeline.afterTail₀ cfgs (dats m) 0 (V0 m) [hostOps1] c main_v5
      = proj (m ((c : Thread nD τ).loc main_arg0)) (m ((c : Thread nD τ).loc main_arg1)) := by
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v4)
      = prod (m ((c : Thread nD τ).loc main_arg0)) (V m c main_v2) :=
    (Pipeline.withArrays_arr (cfgs 0).spec (by decide +kernel) c _ _ 2).trans ((array m c).trans (by rw [left]))
  rw [e]
  funext i
  have e : ∀ k : Fin 2048, V m c main_v2 (ix2 (Fin.castAdd 64 (i 1)) k) = m ((c : Thread nD τ).loc main_arg1) (ix2 k (i 1)) :=
    fun k => right m c (i 1) k
  pointwise [prod, proj]
  exact Finset.sum_congr rfl fun k _ => congrArg _ (e k)

/-- The run: the result is `proj` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v5) = proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).2 main_v5 (by decide +kernel)).trans (after_launch m c), h.2 c⟩)
    (θ_run_and (run_main m ρ) (unchanged m ρ))

end Cert.SsdInIdeal.Val

namespace Cert.SsdInReferenceIdeal.Val

open Idealize.ShloMosaic Idealize.ShloMosaic.TcCoe Idealize.ShloMosaic.Tactic
open Idealize.SL Idealize.SL.Sem
open Cert.SsdInReferenceIdeal

attribute [local instance] Cert.SsdInReferenceIdeal.Gen.facts

variable (m : (ℓ : Loc nD τ sig) → Buf (Elt Ideal) ℓ) (ρ : Dev nD → PrngReg)

/-- The run of the line: the result is `proj` of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.SsdInIdeal.Val.proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.SsdInIdeal.Val.proj]

end Cert.SsdInReferenceIdeal.Val

namespace Cert.Proof

open Idealize.ShloMosaic Idealize.SL.Sem

theorem frame_ssdIn : Cert.quiescent_SsdIn (hSsdIn := Cert.SsdIn.Gen.facts) := fun m ρ _ => Cert.SsdIn.Gen.frame m ρ

theorem frame_ssdInIdeal : Cert.quiescent_SsdInIdeal (hSsdInIdeal := Cert.SsdInIdeal.Gen.facts) :=
  fun m ρ _ => Cert.SsdInIdeal.Gen.frame m ρ

theorem frame_ssdInReference : Cert.quiescent_SsdInReferenceIdeal (hSsdInReferenceIdeal := Cert.SsdInReferenceIdeal.Gen.facts) :=
  fun m ρ _ => (θ_run _ _ _).mono (fun r h => ⟨fun c => (h c).2, sem_eq_zero_of_no_sems (by decide) r.2⟩)
    (Cert.SsdInReferenceIdeal.Val.run_result m ρ)

/-- The launch's product is the line's, whatever the arguments. -/
theorem same_ssdIn : Cert.algebraic_SsdInIdeal_SsdInReferenceIdeal (hSsdInIdeal := Cert.SsdInIdeal.Gen.facts)
    (hSsdInReferenceIdeal := Cert.SsdInReferenceIdeal.Gen.facts) := by
  intro m g m' g' _ hagree
  refine ⟨_, Cert.SsdInIdeal.Val.run_result m g, ?_⟩
  refine (θ_run _ _ _).mono (fun r h c => ⟨(h c).1.trans ?_, (h c).2⟩) (Cert.SsdInReferenceIdeal.Val.run_result m' g')
  rw [(hagree c).1, (hagree c).2]

end Cert.Proof

end
-- ==== Proof.Products.RetOut.lean ====
/- The retention's output after its matrix: the blocks of the product, against the problem's line. -/
module

public import proofs.«01_k».proof.Defs
public import proofs.«01_k».proof.Proof.Gen.RetOut.Frame
public import proofs.«01_k».proof.Proof.Gen.RetOutIdeal.Frame
public import proofs.«01_k».proof.Proof.Gen.RetOutReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.RetOutIdeal.Val

open Idealize.ShloMosaic Idealize.ShloMosaic.TcCoe Idealize.ShloMosaic.Tactic
open Idealize.SL Idealize.SL.Sem
open Cert.RetOutIdeal.Gen

variable (m : (ℓ : Loc nD τ sig) → Buf (Elt Ideal) ℓ) (ρ : Dev nD → PrngReg)

/-- Where a point's blocks lie. -/
theorem index : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The product. -/
def prod (x : FVec Ideal S8192x4096 .bf16) (w : FVec Ideal S4096x2048 .bf16) : FVec Ideal S8192x2048 .f32 :=
  fun i => ∑ k : Fin 4096, (x (ix2 (i 0) k) * w (ix2 k (i 1)) : EReal)

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2]
  frame_out
  pointwise [k0_pay1, prod]
  blk_point [iblk, index t]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.RetOutIdeal.Val

namespace Cert.RetOutReferenceIdeal.Val

open Idealize.ShloMosaic Idealize.ShloMosaic.TcCoe Idealize.ShloMosaic.Tactic
open Idealize.SL Idealize.SL.Sem
open Cert.RetOutReferenceIdeal

attribute [local instance] Cert.RetOutReferenceIdeal.Gen.facts

variable (m : (ℓ : Loc nD τ sig) → Buf (Elt Ideal) ℓ) (ρ : Dev nD → PrngReg)

/-- The run of the line: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.RetOutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.RetOutIdeal.Val.prod]

end Cert.RetOutReferenceIdeal.Val

namespace Cert.Proof

open Idealize.ShloMosaic Idealize.SL.Sem

theorem frame_retOut : Cert.quiescent_RetOut (hRetOut := Cert.RetOut.Gen.facts) := fun m ρ _ => Cert.RetOut.Gen.frame m ρ

theorem frame_retOutIdeal : Cert.quiescent_RetOutIdeal (hRetOutIdeal := Cert.RetOutIdeal.Gen.facts) :=
  fun m ρ _ => Cert.RetOutIdeal.Gen.frame m ρ

theorem frame_retOutReference : Cert.quiescent_RetOutReferenceIdeal (hRetOutReferenceIdeal := Cert.RetOutReferenceIdeal.Gen.facts) :=
  fun m ρ _ => (θ_run _ _ _).mono (fun r h => ⟨fun c => (h c).2, sem_eq_zero_of_no_sems (by decide) r.2⟩)
    (Cert.RetOutReferenceIdeal.Val.run_result m ρ)

/-- The launch's product is the line's, whatever the arguments. -/
theorem same_retOut : Cert.algebraic_RetOutIdeal_RetOutReferenceIdeal (hRetOutIdeal := Cert.RetOutIdeal.Gen.facts)
    (hRetOutReferenceIdeal := Cert.RetOutReferenceIdeal.Gen.facts) := by
  intro m g m' g' _ hagree
  refine ⟨_, Cert.RetOutIdeal.Val.run_result m g, ?_⟩
  refine (θ_run _ _ _).mono (fun r h c => ⟨(h c).1.trans ?_, (h c).2⟩) (Cert.RetOutReferenceIdeal.Val.run_result m' g')
  rw [(hagree c).1, (hagree c).2]

end Cert.Proof

end
-- ==== Proof.Products.SsdOut.lean ====
/- The state-space layer's output after its matrix: the blocks of the product, against the problem's line. -/
module

public import proofs.«01_k».proof.Defs
public import proofs.«01_k».proof.Proof.Gen.SsdOut.Frame
public import proofs.«01_k».proof.Proof.Gen.SsdOutIdeal.Frame
public import proofs.«01_k».proof.Proof.Gen.SsdOutReferenceIdeal
public import Idealize.ShloMosaic.Lib.Claim
public import Idealize.ShloMosaic.Lib.Pipeline.ValueKit
public import Idealize.ShloMosaic.Lib.Pipeline.ReadBack

@[expose] public section

set_option maxRecDepth 16384

noncomputable section

namespace Cert.SsdOutIdeal.Val

open Idealize.ShloMosaic Idealize.ShloMosaic.TcCoe Idealize.ShloMosaic.Tactic
open Idealize.SL Idealize.SL.Sem
open Cert.SsdOutIdeal.Gen

variable (m : (ℓ : Loc nD τ sig) → Buf (Elt Ideal) ℓ) (ρ : Dev nD → PrngReg)

/-- Where a point's blocks lie. -/
theorem index : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The product. -/
def prod (x : FVec Ideal S8192x4096 .bf16) (w : FVec Ideal S4096x2048 .bf16) : FVec Ideal S8192x2048 .f32 :=
  fun i => ∑ k : Fin 4096, (x (ix2 (i 0) k) * w (ix2 k (i 1)) : EReal)

/-- What the launch leaves in its result. -/
theorem array (c : Dev nD) : (dats m 0 c).arrAt 2 cfg0.N = prod (V m c main_v0) (V m c main_v1) := by
  refine (dats m 0 c).arrAt_eq_of_covers 2 _ (by decide +kernel) fun t hf y => ?_
  blk_simp
  rw [after0_2]
  frame_out
  pointwise [k0_pay1, prod]
  blk_point [iblk, index t]

/-- The left operand is the first argument. -/
theorem left (c : Dev nD) : V m c main_v0 = m ((c : Thread nD τ).loc main_arg0) := by
  unfold_abbrev_sides
  after_results
  rfl

/-- The right operand is the second argument. -/
theorem right (c : Dev nD) : V m c main_v1 = m ((c : Thread nD τ).loc main_arg1) := by
  unfold_abbrev_sides
  after_results
  rfl

/-- The run: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v2) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans ((array m c).trans (by rw [left, right])), h.2 c⟩)
    (θ_run_and (run_main m ρ) (unchanged m ρ))

end Cert.SsdOutIdeal.Val

namespace Cert.SsdOutReferenceIdeal.Val

open Idealize.ShloMosaic Idealize.ShloMosaic.TcCoe Idealize.ShloMosaic.Tactic
open Idealize.SL Idealize.SL.Sem
open Cert.SsdOutReferenceIdeal

attribute [local instance] Cert.SsdOutReferenceIdeal.Gen.facts

variable (m : (ℓ : Loc nD τ sig) → Buf (Elt Ideal) ℓ) (ρ : Dev nD → PrngReg)

/-- The run of the line: the result is the product of the arguments, which are left as they were. -/
theorem run_result : θ_run (defs (F := Ideal)) (onTc (τ := τ) (main (F := Ideal))) ⟨m, fun _ => 0, ρ⟩ (fun r => ∀ c : Dev nD,
      r.2.mem ((c.tc : Thread nD τ).loc main_v0)
        = Cert.SsdOutIdeal.Val.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  pointwise! [Cert.SsdOutIdeal.Val.prod]

end Cert.SsdOutReferenceIdeal.Val

namespace Cert.Proof

open Idealize.ShloMosaic Idealize.SL.Sem

theorem frame_ssdOut : Cert.quiescent_SsdOut (hSsdOut := Cert.SsdOut.Gen.facts) := fun m ρ _ => Cert.SsdOut.Gen.frame m ρ

theorem frame_ssdOutIdeal : Cert.quiescent_SsdOutIdeal (hSsdOutIdeal := Cert.SsdOutIdeal.Gen.facts) :=
  fun m ρ _ => Cert.SsdOutIdeal.Gen.frame m ρ

theorem frame_ssdOutReference : Cert.quiescent_SsdOutReferenceIdeal (hSsdOutReferenceIdeal := Cert.SsdOutReferenceIdeal.Gen.facts) :=
  fun m ρ _ => (θ_run _ _ _).mono (fun r h => ⟨fun c => (h c).2, sem_eq_zero_of_no_sems (by decide) r.2⟩)
    (Cert.SsdOutReferenceIdeal.Val.run_result m ρ)

/-- The launch's product is the line's, whatever the arguments. -/
theorem same_ssdOut : Cert.algebraic_SsdOutIdeal_SsdOutReferenceIdeal (hSsdOutIdeal := Cert.SsdOutIdeal.Gen.facts)
    (hSsdOutReferenceIdeal := Cert.SsdOutReferenceIdeal.Gen.facts) := by
  intro m g m' g' _ hagree
  refine ⟨_, Cert.SsdOutIdeal.Val.run_result m g, ?_⟩
  refine (θ_run _ _ _).mono (fun r h c => ⟨(h c).1.trans ?_, (h c).2⟩) (Cert.SsdOutReferenceIdeal.Val.run_result m' g')
  rw [(hagree c).1, (hagree c).2]

end Cert.Proof

end
-- ==== Proof.lean ====
/- Parts of the training step: the gradients of the retention, the gradient before the squared relu, four of the
   products of the squared-relu path, and the products of the mixers' projections, each with its frames. -/
module

public import proofs.«01_k».proof.Defs
public import proofs.«01_k».proof.Proof.Join
public import proofs.«01_k».proof.Proof.Mlp.Join
public import proofs.«01_k».proof.Proof.Products.Down
public import proofs.«01_k».proof.Proof.Products.Gdown
public import proofs.«01_k».proof.Proof.Products.Du
public import proofs.«01_k».proof.Proof.Products.Gup
public import proofs.«01_k».proof.Proof.Products.DuRet
public import proofs.«01_k».proof.Proof.Products.GRetIn0
public import proofs.«01_k».proof.Proof.Products.GRetIn1
public import proofs.«01_k».proof.Proof.Products.DuSsd
public import proofs.«01_k».proof.Proof.Products.GSsdIn
public import proofs.«01_k».proof.Proof.Products.DyRet
public import proofs.«01_k».proof.Proof.Products.GRetOut
public import proofs.«01_k».proof.Proof.Products.DySsd
public import proofs.«01_k».proof.Proof.Products.GSsdOut
public import proofs.«01_k».proof.Proof.Products.SsdIn
public import proofs.«01_k».proof.Proof.Products.RetOut
public import proofs.«01_k».proof.Proof.Products.SsdOut

@[expose] public section

noncomputable section

namespace Cert.Proof

theorem claim : Cert.Claim :=
  ⟨Cert.Kernel.Gen.facts, Cert.KernelIdeal.Gen.facts, Cert.ReferenceIdeal.Gen.facts, Cert.Mlp.Gen.facts, Cert.MlpIdeal.Gen.facts,
    Cert.MlpReferenceIdeal.Gen.facts,
    Cert.Down.Gen.facts, Cert.DownIdeal.Gen.facts, Cert.DownReferenceIdeal.Gen.facts,
    Cert.Gdown.Gen.facts, Cert.GdownIdeal.Gen.facts, Cert.GdownReferenceIdeal.Gen.facts,
    Cert.Du.Gen.facts, Cert.DuIdeal.Gen.facts, Cert.DuReferenceIdeal.Gen.facts,
    Cert.Gup.Gen.facts, Cert.GupIdeal.Gen.facts, Cert.GupReferenceIdeal.Gen.facts,
    Cert.DuRet.Gen.facts, Cert.DuRetIdeal.Gen.facts, Cert.DuRetReferenceIdeal.Gen.facts,
    Cert.GRetIn0.Gen.facts, Cert.GRetIn0Ideal.Gen.facts, Cert.GRetIn0ReferenceIdeal.Gen.facts,
    Cert.GRetIn1.Gen.facts, Cert.GRetIn1Ideal.Gen.facts, Cert.GRetIn1ReferenceIdeal.Gen.facts,
    Cert.DuSsd.Gen.facts, Cert.DuSsdIdeal.Gen.facts, Cert.DuSsdReferenceIdeal.Gen.facts,
    Cert.GSsdIn.Gen.facts, Cert.GSsdInIdeal.Gen.facts, Cert.GSsdInReferenceIdeal.Gen.facts,
    Cert.DyRet.Gen.facts, Cert.DyRetIdeal.Gen.facts, Cert.DyRetReferenceIdeal.Gen.facts,
    Cert.GRetOut.Gen.facts, Cert.GRetOutIdeal.Gen.facts, Cert.GRetOutReferenceIdeal.Gen.facts,
    Cert.DySsd.Gen.facts, Cert.DySsdIdeal.Gen.facts, Cert.DySsdReferenceIdeal.Gen.facts,
    Cert.GSsdOut.Gen.facts, Cert.GSsdOutIdeal.Gen.facts, Cert.GSsdOutReferenceIdeal.Gen.facts,
    Cert.SsdIn.Gen.facts, Cert.SsdInIdeal.Gen.facts, Cert.SsdInReferenceIdeal.Gen.facts,
    Cert.RetOut.Gen.facts, Cert.RetOutIdeal.Gen.facts, Cert.RetOutReferenceIdeal.Gen.facts,
    Cert.SsdOut.Gen.facts, Cert.SsdOutIdeal.Gen.facts, Cert.SsdOutReferenceIdeal.Gen.facts,
    Cert.Pre_finite_gradient_and_gate.facts,
    frame_kernel, frame_kernelIdeal, frame_kernelIdeal_pre, frame_reference, frame_reference_pre,
    frame_mlp, frame_mlpIdeal, frame_mlpReference,
    frame_down, frame_downIdeal, frame_downReference,
    frame_gdown, frame_gdownIdeal, frame_gdownReference,
    frame_du, frame_duIdeal, frame_duReference,
    frame_gup, frame_gupIdeal, frame_gupReference,
    frame_duRet, frame_duRetIdeal, frame_duRetReference,
    frame_gRetIn0, frame_gRetIn0Ideal, frame_gRetIn0Reference,
    frame_gRetIn1, frame_gRetIn1Ideal, frame_gRetIn1Reference,
    frame_duSsd, frame_duSsdIdeal, frame_duSsdReference,
    frame_gSsdIn, frame_gSsdInIdeal, frame_gSsdInReference,
    frame_dyRet, frame_dyRetIdeal, frame_dyRetReference,
    frame_gRetOut, frame_gRetOutIdeal, frame_gRetOutReference,
    frame_dySsd, frame_dySsdIdeal, frame_dySsdReference,
    frame_gSsdOut, frame_gSsdOutIdeal, frame_gSsdOutReference,
    frame_ssdIn, frame_ssdInIdeal, frame_ssdInReference,
    frame_retOut, frame_retOutIdeal, frame_retOutReference,
    frame_ssdOut, frame_ssdOutIdeal, frame_ssdOutReference,
    trivial, same_gradients, trivial, same_mlp, trivial, same_down, trivial, same_gdown, trivial, same_du, trivial, same_gup,
    trivial, same_duRet, trivial, same_gRetIn0, trivial, same_gRetIn1, trivial, same_duSsd,
    trivial, same_gSsdIn, trivial, same_dyRet, trivial, same_gRetOut, trivial, same_dySsd,
    trivial, same_gSsdOut, trivial, same_ssdIn, trivial, same_retOut, trivial, same_ssdOut⟩

end Cert.Proof

end
